-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_LoraG (m : (ℓ : Loc Cert.LoraG.nD Cert.LoraG.τ Cert.LoraG.sig) → Buf (Elt Bits) ℓ) : Prop :=
  True

def Pre_LoraGIdeal (m : (ℓ : Loc Cert.LoraGIdeal.nD Cert.LoraGIdeal.τ Cert.LoraGIdeal.sig) → Buf (Elt Ideal) ℓ) : Prop :=
  True

def Pre_LoraGRefIdeal (m : (ℓ : Loc Cert.LoraGRefIdeal.nD Cert.LoraGRefIdeal.τ Cert.LoraGRefIdeal.sig) → Buf (Elt Ideal) ℓ) : Prop :=
  True

def Pre_LoraA (m : (ℓ : Loc Cert.LoraA.nD Cert.LoraA.τ Cert.LoraA.sig) → Buf (Elt Bits) ℓ) : Prop :=
  True

def Pre_LoraAIdeal (m : (ℓ : Loc Cert.LoraAIdeal.nD Cert.LoraAIdeal.τ Cert.LoraAIdeal.sig) → Buf (Elt Ideal) ℓ) : Prop :=
  True

def Pre_LoraARefIdeal (m : (ℓ : Loc Cert.LoraARefIdeal.nD Cert.LoraARefIdeal.τ Cert.LoraARefIdeal.sig) → Buf (Elt Ideal) ℓ) : Prop :=
  True

def Pre_LoraW (m : (ℓ : Loc Cert.LoraW.nD Cert.LoraW.τ Cert.LoraW.sig) → Buf (Elt Bits) ℓ) : Prop :=
  True

def Pre_LoraWIdeal (m : (ℓ : Loc Cert.LoraWIdeal.nD Cert.LoraWIdeal.τ Cert.LoraWIdeal.sig) → Buf (Elt Ideal) ℓ) : Prop :=
  True

def Pre_LoraWRefIdeal (m : (ℓ : Loc Cert.LoraWRefIdeal.nD Cert.LoraWRefIdeal.τ Cert.LoraWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8))
      ∧ r.2.sem = fun _ => 0)

def quiescent_LoraG [hLoraG : Cert.LoraG.Facts] : Prop :=
  ∀ (m : (ℓ : Loc Cert.LoraG.nD Cert.LoraG.τ Cert.LoraG.sig) → Buf (Elt Bits) ℓ) (g : Dev Cert.LoraG.nD → PrngReg), Pre_LoraG m →
    θ_run (Cert.LoraG.defs (F := Bits)) (onTc (τ := Cert.LoraG.τ) (Cert.LoraG.main (F := Bits))) ⟨m, fun _ => 0, g⟩ (fun r => (∀ c : Dev Cert.LoraG.nD,
      r.2.mem ((c.tc : Thread Cert.LoraG.nD Cert.LoraG.τ).loc Cert.LoraG.main_arg0) = m ((c.tc : Thread Cert.LoraG.nD Cert.LoraG.τ).loc Cert.LoraG.main_arg0)
      ∧ r.2.mem ((c.tc : Thread Cert.LoraG.nD Cert.LoraG.τ).loc Cert.LoraG.main_arg1) = m ((c.tc : Thread Cert.LoraG.nD Cert.LoraG.τ).loc Cert.LoraG.main_arg1)
      ∧ r.2.mem ((c.tc : Thread Cert.LoraG.nD Cert.LoraG.τ).loc Cert.LoraG.main_arg2) = m ((c.tc : Thread Cert.LoraG.nD Cert.LoraG.τ).loc Cert.LoraG.main_arg2))
      ∧ r.2.sem = fun _ => 0)

def quiescent_LoraGIdeal [hLoraGIdeal : Cert.LoraGIdeal.Facts] : Prop :=
  ∀ (m : (ℓ : Loc Cert.LoraGIdeal.nD Cert.LoraGIdeal.τ Cert.LoraGIdeal.sig) → Buf (Elt Ideal) ℓ) (g : Dev Cert.LoraGIdeal.nD → PrngReg), Pre_LoraGIdeal m →
    θ_run (Cert.LoraGIdeal.defs (F := Ideal)) (onTc (τ := Cert.LoraGIdeal.τ) (Cert.LoraGIdeal.main (F := Ideal))) ⟨m, fun _ => 0, g⟩ (fun r => (∀ c : Dev Cert.LoraGIdeal.nD,
      r.2.mem ((c.tc : Thread Cert.LoraGIdeal.nD Cert.LoraGIdeal.τ).loc Cert.LoraGIdeal.main_arg0) = m ((c.tc : Thread Cert.LoraGIdeal.nD Cert.LoraGIdeal.τ).loc Cert.LoraGIdeal.main_arg0)
      ∧ r.2.mem ((c.tc : Thread Cert.LoraGIdeal.nD Cert.LoraGIdeal.τ).loc Cert.LoraGIdeal.main_arg1) = m ((c.tc : Thread Cert.LoraGIdeal.nD Cert.LoraGIdeal.τ).loc Cert.LoraGIdeal.main_arg1)
      ∧ r.2.mem ((c.tc : Thread Cert.LoraGIdeal.nD Cert.LoraGIdeal.τ).loc Cert.LoraGIdeal.main_arg2) = m ((c.tc : Thread Cert.LoraGIdeal.nD Cert.LoraGIdeal.τ).loc Cert.LoraGIdeal.main_arg2))
      ∧ r.2.sem = fun _ => 0)

def quiescent_LoraGRefIdeal [hLoraGRefIdeal : Cert.LoraGRefIdeal.Facts] : Prop :=
  ∀ (m : (ℓ : Loc Cert.LoraGRefIdeal.nD Cert.LoraGRefIdeal.τ Cert.LoraGRefIdeal.sig) → Buf (Elt Ideal) ℓ) (g : Dev Cert.LoraGRefIdeal.nD → PrngReg), Pre_LoraGRefIdeal m →
    θ_run (Cert.LoraGRefIdeal.defs (F := Ideal)) (onTc (τ := Cert.LoraGRefIdeal.τ) (Cert.LoraGRefIdeal.main (F := Ideal))) ⟨m, fun _ => 0, g⟩ (fun r => (∀ c : Dev Cert.LoraGRefIdeal.nD,
      r.2.mem ((c.tc : Thread Cert.LoraGRefIdeal.nD Cert.LoraGRefIdeal.τ).loc Cert.LoraGRefIdeal.main_arg0) = m ((c.tc : Thread Cert.LoraGRefIdeal.nD Cert.LoraGRefIdeal.τ).loc Cert.LoraGRefIdeal.main_arg0)
      ∧ r.2.mem ((c.tc : Thread Cert.LoraGRefIdeal.nD Cert.LoraGRefIdeal.τ).loc Cert.LoraGRefIdeal.main_arg1) = m ((c.tc : Thread Cert.LoraGRefIdeal.nD Cert.LoraGRefIdeal.τ).loc Cert.LoraGRefIdeal.main_arg1)
      ∧ r.2.mem ((c.tc : Thread Cert.LoraGRefIdeal.nD Cert.LoraGRefIdeal.τ).loc Cert.LoraGRefIdeal.main_arg2) = m ((c.tc : Thread Cert.LoraGRefIdeal.nD Cert.LoraGRefIdeal.τ).loc Cert.LoraGRefIdeal.main_arg2))
      ∧ r.2.sem = fun _ => 0)

def quiescent_LoraA [hLoraA : Cert.LoraA.Facts] : Prop :=
  ∀ (m : (ℓ : Loc Cert.LoraA.nD Cert.LoraA.τ Cert.LoraA.sig) → Buf (Elt Bits) ℓ) (g : Dev Cert.LoraA.nD → PrngReg), Pre_LoraA m →
    θ_run (Cert.LoraA.defs (F := Bits)) (onTc (τ := Cert.LoraA.τ) (Cert.LoraA.main (F := Bits))) ⟨m, fun _ => 0, g⟩ (fun r => (∀ c : Dev Cert.LoraA.nD,
      r.2.mem ((c.tc : Thread Cert.LoraA.nD Cert.LoraA.τ).loc Cert.LoraA.main_arg0) = m ((c.tc : Thread Cert.LoraA.nD Cert.LoraA.τ).loc Cert.LoraA.main_arg0)
      ∧ r.2.mem ((c.tc : Thread Cert.LoraA.nD Cert.LoraA.τ).loc Cert.LoraA.main_arg1) = m ((c.tc : Thread Cert.LoraA.nD Cert.LoraA.τ).loc Cert.LoraA.main_arg1)
      ∧ r.2.mem ((c.tc : Thread Cert.LoraA.nD Cert.LoraA.τ).loc Cert.LoraA.main_arg2) = m ((c.tc : Thread Cert.LoraA.nD Cert.LoraA.τ).loc Cert.LoraA.main_arg2)
      ∧ r.2.mem ((c.tc : Thread Cert.LoraA.nD Cert.LoraA.τ).loc Cert.LoraA.main_arg3) = m ((c.tc : Thread Cert.LoraA.nD Cert.LoraA.τ).loc Cert.LoraA.main_arg3))
      ∧ r.2.sem = fun _ => 0)

def quiescent_LoraAIdeal [hLoraAIdeal : Cert.LoraAIdeal.Facts] : Prop :=
  ∀ (m : (ℓ : Loc Cert.LoraAIdeal.nD Cert.LoraAIdeal.τ Cert.LoraAIdeal.sig) → Buf (Elt Ideal) ℓ) (g : Dev Cert.LoraAIdeal.nD → PrngReg), Pre_LoraAIdeal m →
    θ_run (Cert.LoraAIdeal.defs (F := Ideal)) (onTc (τ := Cert.LoraAIdeal.τ) (Cert.LoraAIdeal.main (F := Ideal))) ⟨m, fun _ => 0, g⟩ (fun r => (∀ c : Dev Cert.LoraAIdeal.nD,
      r.2.mem ((c.tc : Thread Cert.LoraAIdeal.nD Cert.LoraAIdeal.τ).loc Cert.LoraAIdeal.main_arg0) = m ((c.tc : Thread Cert.LoraAIdeal.nD Cert.LoraAIdeal.τ).loc Cert.LoraAIdeal.main_arg0)
      ∧ r.2.mem ((c.tc : Thread Cert.LoraAIdeal.nD Cert.LoraAIdeal.τ).loc Cert.LoraAIdeal.main_arg1) = m ((c.tc : Thread Cert.LoraAIdeal.nD Cert.LoraAIdeal.τ).loc Cert.LoraAIdeal.main_arg1)
      ∧ r.2.mem ((c.tc : Thread Cert.LoraAIdeal.nD Cert.LoraAIdeal.τ).loc Cert.LoraAIdeal.main_arg2) = m ((c.tc : Thread Cert.LoraAIdeal.nD Cert.LoraAIdeal.τ).loc Cert.LoraAIdeal.main_arg2)
      ∧ r.2.mem ((c.tc : Thread Cert.LoraAIdeal.nD Cert.LoraAIdeal.τ).loc Cert.LoraAIdeal.main_arg3) = m ((c.tc : Thread Cert.LoraAIdeal.nD Cert.LoraAIdeal.τ).loc Cert.LoraAIdeal.main_arg3))
      ∧ r.2.sem = fun _ => 0)

def quiescent_LoraARefIdeal [hLoraARefIdeal : Cert.LoraARefIdeal.Facts] : Prop :=
  ∀ (m : (ℓ : Loc Cert.LoraARefIdeal.nD Cert.LoraARefIdeal.τ Cert.LoraARefIdeal.sig) → Buf (Elt Ideal) ℓ) (g : Dev Cert.LoraARefIdeal.nD → PrngReg), Pre_LoraARefIdeal m →
    θ_run (Cert.LoraARefIdeal.defs (F := Ideal)) (onTc (τ := Cert.LoraARefIdeal.τ) (Cert.LoraARefIdeal.main (F := Ideal))) ⟨m, fun _ => 0, g⟩ (fun r => (∀ c : Dev Cert.LoraARefIdeal.nD,
      r.2.mem ((c.tc : Thread Cert.LoraARefIdeal.nD Cert.LoraARefIdeal.τ).loc Cert.LoraARefIdeal.main_arg0) = m ((c.tc : Thread Cert.LoraARefIdeal.nD Cert.LoraARefIdeal.τ).loc Cert.LoraARefIdeal.main_arg0)
      ∧ r.2.mem ((c.tc : Thread Cert.LoraARefIdeal.nD Cert.LoraARefIdeal.τ).loc Cert.LoraARefIdeal.main_arg1) = m ((c.tc : Thread Cert.LoraARefIdeal.nD Cert.LoraARefIdeal.τ).loc Cert.LoraARefIdeal.main_arg1)
      ∧ r.2.mem ((c.tc : Thread Cert.LoraARefIdeal.nD Cert.LoraARefIdeal.τ).loc Cert.LoraARefIdeal.main_arg2) = m ((c.tc : Thread Cert.LoraARefIdeal.nD Cert.LoraARefIdeal.τ).loc Cert.LoraARefIdeal.main_arg2)
      ∧ r.2.mem ((c.tc : Thread Cert.LoraARefIdeal.nD Cert.LoraARefIdeal.τ).loc Cert.LoraARefIdeal.main_arg3) = m ((c.tc : Thread Cert.LoraARefIdeal.nD Cert.LoraARefIdeal.τ).loc Cert.LoraARefIdeal.main_arg3))
      ∧ r.2.sem = fun _ => 0)

def quiescent_LoraW [hLoraW : Cert.LoraW.Facts] : Prop :=
  ∀ (m : (ℓ : Loc Cert.LoraW.nD Cert.LoraW.τ Cert.LoraW.sig) → Buf (Elt Bits) ℓ) (g : Dev Cert.LoraW.nD → PrngReg), Pre_LoraW m →
    θ_run (Cert.LoraW.defs (F := Bits)) (onTc (τ := Cert.LoraW.τ) (Cert.LoraW.main (F := Bits))) ⟨m, fun _ => 0, g⟩ (fun r => (∀ c : Dev Cert.LoraW.nD,
      r.2.mem ((c.tc : Thread Cert.LoraW.nD Cert.LoraW.τ).loc Cert.LoraW.main_arg0) = m ((c.tc : Thread Cert.LoraW.nD Cert.LoraW.τ).loc Cert.LoraW.main_arg0)
      ∧ r.2.mem ((c.tc : Thread Cert.LoraW.nD Cert.LoraW.τ).loc Cert.LoraW.main_arg1) = m ((c.tc : Thread Cert.LoraW.nD Cert.LoraW.τ).loc Cert.LoraW.main_arg1)
      ∧ r.2.mem ((c.tc : Thread Cert.LoraW.nD Cert.LoraW.τ).loc Cert.LoraW.main_arg2) = m ((c.tc : Thread Cert.LoraW.nD Cert.LoraW.τ).loc Cert.LoraW.main_arg2)
      ∧ r.2.mem ((c.tc : Thread Cert.LoraW.nD Cert.LoraW.τ).loc Cert.LoraW.main_arg3) = m ((c.tc : Thread Cert.LoraW.nD Cert.LoraW.τ).loc Cert.LoraW.main_arg3))
      ∧ r.2.sem = fun _ => 0)

def quiescent_LoraWIdeal [hLoraWIdeal : Cert.LoraWIdeal.Facts] : Prop :=
  ∀ (m : (ℓ : Loc Cert.LoraWIdeal.nD Cert.LoraWIdeal.τ Cert.LoraWIdeal.sig) → Buf (Elt Ideal) ℓ) (g : Dev Cert.LoraWIdeal.nD → PrngReg), Pre_LoraWIdeal m →
    θ_run (Cert.LoraWIdeal.defs (F := Ideal)) (onTc (τ := Cert.LoraWIdeal.τ) (Cert.LoraWIdeal.main (F := Ideal))) ⟨m, fun _ => 0, g⟩ (fun r => (∀ c : Dev Cert.LoraWIdeal.nD,
      r.2.mem ((c.tc : Thread Cert.LoraWIdeal.nD Cert.LoraWIdeal.τ).loc Cert.LoraWIdeal.main_arg0) = m ((c.tc : Thread Cert.LoraWIdeal.nD Cert.LoraWIdeal.τ).loc Cert.LoraWIdeal.main_arg0)
      ∧ r.2.mem ((c.tc : Thread Cert.LoraWIdeal.nD Cert.LoraWIdeal.τ).loc Cert.LoraWIdeal.main_arg1) = m ((c.tc : Thread Cert.LoraWIdeal.nD Cert.LoraWIdeal.τ).loc Cert.LoraWIdeal.main_arg1)
      ∧ r.2.mem ((c.tc : Thread Cert.LoraWIdeal.nD Cert.LoraWIdeal.τ).loc Cert.LoraWIdeal.main_arg2) = m ((c.tc : Thread Cert.LoraWIdeal.nD Cert.LoraWIdeal.τ).loc Cert.LoraWIdeal.main_arg2)
      ∧ r.2.mem ((c.tc : Thread Cert.LoraWIdeal.nD Cert.LoraWIdeal.τ).loc Cert.LoraWIdeal.main_arg3) = m ((c.tc : Thread Cert.LoraWIdeal.nD Cert.LoraWIdeal.τ).loc Cert.LoraWIdeal.main_arg3))
      ∧ r.2.sem = fun _ => 0)

def quiescent_LoraWRefIdeal [hLoraWRefIdeal : Cert.LoraWRefIdeal.Facts] : Prop :=
  ∀ (m : (ℓ : Loc Cert.LoraWRefIdeal.nD Cert.LoraWRefIdeal.τ Cert.LoraWRefIdeal.sig) → Buf (Elt Ideal) ℓ) (g : Dev Cert.LoraWRefIdeal.nD → PrngReg), Pre_LoraWRefIdeal m →
    θ_run (Cert.LoraWRefIdeal.defs (F := Ideal)) (onTc (τ := Cert.LoraWRefIdeal.τ) (Cert.LoraWRefIdeal.main (F := Ideal))) ⟨m, fun _ => 0, g⟩ (fun r => (∀ c : Dev Cert.LoraWRefIdeal.nD,
      r.2.mem ((c.tc : Thread Cert.LoraWRefIdeal.nD Cert.LoraWRefIdeal.τ).loc Cert.LoraWRefIdeal.main_arg0) = m ((c.tc : Thread Cert.LoraWRefIdeal.nD Cert.LoraWRefIdeal.τ).loc Cert.LoraWRefIdeal.main_arg0)
      ∧ r.2.mem ((c.tc : Thread Cert.LoraWRefIdeal.nD Cert.LoraWRefIdeal.τ).loc Cert.LoraWRefIdeal.main_arg1) = m ((c.tc : Thread Cert.LoraWRefIdeal.nD Cert.LoraWRefIdeal.τ).loc Cert.LoraWRefIdeal.main_arg1)
      ∧ r.2.mem ((c.tc : Thread Cert.LoraWRefIdeal.nD Cert.LoraWRefIdeal.τ).loc Cert.LoraWRefIdeal.main_arg2) = m ((c.tc : Thread Cert.LoraWRefIdeal.nD Cert.LoraWRefIdeal.τ).loc Cert.LoraWRefIdeal.main_arg2)
      ∧ r.2.mem ((c.tc : Thread Cert.LoraWRefIdeal.nD Cert.LoraWRefIdeal.τ).loc Cert.LoraWRefIdeal.main_arg3) = m ((c.tc : Thread Cert.LoraWRefIdeal.nD Cert.LoraWRefIdeal.τ).loc Cert.LoraWRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v9)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v9) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v15) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v3)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v3) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v7) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v49) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v12)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v12) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v32) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v10) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v8_0)) (v1 : (c : Dev Cert.PrepIdeal.nD) → Buf (Elt Ideal) ((c.tc : Thread Cert.PrepIdeal.nD Cert.PrepIdeal.τ).loc Cert.PrepIdeal.main_v8_1)) (v2 : (c : Dev Cert.PrepIdeal.nD) → Buf (Elt Ideal) ((c.tc : Thread Cert.PrepIdeal.nD Cert.PrepIdeal.τ).loc Cert.PrepIdeal.main_v8_2)) (v3 : (c : Dev Cert.PrepIdeal.nD) → Buf (Elt Ideal) ((c.tc : Thread Cert.PrepIdeal.nD Cert.PrepIdeal.τ).loc Cert.PrepIdeal.main_v8_3)) (v4 : (c : Dev Cert.PrepIdeal.nD) → Buf (Elt Ideal) ((c.tc : Thread Cert.PrepIdeal.nD Cert.PrepIdeal.τ).loc Cert.PrepIdeal.main_v8_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8_0) = v0 c
          ∧ r.2.mem ((c.tc : Thread Cert.PrepIdeal.nD Cert.PrepIdeal.τ).loc Cert.PrepIdeal.main_v8_1) = v1 c
          ∧ r.2.mem ((c.tc : Thread Cert.PrepIdeal.nD Cert.PrepIdeal.τ).loc Cert.PrepIdeal.main_v8_2) = v2 c
          ∧ r.2.mem ((c.tc : Thread Cert.PrepIdeal.nD Cert.PrepIdeal.τ).loc Cert.PrepIdeal.main_v8_3) = v3 c
          ∧ r.2.mem ((c.tc : Thread Cert.PrepIdeal.nD Cert.PrepIdeal.τ).loc Cert.PrepIdeal.main_v8_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v65) = v0 c
          ∧ r.2.mem ((c.tc : Thread Cert.PrepRefIdeal.nD Cert.PrepRefIdeal.τ).loc Cert.PrepRefIdeal.main_v67) = v1 c
          ∧ r.2.mem ((c.tc : Thread Cert.PrepRefIdeal.nD Cert.PrepRefIdeal.τ).loc Cert.PrepRefIdeal.main_v69) = v2 c
          ∧ r.2.mem ((c.tc : Thread Cert.PrepRefIdeal.nD Cert.PrepRefIdeal.τ).loc Cert.PrepRefIdeal.main_v71) = v3 c
          ∧ r.2.mem ((c.tc : Thread Cert.PrepRefIdeal.nD Cert.PrepRefIdeal.τ).loc Cert.PrepRefIdeal.main_v72) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v12) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_PrepS_PrepSIdeal : Prop :=
  True

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)) →
    ∃ (v0 : (c : Dev Cert.PrepSIdeal.nD) → Buf (Elt Ideal) ((c.tc : Thread Cert.PrepSIdeal.nD Cert.PrepSIdeal.τ).loc Cert.PrepSIdeal.main_v11_0)) (v1 : (c : Dev Cert.PrepSIdeal.nD) → Buf (Elt Ideal) ((c.tc : Thread Cert.PrepSIdeal.nD Cert.PrepSIdeal.τ).loc Cert.PrepSIdeal.main_v11_1)) (v2 : (c : Dev Cert.PrepSIdeal.nD) → Buf (Elt Ideal) ((c.tc : Thread Cert.PrepSIdeal.nD Cert.PrepSIdeal.τ).loc Cert.PrepSIdeal.main_v11_2)) (v3 : (c : Dev Cert.PrepSIdeal.nD) → Buf (Elt Ideal) ((c.tc : Thread Cert.PrepSIdeal.nD Cert.PrepSIdeal.τ).loc Cert.PrepSIdeal.main_v11_3)) (v4 : (c : Dev Cert.PrepSIdeal.nD) → Buf (Elt Ideal) ((c.tc : Thread Cert.PrepSIdeal.nD Cert.PrepSIdeal.τ).loc Cert.PrepSIdeal.main_v11_4)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v11_0) = v0 c
          ∧ r.2.mem ((c.tc : Thread Cert.PrepSIdeal.nD Cert.PrepSIdeal.τ).loc Cert.PrepSIdeal.main_v11_1) = v1 c
          ∧ r.2.mem ((c.tc : Thread Cert.PrepSIdeal.nD Cert.PrepSIdeal.τ).loc Cert.PrepSIdeal.main_v11_2) = v2 c
          ∧ r.2.mem ((c.tc : Thread Cert.PrepSIdeal.nD Cert.PrepSIdeal.τ).loc Cert.PrepSIdeal.main_v11_3) = v3 c
          ∧ r.2.mem ((c.tc : Thread Cert.PrepSIdeal.nD Cert.PrepSIdeal.τ).loc Cert.PrepSIdeal.main_v11_4) = v4 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v65) = v0 c
          ∧ r.2.mem ((c.tc : Thread Cert.PrepSRefIdeal.nD Cert.PrepSRefIdeal.τ).loc Cert.PrepSRefIdeal.main_v67) = v1 c
          ∧ r.2.mem ((c.tc : Thread Cert.PrepSRefIdeal.nD Cert.PrepSRefIdeal.τ).loc Cert.PrepSRefIdeal.main_v69) = v2 c
          ∧ r.2.mem ((c.tc : Thread Cert.PrepSRefIdeal.nD Cert.PrepSRefIdeal.τ).loc Cert.PrepSRefIdeal.main_v71) = v3 c
          ∧ r.2.mem ((c.tc : Thread Cert.PrepSRefIdeal.nD Cert.PrepSRefIdeal.τ).loc Cert.PrepSRefIdeal.main_v72) = v4 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)) →
    ∃ (v0 : (c : Dev Cert.MixSIdeal.nD) → Buf (Elt Ideal) ((c.tc : Thread Cert.MixSIdeal.nD Cert.MixSIdeal.τ).loc Cert.MixSIdeal.main_v43_1)) (v1 : (c : Dev Cert.MixSIdeal.nD) → Buf (Elt Ideal) ((c.tc : Thread Cert.MixSIdeal.nD Cert.MixSIdeal.τ).loc Cert.MixSIdeal.main_v43_2)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v43_1) = v0 c
          ∧ r.2.mem ((c.tc : Thread Cert.MixSIdeal.nD Cert.MixSIdeal.τ).loc Cert.MixSIdeal.main_v43_2) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v35) = v0 c
          ∧ r.2.mem ((c.tc : Thread Cert.MixSRefIdeal.nD Cert.MixSRefIdeal.τ).loc Cert.MixSRefIdeal.main_v36) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8))

def preserves_LoraG_LoraGIdeal : Prop :=
  True

def algebraic_LoraGIdeal_LoraGRefIdeal [hLoraGIdeal : Cert.LoraGIdeal.Facts] [hLoraGRefIdeal : Cert.LoraGRefIdeal.Facts] : Prop :=
  ∀ (m : (ℓ : Loc Cert.LoraGIdeal.nD Cert.LoraGIdeal.τ Cert.LoraGIdeal.sig) → Buf (Elt Ideal) ℓ) (g : Dev Cert.LoraGIdeal.nD → PrngReg)
    (m' : (ℓ : Loc Cert.LoraGRefIdeal.nD Cert.LoraGRefIdeal.τ Cert.LoraGRefIdeal.sig) → Buf (Elt Ideal) ℓ) (g' : Dev Cert.LoraGRefIdeal.nD → PrngReg), Pre_LoraGIdeal m →
    (∀ c : Dev Cert.LoraGIdeal.nD,
      m' ((c.tc : Thread Cert.LoraGRefIdeal.nD Cert.LoraGRefIdeal.τ).loc Cert.LoraGRefIdeal.main_arg0) = m ((c.tc : Thread Cert.LoraGIdeal.nD Cert.LoraGIdeal.τ).loc Cert.LoraGIdeal.main_arg0)
      ∧ m' ((c.tc : Thread Cert.LoraGRefIdeal.nD Cert.LoraGRefIdeal.τ).loc Cert.LoraGRefIdeal.main_arg1) = m ((c.tc : Thread Cert.LoraGIdeal.nD Cert.LoraGIdeal.τ).loc Cert.LoraGIdeal.main_arg1)
      ∧ m' ((c.tc : Thread Cert.LoraGRefIdeal.nD Cert.LoraGRefIdeal.τ).loc Cert.LoraGRefIdeal.main_arg2) = m ((c.tc : Thread Cert.LoraGIdeal.nD Cert.LoraGIdeal.τ).loc Cert.LoraGIdeal.main_arg2)) →
    ∃ (v0 : (c : Dev Cert.LoraGIdeal.nD) → Buf (Elt Ideal) ((c.tc : Thread Cert.LoraGIdeal.nD Cert.LoraGIdeal.τ).loc Cert.LoraGIdeal.main_v9)),
      θ_run (Cert.LoraGIdeal.defs (F := Ideal)) (onTc (τ := Cert.LoraGIdeal.τ) (Cert.LoraGIdeal.main (F := Ideal))) ⟨m, fun _ => 0, g⟩ (fun r => ∀ c : Dev Cert.LoraGIdeal.nD,
          r.2.mem ((c.tc : Thread Cert.LoraGIdeal.nD Cert.LoraGIdeal.τ).loc Cert.LoraGIdeal.main_v9) = v0 c
          ∧ r.2.mem ((c.tc : Thread Cert.LoraGIdeal.nD Cert.LoraGIdeal.τ).loc Cert.LoraGIdeal.main_arg0) = m ((c.tc : Thread Cert.LoraGIdeal.nD Cert.LoraGIdeal.τ).loc Cert.LoraGIdeal.main_arg0)
          ∧ r.2.mem ((c.tc : Thread Cert.LoraGIdeal.nD Cert.LoraGIdeal.τ).loc Cert.LoraGIdeal.main_arg1) = m ((c.tc : Thread Cert.LoraGIdeal.nD Cert.LoraGIdeal.τ).loc Cert.LoraGIdeal.main_arg1)
          ∧ r.2.mem ((c.tc : Thread Cert.LoraGIdeal.nD Cert.LoraGIdeal.τ).loc Cert.LoraGIdeal.main_arg2) = m ((c.tc : Thread Cert.LoraGIdeal.nD Cert.LoraGIdeal.τ).loc Cert.LoraGIdeal.main_arg2))
      ∧ θ_run (Cert.LoraGRefIdeal.defs (F := Ideal)) (onTc (τ := Cert.LoraGRefIdeal.τ) (Cert.LoraGRefIdeal.main (F := Ideal))) ⟨m', fun _ => 0, g'⟩ (fun r => ∀ c : Dev Cert.LoraGRefIdeal.nD,
          r.2.mem ((c.tc : Thread Cert.LoraGRefIdeal.nD Cert.LoraGRefIdeal.τ).loc Cert.LoraGRefIdeal.main_v12) = v0 c
          ∧ r.2.mem ((c.tc : Thread Cert.LoraGRefIdeal.nD Cert.LoraGRefIdeal.τ).loc Cert.LoraGRefIdeal.main_arg0) = m' ((c.tc : Thread Cert.LoraGRefIdeal.nD Cert.LoraGRefIdeal.τ).loc Cert.LoraGRefIdeal.main_arg0)
          ∧ r.2.mem ((c.tc : Thread Cert.LoraGRefIdeal.nD Cert.LoraGRefIdeal.τ).loc Cert.LoraGRefIdeal.main_arg1) = m' ((c.tc : Thread Cert.LoraGRefIdeal.nD Cert.LoraGRefIdeal.τ).loc Cert.LoraGRefIdeal.main_arg1)
          ∧ r.2.mem ((c.tc : Thread Cert.LoraGRefIdeal.nD Cert.LoraGRefIdeal.τ).loc Cert.LoraGRefIdeal.main_arg2) = m' ((c.tc : Thread Cert.LoraGRefIdeal.nD Cert.LoraGRefIdeal.τ).loc Cert.LoraGRefIdeal.main_arg2))

def preserves_LoraA_LoraAIdeal : Prop :=
  True

def algebraic_LoraAIdeal_LoraARefIdeal [hLoraAIdeal : Cert.LoraAIdeal.Facts] [hLoraARefIdeal : Cert.LoraARefIdeal.Facts] : Prop :=
  ∀ (m : (ℓ : Loc Cert.LoraAIdeal.nD Cert.LoraAIdeal.τ Cert.LoraAIdeal.sig) → Buf (Elt Ideal) ℓ) (g : Dev Cert.LoraAIdeal.nD → PrngReg)
    (m' : (ℓ : Loc Cert.LoraARefIdeal.nD Cert.LoraARefIdeal.τ Cert.LoraARefIdeal.sig) → Buf (Elt Ideal) ℓ) (g' : Dev Cert.LoraARefIdeal.nD → PrngReg), Pre_LoraAIdeal m →
    (∀ c : Dev Cert.LoraAIdeal.nD,
      m' ((c.tc : Thread Cert.LoraARefIdeal.nD Cert.LoraARefIdeal.τ).loc Cert.LoraARefIdeal.main_arg0) = m ((c.tc : Thread Cert.LoraAIdeal.nD Cert.LoraAIdeal.τ).loc Cert.LoraAIdeal.main_arg0)
      ∧ m' ((c.tc : Thread Cert.LoraARefIdeal.nD Cert.LoraARefIdeal.τ).loc Cert.LoraARefIdeal.main_arg1) = m ((c.tc : Thread Cert.LoraAIdeal.nD Cert.LoraAIdeal.τ).loc Cert.LoraAIdeal.main_arg1)
      ∧ m' ((c.tc : Thread Cert.LoraARefIdeal.nD Cert.LoraARefIdeal.τ).loc Cert.LoraARefIdeal.main_arg2) = m ((c.tc : Thread Cert.LoraAIdeal.nD Cert.LoraAIdeal.τ).loc Cert.LoraAIdeal.main_arg2)
      ∧ m' ((c.tc : Thread Cert.LoraARefIdeal.nD Cert.LoraARefIdeal.τ).loc Cert.LoraARefIdeal.main_arg3) = m ((c.tc : Thread Cert.LoraAIdeal.nD Cert.LoraAIdeal.τ).loc Cert.LoraAIdeal.main_arg3)) →
    ∃ (v0 : (c : Dev Cert.LoraAIdeal.nD) → Buf (Elt Ideal) ((c.tc : Thread Cert.LoraAIdeal.nD Cert.LoraAIdeal.τ).loc Cert.LoraAIdeal.main_v11)),
      θ_run (Cert.LoraAIdeal.defs (F := Ideal)) (onTc (τ := Cert.LoraAIdeal.τ) (Cert.LoraAIdeal.main (F := Ideal))) ⟨m, fun _ => 0, g⟩ (fun r => ∀ c : Dev Cert.LoraAIdeal.nD,
          r.2.mem ((c.tc : Thread Cert.LoraAIdeal.nD Cert.LoraAIdeal.τ).loc Cert.LoraAIdeal.main_v11) = v0 c
          ∧ r.2.mem ((c.tc : Thread Cert.LoraAIdeal.nD Cert.LoraAIdeal.τ).loc Cert.LoraAIdeal.main_arg0) = m ((c.tc : Thread Cert.LoraAIdeal.nD Cert.LoraAIdeal.τ).loc Cert.LoraAIdeal.main_arg0)
          ∧ r.2.mem ((c.tc : Thread Cert.LoraAIdeal.nD Cert.LoraAIdeal.τ).loc Cert.LoraAIdeal.main_arg1) = m ((c.tc : Thread Cert.LoraAIdeal.nD Cert.LoraAIdeal.τ).loc Cert.LoraAIdeal.main_arg1)
          ∧ r.2.mem ((c.tc : Thread Cert.LoraAIdeal.nD Cert.LoraAIdeal.τ).loc Cert.LoraAIdeal.main_arg2) = m ((c.tc : Thread Cert.LoraAIdeal.nD Cert.LoraAIdeal.τ).loc Cert.LoraAIdeal.main_arg2)
          ∧ r.2.mem ((c.tc : Thread Cert.LoraAIdeal.nD Cert.LoraAIdeal.τ).loc Cert.LoraAIdeal.main_arg3) = m ((c.tc : Thread Cert.LoraAIdeal.nD Cert.LoraAIdeal.τ).loc Cert.LoraAIdeal.main_arg3))
      ∧ θ_run (Cert.LoraARefIdeal.defs (F := Ideal)) (onTc (τ := Cert.LoraARefIdeal.τ) (Cert.LoraARefIdeal.main (F := Ideal))) ⟨m', fun _ => 0, g'⟩ (fun r => ∀ c : Dev Cert.LoraARefIdeal.nD,
          r.2.mem ((c.tc : Thread Cert.LoraARefIdeal.nD Cert.LoraARefIdeal.τ).loc Cert.LoraARefIdeal.main_v21) = v0 c
          ∧ r.2.mem ((c.tc : Thread Cert.LoraARefIdeal.nD Cert.LoraARefIdeal.τ).loc Cert.LoraARefIdeal.main_arg0) = m' ((c.tc : Thread Cert.LoraARefIdeal.nD Cert.LoraARefIdeal.τ).loc Cert.LoraARefIdeal.main_arg0)
          ∧ r.2.mem ((c.tc : Thread Cert.LoraARefIdeal.nD Cert.LoraARefIdeal.τ).loc Cert.LoraARefIdeal.main_arg1) = m' ((c.tc : Thread Cert.LoraARefIdeal.nD Cert.LoraARefIdeal.τ).loc Cert.LoraARefIdeal.main_arg1)
          ∧ r.2.mem ((c.tc : Thread Cert.LoraARefIdeal.nD Cert.LoraARefIdeal.τ).loc Cert.LoraARefIdeal.main_arg2) = m' ((c.tc : Thread Cert.LoraARefIdeal.nD Cert.LoraARefIdeal.τ).loc Cert.LoraARefIdeal.main_arg2)
          ∧ r.2.mem ((c.tc : Thread Cert.LoraARefIdeal.nD Cert.LoraARefIdeal.τ).loc Cert.LoraARefIdeal.main_arg3) = m' ((c.tc : Thread Cert.LoraARefIdeal.nD Cert.LoraARefIdeal.τ).loc Cert.LoraARefIdeal.main_arg3))

def preserves_LoraW_LoraWIdeal : Prop :=
  True

def algebraic_LoraWIdeal_LoraWRefIdeal [hLoraWIdeal : Cert.LoraWIdeal.Facts] [hLoraWRefIdeal : Cert.LoraWRefIdeal.Facts] : Prop :=
  ∀ (m : (ℓ : Loc Cert.LoraWIdeal.nD Cert.LoraWIdeal.τ Cert.LoraWIdeal.sig) → Buf (Elt Ideal) ℓ) (g : Dev Cert.LoraWIdeal.nD → PrngReg)
    (m' : (ℓ : Loc Cert.LoraWRefIdeal.nD Cert.LoraWRefIdeal.τ Cert.LoraWRefIdeal.sig) → Buf (Elt Ideal) ℓ) (g' : Dev Cert.LoraWRefIdeal.nD → PrngReg), Pre_LoraWIdeal m →
    (∀ c : Dev Cert.LoraWIdeal.nD,
      m' ((c.tc : Thread Cert.LoraWRefIdeal.nD Cert.LoraWRefIdeal.τ).loc Cert.LoraWRefIdeal.main_arg0) = m ((c.tc : Thread Cert.LoraWIdeal.nD Cert.LoraWIdeal.τ).loc Cert.LoraWIdeal.main_arg0)
      ∧ m' ((c.tc : Thread Cert.LoraWRefIdeal.nD Cert.LoraWRefIdeal.τ).loc Cert.LoraWRefIdeal.main_arg1) = m ((c.tc : Thread Cert.LoraWIdeal.nD Cert.LoraWIdeal.τ).loc Cert.LoraWIdeal.main_arg1)
      ∧ m' ((c.tc : Thread Cert.LoraWRefIdeal.nD Cert.LoraWRefIdeal.τ).loc Cert.LoraWRefIdeal.main_arg2) = m ((c.tc : Thread Cert.LoraWIdeal.nD Cert.LoraWIdeal.τ).loc Cert.LoraWIdeal.main_arg2)
      ∧ m' ((c.tc : Thread Cert.LoraWRefIdeal.nD Cert.LoraWRefIdeal.τ).loc Cert.LoraWRefIdeal.main_arg3) = m ((c.tc : Thread Cert.LoraWIdeal.nD Cert.LoraWIdeal.τ).loc Cert.LoraWIdeal.main_arg3)) →
    ∃ (v0 : (c : Dev Cert.LoraWIdeal.nD) → Buf (Elt Ideal) ((c.tc : Thread Cert.LoraWIdeal.nD Cert.LoraWIdeal.τ).loc Cert.LoraWIdeal.main_v11)),
      θ_run (Cert.LoraWIdeal.defs (F := Ideal)) (onTc (τ := Cert.LoraWIdeal.τ) (Cert.LoraWIdeal.main (F := Ideal))) ⟨m, fun _ => 0, g⟩ (fun r => ∀ c : Dev Cert.LoraWIdeal.nD,
          r.2.mem ((c.tc : Thread Cert.LoraWIdeal.nD Cert.LoraWIdeal.τ).loc Cert.LoraWIdeal.main_v11) = v0 c
          ∧ r.2.mem ((c.tc : Thread Cert.LoraWIdeal.nD Cert.LoraWIdeal.τ).loc Cert.LoraWIdeal.main_arg0) = m ((c.tc : Thread Cert.LoraWIdeal.nD Cert.LoraWIdeal.τ).loc Cert.LoraWIdeal.main_arg0)
          ∧ r.2.mem ((c.tc : Thread Cert.LoraWIdeal.nD Cert.LoraWIdeal.τ).loc Cert.LoraWIdeal.main_arg1) = m ((c.tc : Thread Cert.LoraWIdeal.nD Cert.LoraWIdeal.τ).loc Cert.LoraWIdeal.main_arg1)
          ∧ r.2.mem ((c.tc : Thread Cert.LoraWIdeal.nD Cert.LoraWIdeal.τ).loc Cert.LoraWIdeal.main_arg2) = m ((c.tc : Thread Cert.LoraWIdeal.nD Cert.LoraWIdeal.τ).loc Cert.LoraWIdeal.main_arg2)
          ∧ r.2.mem ((c.tc : Thread Cert.LoraWIdeal.nD Cert.LoraWIdeal.τ).loc Cert.LoraWIdeal.main_arg3) = m ((c.tc : Thread Cert.LoraWIdeal.nD Cert.LoraWIdeal.τ).loc Cert.LoraWIdeal.main_arg3))
      ∧ θ_run (Cert.LoraWRefIdeal.defs (F := Ideal)) (onTc (τ := Cert.LoraWRefIdeal.τ) (Cert.LoraWRefIdeal.main (F := Ideal))) ⟨m', fun _ => 0, g'⟩ (fun r => ∀ c : Dev Cert.LoraWRefIdeal.nD,
          r.2.mem ((c.tc : Thread Cert.LoraWRefIdeal.nD Cert.LoraWRefIdeal.τ).loc Cert.LoraWRefIdeal.main_v24) = v0 c
          ∧ r.2.mem ((c.tc : Thread Cert.LoraWRefIdeal.nD Cert.LoraWRefIdeal.τ).loc Cert.LoraWRefIdeal.main_arg0) = m' ((c.tc : Thread Cert.LoraWRefIdeal.nD Cert.LoraWRefIdeal.τ).loc Cert.LoraWRefIdeal.main_arg0)
          ∧ r.2.mem ((c.tc : Thread Cert.LoraWRefIdeal.nD Cert.LoraWRefIdeal.τ).loc Cert.LoraWRefIdeal.main_arg1) = m' ((c.tc : Thread Cert.LoraWRefIdeal.nD Cert.LoraWRefIdeal.τ).loc Cert.LoraWRefIdeal.main_arg1)
          ∧ r.2.mem ((c.tc : Thread Cert.LoraWRefIdeal.nD Cert.LoraWRefIdeal.τ).loc Cert.LoraWRefIdeal.main_arg2) = m' ((c.tc : Thread Cert.LoraWRefIdeal.nD Cert.LoraWRefIdeal.τ).loc Cert.LoraWRefIdeal.main_arg2)
          ∧ r.2.mem ((c.tc : Thread Cert.LoraWRefIdeal.nD Cert.LoraWRefIdeal.τ).loc Cert.LoraWRefIdeal.main_arg3) = m' ((c.tc : Thread Cert.LoraWRefIdeal.nD Cert.LoraWRefIdeal.τ).loc Cert.LoraWRefIdeal.main_arg3))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hRkv : Cert.Rkv.Facts) (hRkvIdeal : Cert.RkvIdeal.Facts) (hRkvRefIdeal : Cert.RkvRefIdeal.Facts) (hInproj : Cert.Inproj.Facts) (hInprojIdeal : Cert.InprojIdeal.Facts) (hInprojRefIdeal : Cert.InprojRefIdeal.Facts) (hPle : Cert.Ple.Facts) (hPleIdeal : Cert.PleIdeal.Facts) (hPleRefIdeal : Cert.PleRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hPrep : Cert.Prep.Facts) (hPrepIdeal : Cert.PrepIdeal.Facts) (hPrepRefIdeal : Cert.PrepRefIdeal.Facts) (hNormS : Cert.NormS.Facts) (hNormSIdeal : Cert.NormSIdeal.Facts) (hNormSRefIdeal : Cert.NormSRefIdeal.Facts) (hPrepS : Cert.PrepS.Facts) (hPrepSIdeal : Cert.PrepSIdeal.Facts) (hPrepSRefIdeal : Cert.PrepSRefIdeal.Facts) (hMixS : Cert.MixS.Facts) (hMixSIdeal : Cert.MixSIdeal.Facts) (hMixSRefIdeal : Cert.MixSRefIdeal.Facts) (hLoraG : Cert.LoraG.Facts) (hLoraGIdeal : Cert.LoraGIdeal.Facts) (hLoraGRefIdeal : Cert.LoraGRefIdeal.Facts) (hLoraA : Cert.LoraA.Facts) (hLoraAIdeal : Cert.LoraAIdeal.Facts) (hLoraARefIdeal : Cert.LoraARefIdeal.Facts) (hLoraW : Cert.LoraW.Facts) (hLoraWIdeal : Cert.LoraWIdeal.Facts) (hLoraWRefIdeal : Cert.LoraWRefIdeal.Facts),
    quiescent_Kernel (hKernel := hKernel)
    ∧ quiescent_KernelIdeal (hKernelIdeal := hKernelIdeal)
    ∧ quiescent_ReferenceIdeal (hReferenceIdeal := hReferenceIdeal)
    ∧ quiescent_Moe (hMoe := hMoe)
    ∧ quiescent_MoeIdeal (hMoeIdeal := hMoeIdeal)
    ∧ quiescent_MoeRefIdeal (hMoeRefIdeal := hMoeRefIdeal)
    ∧ quiescent_Rkv (hRkv := hRkv)
    ∧ quiescent_RkvIdeal (hRkvIdeal := hRkvIdeal)
    ∧ quiescent_RkvRefIdeal (hRkvRefIdeal := hRkvRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ple (hPle := hPle)
    ∧ quiescent_PleIdeal (hPleIdeal := hPleIdeal)
    ∧ quiescent_PleRefIdeal (hPleRefIdeal := hPleRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Prep (hPrep := hPrep)
    ∧ quiescent_PrepIdeal (hPrepIdeal := hPrepIdeal)
    ∧ quiescent_PrepRefIdeal (hPrepRefIdeal := hPrepRefIdeal)
    ∧ quiescent_NormS (hNormS := hNormS)
    ∧ quiescent_NormSIdeal (hNormSIdeal := hNormSIdeal)
    ∧ quiescent_NormSRefIdeal (hNormSRefIdeal := hNormSRefIdeal)
    ∧ quiescent_PrepS (hPrepS := hPrepS)
    ∧ quiescent_PrepSIdeal (hPrepSIdeal := hPrepSIdeal)
    ∧ quiescent_PrepSRefIdeal (hPrepSRefIdeal := hPrepSRefIdeal)
    ∧ quiescent_MixS (hMixS := hMixS)
    ∧ quiescent_MixSIdeal (hMixSIdeal := hMixSIdeal)
    ∧ quiescent_MixSRefIdeal (hMixSRefIdeal := hMixSRefIdeal)
    ∧ quiescent_LoraG (hLoraG := hLoraG)
    ∧ quiescent_LoraGIdeal (hLoraGIdeal := hLoraGIdeal)
    ∧ quiescent_LoraGRefIdeal (hLoraGRefIdeal := hLoraGRefIdeal)
    ∧ quiescent_LoraA (hLoraA := hLoraA)
    ∧ quiescent_LoraAIdeal (hLoraAIdeal := hLoraAIdeal)
    ∧ quiescent_LoraARefIdeal (hLoraARefIdeal := hLoraARefIdeal)
    ∧ quiescent_LoraW (hLoraW := hLoraW)
    ∧ quiescent_LoraWIdeal (hLoraWIdeal := hLoraWIdeal)
    ∧ quiescent_LoraWRefIdeal (hLoraWRefIdeal := hLoraWRefIdeal)
    ∧ preserves_Kernel_KernelIdeal
    ∧ algebraic_KernelIdeal_ReferenceIdeal (hKernelIdeal := hKernelIdeal) (hReferenceIdeal := hReferenceIdeal)
    ∧ preserves_Moe_MoeIdeal
    ∧ algebraic_MoeIdeal_MoeRefIdeal (hMoeIdeal := hMoeIdeal) (hMoeRefIdeal := hMoeRefIdeal)
    ∧ preserves_Rkv_RkvIdeal
    ∧ algebraic_RkvIdeal_RkvRefIdeal (hRkvIdeal := hRkvIdeal) (hRkvRefIdeal := hRkvRefIdeal)
    ∧ preserves_Inproj_InprojIdeal
    ∧ algebraic_InprojIdeal_InprojRefIdeal (hInprojIdeal := hInprojIdeal) (hInprojRefIdeal := hInprojRefIdeal)
    ∧ preserves_Ple_PleIdeal
    ∧ algebraic_PleIdeal_PleRefIdeal (hPleIdeal := hPleIdeal) (hPleRefIdeal := hPleRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Prep_PrepIdeal
    ∧ algebraic_PrepIdeal_PrepRefIdeal (hPrepIdeal := hPrepIdeal) (hPrepRefIdeal := hPrepRefIdeal)
    ∧ preserves_NormS_NormSIdeal
    ∧ algebraic_NormSIdeal_NormSRefIdeal (hNormSIdeal := hNormSIdeal) (hNormSRefIdeal := hNormSRefIdeal)
    ∧ preserves_PrepS_PrepSIdeal
    ∧ algebraic_PrepSIdeal_PrepSRefIdeal (hPrepSIdeal := hPrepSIdeal) (hPrepSRefIdeal := hPrepSRefIdeal)
    ∧ preserves_MixS_MixSIdeal
    ∧ algebraic_MixSIdeal_MixSRefIdeal (hMixSIdeal := hMixSIdeal) (hMixSRefIdeal := hMixSRefIdeal)
    ∧ preserves_LoraG_LoraGIdeal
    ∧ algebraic_LoraGIdeal_LoraGRefIdeal (hLoraGIdeal := hLoraGIdeal) (hLoraGRefIdeal := hLoraGRefIdeal)
    ∧ preserves_LoraA_LoraAIdeal
    ∧ algebraic_LoraAIdeal_LoraARefIdeal (hLoraAIdeal := hLoraAIdeal) (hLoraARefIdeal := hLoraARefIdeal)
    ∧ preserves_LoraW_LoraWIdeal
    ∧ algebraic_LoraWIdeal_LoraWRefIdeal (hLoraWIdeal := hLoraWIdeal) (hLoraWRefIdeal := hLoraWRefIdeal)
-- ==== Kernel.lean ====
abbrev S8192x5120 : Shape := ⟨2, ![8192, 5120]⟩
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x3x1024 : Shape := ⟨3, ![2, 3, 1024]⟩
abbrev S2x2048x2048 : Shape := ⟨3, ![2, 2048, 2048]⟩
abbrev S2x4x2x1024 : Shape := ⟨4, ![2, 4, 2, 1024]⟩
abbrev S1x8x128x128 : Shape := ⟨4, ![1, 8, 128, 128]⟩
abbrev S8x128x128 : Shape := ⟨3, ![8, 128, 128]⟩
abbrev S1x8x1x128x1x128 : Shape := ⟨6, ![1, 8, 1, 128, 1, 128]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x128x1x1024 : Shape := ⟨4, ![1, 128, 1, 1024]⟩
abbrev S1x4x2x1024 : Shape := ⟨4, ![1, 4, 2, 1024]⟩
abbrev S4x2x1024 : Shape := ⟨3, ![4, 2, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S1x2048x2048 : Shape := ⟨3, ![1, 2048, 2048]⟩
abbrev S2048x2048 : Shape := ⟨2, ![2048, 2048]⟩
abbrev S8192x1024 : Shape := ⟨2, ![8192, 1024]⟩
abbrev S256x1024 : Shape := ⟨2, ![256, 1024]⟩
abbrev S256x2048 : Shape := ⟨2, ![256, 2048]⟩
abbrev S1x2x1024 : Shape := ⟨3, ![1, 2, 1024]⟩
abbrev S8x1024 : Shape := ⟨2, ![8, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 38
  | .vmem => 30
  | .smem => 0
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S2x1024, .f32⟩
  | .hbm, ⟨3, _⟩ => ⟨S2x1024, .f32⟩
  | .hbm, ⟨4, _⟩ => ⟨S2x8x128x128, .f32⟩
  | .hbm, ⟨5, _⟩ => ⟨S2x8x128, .f32⟩
  | .hbm, ⟨6, _⟩ => ⟨S2x3x1024, .f32⟩
  | .hbm, ⟨7, _⟩ => ⟨S2x2048x2048, .f32⟩
  | .hbm, ⟨8, _⟩ => ⟨S2x4x2x1024, .f32⟩
  | .hbm, ⟨9, _⟩ => ⟨S1x8x128x128, .f32⟩
  | .hbm, ⟨10, _⟩ => ⟨S8x128x128, .f32⟩
  | .hbm, ⟨11, _⟩ => ⟨S1x8x1x128x1x128, .f32⟩
  | .hbm, ⟨12, _⟩ => ⟨S1x8x1x128x1x128, .f32⟩
  | .hbm, ⟨13, _⟩ => ⟨S8x128x128, .f32⟩
  | .hbm, ⟨14, _⟩ => ⟨S1x8x128, .f32⟩
  | .hbm, ⟨15, _⟩ => ⟨S8x128, .f32⟩
  | .hbm, ⟨16, _⟩ => ⟨S128x8, .f32⟩
  | .hbm, ⟨17, _⟩ => ⟨S128x8x128, .f32⟩
  | .hbm, ⟨18, _⟩ => ⟨S128x1024, .f32⟩
  | .hbm, ⟨19, _⟩ => ⟨S1x128x1x1024, .f32⟩
  | .hbm, ⟨20, _⟩ => ⟨S1x128x1x1024, .f32⟩
  | .hbm, ⟨21, _⟩ => ⟨S128x1024, .f32⟩
  | .hbm, ⟨22, _⟩ => ⟨S1x4x2x1024, .f32⟩
  | .hbm, ⟨23, _⟩ => ⟨S4x2x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x3x1024, .f32⟩
  | .hbm, ⟨31, _⟩ => ⟨S3x1024, .f32⟩
  | .hbm, ⟨32, _⟩ => ⟨S2x2048x2048, .bf16⟩
  | .hbm, ⟨33, _⟩ => ⟨S1x2048x2048, .bf16⟩
  | .hbm, ⟨34, _⟩ => ⟨S2048x2048, .bf16⟩
  | .hbm, ⟨35, _⟩ => ⟨S8192x2048, .f32⟩
  | .hbm, ⟨36, _⟩ => ⟨S8192x1024, .f32⟩
  | .hbm, ⟨37, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S128x1024, .f32⟩
  | .local _ .vmem, ⟨16, _⟩ => ⟨S3x1024, .f32⟩
  | .local _ .vmem, ⟨17, _⟩ => ⟨S2048x2048, .bf16⟩
  | .local _ .vmem, ⟨18, _⟩ => ⟨S1x2x1024, .f32⟩
  | .local _ .vmem, ⟨19, _⟩ => ⟨S1x2x1024, .f32⟩
  | .local _ .vmem, ⟨20, _⟩ => ⟨S1x2x1024, .f32⟩
  | .local _ .vmem, ⟨21, _⟩ => ⟨S1x2x1024, .f32⟩
  | .local _ .vmem, ⟨22, _⟩ => ⟨S256x2048, .f32⟩
  | .local _ .vmem, ⟨23, _⟩ => ⟨S256x2048, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x2048, .bf16⟩
  | .local _ .vmem, ⟨29, _⟩ => ⟨S8x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x5120 : Shape := ⟨2, ![8192, 5120]⟩
abbrev S8192x2048 : Shape := ⟨2, ![8192, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x3x1024 : Shape := ⟨3, ![2, 3, 1024]⟩
abbrev S2x2048x2048 : Shape := ⟨3, ![2, 2048, 2048]⟩
abbrev S2x4x2x1024 : Shape := ⟨4, ![2, 4, 2, 1024]⟩
abbrev S4x2048x5120 : Shape := ⟨3, ![4, 2048, 5120]⟩
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S1x4x2x1024 : Shape := ⟨4, ![1, 4, 2, 1024]⟩
abbrev S4x2x1024 : Shape := ⟨3, ![4, 2, 1024]⟩
abbrev S4x2050x1024 : Shape := ⟨3, ![4, 2050, 1024]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S8192x1024 : Shape := ⟨2, ![8192, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S2x1024, .f32⟩
  | .hbm, ⟨3, _⟩ => ⟨S2x1024, .f32⟩
  | .hbm, ⟨4, _⟩ => ⟨S2x8x128x128, .f32⟩
  | .hbm, ⟨5, _⟩ => ⟨S2x8x128, .f32⟩
  | .hbm, ⟨6, _⟩ => ⟨S2x3x1024, .f32⟩
  | .hbm, ⟨7, _⟩ => ⟨S2x2048x2048, .f32⟩
  | .hbm, ⟨8, _⟩ => ⟨S2x4x2x1024, .f32⟩
  | .hbm, ⟨9, _⟩ => ⟨S4x2048x5120, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S1x8x128x128, .f32⟩
  | .hbm, ⟨49, _⟩ => ⟨S8x128x128, .f32⟩
  | .hbm, ⟨50, _⟩ => ⟨S1x8x128, .f32⟩
  | .hbm, ⟨51, _⟩ => ⟨S8x128, .f32⟩
  | .hbm, ⟨52, _⟩ => ⟨S4x16x128x8x128, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .f32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x4x16x128x128, .f32⟩
  | .hbm, ⟨71, _⟩ => ⟨S4x16x128x8x128, .f32⟩
  | .hbm, ⟨72, _⟩ => ⟨S128x8, .f32⟩
  | .hbm, ⟨73, _⟩ => ⟨S1x1x128x8x1, .f32⟩
  | .hbm, ⟨74, _⟩ => ⟨S4x16x128x8x128, .f32⟩
  | .hbm, ⟨75, _⟩ => ⟨S4x16x128x8x128, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S1x4x2x1024, .f32⟩
  | .hbm, ⟨80, _⟩ => ⟨S4x2x1024, .f32⟩
  | .hbm, ⟨81, _⟩ => ⟨S4x2050x1024, .f32⟩
  | .hbm, ⟨82, _⟩ => ⟨S4x2048x1024, .f32⟩
  | .hbm, ⟨83, _⟩ => ⟨S1x1x1024, .f32⟩
  | .hbm, ⟨84, _⟩ => ⟨S1024, .f32⟩
  | .hbm, ⟨85, _⟩ => ⟨S1x1x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S1x1x1024, .f32⟩
  | .hbm, ⟨90, _⟩ => ⟨S1024, .f32⟩
  | .hbm, ⟨91, _⟩ => ⟨S1x1x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S1x1x1024, .f32⟩
  | .hbm, ⟨97, _⟩ => ⟨S1024, .f32⟩
  | .hbm, ⟨98, _⟩ => ⟨S1x1x1024, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S4x2048x2048, .f32⟩
  | .hbm, ⟨104, _⟩ => ⟨S1x2048x2048, .f32⟩
  | .hbm, ⟨105, _⟩ => ⟨S2048x2048, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S8192x2048, .f32⟩
  | .hbm, ⟨110, _⟩ => ⟨S8192x1024, .f32⟩
  | .hbm, ⟨111, _⟩ => ⟨S8192x1024, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Moe.lean ====
abbrev S8192x2048 : Shape := ⟨2, ![8192, 2048]⟩
abbrev S8192x16 : Shape := ⟨2, ![8192, 16]⟩
abbrev S4x16x2048x512 : Shape := ⟨4, ![4, 16, 2048, 512]⟩
abbrev S4x16x512x2048 : Shape := ⟨4, ![4, 16, 512, 2048]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S512x2048 : Shape := ⟨2, ![512, 2048]⟩
abbrev S512x16 : Shape := ⟨2, ![512, 16]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x16, .f32⟩
  | .hbm, ⟨2, _⟩ => ⟨S8192x2048, .f32⟩
  | .hbm, ⟨3, _⟩ => ⟨S4x16x2048x512, .f32⟩
  | .hbm, ⟨4, _⟩ => ⟨S4x16x2048x512, .f32⟩
  | .hbm, ⟨5, _⟩ => ⟨S4x16x512x2048, .f32⟩
  | .hbm, ⟨6, _⟩ => ⟨S4x16x2048x512, .bf16⟩
  | .hbm, ⟨7, _⟩ => ⟨S1x16x2048x512, .bf16⟩
  | .hbm, ⟨8, _⟩ => ⟨S16x2048x512, .bf16⟩
  | .hbm, ⟨9, _⟩ => ⟨S4x16x2048x512, .bf16⟩
  | .hbm, ⟨10, _⟩ => ⟨S1x16x2048x512, .bf16⟩
  | .hbm, ⟨11, _⟩ => ⟨S16x2048x512, .bf16⟩
  | .hbm, ⟨12, _⟩ => ⟨S4x16x512x2048, .bf16⟩
  | .hbm, ⟨13, _⟩ => ⟨S1x16x512x2048, .bf16⟩
  | .hbm, ⟨14, _⟩ => ⟨S16x512x2048, .bf16⟩
  | .hbm, ⟨15, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x16, .f32⟩
  | .local _ .vmem, ⟨3, _⟩ => ⟨S512x16, .f32⟩
  | .local _ .vmem, ⟨4, _⟩ => ⟨S512x2048, .f32⟩
  | .local _ .vmem, ⟨5, _⟩ => ⟨S512x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeRefIdeal.lean ====
abbrev S8192x2048 : Shape := ⟨2, ![8192, 2048]⟩
abbrev S8192x16 : Shape := ⟨2, ![8192, 16]⟩
abbrev S4x16x2048x512 : Shape := ⟨4, ![4, 16, 2048, 512]⟩
abbrev S4x16x512x2048 : Shape := ⟨4, ![4, 16, 512, 2048]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S8192x16x512 : Shape := ⟨3, ![8192, 16, 512]⟩
abbrev S_ : Shape := ⟨0, ![]⟩
abbrev S8192x16x1 : Shape := ⟨3, ![8192, 16, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x16, .f32⟩
  | .hbm, ⟨2, _⟩ => ⟨S8192x2048, .f32⟩
  | .hbm, ⟨3, _⟩ => ⟨S4x16x2048x512, .f32⟩
  | .hbm, ⟨4, _⟩ => ⟨S4x16x2048x512, .f32⟩
  | .hbm, ⟨5, _⟩ => ⟨S4x16x512x2048, .f32⟩
  | .hbm, ⟨6, _⟩ => ⟨S8192x2048, .f32⟩
  | .hbm, ⟨7, _⟩ => ⟨S1x16x2048x512, .f32⟩
  | .hbm, ⟨8, _⟩ => ⟨S16x2048x512, .f32⟩
  | .hbm, ⟨9, _⟩ => ⟨S1x16x2048x512, .f32⟩
  | .hbm, ⟨10, _⟩ => ⟨S16x2048x512, .f32⟩
  | .hbm, ⟨11, _⟩ => ⟨S1x16x512x2048, .f32⟩
  | .hbm, ⟨12, _⟩ => ⟨S16x512x2048, .f32⟩
  | .hbm, ⟨13, _⟩ => ⟨S8192x16x512, .f32⟩
  | .hbm, ⟨14, _⟩ => ⟨S8192x16x512, .f32⟩
  | .hbm, ⟨15, _⟩ => ⟨S8192x16x512, .f32⟩
  | .hbm, ⟨16, _⟩ => ⟨S8192x16x512, .f32⟩
  | .hbm, ⟨17, _⟩ => ⟨S_, .f32⟩
  | .hbm, ⟨18, _⟩ => ⟨S8192x16x512, .f32⟩
  | .hbm, ⟨19, _⟩ => ⟨S8192x16x512, .f32⟩
  | .hbm, ⟨20, _⟩ => ⟨S_, .f32⟩
  | .hbm, ⟨21, _⟩ => ⟨S8192x16x512, .f32⟩
  | .hbm, ⟨22, _⟩ => ⟨S8192x16x512, .f32⟩
  | .hbm, ⟨23, _⟩ => ⟨S8192x16x512, .f32⟩
  | .hbm, ⟨24, _⟩ => ⟨S8192x16x512, .f32⟩
  | .hbm, ⟨25, _⟩ => ⟨S8192x16x1, .f32⟩
  | .hbm, ⟨26, _⟩ => ⟨S8192x16x512, .f32⟩
  | .hbm, ⟨27, _⟩ => ⟨S8192x16x512, .f32⟩
  | .hbm, ⟨28, _⟩ => ⟨S8192x2048, .f32⟩
  | .hbm, ⟨29, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Rkv.lean ====
abbrev S3x8192x2048 : Shape := ⟨3, ![3, 8192, 2048]⟩
abbrev S2x3x2048x2048 : Shape := ⟨4, ![2, 3, 2048, 2048]⟩
abbrev S1x3x2048x2048 : Shape := ⟨4, ![1, 3, 2048, 2048]⟩
abbrev S3x2048x2048 : Shape := ⟨3, ![3, 2048, 2048]⟩
abbrev S3x1x2048x64x128 : Shape := ⟨5, ![3, 1, 2048, 64, 128]⟩
abbrev S1x512x2048 : Shape := ⟨3, ![1, 512, 2048]⟩
abbrev S1x2048x2048 : Shape := ⟨3, ![1, 2048, 2048]⟩
abbrev S1x1x512x16x128 : Shape := ⟨5, ![1, 1, 512, 16, 128]⟩
abbrev S512x2048 : Shape := ⟨2, ![512, 2048]⟩
abbrev S2048x2048 : Shape := ⟨2, ![2048, 2048]⟩
abbrev S512x16x128 : Shape := ⟨3, ![512, 16, 128]⟩

abbrev nBuf : Space → Nat
  | .hbm => 6
  | .vmem => 6
  | .smem => 0
  | _ => 0

abbrev bufTy : (tb : Table) → Fin (tcTables nBuf tb) → BufTy
  | .hbm, ⟨0, _⟩ => ⟨S3x8192x2048, .bf16⟩
  | .hbm, ⟨1, _⟩ => ⟨S2x3x2048x2048, .f32⟩
  | .hbm, ⟨2, _⟩ => ⟨S2x3x2048x2048, .bf16⟩
  | .hbm, ⟨3, _⟩ => ⟨S1x3x2048x2048, .bf16⟩
  | .hbm, ⟨4, _⟩ => ⟨S3x2048x2048, .bf16⟩
  | .hbm, ⟨5, _⟩ => ⟨S3x1x2048x64x128, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x512x16x128, .f32⟩
  | .local _ .vmem, ⟨5, _⟩ => ⟨S1x1x512x16x128, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.divsi v16 c4_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c4_i32_4 c0_i32_7
  let v24 : BitVec 32 := Scalar.extui v23
  let c0_i32_8 : BitVec 32 := 0#32
  let v25 : BitVec 1 := Scalar.cmpi .slt c4_i32_4 c0_i32_8
  let v26 : BitVec 32 := Scalar.extui v25
  let v27 : BitVec 32 := Scalar.subi v24 v26
  let v28 : BitVec 1 := Scalar.cmpi .ne v22 v27
  let v29 : BitVec 32 := Scalar.remsi v16 c4_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c4_i32_11 : BitVec 32 := 4#32
  let c0_i32_12 : BitVec 32 := 0#32
  let v34 : BitVec 1 := Scalar.cmpi .eq c4_i32_11 c0_i32_12
  let c1_i32_13 : BitVec 32 := 1#32
  let v35 : BitVec 32 := Scalar.select v34 c1_i32_13 c4_i32_11
  let v36 : BitVec 32 := Scalar.remsi arg1 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c4_i32_17 : BitVec 32 := 4#32
  let v44 : BitVec 32 := Scalar.divsi arg1 c4_i32_17
  let c0_i32_18 : BitVec 32 := 0#32
  let v45 : BitVec 1 := Scalar.cmpi .sgt arg1 c0_i32_18
  let v46 : BitVec 32 := Scalar.extui v45
  let c0_i32_19 : BitVec 32 := 0#32
  let v47 : BitVec 1 := Scalar.cmpi .slt arg1 c0_i32_19
  let v48 : BitVec 32 := Scalar.extui v47
  let v49 : BitVec 32 := Scalar.subi v46 v48
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi arg1 c4_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c4_i32_24 : BitVec 32 := 4#32
  let c0_i32_25 : BitVec 32 := 0#32
  let v61 : BitVec 1 := Scalar.cmpi .eq c4_i32_24 c0_i32_25
  let c1_i32_26 : BitVec 32 := 1#32
  let v62 : BitVec 32 := Scalar.select v61 c1_i32_26 c4_i32_24
  let v63 : BitVec 32 := Scalar.remsi v60 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![arg0.toNat, v33.toNat, v43.toNat, v70.toNat, c0_i32_30.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRefIdeal.lean ====
abbrev S3x8192x2048 : Shape := ⟨3, ![3, 8192, 2048]⟩
abbrev S2x3x2048x2048 : Shape := ⟨4, ![2, 3, 2048, 2048]⟩
abbrev S3x4x2048x2048 : Shape := ⟨4, ![3, 4, 2048, 2048]⟩
abbrev S1x3x2048x2048 : Shape := ⟨4, ![1, 3, 2048, 2048]⟩
abbrev S3x2048x2048 : Shape := ⟨3, ![3, 2048, 2048]⟩
abbrev S3x4x2048x16x128 : Shape := ⟨5, ![3, 4, 2048, 16, 128]⟩
abbrev S3x2048x4x16x128 : Shape := ⟨5, ![3, 2048, 4, 16, 128]⟩
abbrev S3x1x2048x64x128 : Shape := ⟨5, ![3, 1, 2048, 64, 128]⟩

abbrev nBuf : Space → Nat
  | .hbm => 10
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S2x3x2048x2048, .f32⟩
  | .hbm, ⟨2, _⟩ => ⟨S3x8192x2048, .f32⟩
  | .hbm, ⟨3, _⟩ => ⟨S3x4x2048x2048, .f32⟩
  | .hbm, ⟨4, _⟩ => ⟨S1x3x2048x2048, .f32⟩
  | .hbm, ⟨5, _⟩ => ⟨S3x2048x2048, .f32⟩
  | .hbm, ⟨6, _⟩ => ⟨S3x4x2048x2048, .f32⟩
  | .hbm, ⟨7, _⟩ => ⟨S3x4x2048x16x128, .f32⟩
  | .hbm, ⟨8, _⟩ => ⟨S3x2048x4x16x128, .f32⟩
  | .hbm, ⟨9, _⟩ => ⟨S3x1x2048x64x128, .f32⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Inproj.lean ====
abbrev S8192x2048 : Shape := ⟨2, ![8192, 2048]⟩
abbrev S4x2048 : Shape := ⟨2, ![4, 2048]⟩
abbrev S2x2048x5120 : Shape := ⟨3, ![2, 2048, 5120]⟩
abbrev S1x2048 : Shape := ⟨2, ![1, 2048]⟩
abbrev S2048 : Shape := ⟨1, ![2048]⟩
abbrev S1x2048x5120 : Shape := ⟨3, ![1, 2048, 5120]⟩
abbrev S2048x5120 : Shape := ⟨2, ![2048, 5120]⟩
abbrev S8192x5120 : Shape := ⟨2, ![8192, 5120]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5120, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2x2048x5120, .bf16⟩
  | .hbm, ⟨7, _⟩ => ⟨S1x2048x5120, .bf16⟩
  | .hbm, ⟨8, _⟩ => ⟨S2048x5120, .bf16⟩
  | .hbm, ⟨9, _⟩ => ⟨S8192x5120, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S8192x2048 : Shape := ⟨2, ![8192, 2048]⟩
abbrev S4x2048 : Shape := ⟨2, ![4, 2048]⟩
abbrev S2x2048x5120 : Shape := ⟨3, ![2, 2048, 5120]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5120 : Shape := ⟨3, ![1, 2048, 5120]⟩
abbrev S2048x5120 : Shape := ⟨2, ![2048, 5120]⟩
abbrev S8192x5120 : Shape := ⟨2, ![8192, 5120]⟩
abbrev S8192x1024 : Shape := ⟨2, ![8192, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5120, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x5120, .f32⟩
  | .hbm, ⟨22, _⟩ => ⟨S2048x5120, .f32⟩
  | .hbm, ⟨23, _⟩ => ⟨S8192x5120, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Ple.lean ====
abbrev S8192x2048 : Shape := ⟨2, ![8192, 2048]⟩
abbrev S4x4x2048x256 : Shape := ⟨4, ![4, 4, 2048, 256]⟩
abbrev S4x2048 : Shape := ⟨2, ![4, 2048]⟩
abbrev S4x2048x2048 : Shape := ⟨3, ![4, 2048, 2048]⟩
abbrev S4x256x2048 : Shape := ⟨3, ![4, 256, 2048]⟩
abbrev S1x4x2048x256 : Shape := ⟨4, ![1, 4, 2048, 256]⟩
abbrev S4x2048x256 : Shape := ⟨3, ![4, 2048, 256]⟩
abbrev S8192x256 : Shape := ⟨2, ![8192, 256]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S512x2048 : Shape := ⟨2, ![512, 2048]⟩
abbrev S512x1024 : Shape := ⟨2, ![512, 1024]⟩
abbrev S512x256 : Shape := ⟨2, ![512, 256]⟩
abbrev S2048x1024 : Shape := ⟨2, ![2048, 1024]⟩
abbrev S256x1024 : Shape := ⟨2, ![256, 1024]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x4x2048x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S1x4x2048x256, .f32⟩
  | .hbm, ⟨6, _⟩ => ⟨S4x2048x256, .f32⟩
  | .hbm, ⟨7, _⟩ => ⟨S8192x256, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4x2048x2048, .bf16⟩
  | .hbm, ⟨12, _⟩ => ⟨S1x2048x2048, .bf16⟩
  | .hbm, ⟨13, _⟩ => ⟨S2048x2048, .bf16⟩
  | .hbm, ⟨14, _⟩ => ⟨S4x256x2048, .bf16⟩
  | .hbm, ⟨15, _⟩ => ⟨S1x256x2048, .bf16⟩
  | .hbm, ⟨16, _⟩ => ⟨S256x2048, .bf16⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S8192x2048 : Shape := ⟨2, ![8192, 2048]⟩
abbrev S4x4x2048x256 : Shape := ⟨4, ![4, 4, 2048, 256]⟩
abbrev S4x2048 : Shape := ⟨2, ![4, 2048]⟩
abbrev S4x2048x2048 : Shape := ⟨3, ![4, 2048, 2048]⟩
abbrev S4x256x2048 : Shape := ⟨3, ![4, 256, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x4x2048x256, .f32⟩
  | .hbm, ⟨2, _⟩ => ⟨S4x2048, .f32⟩
  | .hbm, ⟨3, _⟩ => ⟨S4x2048x2048, .f32⟩
  | .hbm, ⟨4, _⟩ => ⟨S4x256x2048, .f32⟩
  | .hbm, ⟨5, _⟩ => ⟨S4x2048x2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x2048, .f32⟩
  | .hbm, ⟨25, _⟩ => ⟨S2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S1x4x2048x256, .f32⟩
  | .hbm, ⟨36, _⟩ => ⟨S4x2048x256, .f32⟩
  | .hbm, ⟨37, _⟩ => ⟨S1x256x2048, .f32⟩
  | .hbm, ⟨38, _⟩ => ⟨S256x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Out.lean ====
abbrev S1x2048x64x128 : Shape := ⟨4, ![1, 2048, 64, 128]⟩
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x256x16x128 : Shape := ⟨4, ![1, 256, 16, 128]⟩
abbrev S256x2048 : Shape := ⟨2, ![256, 2048]⟩
abbrev S256x16x128 : Shape := ⟨3, ![256, 16, 128]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x64x128, .f32⟩
  | .hbm, ⟨1, _⟩ => ⟨S8192x2048, .f32⟩
  | .hbm, ⟨2, _⟩ => ⟨S8192x2048, .f32⟩
  | .hbm, ⟨3, _⟩ => ⟨S2x2048x2048, .f32⟩
  | .hbm, ⟨4, _⟩ => ⟨S2x2048x2048, .bf16⟩
  | .hbm, ⟨5, _⟩ => ⟨S1x2048x2048, .bf16⟩
  | .hbm, ⟨6, _⟩ => ⟨S2048x2048, .bf16⟩
  | .hbm, ⟨7, _⟩ => ⟨S8192x2048, .f32⟩
  | .local _ .vmem, ⟨0, _⟩ => ⟨S1x256x16x128, .f32⟩
  | .local _ .vmem, ⟨1, _⟩ => ⟨S1x256x16x128, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | _, _ => ⟨S1x2048x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c8_i32_10 : BitVec 32 := 8#32
  let c0_i32_11 : BitVec 32 := 0#32
  let v34 : BitVec 1 := Scalar.cmpi .eq c8_i32_10 c0_i32_11
  let c1_i32_12 : BitVec 32 := 1#32
  let v35 : BitVec 32 := Scalar.select v34 c1_i32_12 c8_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c8_i32_16 : BitVec 32 := 8#32
  let v44 : BitVec 32 := Scalar.divsi arg0 c8_i32_16
  let c0_i32_17 : BitVec 32 := 0#32
  let v45 : BitVec 1 := Scalar.cmpi .sgt arg0 c0_i32_17
  let v46 : BitVec 32 := Scalar.extui v45
  let c0_i32_18 : BitVec 32 := 0#32
  let v47 : BitVec 1 := Scalar.cmpi .slt arg0 c0_i32_18
  let v48 : BitVec 32 := Scalar.extui v47
  let v49 : BitVec 32 := Scalar.subi v46 v48
  let c0_i32_19 : BitVec 32 := 0#32
  let v50 : BitVec 1 := Scalar.cmpi .sgt c8_i32_16 c0_i32_19
  let v51 : BitVec 32 := Scalar.extui v50
  let c0_i32_20 : BitVec 32 := 0#32
  let v52 : BitVec 1 := Scalar.cmpi .slt c8_i32_16 c0_i32_20
  let v53 : BitVec 32 := Scalar.extui v52
  let v54 : BitVec 32 := Scalar.subi v51 v53
  let v55 : BitVec 1 := Scalar.cmpi .ne v49 v54
  let v56 : BitVec 32 := Scalar.remsi arg0 c8_i32_16
  let c0_i32_21 : BitVec 32 := 0#32
  let v57 : BitVec 1 := Scalar.cmpi .ne v56 c0_i32_21
  let v58 : BitVec 1 := Scalar.andi v55 v57
  let c1_i32_22 : BitVec 32 := 1#32
  let v59 : BitVec 32 := Scalar.subi v44 c1_i32_22
  let v60 : BitVec 32 := Scalar.select v58 v59 v44
  let c4_i32_23 : BitVec 32 := 4#32
  let c0_i32_24 : BitVec 32 := 0#32
  let v61 : BitVec 1 := Scalar.cmpi .eq c4_i32_23 c0_i32_24
  let c1_i32_25 : BitVec 32 := 1#32
  let v62 : BitVec 32 := Scalar.select v61 c1_i32_25 c4_i32_23
  let v63 : BitVec 32 := Scalar.remsi v60 v62
  let c0_i32_26 : BitVec 32 := 0#32
  let v64 : BitVec 1 := Scalar.cmpi .ne v63 c0_i32_26
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let v68 : BitVec 1 := Scalar.andi v67 v64
  let v69 : BitVec 32 := Scalar.addi v63 v62
  let v70 : BitVec 32 := Scalar.select v68 v69 v63
  let c0_i32_29 : BitVec 32 := 0#32
  let c0_i32_30 : BitVec 32 := 0#32
  ![v33.toNat, v43.toNat, v70.toNat, c0_i32_29.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S1x2048x64x128 : Shape := ⟨4, ![1, 2048, 64, 128]⟩
abbrev S8192x2048 : Shape := ⟨2, ![8192, 2048]⟩
abbrev S2x2048x2048 : Shape := ⟨3, ![2, 2048, 2048]⟩
abbrev S2048x4x16x128 : Shape := ⟨4, ![2048, 4, 16, 128]⟩
abbrev S4x2048x16x128 : Shape := ⟨4, ![4, 2048, 16, 128]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x2048, .f32⟩
  | .hbm, ⟨2, _⟩ => ⟨S8192x2048, .f32⟩
  | .hbm, ⟨3, _⟩ => ⟨S2x2048x2048, .f32⟩
  | .hbm, ⟨4, _⟩ => ⟨S2048x4x16x128, .f32⟩
  | .hbm, ⟨5, _⟩ => ⟨S4x2048x16x128, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S1x2048x2048, .f32⟩
  | .hbm, ⟨10, _⟩ => ⟨S2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S8192x2048, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Prep.lean ====
abbrev S8192x2048 : Shape := ⟨2, ![8192, 2048]⟩
abbrev S4x2048 : Shape := ⟨2, ![4, 2048]⟩
abbrev S2x6x2048 : Shape := ⟨3, ![2, 6, 2048]⟩
abbrev S2x4x2048 : Shape := ⟨3, ![2, 4, 2048]⟩
abbrev S1x4x2048 : Shape := ⟨3, ![1, 4, 2048]⟩
abbrev S4x1x2048 : Shape := ⟨3, ![4, 1, 2048]⟩
abbrev S1x2048 : Shape := ⟨2, ![1, 2048]⟩
abbrev S2048 : Shape := ⟨1, ![2048]⟩
abbrev S1x6x2048 : Shape := ⟨3, ![1, 6, 2048]⟩
abbrev S6x2048 : Shape := ⟨2, ![6, 2048]⟩
abbrev S3x8192x2048 : Shape := ⟨3, ![3, 8192, 2048]⟩
abbrev S256x2048 : Shape := ⟨2, ![256, 2048]⟩
abbrev S1x1x2048 : Shape := ⟨3, ![1, 1, 2048]⟩
abbrev S3x256x2048 : Shape := ⟨3, ![3, 256, 2048]⟩
abbrev S8x2048 : Shape := ⟨2, ![8, 2048]⟩
abbrev S256 : Shape := ⟨1, ![256]⟩
abbrev S256x1 : Shape := ⟨2, ![256, 1]⟩
abbrev S1x256x2048 : Shape := ⟨3, ![1, 256, 2048]⟩

abbrev nBuf : Space → Nat
  | .hbm => 17
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x6x2048, .f32⟩
  | .hbm, ⟨3, _⟩ => ⟨S2x4x2048, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x6x2048, .f32⟩
  | .hbm, ⟨11, _⟩ => ⟨S6x2048, .f32⟩
  | .hbm, ⟨12, _⟩ => ⟨S3x8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S6x2048, .f32⟩
  | .local _ .vmem, ⟨4, _⟩ => ⟨S1x1x2048, .f32⟩
  | .local _ .vmem, ⟨5, _⟩ => ⟨S1x1x2048, .f32⟩
  | .local _ .vmem, ⟨6, _⟩ => ⟨S3x256x2048, .bf16⟩
  | .local _ .vmem, ⟨7, _⟩ => ⟨S3x256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepRefIdeal.lean ====
abbrev S8192x2048 : Shape := ⟨2, ![8192, 2048]⟩
abbrev S4x2048 : Shape := ⟨2, ![4, 2048]⟩
abbrev S2x6x2048 : Shape := ⟨3, ![2, 6, 2048]⟩
abbrev S2x4x2048 : Shape := ⟨3, ![2, 4, 2048]⟩
abbrev S1x6x2048 : Shape := ⟨3, ![1, 6, 2048]⟩
abbrev S6x2048 : Shape := ⟨2, ![6, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x4x2048 : Shape := ⟨3, ![1, 4, 2048]⟩
abbrev S4x1x2048 : Shape := ⟨3, ![4, 1, 2048]⟩
abbrev S4x2047x2048 : Shape := ⟨3, ![4, 2047, 2048]⟩
abbrev S1x4x2048x2048 : Shape := ⟨4, ![1, 4, 2048, 2048]⟩
abbrev S3x4x2048x2048 : Shape := ⟨4, ![3, 4, 2048, 2048]⟩
abbrev S3x8192x2048 : Shape := ⟨3, ![3, 8192, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x6x2048, .f32⟩
  | .hbm, ⟨3, _⟩ => ⟨S2x4x2048, .f32⟩
  | .hbm, ⟨4, _⟩ => ⟨S1x6x2048, .f32⟩
  | .hbm, ⟨5, _⟩ => ⟨S6x2048, .f32⟩
  | .hbm, ⟨6, _⟩ => ⟨S4x2048x2048, .f32⟩
  | .hbm, ⟨7, _⟩ => ⟨S1x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S1x4x2048, .f32⟩
  | .hbm, ⟨26, _⟩ => ⟨S4x2048, .f32⟩
  | .hbm, ⟨27, _⟩ => ⟨S4x1x2048, .f32⟩
  | .hbm, ⟨28, _⟩ => ⟨S4x2047x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048, .f32⟩
  | .hbm, ⟨38, _⟩ => ⟨S2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S1x2048, .f32⟩
  | .hbm, ⟨62, _⟩ => ⟨S2048, .f32⟩
  | .hbm, ⟨63, _⟩ => ⟨S1x1x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S1x4x2048x2048, .f32⟩
  | .hbm, ⟨68, _⟩ => ⟨S1x4x2048x2048, .f32⟩
  | .hbm, ⟨69, _⟩ => ⟨S1x4x2048x2048, .f32⟩
  | .hbm, ⟨70, _⟩ => ⟨S3x4x2048x2048, .f32⟩
  | .hbm, ⟨71, _⟩ => ⟨S3x8192x2048, .f32⟩
  | .hbm, ⟨72, _⟩ => ⟨S3x8192x2048, .bf16⟩
  | .hbm, ⟨73, _⟩ => ⟨S8192x2048, .f32⟩
  | .hbm, ⟨74, _⟩ => ⟨S8192x2048, .bf16⟩
  | .hbm, ⟨75, _⟩ => ⟨S8192x2048, .f32⟩
  | .hbm, ⟨76, _⟩ => ⟨S8192x2048, .bf16⟩
  | .hbm, ⟨77, _⟩ => ⟨S8192x2048, .f32⟩
  | .hbm, ⟨78, _⟩ => ⟨S8192x2048, .bf16⟩
  | .hbm, ⟨79, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩

abbrev nD : Nat := 1
abbrev τ : Topo := Topo.v7x

variable {F : FTy → Type} [FloatOps F]
-- ==== NormS.lean ====
abbrev S1024x2048 : Shape := ⟨2, ![1024, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSRefIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PrepS.lean ====
abbrev S1024x2048 : Shape := ⟨2, ![1024, 2048]⟩
abbrev S4x2048 : Shape := ⟨2, ![4, 2048]⟩
abbrev S2x6x2048 : Shape := ⟨3, ![2, 6, 2048]⟩
abbrev S2x128x2048 : Shape := ⟨3, ![2, 128, 2048]⟩
abbrev S1x128x2048 : Shape := ⟨3, ![1, 128, 2048]⟩
abbrev S128x2048 : Shape := ⟨2, ![128, 2048]⟩
abbrev S_ : Shape := ⟨0, ![]⟩
abbrev S128x8x2048 : Shape := ⟨3, ![128, 8, 2048]⟩
abbrev S1 : Shape := ⟨1, ![1]⟩
abbrev S1x2048 : Shape := ⟨2, ![1, 2048]⟩
abbrev S2048 : Shape := ⟨1, ![2048]⟩
abbrev S1x6x2048 : Shape := ⟨3, ![1, 6, 2048]⟩
abbrev S6x2048 : Shape := ⟨2, ![6, 2048]⟩
abbrev S3x1024x2048 : Shape := ⟨3, ![3, 1024, 2048]⟩
abbrev S256x2048 : Shape := ⟨2, ![256, 2048]⟩
abbrev S3x256x2048 : Shape := ⟨3, ![3, 256, 2048]⟩
abbrev S8x2048 : Shape := ⟨2, ![8, 2048]⟩
abbrev S256 : Shape := ⟨1, ![256]⟩
abbrev S256x1 : Shape := ⟨2, ![256, 1]⟩
abbrev S1x256x2048 : Shape := ⟨3, ![1, 256, 2048]⟩

abbrev nBuf : Space → Nat
  | .hbm => 22
  | .vmem => 17
  | .smem => 0
  | _ => 0

abbrev bufTy : (tb : Table) → Fin (tcTables nBuf tb) → BufTy
  | .hbm, ⟨0, _⟩ => ⟨S1024x2048, .f32⟩
  | .hbm, ⟨1, _⟩ => ⟨S4x2048, .f32⟩
  | .hbm, ⟨2, _⟩ => ⟨S2x6x2048, .f32⟩
  | .hbm, ⟨3, _⟩ => ⟨S2x128x2048, .f32⟩
  | .hbm, ⟨4, _⟩ => ⟨S1x128x2048, .f32⟩
  | .hbm, ⟨5, _⟩ => ⟨S128x2048, .f32⟩
  | .hbm, ⟨6, _⟩ => ⟨S_, .f32⟩
  | .hbm, ⟨7, _⟩ => ⟨S128x8x2048, .f32⟩
  | .hbm, ⟨8, _⟩ => ⟨S_, .i32⟩
  | .hbm, ⟨9, _⟩ => ⟨S1, .i32⟩
  | .hbm, ⟨10, _⟩ => ⟨S128x8x2048, .f32⟩
  | .hbm, ⟨11, _⟩ => ⟨S1024x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x6x2048, .f32⟩
  | .hbm, ⟨16, _⟩ => ⟨S6x2048, .f32⟩
  | .hbm, ⟨17, _⟩ => ⟨S3x1024x2048, .bf16⟩
  | .hbm, ⟨18, _⟩ => ⟨S1024x2048, .bf16⟩
  | .hbm, ⟨19, _⟩ => ⟨S1024x2048, .bf16⟩
  | .hbm, ⟨20, _⟩ => ⟨S1024x2048, .bf16⟩
  | .hbm, ⟨21, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S6x2048, .f32⟩
  | .local _ .vmem, ⟨4, _⟩ => ⟨S256x2048, .f32⟩
  | .local _ .vmem, ⟨5, _⟩ => ⟨S256x2048, .f32⟩
  | .local _ .vmem, ⟨6, _⟩ => ⟨S3x256x2048, .bf16⟩
  | .local _ .vmem, ⟨7, _⟩ => ⟨S3x256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S8x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepSRefIdeal.lean ====
abbrev S1024x2048 : Shape := ⟨2, ![1024, 2048]⟩
abbrev S4x2048 : Shape := ⟨2, ![4, 2048]⟩
abbrev S2x6x2048 : Shape := ⟨3, ![2, 6, 2048]⟩
abbrev S2x128x2048 : Shape := ⟨3, ![2, 128, 2048]⟩
abbrev S1x6x2048 : Shape := ⟨3, ![1, 6, 2048]⟩
abbrev S6x2048 : Shape := ⟨2, ![6, 2048]⟩
abbrev S128x8x2048 : Shape := ⟨3, ![128, 8, 2048]⟩
abbrev S1x2048 : Shape := ⟨2, ![1, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S1x128x2048 : Shape := ⟨3, ![1, 128, 2048]⟩
abbrev S128x2048 : Shape := ⟨2, ![128, 2048]⟩
abbrev S128x1x2048 : Shape := ⟨3, ![128, 1, 2048]⟩
abbrev S128x7x2048 : Shape := ⟨3, ![128, 7, 2048]⟩
abbrev S1x128x8x2048 : Shape := ⟨4, ![1, 128, 8, 2048]⟩
abbrev S3x128x8x2048 : Shape := ⟨4, ![3, 128, 8, 2048]⟩
abbrev S3x1024x2048 : Shape := ⟨3, ![3, 1024, 2048]⟩

abbrev nBuf : Space → Nat
  | .hbm => 80
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4x2048, .f32⟩
  | .hbm, ⟨2, _⟩ => ⟨S2x6x2048, .f32⟩
  | .hbm, ⟨3, _⟩ => ⟨S2x128x2048, .f32⟩
  | .hbm, ⟨4, _⟩ => ⟨S1x6x2048, .f32⟩
  | .hbm, ⟨5, _⟩ => ⟨S6x2048, .f32⟩
  | .hbm, ⟨6, _⟩ => ⟨S128x8x2048, .f32⟩
  | .hbm, ⟨7, _⟩ => ⟨S1x2048, .f32⟩
  | .hbm, ⟨8, _⟩ => ⟨S2048, .f32⟩
  | .hbm, ⟨9, _⟩ => ⟨S128x8x2048, .f32⟩
  | .hbm, ⟨10, _⟩ => ⟨S_, .f32⟩
  | .hbm, ⟨11, _⟩ => ⟨S128x8, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S128x8x1, .f32⟩
  | .hbm, ⟨20, _⟩ => ⟨S128x8x2048, .f32⟩
  | .hbm, ⟨21, _⟩ => ⟨S128x8x2048, .f32⟩
  | .hbm, ⟨22, _⟩ => ⟨S1x1x2048, .f32⟩
  | .hbm, ⟨23, _⟩ => ⟨S128x8x2048, .f32⟩
  | .hbm, ⟨24, _⟩ => ⟨S128x8x2048, .f32⟩
  | .hbm, ⟨25, _⟩ => ⟨S1x128x2048, .f32⟩
  | .hbm, ⟨26, _⟩ => ⟨S128x2048, .f32⟩
  | .hbm, ⟨27, _⟩ => ⟨S128x1x2048, .f32⟩
  | .hbm, ⟨28, _⟩ => ⟨S128x7x2048, .f32⟩
  | .hbm, ⟨29, _⟩ => ⟨S128x8x2048, .f32⟩
  | .hbm, ⟨30, _⟩ => ⟨S128x8x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S1x2048, .f32⟩
  | .hbm, ⟨38, _⟩ => ⟨S2048, .f32⟩
  | .hbm, ⟨39, _⟩ => ⟨S1x1x2048, .f32⟩
  | .hbm, ⟨40, _⟩ => ⟨S128x8x2048, .f32⟩
  | .hbm, ⟨41, _⟩ => ⟨S128x8x2048, .f32⟩
  | .hbm, ⟨42, _⟩ => ⟨S128x8x2048, .f32⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S128x8x2048, .f32⟩
  | .hbm, ⟨47, _⟩ => ⟨S128x8x2048, .f32⟩
  | .hbm, ⟨48, _⟩ => ⟨S128x8x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S128x8x2048, .f32⟩
  | .hbm, ⟨53, _⟩ => ⟨S128x8x2048, .f32⟩
  | .hbm, ⟨54, _⟩ => ⟨S128x8x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S128x8x2048, .f32⟩
  | .hbm, ⟨59, _⟩ => ⟨S128x8x2048, .f32⟩
  | .hbm, ⟨60, _⟩ => ⟨S128x8x2048, .f32⟩
  | .hbm, ⟨61, _⟩ => ⟨S1x2048, .f32⟩
  | .hbm, ⟨62, _⟩ => ⟨S2048, .f32⟩
  | .hbm, ⟨63, _⟩ => ⟨S1x1x2048, .f32⟩
  | .hbm, ⟨64, _⟩ => ⟨S128x8x2048, .f32⟩
  | .hbm, ⟨65, _⟩ => ⟨S128x8x2048, .f32⟩
  | .hbm, ⟨66, _⟩ => ⟨S128x8x2048, .f32⟩
  | .hbm, ⟨67, _⟩ => ⟨S1x128x8x2048, .f32⟩
  | .hbm, ⟨68, _⟩ => ⟨S1x128x8x2048, .f32⟩
  | .hbm, ⟨69, _⟩ => ⟨S1x128x8x2048, .f32⟩
  | .hbm, ⟨70, _⟩ => ⟨S3x128x8x2048, .f32⟩
  | .hbm, ⟨71, _⟩ => ⟨S3x1024x2048, .f32⟩
  | .hbm, ⟨72, _⟩ => ⟨S3x1024x2048, .bf16⟩
  | .hbm, ⟨73, _⟩ => ⟨S1024x2048, .f32⟩
  | .hbm, ⟨74, _⟩ => ⟨S1024x2048, .bf16⟩
  | .hbm, ⟨75, _⟩ => ⟨S1024x2048, .f32⟩
  | .hbm, ⟨76, _⟩ => ⟨S1024x2048, .bf16⟩
  | .hbm, ⟨77, _⟩ => ⟨S1024x2048, .f32⟩
  | .hbm, ⟨78, _⟩ => ⟨S1024x2048, .bf16⟩
  | .hbm, ⟨79, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩

abbrev nD : Nat := 1
abbrev τ : Topo := Topo.v7x

variable {F : FTy → Type} [FloatOps F]
-- ==== MixS.lean ====
abbrev S1024x5120 : Shape := ⟨2, ![1024, 5120]⟩
abbrev S1024x2048 : Shape := ⟨2, ![1024, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x3x1024 : Shape := ⟨3, ![2, 3, 1024]⟩
abbrev S2x2048x2048 : Shape := ⟨3, ![2, 2048, 2048]⟩
abbrev S2x128x2x1024 : Shape := ⟨4, ![2, 128, 2, 1024]⟩
abbrev S1x8x128x128 : Shape := ⟨4, ![1, 8, 128, 128]⟩
abbrev S8x128x128 : Shape := ⟨3, ![8, 128, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S1x8x128 : Shape := ⟨3, ![1, 8, 128]⟩
abbrev S8x128 : Shape := ⟨2, ![8, 128]⟩
abbrev S8x8 : Shape := ⟨2, ![8, 8]⟩
abbrev S8x8x128 : Shape := ⟨3, ![8, 8, 128]⟩
abbrev S8x1024 : Shape := ⟨2, ![8, 1024]⟩
abbrev S1x8x1x1024 : Shape := ⟨4, ![1, 8, 1, 1024]⟩
abbrev S16x8x1x1024 : Shape := ⟨4, ![16, 8, 1, 1024]⟩
abbrev S128x1024 : Shape := ⟨2, ![128, 1024]⟩
abbrev S1x128x2x1024 : Shape := ⟨4, ![1, 128, 2, 1024]⟩
abbrev S128x2x1024 : Shape := ⟨3, ![128, 2, 1024]⟩
abbrev S_ : Shape := ⟨0, ![]⟩
abbrev S128x8x1024 : Shape := ⟨3, ![128, 8, 1024]⟩
abbrev S128x1x1024 : Shape := ⟨3, ![128, 1, 1024]⟩
abbrev S1 : Shape := ⟨1, ![1]⟩
abbrev S1024x1024 : Shape := ⟨2, ![1024, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S1x2048x2048 : Shape := ⟨3, ![1, 2048, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩

abbrev nBuf : Space → Nat
  | .hbm => 59
  | .vmem => 30
  | .smem => 0
  | _ => 0

abbrev bufTy : (tb : Table) → Fin (tcTables nBuf tb) → BufTy
  | .hbm, ⟨0, _⟩ => ⟨S1024x5120, .f32⟩
  | .hbm, ⟨1, _⟩ => ⟨S1024x2048, .f32⟩
  | .hbm, ⟨2, _⟩ => ⟨S2x1024, .f32⟩
  | .hbm, ⟨3, _⟩ => ⟨S2x1024, .f32⟩
  | .hbm, ⟨4, _⟩ => ⟨S2x8x128x128, .f32⟩
  | .hbm, ⟨5, _⟩ => ⟨S2x8x128, .f32⟩
  | .hbm, ⟨6, _⟩ => ⟨S2x3x1024, .f32⟩
  | .hbm, ⟨7, _⟩ => ⟨S2x2048x2048, .f32⟩
  | .hbm, ⟨8, _⟩ => ⟨S2x128x2x1024, .f32⟩
  | .hbm, ⟨9, _⟩ => ⟨S1x8x128x128, .f32⟩
  | .hbm, ⟨10, _⟩ => ⟨S8x128x128, .f32⟩
  | .hbm, ⟨11, _⟩ => ⟨S8x8x8, .f32⟩
  | .hbm, ⟨12, _⟩ => ⟨S1x8x1x8x1x8, .f32⟩
  | .hbm, ⟨13, _⟩ => ⟨S1x8x16x8x16x8, .f32⟩
  | .hbm, ⟨14, _⟩ => ⟨S8x128x128, .f32⟩
  | .hbm, ⟨15, _⟩ => ⟨S1x8x128, .f32⟩
  | .hbm, ⟨16, _⟩ => ⟨S8x128, .f32⟩
  | .hbm, ⟨17, _⟩ => ⟨S8x8, .f32⟩
  | .hbm, ⟨18, _⟩ => ⟨S8x8, .f32⟩
  | .hbm, ⟨19, _⟩ => ⟨S8x8x128, .f32⟩
  | .hbm, ⟨20, _⟩ => ⟨S8x1024, .f32⟩
  | .hbm, ⟨21, _⟩ => ⟨S1x8x1x1024, .f32⟩
  | .hbm, ⟨22, _⟩ => ⟨S16x8x1x1024, .f32⟩
  | .hbm, ⟨23, _⟩ => ⟨S128x1024, .f32⟩
  | .hbm, ⟨24, _⟩ => ⟨S1x128x2x1024, .f32⟩
  | .hbm, ⟨25, _⟩ => ⟨S128x2x1024, .f32⟩
  | .hbm, ⟨26, _⟩ => ⟨S_, .f32⟩
  | .hbm, ⟨27, _⟩ => ⟨S128x8x1024, .f32⟩
  | .hbm, ⟨28, _⟩ => ⟨S128x1x1024, .f32⟩
  | .hbm, ⟨29, _⟩ => ⟨S128x1024, .f32⟩
  | .hbm, ⟨30, _⟩ => ⟨S_, .i32⟩
  | .hbm, ⟨31, _⟩ => ⟨S1, .i32⟩
  | .hbm, ⟨32, _⟩ => ⟨S128x8x1024, .f32⟩
  | .hbm, ⟨33, _⟩ => ⟨S1024x1024, .f32⟩
  | .hbm, ⟨34, _⟩ => ⟨S128x1x1024, .f32⟩
  | .hbm, ⟨35, _⟩ => ⟨S128x1024, .f32⟩
  | .hbm, ⟨36, _⟩ => ⟨S_, .i32⟩
  | .hbm, ⟨37, _⟩ => ⟨S1, .i32⟩
  | .hbm, ⟨38, _⟩ => ⟨S128x8x1024, .f32⟩
  | .hbm, ⟨39, _⟩ => ⟨S128x1x1024, .f32⟩
  | .hbm, ⟨40, _⟩ => ⟨S128x1024, .f32⟩
  | .hbm, ⟨41, _⟩ => ⟨S_, .i32⟩
  | .hbm, ⟨42, _⟩ => ⟨S1, .i32⟩
  | .hbm, ⟨43, _⟩ => ⟨S128x8x1024, .f32⟩
  | .hbm, ⟨44, _⟩ => ⟨S1024x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1x3x1024, .f32⟩
  | .hbm, ⟨52, _⟩ => ⟨S3x1024, .f32⟩
  | .hbm, ⟨53, _⟩ => ⟨S2x2048x2048, .bf16⟩
  | .hbm, ⟨54, _⟩ => ⟨S1x2048x2048, .bf16⟩
  | .hbm, ⟨55, _⟩ => ⟨S2048x2048, .bf16⟩
  | .hbm, ⟨56, _⟩ => ⟨S1024x2048, .f32⟩
  | .hbm, ⟨57, _⟩ => ⟨S1024x1024, .f32⟩
  | .hbm, ⟨58, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S128x1024, .f32⟩
  | .local _ .vmem, ⟨16, _⟩ => ⟨S3x1024, .f32⟩
  | .local _ .vmem, ⟨17, _⟩ => ⟨S2048x2048, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .f32⟩
  | .local _ .vmem, ⟨23, _⟩ => ⟨S256x2048, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x2048, .bf16⟩
  | .local _ .vmem, ⟨29, _⟩ => ⟨S8x1024, .f32⟩
  | _, _ => ⟨S1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixSRefIdeal.lean ====
abbrev S1024x5120 : Shape := ⟨2, ![1024, 5120]⟩
abbrev S1024x2048 : Shape := ⟨2, ![1024, 2048]⟩
abbrev S2x1024 : Shape := ⟨2, ![2, 1024]⟩
abbrev S2x8x128x128 : Shape := ⟨4, ![2, 8, 128, 128]⟩
abbrev S2x8x128 : Shape := ⟨3, ![2, 8, 128]⟩
abbrev S2x3x1024 : Shape := ⟨3, ![2, 3, 1024]⟩
abbrev S2x2048x2048 : Shape := ⟨3, ![2, 2048, 2048]⟩
abbrev S2x128x2x1024 : Shape := ⟨4, ![2, 128, 2, 1024]⟩
abbrev S128x8x5120 : Shape := ⟨3, ![128, 8, 5120]⟩
abbrev S128x8x1024 : Shape := ⟨3, ![128, 8, 1024]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1024x5120, .f32⟩
  | .hbm, ⟨1, _⟩ => ⟨S1024x2048, .f32⟩
  | .hbm, ⟨2, _⟩ => ⟨S2x1024, .f32⟩
  | .hbm, ⟨3, _⟩ => ⟨S2x1024, .f32⟩
  | .hbm, ⟨4, _⟩ => ⟨S2x8x128x128, .f32⟩
  | .hbm, ⟨5, _⟩ => ⟨S2x8x128, .f32⟩
  | .hbm, ⟨6, _⟩ => ⟨S2x3x1024, .f32⟩
  | .hbm, ⟨7, _⟩ => ⟨S2x2048x2048, .f32⟩
  | .hbm, ⟨8, _⟩ => ⟨S2x128x2x1024, .f32⟩
  | .hbm, ⟨9, _⟩ => ⟨S128x8x5120, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S128x8x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S128x8, .f32⟩
  | .hbm, ⟨21, _⟩ => ⟨S128x8x1, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S_, .f32⟩
  | .hbm, ⟨29, _⟩ => ⟨S128x8, .f32⟩
  | .hbm, ⟨30, _⟩ => ⟨S128x8x1, .f32⟩
  | .hbm, ⟨31, _⟩ => ⟨S_, .f32⟩
  | .hbm, ⟨32, _⟩ => ⟨S128x8x1, .f32⟩
  | .hbm, ⟨33, _⟩ => ⟨S128x8x1, .f32⟩
  | .hbm, ⟨34, _⟩ => ⟨S128x8x1024, .f32⟩
  | .hbm, ⟨35, _⟩ => ⟨S128x8x1024, .f32⟩
  | .hbm, ⟨36, _⟩ => ⟨S_, .f32⟩
  | .hbm, ⟨37, _⟩ => ⟨S128x8x1, .f32⟩
  | .hbm, ⟨38, _⟩ => ⟨S128x8x1, .f32⟩
  | .hbm, ⟨39, _⟩ => ⟨S128x8x1, .f32⟩
  | .hbm, ⟨40, _⟩ => ⟨S128x8x1024, .f32⟩
  | .hbm, ⟨41, _⟩ => ⟨S128x8x1024, .f32⟩
  | .hbm, ⟨42, _⟩ => ⟨S1x1x1024, .f32⟩
  | .hbm, ⟨43, _⟩ => ⟨S128x8x1024, .f32⟩
  | .hbm, ⟨44, _⟩ => ⟨S128x8x1024, .f32⟩
  | .hbm, ⟨45, _⟩ => ⟨S1x1x1024, .f32⟩
  | .hbm, ⟨46, _⟩ => ⟨S128x8x1024, .f32⟩
  | .hbm, ⟨47, _⟩ => ⟨S128x8x1024, .f32⟩
  | .hbm, ⟨48, _⟩ => ⟨S128x8x1024, .f32⟩
  | .hbm, ⟨49, _⟩ => ⟨S1024x1024, .f32⟩
  | .hbm, ⟨50, _⟩ => ⟨S1024x1024, .f32⟩
  | _, _ => ⟨S1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== LoraG.lean ====
abbrev S8192x2048 : Shape := ⟨2, ![8192, 2048]⟩
abbrev S2x2048x256 : Shape := ⟨3, ![2, 2048, 256]⟩
abbrev S2x256x2048 : Shape := ⟨3, ![2, 256, 2048]⟩
abbrev S_ : Shape := ⟨0, ![]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩

abbrev nBuf : Space → Nat
  | .hbm => 18
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x256, .f32⟩
  | .hbm, ⟨2, _⟩ => ⟨S2x256x2048, .f32⟩
  | .hbm, ⟨3, _⟩ => ⟨S_, .i32⟩
  | .hbm, ⟨4, _⟩ => ⟨S_, .f32⟩
  | .hbm, ⟨5, _⟩ => ⟨S2x2048x256, .f32⟩
  | .hbm, ⟨6, _⟩ => ⟨S_, .i32⟩
  | .hbm, ⟨7, _⟩ => ⟨S_, .f32⟩
  | .hbm, ⟨8, _⟩ => ⟨S2x256x2048, .f32⟩
  | .hbm, ⟨9, _⟩ => ⟨S2x2048x256, .bf16⟩
  | .hbm, ⟨10, _⟩ => ⟨S2x256x2048, .bf16⟩
  | .hbm, ⟨11, _⟩ => ⟨S1x2048x256, .bf16⟩
  | .hbm, ⟨12, _⟩ => ⟨S2048x256, .bf16⟩
  | .hbm, ⟨13, _⟩ => ⟨S1x256x2048, .bf16⟩
  | .hbm, ⟨14, _⟩ => ⟨S256x2048, .bf16⟩
  | .hbm, ⟨15, _⟩ => ⟨S_, .f32⟩
  | .hbm, ⟨16, _⟩ => ⟨S1x2048, .f32⟩
  | .hbm, ⟨17, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S256x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LoraGRefIdeal.lean ====
abbrev S8192x2048 : Shape := ⟨2, ![8192, 2048]⟩
abbrev S2x2048x256 : Shape := ⟨3, ![2, 2048, 256]⟩
abbrev S2x256x2048 : Shape := ⟨3, ![2, 256, 2048]⟩
abbrev S1x2048x256 : Shape := ⟨3, ![1, 2048, 256]⟩
abbrev S2048x256 : Shape := ⟨2, ![2048, 256]⟩
abbrev S8192x256 : Shape := ⟨2, ![8192, 256]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x256, .f32⟩
  | .hbm, ⟨2, _⟩ => ⟨S2x256x2048, .f32⟩
  | .hbm, ⟨3, _⟩ => ⟨S8192x2048, .f32⟩
  | .hbm, ⟨4, _⟩ => ⟨S1x2048x256, .f32⟩
  | .hbm, ⟨5, _⟩ => ⟨S2048x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S1x256x2048, .f32⟩
  | .hbm, ⟨16, _⟩ => ⟨S256x2048, .f32⟩
  | .hbm, ⟨17, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LoraA.lean ====
abbrev S8192x2048 : Shape := ⟨2, ![8192, 2048]⟩
abbrev S2x2048 : Shape := ⟨2, ![2, 2048]⟩
abbrev S2x2048x96 : Shape := ⟨3, ![2, 2048, 96]⟩
abbrev S2x96x2048 : Shape := ⟨3, ![2, 96, 2048]⟩
abbrev S_ : Shape := ⟨0, ![]⟩
abbrev S2x2048x128 : Shape := ⟨3, ![2, 2048, 128]⟩
abbrev S2x128x2048 : Shape := ⟨3, ![2, 128, 2048]⟩
abbrev S1x2048x128 : Shape := ⟨3, ![1, 2048, 128]⟩
abbrev S2048x128 : Shape := ⟨2, ![2048, 128]⟩
abbrev S1x128x2048 : Shape := ⟨3, ![1, 128, 2048]⟩
abbrev S128x2048 : Shape := ⟨2, ![128, 2048]⟩
abbrev S1x2048 : Shape := ⟨2, ![1, 2048]⟩
abbrev S2048 : Shape := ⟨1, ![2048]⟩
abbrev S1x2048x64x128 : Shape := ⟨4, ![1, 2048, 64, 128]⟩
abbrev S512x2048 : Shape := ⟨2, ![512, 2048]⟩
abbrev S1x512x16x128 : Shape := ⟨4, ![1, 512, 16, 128]⟩
abbrev S512x128 : Shape := ⟨2, ![512, 128]⟩
abbrev S512x16x128 : Shape := ⟨3, ![512, 16, 128]⟩

abbrev nBuf : Space → Nat
  | .hbm => 20
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048, .f32⟩
  | .hbm, ⟨2, _⟩ => ⟨S2x2048x96, .f32⟩
  | .hbm, ⟨3, _⟩ => ⟨S2x96x2048, .f32⟩
  | .hbm, ⟨4, _⟩ => ⟨S_, .i32⟩
  | .hbm, ⟨5, _⟩ => ⟨S_, .f32⟩
  | .hbm, ⟨6, _⟩ => ⟨S2x2048x128, .f32⟩
  | .hbm, ⟨7, _⟩ => ⟨S_, .i32⟩
  | .hbm, ⟨8, _⟩ => ⟨S_, .f32⟩
  | .hbm, ⟨9, _⟩ => ⟨S2x128x2048, .f32⟩
  | .hbm, ⟨10, _⟩ => ⟨S2x2048x128, .bf16⟩
  | .hbm, ⟨11, _⟩ => ⟨S2x128x2048, .bf16⟩
  | .hbm, ⟨12, _⟩ => ⟨S1x2048x128, .bf16⟩
  | .hbm, ⟨13, _⟩ => ⟨S2048x128, .bf16⟩
  | .hbm, ⟨14, _⟩ => ⟨S1x128x2048, .bf16⟩
  | .hbm, ⟨15, _⟩ => ⟨S128x2048, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048x64x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S128x2048, .bf16⟩
  | .local _ .vmem, ⟨4, _⟩ => ⟨S1x2048, .f32⟩
  | .local _ .vmem, ⟨5, _⟩ => ⟨S1x512x16x128, .f32⟩
  | .local _ .vmem, ⟨6, _⟩ => ⟨S1x512x16x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.divsi v16 c4_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c4_i32_4 c0_i32_7
  let v24 : BitVec 32 := Scalar.extui v23
  let c0_i32_8 : BitVec 32 := 0#32
  let v25 : BitVec 1 := Scalar.cmpi .slt c4_i32_4 c0_i32_8
  let v26 : BitVec 32 := Scalar.extui v25
  let v27 : BitVec 32 := Scalar.subi v24 v26
  let v28 : BitVec 1 := Scalar.cmpi .ne v22 v27
  let v29 : BitVec 32 := Scalar.remsi v16 c4_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c4_i32_11 : BitVec 32 := 4#32
  let c0_i32_12 : BitVec 32 := 0#32
  let v34 : BitVec 1 := Scalar.cmpi .eq c4_i32_11 c0_i32_12
  let c1_i32_13 : BitVec 32 := 1#32
  let v35 : BitVec 32 := Scalar.select v34 c1_i32_13 c4_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c4_i32_17 : BitVec 32 := 4#32
  let v44 : BitVec 32 := Scalar.divsi arg0 c4_i32_17
  let c0_i32_18 : BitVec 32 := 0#32
  let v45 : BitVec 1 := Scalar.cmpi .sgt arg0 c0_i32_18
  let v46 : BitVec 32 := Scalar.extui v45
  let c0_i32_19 : BitVec 32 := 0#32
  let v47 : BitVec 1 := Scalar.cmpi .slt arg0 c0_i32_19
  let v48 : BitVec 32 := Scalar.extui v47
  let v49 : BitVec 32 := Scalar.subi v46 v48
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi arg0 c4_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c4_i32_24 : BitVec 32 := 4#32
  let c0_i32_25 : BitVec 32 := 0#32
  let v61 : BitVec 1 := Scalar.cmpi .eq c4_i32_24 c0_i32_25
  let c1_i32_26 : BitVec 32 := 1#32
  let v62 : BitVec 32 := Scalar.select v61 c1_i32_26 c4_i32_24
  let v63 : BitVec 32 := Scalar.remsi v60 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v33.toNat, v43.toNat, v70.toNat, c0_i32_30.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LoraARefIdeal.lean ====
abbrev S8192x2048 : Shape := ⟨2, ![8192, 2048]⟩
abbrev S2x2048 : Shape := ⟨2, ![2, 2048]⟩
abbrev S2x2048x96 : Shape := ⟨3, ![2, 2048, 96]⟩
abbrev S2x96x2048 : Shape := ⟨3, ![2, 96, 2048]⟩
abbrev S1x2048 : Shape := ⟨2, ![1, 2048]⟩
abbrev S2048 : Shape := ⟨1, ![2048]⟩
abbrev S4x2048x2048 : Shape := ⟨3, ![4, 2048, 2048]⟩
abbrev S1x2048x96 : Shape := ⟨3, ![1, 2048, 96]⟩
abbrev S2048x96 : Shape := ⟨2, ![2048, 96]⟩
abbrev S4x2048x96 : Shape := ⟨3, ![4, 2048, 96]⟩
abbrev S1x96x2048 : Shape := ⟨3, ![1, 96, 2048]⟩
abbrev S96x2048 : Shape := ⟨2, ![96, 2048]⟩
abbrev S1x1x2048 : Shape := ⟨3, ![1, 1, 2048]⟩
abbrev S_ : Shape := ⟨0, ![]⟩
abbrev S4x2048x16x128 : Shape := ⟨4, ![4, 2048, 16, 128]⟩
abbrev S2048x4x16x128 : Shape := ⟨4, ![2048, 4, 16, 128]⟩
abbrev S1x2048x64x128 : Shape := ⟨4, ![1, 2048, 64, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048, .f32⟩
  | .hbm, ⟨2, _⟩ => ⟨S2x2048x96, .f32⟩
  | .hbm, ⟨3, _⟩ => ⟨S2x96x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S4x2048x2048, .f32⟩
  | .hbm, ⟨8, _⟩ => ⟨S1x2048x96, .f32⟩
  | .hbm, ⟨9, _⟩ => ⟨S2048x96, .f32⟩
  | .hbm, ⟨10, _⟩ => ⟨S4x2048x96, .f32⟩
  | .hbm, ⟨11, _⟩ => ⟨S1x96x2048, .f32⟩
  | .hbm, ⟨12, _⟩ => ⟨S96x2048, .f32⟩
  | .hbm, ⟨13, _⟩ => ⟨S4x2048x2048, .f32⟩
  | .hbm, ⟨14, _⟩ => ⟨S1x1x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x16x128, .f32⟩
  | .hbm, ⟨26, _⟩ => ⟨S2048x4x16x128, .f32⟩
  | .hbm, ⟨27, _⟩ => ⟨S1x2048x64x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== LoraW.lean ====
abbrev S8192x2048 : Shape := ⟨2, ![8192, 2048]⟩
abbrev S2x2048 : Shape := ⟨2, ![2, 2048]⟩
abbrev S2x2048x96 : Shape := ⟨3, ![2, 2048, 96]⟩
abbrev S2x96x2048 : Shape := ⟨3, ![2, 96, 2048]⟩
abbrev S_ : Shape := ⟨0, ![]⟩
abbrev S2x2048x128 : Shape := ⟨3, ![2, 2048, 128]⟩
abbrev S2x128x2048 : Shape := ⟨3, ![2, 128, 2048]⟩
abbrev S1x2048x128 : Shape := ⟨3, ![1, 2048, 128]⟩
abbrev S2048x128 : Shape := ⟨2, ![2048, 128]⟩
abbrev S1x128x2048 : Shape := ⟨3, ![1, 128, 2048]⟩
abbrev S128x2048 : Shape := ⟨2, ![128, 2048]⟩
abbrev S1x2048 : Shape := ⟨2, ![1, 2048]⟩
abbrev S2048 : Shape := ⟨1, ![2048]⟩
abbrev S1x2048x64x128 : Shape := ⟨4, ![1, 2048, 64, 128]⟩
abbrev S512x2048 : Shape := ⟨2, ![512, 2048]⟩
abbrev S1x512x16x128 : Shape := ⟨4, ![1, 512, 16, 128]⟩
abbrev S512x128 : Shape := ⟨2, ![512, 128]⟩
abbrev S512x16x128 : Shape := ⟨3, ![512, 16, 128]⟩

abbrev nBuf : Space → Nat
  | .hbm => 20
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048, .f32⟩
  | .hbm, ⟨2, _⟩ => ⟨S2x2048x96, .f32⟩
  | .hbm, ⟨3, _⟩ => ⟨S2x96x2048, .f32⟩
  | .hbm, ⟨4, _⟩ => ⟨S_, .i32⟩
  | .hbm, ⟨5, _⟩ => ⟨S_, .f32⟩
  | .hbm, ⟨6, _⟩ => ⟨S2x2048x128, .f32⟩
  | .hbm, ⟨7, _⟩ => ⟨S_, .i32⟩
  | .hbm, ⟨8, _⟩ => ⟨S_, .f32⟩
  | .hbm, ⟨9, _⟩ => ⟨S2x128x2048, .f32⟩
  | .hbm, ⟨10, _⟩ => ⟨S2x2048x128, .bf16⟩
  | .hbm, ⟨11, _⟩ => ⟨S2x128x2048, .bf16⟩
  | .hbm, ⟨12, _⟩ => ⟨S1x2048x128, .bf16⟩
  | .hbm, ⟨13, _⟩ => ⟨S2048x128, .bf16⟩
  | .hbm, ⟨14, _⟩ => ⟨S1x128x2048, .bf16⟩
  | .hbm, ⟨15, _⟩ => ⟨S128x2048, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048x64x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S128x2048, .bf16⟩
  | .local _ .vmem, ⟨4, _⟩ => ⟨S1x2048, .f32⟩
  | .local _ .vmem, ⟨5, _⟩ => ⟨S1x512x16x128, .f32⟩
  | .local _ .vmem, ⟨6, _⟩ => ⟨S1x512x16x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.divsi v16 c4_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c4_i32_4 c0_i32_7
  let v24 : BitVec 32 := Scalar.extui v23
  let c0_i32_8 : BitVec 32 := 0#32
  let v25 : BitVec 1 := Scalar.cmpi .slt c4_i32_4 c0_i32_8
  let v26 : BitVec 32 := Scalar.extui v25
  let v27 : BitVec 32 := Scalar.subi v24 v26
  let v28 : BitVec 1 := Scalar.cmpi .ne v22 v27
  let v29 : BitVec 32 := Scalar.remsi v16 c4_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c4_i32_11 : BitVec 32 := 4#32
  let c0_i32_12 : BitVec 32 := 0#32
  let v34 : BitVec 1 := Scalar.cmpi .eq c4_i32_11 c0_i32_12
  let c1_i32_13 : BitVec 32 := 1#32
  let v35 : BitVec 32 := Scalar.select v34 c1_i32_13 c4_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c4_i32_17 : BitVec 32 := 4#32
  let v44 : BitVec 32 := Scalar.divsi arg0 c4_i32_17
  let c0_i32_18 : BitVec 32 := 0#32
  let v45 : BitVec 1 := Scalar.cmpi .sgt arg0 c0_i32_18
  let v46 : BitVec 32 := Scalar.extui v45
  let c0_i32_19 : BitVec 32 := 0#32
  let v47 : BitVec 1 := Scalar.cmpi .slt arg0 c0_i32_19
  let v48 : BitVec 32 := Scalar.extui v47
  let v49 : BitVec 32 := Scalar.subi v46 v48
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi arg0 c4_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c4_i32_24 : BitVec 32 := 4#32
  let c0_i32_25 : BitVec 32 := 0#32
  let v61 : BitVec 1 := Scalar.cmpi .eq c4_i32_24 c0_i32_25
  let c1_i32_26 : BitVec 32 := 1#32
  let v62 : BitVec 32 := Scalar.select v61 c1_i32_26 c4_i32_24
  let v63 : BitVec 32 := Scalar.remsi v60 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v33.toNat, v43.toNat, v70.toNat, c0_i32_30.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LoraWRefIdeal.lean ====
abbrev S8192x2048 : Shape := ⟨2, ![8192, 2048]⟩
abbrev S2x2048 : Shape := ⟨2, ![2, 2048]⟩
abbrev S2x2048x96 : Shape := ⟨3, ![2, 2048, 96]⟩
abbrev S2x96x2048 : Shape := ⟨3, ![2, 96, 2048]⟩
abbrev S4x2048x2048 : Shape := ⟨3, ![4, 2048, 2048]⟩
abbrev S1x2048 : Shape := ⟨2, ![1, 2048]⟩
abbrev S2048 : Shape := ⟨1, ![2048]⟩
abbrev S1x2048x96 : Shape := ⟨3, ![1, 2048, 96]⟩
abbrev S2048x96 : Shape := ⟨2, ![2048, 96]⟩
abbrev S4x2048x96 : Shape := ⟨3, ![4, 2048, 96]⟩
abbrev S1x96x2048 : Shape := ⟨3, ![1, 96, 2048]⟩
abbrev S96x2048 : Shape := ⟨2, ![96, 2048]⟩
abbrev S1x1x2048 : Shape := ⟨3, ![1, 1, 2048]⟩
abbrev S_ : Shape := ⟨0, ![]⟩
abbrev S4x2048x16x128 : Shape := ⟨4, ![4, 2048, 16, 128]⟩
abbrev S2048x4x16x128 : Shape := ⟨4, ![2048, 4, 16, 128]⟩
abbrev S1x2048x64x128 : Shape := ⟨4, ![1, 2048, 64, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048, .f32⟩
  | .hbm, ⟨2, _⟩ => ⟨S2x2048x96, .f32⟩
  | .hbm, ⟨3, _⟩ => ⟨S2x96x2048, .f32⟩
  | .hbm, ⟨4, _⟩ => ⟨S8192x2048, .f32⟩
  | .hbm, ⟨5, _⟩ => ⟨S4x2048x2048, .f32⟩
  | .hbm, ⟨6, _⟩ => ⟨S1x2048, .f32⟩
  | .hbm, ⟨7, _⟩ => ⟨S2048, .f32⟩
  | .hbm, ⟨8, _⟩ => ⟨S1x2048x96, .f32⟩
  | .hbm, ⟨9, _⟩ => ⟨S2048x96, .f32⟩
  | .hbm, ⟨10, _⟩ => ⟨S4x2048x96, .f32⟩
  | .hbm, ⟨11, _⟩ => ⟨S4x2048x96, .f32⟩
  | .hbm, ⟨12, _⟩ => ⟨S1x96x2048, .f32⟩
  | .hbm, ⟨13, _⟩ => ⟨S96x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x16x128, .f32⟩
  | .hbm, ⟨41, _⟩ => ⟨S2048x4x16x128, .f32⟩
  | .hbm, ⟨42, _⟩ => ⟨S1x2048x64x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Proof.MixSpec.lean ====
module

public import proofs.«01_k».proof.Proof.Gen.KernelIdeal.Value
public import Idealize.ShloMosaic.Lib.Pointwise
public import Idealize.ShloMosaic.Lib.Pipeline.ValueKit.Tiles

@[expose] public section

set_option maxRecDepth 16384

noncomputable section

namespace Cert.KernelIdeal.Mix

open Cert.KernelIdeal Cert.KernelIdeal.Gen Idealize.ShloMosaic Idealize.ShloMosaic.TcCoe Idealize.SL.Sem Idealize.ShloMosaic.Tactic

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

/-- A two-axis array read at natural numbers (zero outside its extents). -/
def rd2 {R C : ℕ} (x : (⟨2, ![R, C]⟩ : Shape).Idx → EReal) (r c : ℕ) : EReal :=
  if h : r < R ∧ c < C then x (ix2 ⟨r, h.1⟩ ⟨c, h.2⟩) else 0

/-- A three-axis array read at natural numbers (zero outside its extents). -/
def rd3 {R C D : ℕ} (x : (⟨3, ![R, C, D]⟩ : Shape).Idx → EReal) (r c d : ℕ) : EReal :=
  if h : r < R ∧ c < C ∧ d < D then x (ix3 ⟨r, h.1⟩ ⟨c, h.2.1⟩ ⟨d, h.2.2⟩) else 0

theorem rd2_ix2 {R C : ℕ} (x : (⟨2, ![R, C]⟩ : Shape).Idx → EReal) (a : Fin R) (b : Fin C) :
    x (ix2 a b) = rd2 x a.val b.val := by
  unfold rd2; rw [dif_pos ⟨a.isLt, b.isLt⟩]

theorem rd3_ix3 {R C D : ℕ} (x : (⟨3, ![R, C, D]⟩ : Shape).Idx → EReal) (a : Fin R) (b : Fin C) (d : Fin D) :
    x (ix3 a b d) = rd3 x a.val b.val d.val := by
  unfold rd3; rw [dif_pos ⟨a.isLt, b.isLt, d.isLt⟩]

/-- The mask of the causal chunk: row `r` keeps column `k` exactly when `k ≤ r`. -/
theorem keep_eq (a k : Fin 128) : k0_pay6 (iota Kind.tc S128x128 32 [0] iota_S128x128_d0_w32)
    (iota Kind.tc S128x128 32 [1] iota_S128x128_d1_w32) k0_pay3 (128#32) k0_pay4 k0_pay5 (1#32) (0#32) (ix2 a k)
      = if k.val ≤ a.val then 1#1 else 0#1 := by
  have h0 : ∀ x : Fin 128, (Scalar.select
          (IntOp.andi
            (IntOp.cmpi CmpIPredicate.ne
              (IntOp.subi (BitVec.setWidth 32 (IntOp.cmpi CmpIPredicate.sgt (BitVec.ofNat 32 ↑x) 0#32))
                (BitVec.setWidth 32 (IntOp.cmpi CmpIPredicate.slt (BitVec.ofNat 32 ↑x) 0#32)))
              (Scalar.subi (1#32) (Scalar.extui (Scalar.cmpi CmpIPredicate.slt 128#32 0#32))))
            (IntOp.cmpi CmpIPredicate.ne (IntOp.remsi ArithUnit.vector (BitVec.ofNat 32 ↑x) 128#32) 0#32))
          (IntOp.subi (IntOp.divsi ArithUnit.vector (BitVec.ofNat 32 ↑x) 128#32) 1#32)
          (IntOp.divsi ArithUnit.vector (BitVec.ofNat 32 ↑x) 128#32)) = 0#32 := by decide +kernel
  have h1 : ∀ x : Fin 128, (Scalar.select
          (IntOp.andi
            (IntOp.cmpi CmpIPredicate.ne
              (IntOp.subi (BitVec.setWidth 32 (IntOp.cmpi CmpIPredicate.sgt (BitVec.ofNat 32 ↑x) 0#32))
                (BitVec.setWidth 32 (IntOp.cmpi CmpIPredicate.slt (BitVec.ofNat 32 ↑x) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 ↑x) 128#32) 0#32))
          (IntOp.subi (IntOp.divsi ArithUnit.vector (BitVec.ofNat 32 ↑x) 128#32) 1#32)
          (IntOp.divsi ArithUnit.vector (BitVec.ofNat 32 ↑x) 128#32)) = 0#32 := by decide +kernel
  have h2 : ∀ a k : Fin 128, IntOp.andi (IntOp.cmpi CmpIPredicate.sge (BitVec.ofNat 32 ↑a) (BitVec.ofNat 32 ↑k))
      (IntOp.cmpi CmpIPredicate.eq 0#32 0#32) = if k.val ≤ a.val then 1#1 else 0#1 := by decide +kernel
  pointwise [k0_pay6, k0_pay3, k0_pay4, k0_pay5]
  rw [h0 a, h1 k, h2]

/-- A select on the mask, as a condition. -/
theorem select_keep (p : Prop) [Decidable p] (x y : EReal) :
    Scalar.select (if p then 1#1 else 0#1) x y = if p then x else y := by
  by_cases h : p <;> simp [h, Scalar.select]

/-- The gate's half of a block: `u * (w·v + bias)`, the chunk of row `r` being `r / 128` and the group of column `c` being `c / 128`. -/
def gate (u V : S256x1024.Idx → EReal) (w : S8x128x128.Idx → EReal) (b : S128x1024.Idx → EReal) (r c : ℕ) : EReal :=
  rd2 u r c * ((∑ k : Fin 128, (if k.val ≤ r % 128 then rd3 w (c / 128) (r % 128) k.val else 0) * rd2 V (128 * (r / 128) + k.val) c)
    + rd2 b (r % 128) c)

/-- The convolution's half of a block; `p` gives the two rows above the block. -/
def conv (g cx : S256x1024.Idx → EReal) (cw : S3x1024.Idx → EReal) (p1 p0 : ℕ → EReal) (r c : ℕ) : EReal :=
  rd2 g r c * ((if r = 0 then p0 c else if r = 1 then p1 c else rd2 cx (r - 2) c) * rd2 cw 0 c
    + (if r = 0 then p1 c else rd2 cx (r - 1) c) * rd2 cw 1 c + rd2 cx r c * rd2 cw 2 c)

/-- Both halves side by side: what the out-projection multiplies. -/
def both (x0 V : S256x1024.Idx → EReal) (x8 : S8x128x128.Idx → EReal) (x9 : S128x1024.Idx → EReal)
    (x3 cx : S256x1024.Idx → EReal) (x10 : S3x1024.Idx → EReal) (p1 p0 : ℕ → EReal) (r c : ℕ) : EReal :=
  if c < 1024 then gate x0 V x8 x9 r c else conv x3 cx x10 p1 p0 r (c - 1024)

/-- … as a block. -/
def bothV (x0 V : S256x1024.Idx → EReal) (x8 : S8x128x128.Idx → EReal) (x9 : S128x1024.Idx → EReal)
    (x3 cx : S256x1024.Idx → EReal) (x10 : S3x1024.Idx → EReal) (p1 p0 : ℕ → EReal) : Vec Ideal S256x2048 .bf16 :=
  fun i => both x0 V x8 x9 x3 cx x10 p1 p0 (i 0).val (i 1).val

theorem bothV_emb (x0 V : S256x1024.Idx → EReal) (x8 : S8x128x128.Idx → EReal) (x9 : S128x1024.Idx → EReal)
    (x3 cx : S256x1024.Idx → EReal) (x10 : S3x1024.Idx → EReal) (p1 p0 : ℕ → EReal)
    (off size : Fin S256x2048.rank → ℕ) (inb) (x : (Rect.unit off size inb).shape.Idx) :
    bothV x0 V x8 x9 x3 cx x10 p1 p0 ((Rect.unit off size inb).emb x) = both x0 V x8 x9 x3 cx x10 p1 p0 (off 0 + (x 0).val) (off 1 + (x 1).val) := by
  unfold bothV
  rw [show (((Rect.unit off size inb).emb x) 0).val = _ from Rect.idx_unit_val off size inb x 0,
    show (((Rect.unit off size inb).emb x) 1).val = _ from Rect.idx_unit_val off size inb x 1]

end Cert.KernelIdeal.Mix

end
-- ==== Proof.MixLayer.lean ====
module

public import proofs.«01_k».proof.Proof.MixSpec

@[expose] public section

set_option maxRecDepth 16384

noncomputable section

namespace Cert.KernelIdeal.Mix

open Cert.KernelIdeal Idealize.ShloMosaic

/-! The layer's part as formulas over the argument arrays, row by row: what both sides are shown to compute. -/

/-- A four-axis array read at natural numbers (zero outside its extents). -/
def rd4 {Q R C D : ℕ} (x : (⟨4, ![Q, R, C, D]⟩ : Shape).Idx → EReal) (q r c d : ℕ) : EReal :=
  if h : q < Q ∧ r < R ∧ c < C ∧ d < D then x (ix4 ⟨q, h.1⟩ ⟨r, h.2.1⟩ ⟨c, h.2.2.1⟩ ⟨d, h.2.2.2⟩) else 0

theorem rd4_ix4 {Q R C D : ℕ} (x : (⟨4, ![Q, R, C, D]⟩ : Shape).Idx → EReal) (q : Fin Q) (a : Fin R) (b : Fin C) (d : Fin D) :
    x (ix4 q a b d) = rd4 x q.val a.val b.val d.val := by
  unfold rd4; rw [dif_pos ⟨q.isLt, a.isLt, b.isLt, d.isLt⟩]

variable (P : S8192x5120.Idx → EReal) (X : S8192x2048.Idx → EReal) (G B : S2x1024.Idx → EReal) (W : S2x8x128x128.Idx → EReal)
  (Bs : S2x8x128.Idx → EReal) (Cw : S2x3x1024.Idx → EReal) (Wo : S2x2048x2048.Idx → EReal) (St : S2x4x2x1024.Idx → EReal)

/-- The mean of row `r`'s values. -/
def meanF (r : ℕ) : EReal := Ideal.div (∑ k : Fin 1024, rd2 P r (1024 + k.val)) (Ideal.ofBits FTy.f32 1149239296#32)

/-- The normalised values. -/
def vF (r c : ℕ) : EReal :=
  (rd2 P r (1024 + c) - meanF P r) * Ideal.rsqrt (Ideal.div (∑ k : Fin 1024, (rd2 P r (1024 + k.val) - meanF P r) * (rd2 P r (1024 + k.val) - meanF P r))
      (Ideal.ofBits FTy.f32 1149239296#32) + Ideal.ofBits FTy.f32 925353388#32) * rd2 G 0 c + rd2 B 0 c

/-- The convolution's input. -/
def cxF (r c : ℕ) : EReal := rd2 P r (4096 + c) * rd2 P r (2048 + c)

/-- The gate's half. -/
def gateF (r c : ℕ) : EReal :=
  rd2 P r c * ((∑ k : Fin 128, vF P G B (128 * (r / 128) + k.val) c * (if k.val ≤ r % 128 then rd4 W 0 (c / 128) (r % 128) k.val else 0))
    + rd3 Bs 0 (c / 128) (r % 128))

/-- The convolution's half. -/
def convF (r c : ℕ) : EReal :=
  rd2 P r (3072 + c) * ((if r % 2048 = 0 then rd4 St 0 (r / 2048) 0 c else if r % 2048 = 1 then rd4 St 0 (r / 2048) 1 c else cxF P (r - 2) c) * rd3 Cw 0 0 c
    + (if r % 2048 = 0 then rd4 St 0 (r / 2048) 1 c else cxF P (r - 1) c) * rd3 Cw 0 1 c + cxF P r c * rd3 Cw 0 2 c)

/-- The layer's result. -/
def outF (r c : ℕ) : EReal :=
  rd2 X r c + (∑ k : Fin 1024, gateF P G B W Bs r k.val * rd3 Wo 0 k.val c + ∑ k : Fin 1024, convF P Cw St r k.val * rd3 Wo 0 (1024 + k.val) c)

end Cert.KernelIdeal.Mix

end
-- ==== Proof.MixBlocks.lean ====
module

public import proofs.«01_k».proof.Proof.MixLayer
public import Idealize.ShloMosaic.Lib.Pipeline.ValueKit.Point

@[expose] public section

set_option maxRecDepth 16384

noncomputable section

namespace Cert.KernelIdeal.Mix

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![t.val, 3] := (by decide +kernel : ∀ t : Fin grid0.N, _)
theorem idx4 : ∀ t : Fin cfg0.N, win0_4.index t = ![t.val, 4] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val / 8, 0, 0] := (by decide +kernel : ∀ t : Fin grid0.N, _)
theorem idx13 : ∀ t : Fin cfg0.N, win0_13.index t = ![t.val / 8, 0, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

theorem N_le (t : Fin cfg0.N) : t.val < 32 := t.isLt

theorem ib0 (c : Dev nD) (t : Fin cfg0.N) (a : Fin 256) (b : Fin 1024) :
    (iblk m c 0 t : Vec Ideal S256x1024 .f32) (ix2 a b) = rd2 (m ((c : Thread nD τ).loc main_arg0)) (256 * t.val + a.val) (b.val) := by
  have ht := N_le t
  unfold rd2; rw [dif_pos ⟨by omega, by omega⟩]
  blk_ext [iblk, V, idx0 t]

theorem ib1 (c : Dev nD) (t : Fin cfg0.N) (a : Fin 256) (b : Fin 1024) :
    (iblk m c 1 t : Vec Ideal S256x1024 .f32) (ix2 a b) = rd2 (m ((c : Thread nD τ).loc main_arg0)) (256 * t.val + a.val) (1024 + b.val) := by
  have ht := N_le t
  unfold rd2; rw [dif_pos ⟨by omega, by omega⟩]
  blk_ext [iblk, V, idx1 t]

theorem ib2 (c : Dev nD) (t : Fin cfg0.N) (a : Fin 256) (b : Fin 1024) :
    (iblk m c 2 t : Vec Ideal S256x1024 .f32) (ix2 a b) = rd2 (m ((c : Thread nD τ).loc main_arg0)) (256 * t.val + a.val) (2048 + b.val) := by
  have ht := N_le t
  unfold rd2; rw [dif_pos ⟨by omega, by omega⟩]
  blk_ext [iblk, V, idx2 t]

theorem ib3 (c : Dev nD) (t : Fin cfg0.N) (a : Fin 256) (b : Fin 1024) :
    (iblk m c 3 t : Vec Ideal S256x1024 .f32) (ix2 a b) = rd2 (m ((c : Thread nD τ).loc main_arg0)) (256 * t.val + a.val) (3072 + b.val) := by
  have ht := N_le t
  unfold rd2; rw [dif_pos ⟨by omega, by omega⟩]
  blk_ext [iblk, V, idx3 t]

theorem ib4 (c : Dev nD) (t : Fin cfg0.N) (a : Fin 256) (b : Fin 1024) :
    (iblk m c 4 t : Vec Ideal S256x1024 .f32) (ix2 a b) = rd2 (m ((c : Thread nD τ).loc main_arg0)) (256 * t.val + a.val) (4096 + b.val) := by
  have ht := N_le t
  unfold rd2; rw [dif_pos ⟨by omega, by omega⟩]
  blk_ext [iblk, V, idx4 t]

theorem ib5 (c : Dev nD) (t : Fin cfg0.N) (a : Fin 256) (b : Fin 2048) :
    (iblk m c 5 t : Vec Ideal S256x2048 .f32) (ix2 a b) = rd2 (m ((c : Thread nD τ).loc main_arg1)) (256 * t.val + a.val) b.val := by
  have ht := N_le t
  unfold rd2; rw [dif_pos ⟨by omega, by omega⟩]
  blk_ext [iblk, V, idx5 t]

theorem ib6 (c : Dev nD) (t : Fin cfg0.N) (b : Fin 1024) :
    (iblk m c 6 t : Vec Ideal S1x1024 .f32) (ix2 0 b) = rd2 (m ((c : Thread nD τ).loc main_arg2)) 0 b.val := by
  have ht := N_le t
  unfold rd2; rw [dif_pos (by omega)]
  blk_ext! [iblk, idx6 t]

theorem ib7 (c : Dev nD) (t : Fin cfg0.N) (b : Fin 1024) :
    (iblk m c 7 t : Vec Ideal S1x1024 .f32) (ix2 0 b) = rd2 (m ((c : Thread nD τ).loc main_arg3)) 0 b.val := by
  have ht := N_le t
  unfold rd2; rw [dif_pos (by omega)]
  blk_ext! [iblk, idx7 t]

theorem ib8 (c : Dev nD) (t : Fin cfg0.N) (g : Fin 8) (a b : Fin 128) :
    (iblk m c 8 t : Vec Ideal S8x128x128 .f32) (ix3 g a b) = rd4 (m ((c : Thread nD τ).loc main_arg4)) 0 g.val a.val b.val := by
  have ht := N_le t
  unfold rd4; rw [dif_pos (by omega)]
  blk_ext! [iblk, idx8 t]

theorem ib9 (c : Dev nD) (t : Fin cfg0.N) (a : Fin 128) (b : Fin 1024) :
    (iblk m c 9 t : Vec Ideal S128x1024 .f32) (ix2 a b) = rd3 (m ((c : Thread nD τ).loc main_arg5)) 0 (b.val / 128) a.val := by
  have ht := N_le t
  unfold rd3; rw [dif_pos (by omega)]
  blk_ext! [iblk, idx9 t]

theorem ib10 (c : Dev nD) (t : Fin cfg0.N) (a : Fin 3) (b : Fin 1024) :
    (iblk m c 10 t : Vec Ideal S3x1024 .f32) (ix2 a b) = rd3 (m ((c : Thread nD τ).loc main_arg6)) 0 a.val b.val := by
  have ht := N_le t
  unfold rd3; rw [dif_pos (by omega)]
  blk_ext! [iblk, idx10 t]

theorem ib11 (c : Dev nD) (t : Fin cfg0.N) (a b : Fin 2048) :
    (iblk m c 11 t : Vec Ideal S2048x2048 .bf16) (ix2 a b) = rd3 (m ((c : Thread nD τ).loc main_arg7)) 0 a.val b.val := by
  have ht := N_le t
  unfold rd3; rw [dif_pos (by omega)]
  blk_ext! [iblk, idx11 t]

theorem ib12 (c : Dev nD) (t : Fin cfg0.N) (a : Fin 2) (b : Fin 1024) :
    (iblk m c 12 t : Vec Ideal S1x2x1024 .f32) (ix3 0 a b) = rd4 (m ((c : Thread nD τ).loc main_arg8)) 0 (t.val / 8) a.val b.val := by
  have ht := N_le t
  unfold rd4; rw [dif_pos (by omega)]
  blk_ext! [iblk, idx12 t]

end Cert.KernelIdeal.Mix

end
-- ==== Proof.MixBody.lean ====
module

public import proofs.«01_k».proof.Proof.MixSpec
public import Idealize.ShloMosaic.Lib.Pointwise

@[expose] public section

set_option maxRecDepth 16384

noncomputable section

namespace Cert.KernelIdeal.Mix

open Cert.KernelIdeal Cert.KernelIdeal.Gen Idealize.ShloMosaic Idealize.ShloMosaic.TcCoe Idealize.SL.Sem Idealize.ShloMosaic.Tactic

theorem mask_mul (a k : Fin 128) (p q : EReal) : Scalar.select (k0_pay6 (iota Kind.tc S128x128 32 [0] iota_S128x128_d0_w32)
    (iota Kind.tc S128x128 32 [1] iota_S128x128_d1_w32) k0_pay3 (128#32) k0_pay4 k0_pay5 (1#32) (0#32) (ix2 a k)) (p * q) 0
      = (if k.val ≤ a.val then p else 0) * q := by
  rw [keep_eq a k, select_keep]
  by_cases h : k.val ≤ a.val
  · rw [if_pos h, if_pos h]
  · rw [if_neg h, if_neg h, zero_mul]

/-- The pieces of the gate: a 128 by 128 tile at chunk `ch`, group `g`. -/
theorem gate_piece (x0 V : S256x1024.Idx → EReal) (x8 : S8x128x128.Idx → EReal) (x9 : S128x1024.Idx → EReal)
    (x3 cx : S256x1024.Idx → EReal) (x10 : S3x1024.Idx → EReal) (p1 p0 : ℕ → EReal) (r0 c0 : ℕ)
    (inb : ∀ a, (![r0, c0] : Fin 2 → ℕ) a + S128x128.size a ≤ S256x2048.size a) (P : S128x128.Idx → EReal)
    (hP : ∀ a b : Fin 128, P (ix2 a b) = both x0 V x8 x9 x3 cx x10 p1 p0 (r0 + a.val) (c0 + b.val)) (j : S128x128.Idx) :
    P j = bothV x0 V x8 x9 x3 cx x10 p1 p0 ((Rect.unit (s := S256x2048) ![r0, c0] S128x128.size inb).emb j) := by
  rw [bothV_emb]
  idx_vars j
  exact hP j0 j1

theorem conv_piece (x0 V : S256x1024.Idx → EReal) (x8 : S8x128x128.Idx → EReal) (x9 : S128x1024.Idx → EReal)
    (x3 cx : S256x1024.Idx → EReal) (x10 : S3x1024.Idx → EReal) (p1 p0 : ℕ → EReal)
    (inb : ∀ a, (![0, 1024] : Fin 2 → ℕ) a + (![256, 1024] : Fin 2 → ℕ) a ≤ S256x2048.size a) (P : S256x1024.Idx → EReal)
    (hP : ∀ (a : Fin 256) (b : Fin 1024), P (ix2 a b) = conv x3 cx x10 p1 p0 a.val b.val) (j : S256x1024.Idx) :
    P j = bothV x0 V x8 x9 x3 cx x10 p1 p0 ((Rect.unit (s := S256x2048) ![0, 1024] ![256, 1024] inb).emb j) := by
  rw [bothV_emb]
  idx_vars j
  rw [hP]
  unfold both
  show _ = if 1024 + j1.val < 1024 then _ else conv _ _ _ _ _ (0 + _) (1024 + _ - 1024)
  rw [if_neg (by omega), Nat.zero_add, Nat.add_sub_cancel_left]

theorem both_gate (x0 V : S256x1024.Idx → EReal) (x8 : S8x128x128.Idx → EReal) (x9 : S128x1024.Idx → EReal)
    (x3 cx : S256x1024.Idx → EReal) (x10 : S3x1024.Idx → EReal) (p1 p0 : ℕ → EReal) (ch g r c a b : ℕ) (ha : a < 128) (hb : b < 128) (hg : g < 8)
    (hr : r = 128 * ch + a) (hc : c = 128 * g + b) :
    both x0 V x8 x9 x3 cx x10 p1 p0 r c
      = rd2 x0 r c * ((∑ k : Fin 128, (if k.val ≤ a then rd3 x8 g a k.val else 0) * rd2 V (128 * ch + k.val) c) + rd2 x9 a c) := by
  unfold both gate
  rw [if_pos (by omega), show r % 128 = a by omega, show c / 128 = g by omega, show r / 128 = ch by omega]

/-- The carried row 7, just reset, holds row 1 of the conv's own start. -/
theorem reset_row1 (x12 : Vec Ideal S1x2x1024 .f32) (b : Fin 1024) :
    View.canon (Val := Elt Ideal) (e := .f32)
      [⟨Rect.unit (s := S8x1024) ![6, 0] ![2, 1024] inb_S8x1024_S2x1024_6_0, k0_pay42 x12⟩,
        ⟨Rect.unit (s := S8x1024) ![0, 0] ![8, 1024] inb_S8x1024_S8x1024_0_0, k0_pay41 (F := Ideal)⟩]
      ((Rect.unit (s := S8x1024) ![7, 0] ![1, 1024] inb_S8x1024_S1x1024_7_0).toLoadRect.idx (ix2 (0 : Fin 1) b)) = rd3 x12 0 1 b.val := by
  have e : (Rect.unit (s := S8x1024) ![7, 0] ![1, 1024] inb_S8x1024_S1x1024_7_0).toLoadRect.idx (ix2 (0 : Fin 1) b)
      = (Rect.unit (s := S8x1024) ![6, 0] ![2, 1024] inb_S8x1024_S2x1024_6_0).emb (ix2 (1 : Fin 2) b) := by
    funext a
    refine Fin.ext ((Rect.idx_unit_val _ _ _ _ a).trans (Eq.trans ?_ (Rect.idx_unit_val _ _ _ _ a).symm))
    match a with
    | ⟨0, _⟩ => rfl
    | ⟨1, _⟩ => rfl
  rw [e, View.canon_cons_emb]
  pointwise [k0_pay42]
  rw [rd3_ix3 x12]
  rfl

/-- The carried row 6, just reset, holds row 0 of the conv's own start. -/
theorem reset_row0 (x12 : Vec Ideal S1x2x1024 .f32) (b : Fin 1024) :
    View.canon (Val := Elt Ideal) (e := .f32)
      [⟨Rect.unit (s := S8x1024) ![6, 0] ![2, 1024] inb_S8x1024_S2x1024_6_0, k0_pay42 x12⟩,
        ⟨Rect.unit (s := S8x1024) ![0, 0] ![8, 1024] inb_S8x1024_S8x1024_0_0, k0_pay41 (F := Ideal)⟩]
      ((Rect.unit (s := S8x1024) ![6, 0] ![1, 1024] inb_S8x1024_S1x1024_6_0).toLoadRect.idx (ix2 (0 : Fin 1) b)) = rd3 x12 0 0 b.val := by
  have e : (Rect.unit (s := S8x1024) ![6, 0] ![1, 1024] inb_S8x1024_S1x1024_6_0).toLoadRect.idx (ix2 (0 : Fin 1) b)
      = (Rect.unit (s := S8x1024) ![6, 0] ![2, 1024] inb_S8x1024_S2x1024_6_0).emb (ix2 (0 : Fin 2) b) := by
    funext a
    refine Fin.ext ((Rect.idx_unit_val _ _ _ _ a).trans (Eq.trans ?_ (Rect.idx_unit_val _ _ _ _ a).symm))
    match a with
    | ⟨0, _⟩ => rfl
    | ⟨1, _⟩ => rfl
  rw [e, View.canon_cons_emb]
  pointwise [k0_pay42]
  rw [rd3_ix3 x12]
  rfl

/-- The convolution's payload at an index. -/
theorem conv_pay (x2 x3 x4 : Vec Ideal S256x1024 .f32) (x10 : Vec Ideal S3x1024 .f32) (L1 L0 : Vec Ideal S1x1024 .f32) (p1 p0 : ℕ → EReal)
    (e1 : ∀ b : Fin 1024, L1 (ix2 0 b) = p1 b.val) (e0 : ∀ b : Fin 1024, L0 (ix2 0 b) = p0 b.val) (a : Fin 256) (b : Fin 1024) :
    k0_pay44 (k0_pay38 x4 x2) (iota Kind.tc S256x1024 32 [0] iota_S256x1024_d0_w32) (k0_pay39 x4 x2)
            (k0_pay40 x4 x2) L1 L0
            (View.ld x10 (Rect.unit ![0, 0] ![1, 1024] inb_S3x1024_S1x1024_0_0))
            (View.ld x10 (Rect.unit ![1, 0] ![1, 1024] inb_S3x1024_S1x1024_1_0))
            (View.ld x10 (Rect.unit ![2, 0] ![1, 1024] inb_S3x1024_S1x1024_2_0)) x3 (ix2 a b)
      = conv x3 (k0_pay38 x4 x2) x10 p1 p0 a.val b.val := by
  have q0 : ∀ a : Fin 256, IntOp.cmpi CmpIPredicate.eq (BitVec.ofNat 32 ↑a) 0#32 = if a.val = 0 then 1#1 else 0#1 := by decide +kernel
  have q1 : ∀ a : Fin 256, IntOp.cmpi CmpIPredicate.eq (BitVec.ofNat 32 ↑a) 1#32 = if a.val = 1 then 1#1 else 0#1 := by decide +kernel
  have hcx : ∀ (r : Fin 256) (c : Fin 1024), x4 (ix2 r c) * x2 (ix2 r c) = rd2 (k0_pay38 x4 x2) r.val c.val := fun r c => by
    rw [← rd2_ix2]; pointwise [k0_pay38]
  pointwise [k0_pay44, k0_pay38, k0_pay39, k0_pay40]
  simp only [hcx, q0, q1, select_keep, e1, e0, rd2_ix2 x3, rd2_ix2 x10]
  unfold conv
  have ha : a.val < 256 := a.isLt
  by_cases h0 : a.val = 0
  · simp only [h0, if_true]; rfl
  · by_cases h1 : a.val = 1
    · simp only [h1, if_true, if_neg (show ¬ (1 : ℕ) = 0 by omega)]; rfl
    · simp only [if_neg h0, if_neg h1]
      rw [show (a.val + 256 - 2) % 256 = a.val - 2 by omega, show (a.val + 256 - 1) % 256 = a.val - 1 by omega]; rfl

/-- What a point of case B leaves in output 15's block. -/
theorem out15_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : ¬cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) (xs1 : Vec Ideal S8x1024 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1 = k0_pay2 x1 x6 x7 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

/-- What a point of case B leaves in output 16's block. -/
theorem out16_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : ¬cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) (xs1 : Vec Ideal S8x1024 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1 = k0_pay38 x4 x2 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

/-- What a point of case B leaves in the carried rows. -/
theorem sout_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : ¬cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) (xs1 : Vec Ideal S8x1024 .f32) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1 = k0_pay43 (k0_pay38 x4 x2) := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1)]
  unfold kernelRun0_B
  dsimp only
  sl_unfold_words
  rw [View.canon_cons_unit_zero (S := S8x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

-- (the sixteen pieces of one block, one after the other)
set_option maxHeartbeats 4000000 in
/-- What a point of case B leaves in output 14's block. -/
theorem out14_B (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : ¬cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) (xs1 : Vec Ideal S8x1024 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1 = k0_pay1 x5 (bothV x0 (k0_pay2 x1 x6 x7) x8 x9 x3 (k0_pay38 x4 x2) x10 (fun c => rd2 xs1 7 c) (fun c => rd2 xs1 6 c)) x11 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 xs1)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.readCov_eq_canon']
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]
  congr 1
  funext y
  refine (View.canon_apply_of_pieces (bothV x0 (k0_pay2 x1 x6 x7) x8 x9 x3 (k0_pay38 x4 x2) x10 (fun c => rd2 xs1 7 c) (fun c => rd2 xs1 6 c)) _ (fun p hp x => ?_) _ ?_).trans ?_
  case refine_2 =>
    have b0 : (((Rect.unit (s := S256x2048) ![0, 0] ![256, 2048] inb_S256x2048_S256x2048_0_0).toLoadRect.idx y) 0).val < 256 := Fin.isLt _
    have b1 : (((Rect.unit (s := S256x2048) ![0, 0] ![256, 2048] inb_S256x2048_S256x2048_0_0).toLoadRect.idx y) 1).val < 2048 := Fin.isLt _
    simp only [List.mem_cons, exists_eq_or_imp, List.mem_nil_iff, false_and, exists_false, or_false, exists_eq_left, Rect.mem_set_unit, Fin.forall_fin_two, Matrix.cons_val_zero, Matrix.cons_val_one]
    omega
  case refine_3 => rw [show (Rect.unit (s := S256x2048) ![0, 0] ![256, 2048] inb_S256x2048_S256x2048_0_0).toLoadRect.idx y = y from funext fun a => Fin.ext (by rw [show ((Rect.unit (s := S256x2048) ![0, 0] ![256, 2048] inb_S256x2048_S256x2048_0_0).toLoadRect.idx y a).val = _ from Rect.idx_unit_val _ _ _ y a, congrFun hz2 a, Nat.zero_add])]
  simp only [List.mem_cons, List.mem_nil_iff, or_false] at hp
  rcases hp with rfl | rfl | rfl | rfl | rfl | rfl | rfl | rfl | rfl | rfl | rfl | rfl | rfl | rfl | rfl | rfl | rfl
  · exact conv_piece _ _ _ _ _ _ _ _ _ inb_S256x2048_S256x1024_0_1024 _ (conv_pay x2 x3 x4 x10 _ _ _ _ (fun b => by pointwise [View.ld_unit]; rw [rd2_ix2 xs1]; rfl) (fun b => by pointwise [View.ld_unit]; rw [rd2_ix2 xs1]; rfl)) x
  · exact gate_piece _ _ _ _ _ _ _ _ _ 128 896 inb_S256x2048_S128x128_128_896 _ (fun a b => by
      rw [both_gate _ _ _ _ _ _ _ _ _ 1 7 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 896 inb_S256x2048_S128x128_0_896 _ (fun a b => by
      rw [both_gate _ _ _ _ _ _ _ _ _ 0 7 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 768 inb_S256x2048_S128x128_128_768 _ (fun a b => by
      rw [both_gate _ _ _ _ _ _ _ _ _ 1 6 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 768 inb_S256x2048_S128x128_0_768 _ (fun a b => by
      rw [both_gate _ _ _ _ _ _ _ _ _ 0 6 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 640 inb_S256x2048_S128x128_128_640 _ (fun a b => by
      rw [both_gate _ _ _ _ _ _ _ _ _ 1 5 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 640 inb_S256x2048_S128x128_0_640 _ (fun a b => by
      rw [both_gate _ _ _ _ _ _ _ _ _ 0 5 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 512 inb_S256x2048_S128x128_128_512 _ (fun a b => by
      rw [both_gate _ _ _ _ _ _ _ _ _ 1 4 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 512 inb_S256x2048_S128x128_0_512 _ (fun a b => by
      rw [both_gate _ _ _ _ _ _ _ _ _ 0 4 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 384 inb_S256x2048_S128x128_128_384 _ (fun a b => by
      rw [both_gate _ _ _ _ _ _ _ _ _ 1 3 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 384 inb_S256x2048_S128x128_0_384 _ (fun a b => by
      rw [both_gate _ _ _ _ _ _ _ _ _ 0 3 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 256 inb_S256x2048_S128x128_128_256 _ (fun a b => by
      rw [both_gate _ _ _ _ _ _ _ _ _ 1 2 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 256 inb_S256x2048_S128x128_0_256 _ (fun a b => by
      rw [both_gate _ _ _ _ _ _ _ _ _ 0 2 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 128 inb_S256x2048_S128x128_128_128 _ (fun a b => by
      rw [both_gate _ _ _ _ _ _ _ _ _ 1 1 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 128 inb_S256x2048_S128x128_0_128 _ (fun a b => by
      rw [both_gate _ _ _ _ _ _ _ _ _ 0 1 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 0 inb_S256x2048_S128x128_128_0 _ (fun a b => by
      rw [both_gate _ _ _ _ _ _ _ _ _ 1 0 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 0 inb_S256x2048_S128x128_0_0 _ (fun a b => by
      rw [both_gate _ _ _ _ _ _ _ _ _ 0 0 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x

/-- What a point of case A leaves in output 15's block. -/
theorem out15_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = k0_pay2 x1 x6 x7 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

/-- What a point of case A leaves in output 16's block. -/
theorem out16_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = k0_pay38 x4 x2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

/-- What a point of case A leaves in the carried rows. -/
theorem sout_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = k0_pay43 (k0_pay38 x4 x2) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13)]
  unfold kernelRun0_A
  dsimp only
  sl_unfold_words
  rw [View.canon_cons_unit_zero (S := S8x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]

-- (the sixteen pieces of one block, one after the other)
set_option maxHeartbeats 4000000 in
/-- What a point of case A leaves in output 14's block. -/
theorem out14_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S1x2x1024 .f32) (h13 : a13.IsWhole)
    (a14 : Memref sig .tc .vmem S1x2x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (hc : cond0_0 i)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S1x2x1024 .f32)
    (x13 : Vec Ideal S1x2x1024 .f32) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13 = k0_pay1 x5 (bothV x0 (k0_pay2 x1 x6 x7) x8 x9 x3 (k0_pay38 x4 x2) x10 (fun c => rd3 x12 0 1 c) (fun c => rd3 x12 0 0 c)) x11 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 x12 x13)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h19.read_unread]
  simp only [View.readCov_eq_canon']
  simp only [View.ld_unit_zero (S := S256x2048) hz2, View.ld_unit_zero (S := S256x1024) hz2, View.ld_unit_zero (S := S1x1024) hz2, View.ld_unit_zero (S := S8x1024) hz2, View.ld_unit_zero (S := S2048x2048) hz2, View.ld_unit_zero (S := S1x2x1024) hz3]
  congr 1
  funext y
  refine (View.canon_apply_of_pieces (bothV x0 (k0_pay2 x1 x6 x7) x8 x9 x3 (k0_pay38 x4 x2) x10 (fun c => rd3 x12 0 1 c) (fun c => rd3 x12 0 0 c)) _ (fun p hp x => ?_) _ ?_).trans ?_
  case refine_2 =>
    have b0 : (((Rect.unit (s := S256x2048) ![0, 0] ![256, 2048] inb_S256x2048_S256x2048_0_0).toLoadRect.idx y) 0).val < 256 := Fin.isLt _
    have b1 : (((Rect.unit (s := S256x2048) ![0, 0] ![256, 2048] inb_S256x2048_S256x2048_0_0).toLoadRect.idx y) 1).val < 2048 := Fin.isLt _
    simp only [List.mem_cons, exists_eq_or_imp, List.mem_nil_iff, false_and, exists_false, or_false, exists_eq_left, Rect.mem_set_unit, Fin.forall_fin_two, Matrix.cons_val_zero, Matrix.cons_val_one]
    omega
  case refine_3 => rw [show (Rect.unit (s := S256x2048) ![0, 0] ![256, 2048] inb_S256x2048_S256x2048_0_0).toLoadRect.idx y = y from funext fun a => Fin.ext (by rw [show ((Rect.unit (s := S256x2048) ![0, 0] ![256, 2048] inb_S256x2048_S256x2048_0_0).toLoadRect.idx y a).val = _ from Rect.idx_unit_val _ _ _ y a, congrFun hz2 a, Nat.zero_add])]
  simp only [List.mem_cons, List.mem_nil_iff, or_false] at hp
  rcases hp with rfl | rfl | rfl | rfl | rfl | rfl | rfl | rfl | rfl | rfl | rfl | rfl | rfl | rfl | rfl | rfl | rfl
  · exact conv_piece _ _ _ _ _ _ _ _ _ inb_S256x2048_S256x1024_0_1024 _ (conv_pay x2 x3 x4 x10 _ _ _ _ (reset_row1 x12) (reset_row0 x12)) x
  · exact gate_piece _ _ _ _ _ _ _ _ _ 128 896 inb_S256x2048_S128x128_128_896 _ (fun a b => by
      rw [both_gate _ _ _ _ _ _ _ _ _ 1 7 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 896 inb_S256x2048_S128x128_0_896 _ (fun a b => by
      rw [both_gate _ _ _ _ _ _ _ _ _ 0 7 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 768 inb_S256x2048_S128x128_128_768 _ (fun a b => by
      rw [both_gate _ _ _ _ _ _ _ _ _ 1 6 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 768 inb_S256x2048_S128x128_0_768 _ (fun a b => by
      rw [both_gate _ _ _ _ _ _ _ _ _ 0 6 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 640 inb_S256x2048_S128x128_128_640 _ (fun a b => by
      rw [both_gate _ _ _ _ _ _ _ _ _ 1 5 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 640 inb_S256x2048_S128x128_0_640 _ (fun a b => by
      rw [both_gate _ _ _ _ _ _ _ _ _ 0 5 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 512 inb_S256x2048_S128x128_128_512 _ (fun a b => by
      rw [both_gate _ _ _ _ _ _ _ _ _ 1 4 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 512 inb_S256x2048_S128x128_0_512 _ (fun a b => by
      rw [both_gate _ _ _ _ _ _ _ _ _ 0 4 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 384 inb_S256x2048_S128x128_128_384 _ (fun a b => by
      rw [both_gate _ _ _ _ _ _ _ _ _ 1 3 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 384 inb_S256x2048_S128x128_0_384 _ (fun a b => by
      rw [both_gate _ _ _ _ _ _ _ _ _ 0 3 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 256 inb_S256x2048_S128x128_128_256 _ (fun a b => by
      rw [both_gate _ _ _ _ _ _ _ _ _ 1 2 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 256 inb_S256x2048_S128x128_0_256 _ (fun a b => by
      rw [both_gate _ _ _ _ _ _ _ _ _ 0 2 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 128 inb_S256x2048_S128x128_128_128 _ (fun a b => by
      rw [both_gate _ _ _ _ _ _ _ _ _ 1 1 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 128 inb_S256x2048_S128x128_0_128 _ (fun a b => by
      rw [both_gate _ _ _ _ _ _ _ _ _ 0 1 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 128 0 inb_S256x2048_S128x128_128_0 _ (fun a b => by
      rw [both_gate _ _ _ _ _ _ _ _ _ 1 0 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x
  · exact gate_piece _ _ _ _ _ _ _ _ _ 0 0 inb_S256x2048_S128x128_0_0 _ (fun a b => by
      rw [both_gate _ _ _ _ _ _ _ _ _ 0 0 _ _ a.val b.val a.isLt b.isLt (by omega) (by omega) (by omega)]
      pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, View.ld_unit]
      simp only [keep_eq, select_keep, rd2_ix2 x0, rd2_ix2 x9, rd2_ix2 (k0_pay2 x1 x6 x7), rd3_ix3 x8]
      refine congrArg₂ (· * ·) ?_ (congrArg₂ (· + ·) (Finset.sum_congr rfl fun k _ => (mask_mul a k _ _).trans ?_) ?_) <;> first | rfl | (simp only [Nat.mul_zero, Nat.zero_add]; first | done | rfl)) x

end Cert.KernelIdeal.Mix

end
-- ==== Proof.MixRun.lean ====
module

public import proofs.«01_k».proof.Proof.MixBlocks
public import proofs.«01_k».proof.Proof.MixBody

@[expose] public section

set_option maxRecDepth 16384

noncomputable section

namespace Cert.KernelIdeal.Mix

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- The normalised values of block `t`. -/
theorem v_block (c : Dev nD) (t : Fin cfg0.N) (a : Fin 256) (b : Fin 1024) :
    (k0_pay2 (iblk m c 1 t) (iblk m c 6 t) (iblk m c 7 t)) (ix2 a b) = vF (m ((c : Thread nD τ).loc main_arg0)) (m ((c : Thread nD τ).loc main_arg2)) (m ((c : Thread nD τ).loc main_arg3)) (256 * t.val + a.val) b.val := by
  have h1 := ib1 m c t
  have h6 := ib6 m c t
  have h7 := ib7 m c t
  generalize (iblk m c 1 t : Vec Ideal S256x1024 .f32) = x at h1 ⊢
  generalize (iblk m c 6 t : Vec Ideal S1x1024 .f32) = g at h6 ⊢
  generalize (iblk m c 7 t : Vec Ideal S1x1024 .f32) = s at h7 ⊢
  unfold vF meanF
  pointwise [k0_pay2]
  simp only [h1, h6, h7]

/-- The convolution's input of block `t`. -/
theorem cx_block (c : Dev nD) (t : Fin cfg0.N) (a : Fin 256) (b : Fin 1024) :
    (k0_pay38 (iblk m c 4 t) (iblk m c 2 t)) (ix2 a b) = cxF (m ((c : Thread nD τ).loc main_arg0)) (256 * t.val + a.val) b.val := by
  have h1 := ib4 m c t
  have h6 := ib2 m c t
  generalize (iblk m c 4 t : Vec Ideal S256x1024 .f32) = x at h1 ⊢
  generalize (iblk m c 2 t : Vec Ideal S256x1024 .f32) = g at h6 ⊢
  unfold cxF
  pointwise [k0_pay38]
  rw [h1, h6]

theorem carry_at (c : Dev nD) (t : Fin cfg0.N) : (outsAt0 m c t.val t.isLt).2.2.2 = k0_pay43 (k0_pay38 (iblk m c 4 t) (iblk m c 2 t)) := by
  by_cases h0 : t.val % 8 = 0
  · rw [outsAt0_A m c t h0]
    dsimp only
    rw [sout_A]
  · rw [outsAt0_B m c t h0]
    dsimp only
    rw [sout_B]

/-- Row 6 or 7 of what a point leaves in the carried rows. -/
theorem carry_row (c : Dev nD) (t : Fin cfg0.N) (k : ℕ) (hk : k < 8) (b : ℕ) (hb : b < 1024) :
    rd2 (R := 8) (C := 1024) ((outsAt0 m c t.val t.isLt).2.2.2) k b = cxF (m ((c : Thread nD τ).loc main_arg0)) (256 * t.val + (248 + k)) b := by
  rw [carry_at]
  unfold rd2
  rw [dif_pos ⟨hk, hb⟩]
  have h := cx_block m c t ⟨248 + k, by omega⟩ ⟨b, hb⟩
  generalize (k0_pay38 (iblk m c 4 t) (iblk m c 2 t)) = cx at h ⊢
  pointwise [k0_pay43]
  exact h

theorem gate_block (c : Dev nD) (t : Fin cfg0.N) (a : ℕ) (ha : a < 256) (b : ℕ) (hb : b < 1024) :
    gate (iblk m c 0 t) (k0_pay2 (iblk m c 1 t) (iblk m c 6 t) (iblk m c 7 t)) (iblk m c 8 t) (iblk m c 9 t) a b = gateF (m ((c : Thread nD τ).loc main_arg0)) (m ((c : Thread nD τ).loc main_arg2)) (m ((c : Thread nD τ).loc main_arg3)) (m ((c : Thread nD τ).loc main_arg4)) (m ((c : Thread nD τ).loc main_arg5)) (256 * t.val + a) b := by
  have e1 : (256 * t.val + a) / 128 = 2 * t.val + a / 128 := by omega
  have e2 : (256 * t.val + a) % 128 = a % 128 := by omega
  have h128 : a % 128 < 128 := Nat.mod_lt _ (by norm_num)
  unfold gate gateF
  rw [e1, e2]
  refine congrArg₂ (· * ·) ?_ (congrArg₂ (· + ·) (Finset.sum_congr rfl fun k _ => ?_) ?_)
  · exact (rd2_ix2 (iblk m c 0 t : Vec Ideal S256x1024 .f32) ⟨a, ha⟩ ⟨b, hb⟩).symm.trans (ib0 m c t ⟨a, ha⟩ ⟨b, hb⟩)
  · have hk : 128 * (a / 128) + k.val < 256 := by omega
    rw [mul_comm]
    refine congrArg₂ (· * ·) ?_ ?_
    · refine (rd2_ix2 (k0_pay2 (iblk m c 1 t) (iblk m c 6 t) (iblk m c 7 t)) ⟨128 * (a / 128) + k.val, hk⟩ ⟨b, hb⟩).symm.trans ((v_block m c t _ _).trans ?_)
      show vF _ _ _ (256 * t.val + (128 * (a / 128) + k.val)) b = _
      rw [show 256 * t.val + (128 * (a / 128) + k.val) = 128 * (2 * t.val + a / 128) + k.val by omega]
    · exact if_congr Iff.rfl ((rd3_ix3 (iblk m c 8 t : Vec Ideal S8x128x128 .f32) ⟨b / 128, by omega⟩ ⟨a % 128, h128⟩ k).symm.trans (ib8 m c t _ _ _)) rfl
  · exact (rd2_ix2 (iblk m c 9 t : Vec Ideal S128x1024 .f32) ⟨a % 128, h128⟩ ⟨b, hb⟩).symm.trans (ib9 m c t _ _)

theorem conv_block (c : Dev nD) (t : Fin cfg0.N) (p1 p0 : ℕ → EReal)
    (h0 : ∀ b, b < 1024 → p0 b = if t.val % 8 = 0 then rd4 (m ((c : Thread nD τ).loc main_arg8)) 0 (t.val / 8) 0 b else cxF (m ((c : Thread nD τ).loc main_arg0)) (256 * t.val - 2) b)
    (h1 : ∀ b, b < 1024 → p1 b = if t.val % 8 = 0 then rd4 (m ((c : Thread nD τ).loc main_arg8)) 0 (t.val / 8) 1 b else cxF (m ((c : Thread nD τ).loc main_arg0)) (256 * t.val - 1) b)
    (a : ℕ) (ha : a < 256) (b : ℕ) (hb : b < 1024) :
    conv (iblk m c 3 t) (k0_pay38 (iblk m c 4 t) (iblk m c 2 t)) (iblk m c 10 t) p1 p0 a b = convF (m ((c : Thread nD τ).loc main_arg0)) (m ((c : Thread nD τ).loc main_arg6)) (m ((c : Thread nD τ).loc main_arg8)) (256 * t.val + a) b := by
  have hcx : ∀ r, r < 256 → rd2 (R := 256) (C := 1024) (k0_pay38 (iblk m c 4 t) (iblk m c 2 t)) r b = cxF (m ((c : Thread nD τ).loc main_arg0)) (256 * t.val + r) b := fun r hr =>
    (rd2_ix2 (k0_pay38 (iblk m c 4 t) (iblk m c 2 t)) ⟨r, hr⟩ ⟨b, hb⟩).symm.trans (cx_block m c t _ _)
  have hw : ∀ k : Fin 3, rd2 (R := 3) (C := 1024) (iblk m c 10 t) k.val b = rd3 (m ((c : Thread nD τ).loc main_arg6)) 0 k.val b := fun k =>
    (rd2_ix2 (iblk m c 10 t : Vec Ideal S3x1024 .f32) k ⟨b, hb⟩).symm.trans (ib10 m c t _ _)
  have hg : rd2 (R := 256) (C := 1024) (iblk m c 3 t) a b = rd2 (m ((c : Thread nD τ).loc main_arg0)) (256 * t.val + a) (3072 + b) :=
    (rd2_ix2 (iblk m c 3 t : Vec Ideal S256x1024 .f32) ⟨a, ha⟩ ⟨b, hb⟩).symm.trans (ib3 m c t ⟨a, ha⟩ ⟨b, hb⟩)
  have w0 := hw 0
  have w1 := hw 1
  have w2 := hw 2
  unfold conv convF
  rw [hg, hcx a ha, h0 b hb, h1 b hb]
  refine congrArg₂ (· * ·) rfl (congrArg₂ (· + ·) (congrArg₂ (· + ·) (congrArg₂ (· * ·) ?_ w0) (congrArg₂ (· * ·) ?_ w1)) (congrArg₂ (· * ·) rfl w2))
  · by_cases z0 : a = 0
    · rw [if_pos z0]
      by_cases z : t.val % 8 = 0
      · rw [if_pos z, if_pos (by omega), show (256 * t.val + a) / 2048 = t.val / 8 by omega]
      · rw [if_neg z, if_neg (by omega), if_neg (by omega), show 256 * t.val + a - 2 = 256 * t.val - 2 by omega]
    · rw [if_neg z0, if_neg (show ¬ (256 * t.val + a) % 2048 = 0 by omega)]
      by_cases z1 : a = 1
      · rw [if_pos z1]
        by_cases z : t.val % 8 = 0
        · rw [if_pos z, if_pos (by omega), show (256 * t.val + a) / 2048 = t.val / 8 by omega]
        · rw [if_neg z, if_neg (by omega), show 256 * t.val + a - 2 = 256 * t.val - 1 by omega]
      · rw [if_neg z1, if_neg (by omega), hcx _ (by omega), show 256 * t.val + (a - 2) = 256 * t.val + a - 2 by omega]
  · by_cases z0 : a = 0
    · rw [if_pos z0]
      by_cases z : t.val % 8 = 0
      · rw [if_pos z, if_pos (by omega), show (256 * t.val + a) / 2048 = t.val / 8 by omega]
      · rw [if_neg z, if_neg (by omega), show 256 * t.val + a - 1 = 256 * t.val - 1 by omega]
    · rw [if_neg z0, if_neg (show ¬ (256 * t.val + a) % 2048 = 0 by omega), hcx _ (by omega), show 256 * t.val + (a - 1) = 256 * t.val + a - 1 by omega]

theorem out_block (c : Dev nD) (t : Fin cfg0.N) (p1 p0 : ℕ → EReal)
    (h0 : ∀ b, b < 1024 → p0 b = if t.val % 8 = 0 then rd4 (m ((c : Thread nD τ).loc main_arg8)) 0 (t.val / 8) 0 b else cxF (m ((c : Thread nD τ).loc main_arg0)) (256 * t.val - 2) b)
    (h1 : ∀ b, b < 1024 → p1 b = if t.val % 8 = 0 then rd4 (m ((c : Thread nD τ).loc main_arg8)) 0 (t.val / 8) 1 b else cxF (m ((c : Thread nD τ).loc main_arg0)) (256 * t.val - 1) b)
    (a : Fin 256) (b : Fin 2048) :
    k0_pay1 (iblk m c 5 t) (bothV (iblk m c 0 t) (k0_pay2 (iblk m c 1 t) (iblk m c 6 t) (iblk m c 7 t)) (iblk m c 8 t) (iblk m c 9 t) (iblk m c 3 t) (k0_pay38 (iblk m c 4 t) (iblk m c 2 t)) (iblk m c 10 t) p1 p0) (iblk m c 11 t) (ix2 a b)
      = outF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (256 * t.val + a.val) b.val := by
  have hx := ib5 m c t
  have hw := ib11 m c t
  have hy : ∀ k : Fin 2048, (bothV (iblk m c 0 t) (k0_pay2 (iblk m c 1 t) (iblk m c 6 t) (iblk m c 7 t)) (iblk m c 8 t) (iblk m c 9 t) (iblk m c 3 t) (k0_pay38 (iblk m c 4 t) (iblk m c 2 t)) (iblk m c 10 t) p1 p0) (ix2 a k)
      = if k.val < 1024 then gateF (m ((c : Thread nD τ).loc main_arg0)) (m ((c : Thread nD τ).loc main_arg2)) (m ((c : Thread nD τ).loc main_arg3)) (m ((c : Thread nD τ).loc main_arg4)) (m ((c : Thread nD τ).loc main_arg5)) (256 * t.val + a.val) k.val else convF (m ((c : Thread nD τ).loc main_arg0)) (m ((c : Thread nD τ).loc main_arg6)) (m ((c : Thread nD τ).loc main_arg8)) (256 * t.val + a.val) (k.val - 1024) := fun k => by
    show both _ _ _ _ _ _ _ _ _ a.val k.val = _
    unfold both
    by_cases h : k.val < 1024
    · rw [if_pos h, if_pos h, gate_block m c t _ a.isLt _ h]
    · rw [if_neg h, if_neg h, conv_block m c t p1 p0 h0 h1 _ a.isLt _ (by omega)]
  generalize bothV (iblk m c 0 t) (k0_pay2 (iblk m c 1 t) (iblk m c 6 t) (iblk m c 7 t)) (iblk m c 8 t) (iblk m c 9 t) (iblk m c 3 t) (k0_pay38 (iblk m c 4 t) (iblk m c 2 t)) (iblk m c 10 t) p1 p0 = y at hy ⊢
  generalize (iblk m c 5 t : Vec Ideal S256x2048 .f32) = x at hx ⊢
  generalize (iblk m c 11 t : Vec Ideal S2048x2048 .bf16) = w at hw ⊢
  unfold outF
  pointwise [k0_pay1]
  simp only [hx, hw, hy]
  refine congrArg₂ (· + ·) rfl ?_
  refine (Fin.sum_univ_add (a := 1024) (b := 1024) _).trans (congrArg₂ (· + ·) (Finset.sum_congr rfl fun k _ => ?_) (Finset.sum_congr rfl fun k _ => ?_))
  · show (if k.val < 1024 then _ else _) * _ = _
    rw [if_pos k.isLt]; rfl
  · show (if 1024 + k.val < 1024 then _ else convF _ _ _ _ (1024 + k.val - 1024)) * rd3 _ 0 (1024 + k.val) _ = _
    rw [if_neg (by omega), Nat.add_sub_cancel_left]

theorem outs_at (c : Dev nD) (t : Fin cfg0.N) (a : Fin 256) :
    (∀ b : Fin 2048, (outsAt0 m c t.val t.isLt).1 (ix2 a b) = outF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (256 * t.val + a.val) b.val)
    ∧ (∀ b : Fin 1024, (outsAt0 m c t.val t.isLt).2.1 (ix2 a b) = vF (m ((c : Thread nD τ).loc main_arg0)) (m ((c : Thread nD τ).loc main_arg2)) (m ((c : Thread nD τ).loc main_arg3)) (256 * t.val + a.val) b.val)
    ∧ (∀ b : Fin 1024, (outsAt0 m c t.val t.isLt).2.2.1 (ix2 a b) = cxF (m ((c : Thread nD τ).loc main_arg0)) (256 * t.val + a.val) b.val) := by
  by_cases h0 : t.val % 8 = 0
  · rw [outsAt0_A m c t h0]
    dsimp only
    rw [out14_A, out15_A, out16_A]
    refine ⟨fun b => out_block m c t _ _ (fun b hb => ?_) (fun b hb => ?_) a b, fun b => v_block m c t a b, fun b => cx_block m c t a b⟩
    · rw [if_pos h0]
      exact (rd3_ix3 (iblk m c 12 t : Vec Ideal S1x2x1024 .f32) 0 0 ⟨b, hb⟩).symm.trans (ib12 m c t 0 ⟨b, hb⟩)
    · rw [if_pos h0]
      exact (rd3_ix3 (iblk m c 12 t : Vec Ideal S1x2x1024 .f32) 0 1 ⟨b, hb⟩).symm.trans (ib12 m c t 1 ⟨b, hb⟩)
  · rw [outsAt0_B m c t h0]
    dsimp only
    rw [out14_B, out15_B, out16_B]
    refine ⟨fun b => out_block m c t _ _ (fun b hb => ?_) (fun b hb => ?_) a b, fun b => v_block m c t a b, fun b => cx_block m c t a b⟩
    · rw [if_neg h0]
      refine (carry_row m c ⟨t.val - 1, by omega⟩ 6 (by norm_num) b hb).trans ?_
      rw [show 256 * (t.val - 1) + (248 + 6) = 256 * t.val - 2 by omega]
    · rw [if_neg h0]
      refine (carry_row m c ⟨t.val - 1, by omega⟩ 7 (by norm_num) b hb).trans ?_
      rw [show 256 * (t.val - 1) + (248 + 7) = 256 * t.val - 1 by omega]

/-- Output 14's array after the run. -/
def res14 (c : Dev nD) : Buf (Elt Ideal) ((c : Thread nD τ).loc main_v26_0) := fun i => outF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0).val (i 1).val

theorem arr14 (c : Dev nD) : (dats m 0 c).arrAt 14 cfg0.N = res14 m c := by
  refine (dats m 0 c).arrAt_eq_of_cover 14 _ (fun t hf => ?_) (fun i => (Value.covered_iff14 i).2 (by
    have h0 : (i 0).val < 8192 := (i 0).isLt; have h1 : (i 1).val < 2048 := (i 1).isLt; omega))
  rw [Value.flushed14]
  funext y
  have e := idx14 t
  have hb0 : (((cfg0.win 14).blk t).view.emb y 0).val = win0_14.index t (0 : Fin 2) * 256 + 1 * (y 0).val := rfl
  have hb1 : (((cfg0.win 14).blk t).view.emb y 1).val = win0_14.index t (1 : Fin 2) * 2048 + 1 * (y 1).val := rfl
  have h0 : (((cfg0.win 14).blk t).view.emb y 0).val = 256 * t.val + (y 0).val := by rw [hb0, congrFun e 0]; show t.val * 256 + _ = _; omega
  have h1 : (((cfg0.win 14).blk t).view.emb y 1).val = (y 1).val := by rw [hb1, congrFun e 1]; show 0 * _ + _ = _; omega
  show (outsAt0 m c t.val t.isLt).1 ((cfg0.win 14).xinj (grid0.coords t) y) = outF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 14).blk t).view.emb y 0).val (((cfg0.win 14).blk t).view.emb y 1).val
  rw [h0, h1]
  have h := (outs_at m c t ⟨(y 0).val, (y 0).isLt⟩).1 ⟨(y 1).val, (y 1).isLt⟩
  refine Eq.trans (congrArg (outsAt0 m c t.val t.isLt).1 ?_) h
  funext a
  match a with
  | ⟨0, _⟩ => rfl
  | ⟨1, _⟩ => rfl

/-- Output 15's array after the run. -/
def res15 (c : Dev nD) : Buf (Elt Ideal) ((c : Thread nD τ).loc main_v26_1) := fun i => vF (m ((c : Thread nD τ).loc main_arg0)) (m ((c : Thread nD τ).loc main_arg2)) (m ((c : Thread nD τ).loc main_arg3)) (i 0).val (i 1).val

theorem arr15 (c : Dev nD) : (dats m 0 c).arrAt 15 cfg0.N = res15 m c := by
  refine (dats m 0 c).arrAt_eq_of_cover 15 _ (fun t hf => ?_) (fun i => (Value.covered_iff15 i).2 (by
    have h0 : (i 0).val < 8192 := (i 0).isLt; have h1 : (i 1).val < 1024 := (i 1).isLt; omega))
  rw [Value.flushed15]
  funext y
  have e := idx15 t
  have hb0 : (((cfg0.win 15).blk t).view.emb y 0).val = win0_15.index t (0 : Fin 2) * 256 + 1 * (y 0).val := rfl
  have hb1 : (((cfg0.win 15).blk t).view.emb y 1).val = win0_15.index t (1 : Fin 2) * 1024 + 1 * (y 1).val := rfl
  have h0 : (((cfg0.win 15).blk t).view.emb y 0).val = 256 * t.val + (y 0).val := by rw [hb0, congrFun e 0]; show t.val * 256 + _ = _; omega
  have h1 : (((cfg0.win 15).blk t).view.emb y 1).val = (y 1).val := by rw [hb1, congrFun e 1]; show 0 * _ + _ = _; omega
  show (outsAt0 m c t.val t.isLt).2.1 ((cfg0.win 15).xinj (grid0.coords t) y) = vF (m ((c : Thread nD τ).loc main_arg0)) (m ((c : Thread nD τ).loc main_arg2)) (m ((c : Thread nD τ).loc main_arg3)) (((cfg0.win 15).blk t).view.emb y 0).val (((cfg0.win 15).blk t).view.emb y 1).val
  rw [h0, h1]
  have h := (outs_at m c t ⟨(y 0).val, (y 0).isLt⟩).2.1 ⟨(y 1).val, (y 1).isLt⟩
  refine Eq.trans (congrArg (outsAt0 m c t.val t.isLt).2.1 ?_) h
  funext a
  match a with
  | ⟨0, _⟩ => rfl
  | ⟨1, _⟩ => rfl

/-- Output 16's array after the run. -/
def res16 (c : Dev nD) : Buf (Elt Ideal) ((c : Thread nD τ).loc main_v26_2) := fun i => cxF (m ((c : Thread nD τ).loc main_arg0)) (i 0).val (i 1).val

theorem arr16 (c : Dev nD) : (dats m 0 c).arrAt 16 cfg0.N = res16 m c := by
  refine (dats m 0 c).arrAt_eq_of_cover 16 _ (fun t hf => ?_) (fun i => (Value.covered_iff16 i).2 (by
    have h0 : (i 0).val < 8192 := (i 0).isLt; have h1 : (i 1).val < 1024 := (i 1).isLt; omega))
  rw [Value.flushed16]
  funext y
  have e := idx16 t
  have hb0 : (((cfg0.win 16).blk t).view.emb y 0).val = win0_16.index t (0 : Fin 2) * 256 + 1 * (y 0).val := rfl
  have hb1 : (((cfg0.win 16).blk t).view.emb y 1).val = win0_16.index t (1 : Fin 2) * 1024 + 1 * (y 1).val := rfl
  have h0 : (((cfg0.win 16).blk t).view.emb y 0).val = 256 * t.val + (y 0).val := by rw [hb0, congrFun e 0]; show t.val * 256 + _ = _; omega
  have h1 : (((cfg0.win 16).blk t).view.emb y 1).val = (y 1).val := by rw [hb1, congrFun e 1]; show 0 * _ + _ = _; omega
  show (outsAt0 m c t.val t.isLt).2.2.1 ((cfg0.win 16).xinj (grid0.coords t) y) = cxF (m ((c : Thread nD τ).loc main_arg0)) (((cfg0.win 16).blk t).view.emb y 0).val (((cfg0.win 16).blk t).view.emb y 1).val
  rw [h0, h1]
  have h := (outs_at m c t ⟨(y 0).val, (y 0).isLt⟩).2.2 ⟨(y 1).val, (y 1).isLt⟩
  refine Eq.trans (congrArg (outsAt0 m c t.val t.isLt).2.2.1 ?_) h
  funext a
  match a with
  | ⟨0, _⟩ => rfl
  | ⟨1, _⟩ => rfl

/-- The kernel's run, its results by the layer's formulas. -/
theorem run (ρ : Dev nD → PrngReg) :
    θ_run defs (onTc (τ := τ) (main (F := Ideal))) ⟨m, fun _ => 0, ρ⟩ fun r => ∀ c : Dev nD,
      r.2.mem ((c : Thread nD τ).loc main_v26_0) = res14 m c
      ∧ r.2.mem ((c : Thread nD τ).loc main_v26_1) = res15 m c
      ∧ r.2.mem ((c : Thread nD τ).loc main_v26_2) = res16 m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8)) :=
  (θ_run defs _ _).mono (fun _ h c => ⟨(h c).1.trans (arr14 m c), (h c).2.1.trans (arr15 m c), (h c).2.2.1.trans (arr16 m c), (h c).2.2.2⟩)
    (Value.run_blocks m ρ)

end Cert.KernelIdeal.Mix

end
-- ==== Proof.MixRef.lean ====
module

public import proofs.«01_k».proof.Proof.Gen.ReferenceIdeal.Run
public import Idealize.ShloMosaic.Lib.Pointwise
public import proofs.«01_k».proof.Proof.MixLayer

@[expose] public section

set_option maxRecDepth 16384

noncomputable section

namespace Cert.ReferenceIdeal.Mix

open Cert.KernelIdeal.Mix (rd2 rd3 rd4 rd2_ix2 rd3_ix3 rd4_ix4 meanF vF cxF gateF convF outF select_keep)
open Cert.ReferenceIdeal Cert.ReferenceIdeal.Gen Idealize.ShloMosaic Idealize.ShloMosaic.TcCoe Idealize.SL.Sem Idealize.ShloMosaic.Tactic

/-! The reference's result, split into its steps. -/

def part0 (p : FVec Ideal S8192x5120 .f32) : FVec Ideal S4x2048x1024 .f32 :=
  extractStridedSlice S4x2048x1024 ![0, 0, 0] (shapeCast _ p shapeCasts_S8192x5120_S4x2048x5120) slices_S4x2048x5120_S4x2048x1024_0_0_0

def part1 (p : FVec Ideal S8192x5120 .f32) : FVec Ideal S4x2048x1024 .f32 :=
  extractStridedSlice S4x2048x1024 ![0, 0, 1024] (shapeCast _ p shapeCasts_S8192x5120_S4x2048x5120) slices_S4x2048x5120_S4x2048x1024_0_0_1024

def part2 (p : FVec Ideal S8192x5120 .f32) : FVec Ideal S4x2048x1024 .f32 :=
  extractStridedSlice S4x2048x1024 ![0, 0, 2048] (shapeCast _ p shapeCasts_S8192x5120_S4x2048x5120) slices_S4x2048x5120_S4x2048x1024_0_0_2048

def part3 (p : FVec Ideal S8192x5120 .f32) : FVec Ideal S4x2048x1024 .f32 :=
  extractStridedSlice S4x2048x1024 ![0, 0, 3072] (shapeCast _ p shapeCasts_S8192x5120_S4x2048x5120) slices_S4x2048x5120_S4x2048x1024_0_0_3072

def part4 (p : FVec Ideal S8192x5120 .f32) : FVec Ideal S4x2048x1024 .f32 :=
  extractStridedSlice S4x2048x1024 ![0, 0, 4096] (shapeCast _ p shapeCasts_S8192x5120_S4x2048x5120) slices_S4x2048x5120_S4x2048x1024_0_0_4096

/-- The normalised values. -/
def lnV (v : FVec Ideal S4x2048x1024 .f32) (g b : FVec Ideal S2x1024 .f32) : FVec Ideal S4x2048x1024 .f32 :=
  (addf (mulf (mulf (subf v (broadcastInDim S4x2048x1024 ![0, 1, 2] bcast_S4x2048x1_S4x2048x1024_0_1_2 (Host.divf (broadcastInDim S4x2048x1 ![0, 1] bcast_S4x2048_S4x2048x1_0_1 (Host.reduceAdd v (constant S_ .f32 0x00000000#32) reducesTo_S4x2048x1024_S4x2048_d2 h_S_)) (broadcastInDim S4x2048x1 ![] bcast_S_S4x2048x1 (constant S_ .f32 0x44800000#32))))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (subf v (broadcastInDim S4x2048x1024 ![0, 1, 2] bcast_S4x2048x1_S4x2048x1024_0_1_2 (Host.divf (broadcastInDim S4x2048x1 ![0, 1] bcast_S4x2048_S4x2048x1_0_1 (Host.reduceAdd v (constant S_ .f32 0x00000000#32) reducesTo_S4x2048x1024_S4x2048_d2 h_S_)) (broadcastInDim S4x2048x1 ![] bcast_S_S4x2048x1 (constant S_ .f32 0x44800000#32))))) (subf v (broadcastInDim S4x2048x1024 ![0, 1, 2] bcast_S4x2048x1_S4x2048x1024_0_1_2 (Host.divf (broadcastInDim S4x2048x1 ![0, 1] bcast_S4x2048_S4x2048x1_0_1 (Host.reduceAdd v (constant S_ .f32 0x00000000#32) reducesTo_S4x2048x1024_S4x2048_d2 h_S_)) (broadcastInDim S4x2048x1 ![] bcast_S_S4x2048x1 (constant S_ .f32 0x44800000#32)))))) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x3727C5AC#32)))))) (broadcastInDim S4x2048x1024 ![0, 1, 2] bcast_S1x1x1024_S4x2048x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S4x2048x1024 ![0, 1, 2] bcast_S1x1x1024_S4x2048x1024_0_1_2 (broadcastInDim S1x1x1024 ![2] bcast_S1024_S1x1x1024_2 (shapeCast _ (extractStridedSlice S1x1024 ![0, 0] b slices_S2x1024_S1x1024_0_0) shapeCasts_S1x1024_S1024))))

/-- The gate's weights under the causal mask. -/
def wMask (w : FVec Ideal S2x8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ (extractStridedSlice S1x8x128x128 ![0, 0, 0, 0] w slices_S2x8x128x128_S1x8x128x128_0_0_0_0) shapeCasts_S1x8x128x128_S8x128x128) (broadcastInDim S8x128x128 ![] bcast_S_S8x128x128 (id (constant S_ .f32 0x00000000#32))))

/-- The gate's half. -/
def gateA (u v : FVec Ideal S4x2048x1024 .f32) (w : FVec Ideal S8x128x128 .f32) (b : FVec Ideal S2x8x128 .f32) : FVec Ideal S4x2048x1024 .f32 :=
  (mulf u (shapeCast _ (addf (transpose S4x16x128x8x128 [1, 2, 4, 0, 3] (Host.dotGeneral dot_S4x16x128x8x128_S8x128x128_S8x4x16x128x128_2_2_014_1_3_0 none (shapeCast _ v shapeCasts_S4x2048x1024_S4x16x128x8x128) w) transposes_S8x4x16x128x128_S4x16x128x8x128_1_2_4_0_3) (broadcastInDim S4x16x128x8x128 ![0, 1, 2, 3, 4] bcast_S1x1x128x8x1_S4x16x128x8x128_0_1_2_3_4 (broadcastInDim S1x1x128x8x1 ![2, 3] bcast_S128x8_S1x1x128x8x1_2_3 (transpose S128x8 [1, 0] (shapeCast _ (extractStridedSlice S1x8x128 ![0, 0, 0] b slices_S2x8x128_S1x8x128_0_0_0) shapeCasts_S1x8x128_S8x128) transposes_S8x128_S128x8_1_0)))) shapeCasts_S4x16x128x8x128_S4x2048x1024))

/-- The convolution's input, its start put in front. -/
def fullC (s : FVec Ideal S2x4x2x1024 .f32) (cx : FVec Ideal S4x2048x1024 .f32) : FVec Ideal S4x2050x1024 .f32 :=
  (concatenate S4x2050x1024 1 [⟨S4x2x1024, (shapeCast _ (extractStridedSlice S1x4x2x1024 ![0, 0, 0, 0] s slices_S2x4x2x1024_S1x4x2x1024_0_0_0_0) shapeCasts_S1x4x2x1024_S4x2x1024)⟩, ⟨S4x2048x1024, cx⟩] concatenates_S4x2x1024_S4x2048x1024_S4x2050x1024_d1)

/-- The convolution's half. -/
def convB (g : FVec Ideal S4x2048x1024 .f32) (f : FVec Ideal S4x2050x1024 .f32) (w : FVec Ideal S2x3x1024 .f32) : FVec Ideal S4x2048x1024 .f32 :=
  (mulf g (addf (addf (mulf (extractStridedSlice S4x2048x1024 ![0, 0, 0] f slices_S4x2050x1024_S4x2048x1024_0_0_0) (broadcastInDim S4x2048x1024 ![0, 1, 2] bcast_S1x1x1024_S4x2048x1024_0_1_2 (broadcastInDim S1x1x1024 ![2] bcast_S1024_S1x1x1024_2 (shapeCast _ (extractStridedSlice S1x1x1024 ![0, 0, 0] w slices_S2x3x1024_S1x1x1024_0_0_0) shapeCasts_S1x1x1024_S1024)))) (mulf (extractStridedSlice S4x2048x1024 ![0, 1, 0] f slices_S4x2050x1024_S4x2048x1024_0_1_0) (broadcastInDim S4x2048x1024 ![0, 1, 2] bcast_S1x1x1024_S4x2048x1024_0_1_2 (broadcastInDim S1x1x1024 ![2] bcast_S1024_S1x1x1024_2 (shapeCast _ (extractStridedSlice S1x1x1024 ![0, 1, 0] w slices_S2x3x1024_S1x1x1024_0_1_0) shapeCasts_S1x1x1024_S1024))))) (mulf (extractStridedSlice S4x2048x1024 ![0, 2, 0] f slices_S4x2050x1024_S4x2048x1024_0_2_0) (broadcastInDim S4x2048x1024 ![0, 1, 2] bcast_S1x1x1024_S4x2048x1024_0_1_2 (broadcastInDim S1x1x1024 ![2] bcast_S1024_S1x1x1024_2 (shapeCast _ (extractStridedSlice S1x1x1024 ![0, 2, 0] w slices_S2x3x1024_S1x1x1024_0_2_0) shapeCasts_S1x1x1024_S1024))))))

/-- The out-projection and the residual. -/
def outO (x : FVec Ideal S8192x2048 .f32) (ya yb : FVec Ideal S4x2048x1024 .f32) (w : FVec Ideal S2x2048x2048 .f32) : FVec Ideal S8192x2048 .f32 :=
  shapeCast _ (addf (shapeCast _ x shapeCasts_S8192x2048_S4x2048x2048) (Host.dotGeneral dot_S4x2048x2048_S2048x2048_S4x2048x2048_2_0_01_1_n_n none (concatenate S4x2048x2048 2 [⟨S4x2048x1024, ya⟩, ⟨S4x2048x1024, yb⟩] concatenates_S4x2048x1024_S4x2048x1024_S4x2048x2048_d2) (shapeCast _ (extractStridedSlice S1x2048x2048 ![0, 0, 0] w slices_S2x2048x2048_S1x2048x2048_0_0_0) shapeCasts_S1x2048x2048_S2048x2048))) shapeCasts_S4x2048x2048_S8192x2048

set_option maxHeartbeats 1000000 in
theorem res_eq (m : (ℓ : Loc nD τ sig) → Buf (Elt Ideal) ℓ) (c : Dev nD) :
    Cert.ReferenceIdeal.Value.res_main_v82 m c = outO (m ((c.tc : Thread nD τ).loc main_arg1)) (gateA (part0 (m ((c.tc : Thread nD τ).loc main_arg0))) (lnV (part1 (m ((c.tc : Thread nD τ).loc main_arg0))) (m ((c.tc : Thread nD τ).loc main_arg2)) (m ((c.tc : Thread nD τ).loc main_arg3))) (wMask (m ((c.tc : Thread nD τ).loc main_arg4))) (m ((c.tc : Thread nD τ).loc main_arg5)))
      (convB (part3 (m ((c.tc : Thread nD τ).loc main_arg0))) (fullC (m ((c.tc : Thread nD τ).loc main_arg8)) (mulf (F := Ideal) (φ := .f32) (part4 (m ((c.tc : Thread nD τ).loc main_arg0))) (part2 (m ((c.tc : Thread nD τ).loc main_arg0))))) (m ((c.tc : Thread nD τ).loc main_arg6))) (m ((c.tc : Thread nD τ).loc main_arg7)) := rfl

theorem part0_ix (p : FVec Ideal S8192x5120 .f32) (a : Fin 4) (b : Fin 2048) (d : Fin 1024) :
    part0 p (ix3 a b d) = rd2 p (2048 * a.val + b.val) (d.val) := by
  pointwise [part0]
  rw [rd2_ix2 p]
  show rd2 p (a.val * 2048 + b.val) _ = _
  rw [Nat.mul_comm a.val 2048]

theorem part1_ix (p : FVec Ideal S8192x5120 .f32) (a : Fin 4) (b : Fin 2048) (d : Fin 1024) :
    part1 p (ix3 a b d) = rd2 p (2048 * a.val + b.val) (1024 + d.val) := by
  pointwise [part1]
  rw [rd2_ix2 p]
  show rd2 p (a.val * 2048 + b.val) _ = _
  rw [Nat.mul_comm a.val 2048]

theorem part2_ix (p : FVec Ideal S8192x5120 .f32) (a : Fin 4) (b : Fin 2048) (d : Fin 1024) :
    part2 p (ix3 a b d) = rd2 p (2048 * a.val + b.val) (2048 + d.val) := by
  pointwise [part2]
  rw [rd2_ix2 p]
  show rd2 p (a.val * 2048 + b.val) _ = _
  rw [Nat.mul_comm a.val 2048]

theorem part3_ix (p : FVec Ideal S8192x5120 .f32) (a : Fin 4) (b : Fin 2048) (d : Fin 1024) :
    part3 p (ix3 a b d) = rd2 p (2048 * a.val + b.val) (3072 + d.val) := by
  pointwise [part3]
  rw [rd2_ix2 p]
  show rd2 p (a.val * 2048 + b.val) _ = _
  rw [Nat.mul_comm a.val 2048]

theorem part4_ix (p : FVec Ideal S8192x5120 .f32) (a : Fin 4) (b : Fin 2048) (d : Fin 1024) :
    part4 p (ix3 a b d) = rd2 p (2048 * a.val + b.val) (4096 + d.val) := by
  pointwise [part4]
  rw [rd2_ix2 p]
  show rd2 p (a.val * 2048 + b.val) _ = _
  rw [Nat.mul_comm a.val 2048]

theorem lnV_ix (p : FVec Ideal S8192x5120 .f32) (g b : FVec Ideal S2x1024 .f32) (a : Fin 4) (l : Fin 2048) (d : Fin 1024) :
    lnV (part1 p) g b (ix3 a l d) = vF p g b (2048 * a.val + l.val) d.val := by
  unfold vF meanF
  pointwise [lnV]
  simp only [part1_ix, rd2_ix2 g, rd2_ix2 b]
  rfl

theorem cx_ix (p : FVec Ideal S8192x5120 .f32) (a : Fin 4) (l : Fin 2048) (d : Fin 1024) :
    mulf (F := Ideal) (φ := .f32) (part4 p) (part2 p) (ix3 a l d) = cxF p (2048 * a.val + l.val) d.val := by
  show part4 p (ix3 a l d) * part2 p (ix3 a l d) = _
  rw [part4_ix, part2_ix]
  rfl

theorem wMask_ix (w : FVec Ideal S2x8x128x128 .f32) (g : Fin 8) (a k : Fin 128) :
    wMask w (ix3 g a k) = if k.val ≤ a.val then rd4 w 0 g.val a.val k.val else 0 := by
  have h : ∀ a k : Fin 128, Scalar.select (IntOp.cmpi CmpIPredicate.sge (IntOp.addi (BitVec.ofNat 32 ↑a) 0#32) (BitVec.ofNat 32 ↑k)) 1#1 0#1
      = if k.val ≤ a.val then 1#1 else 0#1 := by decide +kernel
  have z : (id (constant (F := Ideal) S_ FTy.f32 0#32) ix0 : EReal) = 0 := by
    show constant (F := Ideal) S_ FTy.f32 0#32 ix0 = _
    pointwise []
  pointwise [wMask]
  rw [h, select_keep, z, rd4_ix4 w]
  rfl

theorem gateA_ix (p : FVec Ideal S8192x5120 .f32) (g b : FVec Ideal S2x1024 .f32) (w : FVec Ideal S2x8x128x128 .f32) (bs : FVec Ideal S2x8x128 .f32) (a : Fin 4) (l : Fin 2048) (d : Fin 1024) :
    gateA (part0 p) (lnV (part1 p) g b) (wMask w) bs (ix3 a l d) = gateF p g b w bs (2048 * a.val + l.val) d.val := by
  unfold gateF
  have e1 : (2048 * a.val + l.val) / 128 = 16 * a.val + l.val / 128 := by omega
  have e2 : (2048 * a.val + l.val) % 128 = l.val % 128 := by omega
  rw [e1, e2]
  pointwise [gateA]
  simp only [part0_ix, lnV_ix, wMask_ix, rd3_ix3 bs]
  refine congrArg₂ (· * ·) rfl (congrArg₂ (· + ·) (Finset.sum_congr rfl fun k _ => ?_) rfl)
  rw [show 128 * (16 * a.val + l.val / 128) + k.val = 2048 * a.val + (l.val / 128 * 128 + k.val) by omega]

theorem fullC_ix (p : FVec Ideal S8192x5120 .f32) (s : FVec Ideal S2x4x2x1024 .f32) (a : Fin 4) (l : Fin 2050) (d : Fin 1024) :
    fullC s (mulf (F := Ideal) (φ := .f32) (part4 p) (part2 p)) (ix3 a l d)
      = if l.val < 2 then rd4 s 0 a.val l.val d.val else cxF p (2048 * a.val + (l.val - 2)) d.val := by
  have hcx := cx_ix p
  generalize mulf (F := Ideal) (φ := .f32) (part4 p) (part2 p) = cx at hcx ⊢
  pointwise [fullC]
  by_cases h : l.val < 2
  · rw [dif_pos h, if_pos h, rd4_ix4 s]; rfl
  · rw [dif_neg h, if_neg h, hcx]

theorem convB_ix (p : FVec Ideal S8192x5120 .f32) (s : FVec Ideal S2x4x2x1024 .f32) (w : FVec Ideal S2x3x1024 .f32) (a : Fin 4) (l : Fin 2048) (d : Fin 1024) :
    convB (part3 p) (fullC s (mulf (F := Ideal) (φ := .f32) (part4 p) (part2 p))) w (ix3 a l d) = convF p w s (2048 * a.val + l.val) d.val := by
  have hf := fullC_ix p s
  generalize fullC s (mulf (F := Ideal) (φ := .f32) (part4 p) (part2 p)) = f at hf ⊢
  unfold convF
  have hl : l.val < 2048 := l.isLt
  have e1 : (2048 * a.val + l.val) / 2048 = a.val := by omega
  have e2 : (2048 * a.val + l.val) % 2048 = l.val := by omega
  rw [e1, e2]
  pointwise [convB]
  simp only [part3_ix, hf, rd3_ix3 w]
  rw [if_neg (show ¬ 2 + l.val < 2 by omega), show 2048 * a.val + (2 + l.val - 2) = 2048 * a.val + l.val by omega]
  by_cases h0 : l.val = 0
  · simp only [h0]; rfl
  · rw [if_neg h0, if_neg h0, if_neg (show ¬ 1 + l.val < 2 by omega), show 2048 * a.val + (1 + l.val - 2) = 2048 * a.val + l.val - 1 by omega]
    by_cases h1 : l.val = 1
    · simp only [h1]; rfl
    · rw [if_neg h1, if_neg (show ¬ l.val < 2 by omega), show 2048 * a.val + (l.val - 2) = 2048 * a.val + l.val - 2 by omega]; rfl

theorem outO_ix (x : FVec Ideal S8192x2048 .f32) (p : FVec Ideal S8192x5120 .f32) (g b : FVec Ideal S2x1024 .f32) (w : FVec Ideal S2x8x128x128 .f32) (bs : FVec Ideal S2x8x128 .f32)
    (s : FVec Ideal S2x4x2x1024 .f32) (cw : FVec Ideal S2x3x1024 .f32) (wo : FVec Ideal S2x2048x2048 .f32) (r : Fin 8192) (d : Fin 2048) :
    outO x (gateA (part0 p) (lnV (part1 p) g b) (wMask w) bs) (convB (part3 p) (fullC s (mulf (F := Ideal) (φ := .f32) (part4 p) (part2 p))) cw) wo (ix2 r d)
      = outF p x g b w bs cw wo s r.val d.val := by
  have hA := gateA_ix p g b w bs
  have hB := convB_ix p s cw
  generalize gateA (part0 p) (lnV (part1 p) g b) (wMask w) bs = ya at hA ⊢
  generalize convB (part3 p) (fullC s (mulf (F := Ideal) (φ := .f32) (part4 p) (part2 p))) cw = yb at hB ⊢
  unfold outF
  have e : 2048 * (r.val / 2048) + r.val % 2048 = r.val := by omega
  pointwise [outO]
  simp only [hA, hB, e, rd2_ix2 x, rd3_ix3 wo]
  rfl

/-- The three results at an index. -/
theorem res0 (m : (ℓ : Loc nD τ sig) → Buf (Elt Ideal) ℓ) (c : Dev nD) (r : Fin 8192) (d : Fin 2048) :
    Cert.ReferenceIdeal.Value.res_main_v82 m c (ix2 r d) = outF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r.val d.val := by
  rw [res_eq]
  exact outO_ix _ _ _ _ _ _ _ _ _ r d

theorem res1 (p : FVec Ideal S8192x5120 .f32) (g b : FVec Ideal S2x1024 .f32) (r : Fin 8192) (d : Fin 1024) :
    shapeCast S8192x1024 (lnV (part1 p) g b) shapeCasts_S4x2048x1024_S8192x1024 (ix2 r d) = vF p g b r.val d.val := by
  have h := lnV_ix p g b
  generalize lnV (part1 p) g b = v at h ⊢
  have e : 2048 * (r.val / 2048) + r.val % 2048 = r.val := by omega
  pointwise []
  simp only [h, e]

theorem res2 (p : FVec Ideal S8192x5120 .f32) (r : Fin 8192) (d : Fin 1024) :
    shapeCast S8192x1024 (mulf (F := Ideal) (φ := .f32) (part4 p) (part2 p)) shapeCasts_S4x2048x1024_S8192x1024 (ix2 r d) = cxF p r.val d.val := by
  have h := cx_ix p
  generalize mulf (F := Ideal) (φ := .f32) (part4 p) (part2 p) = v at h ⊢
  have e : 2048 * (r.val / 2048) + r.val % 2048 = r.val := by omega
  pointwise []
  simp only [h, e]

set_option maxHeartbeats 1000000 in
/-- The reference's run, its results by the layer's formulas. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = (fun i => outF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0).val (i 1).val)
      ∧ r.2.mem ((c.tc : Thread nD τ).loc main_v83) = (fun i => vF (m ((c.tc : Thread nD τ).loc main_arg0)) (m ((c.tc : Thread nD τ).loc main_arg2)) (m ((c.tc : Thread nD τ).loc main_arg3)) (i 0).val (i 1).val)
      ∧ r.2.mem ((c.tc : Thread nD τ).loc main_v84) = (fun i => cxF (m ((c.tc : Thread nD τ).loc main_arg0)) (i 0).val (i 1).val)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8)) :=
  (θ_run defs _ _).mono (fun _ h c => ⟨(h c).1.trans (funext fun i => by idx_vars i; exact res0 m c i0 i1),
    (h c).2.1.trans (funext fun i => by idx_vars i; exact res1 _ _ _ i0 i1),
    (h c).2.2.1.trans (funext fun i => by idx_vars i; exact res2 _ i0 i1), (h c).2.2.2⟩)
    (Cert.ReferenceIdeal.Value.run m ρ)

end Cert.ReferenceIdeal.Mix

end
-- ==== Proof.PairMix.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.MixRun
public import proofs.«01_k».proof.Proof.MixRef
public import Idealize.ShloMosaic.Lib.Quiescent

@[expose] public section

noncomputable section

namespace Cert.Proof

open Idealize.ShloMosaic Idealize.SL.Sem

theorem frame_Kernel : Cert.quiescent_Kernel (hKernel := Cert.Kernel.Gen.facts) :=
  fun m ρ _ => Cert.Kernel.Gen.frame m ρ

theorem frame_KernelIdeal : Cert.quiescent_KernelIdeal (hKernelIdeal := Cert.KernelIdeal.Gen.facts) :=
  fun m ρ _ => Cert.KernelIdeal.Gen.frame m ρ

theorem frame_ReferenceIdeal : Cert.quiescent_ReferenceIdeal (hReferenceIdeal := Cert.ReferenceIdeal.Gen.facts) :=
  fun m ρ _ => (θ_run Cert.ReferenceIdeal.defs _ _).mono (fun r h => ⟨fun c => (h c).2.2.2, Idealize.ShloMosaic.sem_eq_zero_of_no_sems (by decide) r.2⟩) (Cert.ReferenceIdeal.Value.run (F := Ideal) m ρ)

/-- Kernel and reference end with the same result, the array the formula gives. -/
theorem alg_Mix : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Mix.res14 m c, fun c => Cert.KernelIdeal.Mix.res15 m c, fun c => Cert.KernelIdeal.Mix.res16 m c, Cert.KernelIdeal.Mix.run m ρ, (θ_run Cert.ReferenceIdeal.defs _ _).mono (fun r h c => ?_) (Cert.ReferenceIdeal.Mix.run m' ρ')⟩
  obtain ⟨a0, a1, a2, a3, a4, a5, a6, a7, a8⟩ := hagree c
  obtain ⟨e0, e1, e2, hk⟩ := h c
  simp only [a0, a1, a2, a3, a4, a5, a6, a7, a8] at e0 e1 e2
  exact ⟨e0, e1, e2, hk⟩

end Cert.Proof

end
-- ==== Proof.Read.lean ====
module

public import Idealize.ShloMosaic.Lib.Pointwise

@[expose] public section

noncomputable section

/-! Arrays read at natural numbers, so that a kernel's block and a reference's whole array can be compared by
    arithmetic on the positions alone. -/

namespace Cert.Rd

open Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl
theorem hz5 : (![0, 0, 0, 0, 0] : Fin 5 → ℕ) = fun _ => 0 := funext fun a => by fin_cases a <;> rfl

/-- A one-axis array read at a natural number (zero outside its extent). -/
def rd1 {R : ℕ} (x : (⟨1, ![R]⟩ : Shape).Idx → EReal) (r : ℕ) : EReal :=
  if h : r < R then x (ix1 ⟨r, h⟩) else 0

/-- A two-axis array read at natural numbers (zero outside its extents). -/
def rd2 {R C : ℕ} (x : (⟨2, ![R, C]⟩ : Shape).Idx → EReal) (r c : ℕ) : EReal :=
  if h : r < R ∧ c < C then x (ix2 ⟨r, h.1⟩ ⟨c, h.2⟩) else 0

/-- A three-axis array read at natural numbers (zero outside its extents). -/
def rd3 {R C D : ℕ} (x : (⟨3, ![R, C, D]⟩ : Shape).Idx → EReal) (r c d : ℕ) : EReal :=
  if h : r < R ∧ c < C ∧ d < D then x (ix3 ⟨r, h.1⟩ ⟨c, h.2.1⟩ ⟨d, h.2.2⟩) else 0

/-- A four-axis array read at natural numbers (zero outside its extents). -/
def rd4 {R C D E : ℕ} (x : (⟨4, ![R, C, D, E]⟩ : Shape).Idx → EReal) (r c d e : ℕ) : EReal :=
  if h : r < R ∧ c < C ∧ d < D ∧ e < E then x (ix4 ⟨r, h.1⟩ ⟨c, h.2.1⟩ ⟨d, h.2.2.1⟩ ⟨e, h.2.2.2⟩) else 0

theorem rd1_ix1 {R : ℕ} (x : (⟨1, ![R]⟩ : Shape).Idx → EReal) (a : Fin R) : x (ix1 a) = rd1 x a.val := by
  unfold rd1; rw [dif_pos a.isLt]

theorem rd2_ix2 {R C : ℕ} (x : (⟨2, ![R, C]⟩ : Shape).Idx → EReal) (a : Fin R) (b : Fin C) :
    x (ix2 a b) = rd2 x a.val b.val := by
  unfold rd2; rw [dif_pos ⟨a.isLt, b.isLt⟩]

theorem rd3_ix3 {R C D : ℕ} (x : (⟨3, ![R, C, D]⟩ : Shape).Idx → EReal) (a : Fin R) (b : Fin C) (d : Fin D) :
    x (ix3 a b d) = rd3 x a.val b.val d.val := by
  unfold rd3; rw [dif_pos ⟨a.isLt, b.isLt, d.isLt⟩]

theorem rd4_ix4 {R C D E : ℕ} (x : (⟨4, ![R, C, D, E]⟩ : Shape).Idx → EReal) (a : Fin R) (b : Fin C) (d : Fin D) (e : Fin E) :
    x (ix4 a b d e) = rd4 x a.val b.val d.val e.val := by
  unfold rd4; rw [dif_pos ⟨a.isLt, b.isLt, d.isLt, e.isLt⟩]

/-- A row scaled by the reciprocal root of its mean square plus a small constant, and by a weight per column. -/
def rowNorm (x : ℕ → ℕ → EReal) (g : ℕ → EReal) (r d : ℕ) : EReal :=
  x r d * Ideal.rsqrt (Ideal.div (∑ k : Fin 2048, x r k.val * x r k.val) (Ideal.ofBits .f32 0x45000000#32) + Ideal.ofBits .f32 0x358637BD#32) * g d

end Cert.Rd
-- ==== Proof.MoeSpec.lean ====
module

public import proofs.«01_k».proof.Proof.Gen.MoeIdeal.Skeleton
public import proofs.«01_k».proof.Proof.Read

@[expose] public section

set_option maxRecDepth 16384

noncomputable section

namespace Cert.MoeIdeal.Moe

open Cert.Rd
open Cert.MoeIdeal Cert.MoeIdeal.Gen Idealize.ShloMosaic Idealize.ShloMosaic.TcCoe Idealize.SL.Sem Idealize.ShloMosaic.Tactic

/-- One entry of an expert's hidden layer: row `r` of the activations against column `f` of expert `e`'s weights. -/
def hidF (h : S8192x2048.Idx → EReal) (w : S4x16x2048x512.Idx → EReal) (r e f : ℕ) : EReal :=
  ∑ k : Fin 2048, rd2 h r k.val * rd4 w 0 e k.val f

/-- One entry of an expert's gated hidden layer. -/
def actF (h : S8192x2048.Idx → EReal) (g : S8192x16.Idx → EReal) (wg wu : S4x16x2048x512.Idx → EReal) (r e f : ℕ) : EReal :=
  hidF h wg r e f * Ideal.div 1 (1 + Ideal.exp (-(hidF h wg r e f))) * hidF h wu r e f * rd2 g r e

/-- The layer's result: the input plus, over the experts, the gated hidden layer against the expert's second weights. -/
def moeF (h : S8192x2048.Idx → EReal) (g : S8192x16.Idx → EReal) (x : S8192x2048.Idx → EReal) (wg wu : S4x16x2048x512.Idx → EReal)
    (wd : S4x16x512x2048.Idx → EReal) (r d : ℕ) : EReal :=
  rd2 x r d + ∑ e : Fin 16, ∑ f : Fin 512, actF h g wg wu r e.val f.val * rd4 wd 0 e.val f.val d

/-- Picking one lane by comparing lane numbers and summing leaves that lane's value. -/
theorem pick (n : ℕ) (hn : n < 16) (g : Fin 16 → EReal) :
    ∑ x : Fin 16, Scalar.select (IntOp.cmpi CmpIPredicate.eq (BitVec.ofNat 32 x.val) (BitVec.ofNat 32 n)) (g x) 0 = g ⟨n, hn⟩ := by
  rw [Finset.sum_eq_single ⟨n, hn⟩]
  · have : IntOp.cmpi CmpIPredicate.eq (BitVec.ofNat 32 n) (BitVec.ofNat 32 n) = 1#1 := by simp [IntOp.cmpi]
    simp [this, Scalar.select]
  · intro b _ hb
    have : IntOp.cmpi CmpIPredicate.eq (BitVec.ofNat 32 b.val) (BitVec.ofNat 32 n) = 0#1 := by
      have hne : BitVec.ofNat 32 b.val ≠ BitVec.ofNat 32 n := by
        intro h
        have h2 := congrArg BitVec.toNat h
        simp only [BitVec.toNat_ofNat] at h2
        have := b.isLt
        exact hb (Fin.ext (by simp only; omega))
      show BitVec.ofBool (BitVec.ofNat 32 b.val == BitVec.ofNat 32 n) = 0#1
      rw [beq_eq_false_iff_ne.mpr hne]; rfl
    simp [this, Scalar.select]
  · intro h; exact absurd (Finset.mem_univ _) h

/-- The gated hidden layer of one block. -/
theorem pay3_at (i : grid0.Coords) (h : Vec Ideal S512x2048 .bf16) (g : Vec Ideal S512x16 .f32) (wg wu : Vec Ideal S1x2048x512 .bf16) (a b : Fin 512) :
    k0_pay3 i g h wg h wu (ix2 a b) = ((∑ x : Fin 2048, h (ix2 a x) * wg (ix3 0 x b)) * Ideal.div 1 (1 + Ideal.exp (-(∑ x : Fin 2048, h (ix2 a x) * wg (ix3 0 x b)))) * ∑ x : Fin 2048, h (ix2 a x) * wu (ix3 0 x b)) * g (ix2 a (i 1)) := by
  pointwise [k0_pay3]
  rw [zero_sub]
  exact congrArg _ (pick (i 1).val (i 1).isLt fun x => g (ix2 a x))

/-- One step of the sum over the experts. -/
theorem pay1_at (acc : Vec Ideal S512x2048 .f32) (x : FVec Ideal S512x512 .bf16) (w : Vec Ideal S1x512x2048 .bf16) (a : Fin 512) (b : Fin 2048) :
    k0_pay1 (k0_pay2 acc) x w (ix2 a b) = acc (ix2 a b) + ∑ k : Fin 512, x (ix2 a k) * w (ix3 0 k b) := by
  pointwise [k0_pay1, k0_pay2]

end Cert.MoeIdeal.Moe
-- ==== Proof.MoeRun.lean ====
module

public import proofs.«01_k».proof.Proof.Gen.MoeIdeal.Value
public import proofs.«01_k».proof.Proof.MoeSpec
public import Idealize.ShloMosaic.Lib.Pipeline.ValueKit.Tiles
public import Idealize.ShloMosaic.Lib.Pipeline.ValueKit.Point

@[expose] public section

set_option maxRecDepth 16384

noncomputable section

namespace Cert.MoeIdeal.Moe

open Cert.Rd
open Cert.MoeIdeal Cert.MoeIdeal.Gen Idealize.ShloMosaic Idealize.ShloMosaic.TcCoe Idealize.SL.Sem Idealize.ShloMosaic.Tactic

variable (m : (ℓ : Loc nD τ sig) → Buf (Elt Ideal) ℓ)

/-! The blocks the kernel reads: rows by the first grid axis, the expert by the second. -/

theorem coord1 : ∀ t : Fin cfg0.N, ((grid0.coords t) 1).val = t.val % 16 := (by decide +kernel : ∀ t : Fin grid0.N, _)
theorem idx0 : ∀ t : Fin cfg0.N, win0_0.index t = ![t.val / 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val / 16, 0] := (by decide +kernel : ∀ t : Fin grid0.N, _)
theorem idx3 : ∀ t : Fin cfg0.N, win0_3.index t = ![t.val % 16, 0, 0] := (by decide +kernel : ∀ t : Fin grid0.N, _)
theorem idx4 : ∀ t : Fin cfg0.N, win0_4.index t = ![t.val % 16, 0, 0] := (by decide +kernel : ∀ t : Fin grid0.N, _)
theorem idx5 : ∀ t : Fin cfg0.N, win0_5.index t = ![t.val % 16, 0, 0] := (by decide +kernel : ∀ t : Fin grid0.N, _)

theorem N_le (t : Fin cfg0.N) : t.val < 256 := t.isLt

theorem ib0 (c : Dev nD) (t : Fin cfg0.N) (a : Fin 512) (b : Fin 2048) :
    (iblk m c 0 t : Vec Ideal S512x2048 .bf16) (ix2 a b) = rd2 (m ((c : Thread nD τ).loc main_arg0)) (512 * (t.val / 16) + a.val) b.val := by
  have ht := N_le t
  unfold rd2; rw [dif_pos ⟨by omega, by omega⟩]
  blk_ext [iblk, V, idx0 t]

theorem ib1 (c : Dev nD) (t : Fin cfg0.N) (a : Fin 512) (b : Fin 16) :
    (iblk m c 1 t : Vec Ideal S512x16 .f32) (ix2 a b) = rd2 (m ((c : Thread nD τ).loc main_arg1)) (512 * (t.val / 16) + a.val) b.val := by
  have ht := N_le t
  unfold rd2; rw [dif_pos ⟨by omega, by omega⟩]
  blk_ext [iblk, V, idx1 t]

theorem ib2 (c : Dev nD) (t : Fin cfg0.N) (a : Fin 512) (b : Fin 2048) :
    (iblk m c 2 t : Vec Ideal S512x2048 .f32) (ix2 a b) = rd2 (m ((c : Thread nD τ).loc main_arg2)) (512 * (t.val / 16) + a.val) b.val := by
  have ht := N_le t
  unfold rd2; rw [dif_pos ⟨by omega, by omega⟩]
  blk_ext [iblk, V, idx2 t]

theorem ib3 (c : Dev nD) (t : Fin cfg0.N) (a : Fin 2048) (b : Fin 512) :
    (iblk m c 3 t : Vec Ideal S1x2048x512 .bf16) (ix3 0 a b) = rd4 (m ((c : Thread nD τ).loc main_arg3)) 0 (t.val % 16) a.val b.val := by
  have ht := N_le t
  unfold rd4; rw [dif_pos ⟨by omega, by omega, by omega, by omega⟩]
  blk_ext! [iblk, idx3 t]

theorem ib4 (c : Dev nD) (t : Fin cfg0.N) (a : Fin 2048) (b : Fin 512) :
    (iblk m c 4 t : Vec Ideal S1x2048x512 .bf16) (ix3 0 a b) = rd4 (m ((c : Thread nD τ).loc main_arg4)) 0 (t.val % 16) a.val b.val := by
  have ht := N_le t
  unfold rd4; rw [dif_pos ⟨by omega, by omega, by omega, by omega⟩]
  blk_ext! [iblk, idx4 t]

theorem ib5 (c : Dev nD) (t : Fin cfg0.N) (a : Fin 512) (b : Fin 2048) :
    (iblk m c 5 t : Vec Ideal S1x512x2048 .bf16) (ix3 0 a b) = rd4 (m ((c : Thread nD τ).loc main_arg5)) 0 (t.val % 16) a.val b.val := by
  have ht := N_le t
  unfold rd4; rw [dif_pos ⟨by omega, by omega, by omega, by omega⟩]
  blk_ext! [iblk, idx5 t]

/-! One grid point adds one expert's share. -/

/-- What expert `n % 16` adds to a row of block `n / 16`. -/
def addF (c : Dev nD) (n : ℕ) (i : S512x2048.Idx) : EReal :=
  ∑ f : Fin 512, actF (m ((c : Thread nD τ).loc main_arg0)) (m ((c : Thread nD τ).loc main_arg1)) (m ((c : Thread nD τ).loc main_arg3)) (m ((c : Thread nD τ).loc main_arg4)) (512 * (n / 16) + (i 0).val) (n % 16) f.val
    * rd4 (m ((c : Thread nD τ).loc main_arg5)) 0 (n % 16) f.val (i 1).val

/-- The gated hidden layer of a point's expert. -/
theorem act_block (c : Dev nD) (t : Fin cfg0.N) (a b : Fin 512) :
    k0_pay3 (grid0.coords t) (iblk m c 1 t) (iblk m c 0 t) (iblk m c 3 t) (iblk m c 0 t) (iblk m c 4 t) (ix2 a b)
      = actF (m ((c : Thread nD τ).loc main_arg0)) (m ((c : Thread nD τ).loc main_arg1)) (m ((c : Thread nD τ).loc main_arg3)) (m ((c : Thread nD τ).loc main_arg4)) (512 * (t.val / 16) + a.val) (t.val % 16) b.val := by
  refine (pay3_at (grid0.coords t) (iblk m c 0 t) (iblk m c 1 t) (iblk m c 3 t) (iblk m c 4 t) a b).trans ?_
  unfold actF hidF
  rw [← coord1 t]
  refine congrArg₂ (· * ·) ?_ (ib1 m c t a (grid0.coords t 1))
  rw [coord1 t]
  refine congrArg₂ (· * ·) (congrArg₂ (· * ·) ?_ ?_) ?_
  · exact Finset.sum_congr rfl fun k _ => congrArg₂ (· * ·) (ib0 m c t a k) (ib3 m c t k b)
  · refine congrArg (fun z => Ideal.div 1 (1 + Ideal.exp (-z))) ?_
    exact Finset.sum_congr rfl fun k _ => congrArg₂ (· * ·) (ib0 m c t a k) (ib3 m c t k b)
  · exact Finset.sum_congr rfl fun k _ => congrArg₂ (· * ·) (ib0 m c t a k) (ib4 m c t k b)

theorem add_block (c : Dev nD) (t : Fin cfg0.N) (acc : Vec Ideal S512x2048 .f32) (i : S512x2048.Idx) :
    k0_pay1 (k0_pay2 acc) (k0_pay3 (grid0.coords t) (iblk m c 1 t) (iblk m c 0 t) (iblk m c 3 t) (iblk m c 0 t) (iblk m c 4 t)) (iblk m c 5 t) i
      = acc i + addF m c t.val i := by
  obtain ⟨a, b, rfl⟩ : ∃ (a : Fin 512) (b : Fin 2048), i = ix2 a b := ⟨i 0, i 1, eq_ix2 i⟩
  refine (pay1_at acc _ (iblk m c 5 t) a b).trans ?_
  refine congrArg _ ?_
  exact Finset.sum_congr rfl fun k _ => congrArg₂ (· * ·) (act_block m c t a k) (ib5 m c t k b)

/-- The array the formula gives. -/
def res (c : Dev nD) : Buf (Elt Ideal) ((c : Thread nD τ).loc main_v9) := fun i =>
  moeF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0).val (i 1).val

theorem res_eq (c : Dev nD) : Value.G6 m c = res m c := by
  funext i
  obtain ⟨r, d, rfl⟩ : ∃ (r : Fin 8192) (d : Fin 2048), i = ix2 r d := ⟨i 0, i 1, eq_ix2 i⟩
  have hrun : Value.run6Of (ix2 r d) = r.val / 512 := by
    show 1 * (r.val / 512 - 0) + 1 * (d.val / 2048 - 0) = _
    omega
  have hb : 16 * Value.run6Of (ix2 r d) + 15 < cfg0.N := by
    rw [hrun, show cfg0.N = 256 from N_0]; omega
  unfold Value.G6
  rw [dif_pos hb]
  have hj := Pipeline.accAt_add_apply (Value.reset6 m c) (Value.step6 m c)
    (fun i => rd2 (m ((c : Thread nD τ).loc main_arg2)) (512 * (r.val / 512) + (i 0).val) (i 1).val) (addF m c) (16 * Value.run6Of (ix2 r d)) 15
    (fun h i => by
      refine (add_block m c ⟨_, h⟩ _ i).trans ?_
      refine congrArg (· + _) ?_
      have e := ib2 m c ⟨16 * Value.run6Of (ix2 r d), h⟩ (i 0) (i 1)
      rw [← eq_ix2 i] at e
      refine e.trans ?_
      show rd2 _ (512 * (16 * Value.run6Of (ix2 r d) / 16) + _) _ = _
      rw [hrun, Nat.mul_div_cancel_left _ (by decide : 0 < 16)])
    (fun n h acc i _ _ => add_block m c ⟨n, h⟩ acc i) 15 (le_refl _) hb (Value.loc6Of (ix2 r d))
  refine hj.trans ?_
  have h0 : (Value.loc6Of (ix2 r d) 0).val = r.val % 512 := rfl
  have h1 : (Value.loc6Of (ix2 r d) 1).val = d.val := Nat.mod_eq_of_lt d.isLt
  have hr : 512 * (r.val / 512) + r.val % 512 = r.val := Nat.div_add_mod _ _
  unfold res moeF
  show _ = rd2 _ r.val d.val + ∑ e : Fin 16, ∑ f : Fin 512, _ * rd4 _ 0 e.val f.val d.val
  refine congrArg₂ (· + ·) ?_ ?_
  · rw [h0, h1, hr]
  · rw [Finset.sum_range (n := 15 + 1)]
    refine Finset.sum_congr rfl fun e _ => ?_
    have e1 : (16 * Value.run6Of (ix2 r d) + e.val) / 16 = r.val / 512 := by rw [hrun]; have := e.isLt; omega
    have e2 : (16 * Value.run6Of (ix2 r d) + e.val) % 16 = e.val := by have := e.isLt; omega
    unfold addF
    rw [e1, e2, h0, h1, hr]
    rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (res_eq m c), (h c).2⟩) (Value.run m ρ)

end Cert.MoeIdeal.Moe
-- ==== Proof.MoeRef.lean ====
module

public import proofs.«01_k».proof.Proof.Gen.MoeRefIdeal.Run
public import proofs.«01_k».proof.Proof.MoeSpec

@[expose] public section

set_option maxRecDepth 16384

noncomputable section

namespace Cert.MoeRefIdeal.Moe

open Cert.Rd
open Cert.MoeIdeal.Moe (hidF actF moeF)
open Cert.MoeRefIdeal Cert.MoeRefIdeal.Gen Idealize.ShloMosaic Idealize.ShloMosaic.TcCoe Idealize.SL.Sem Idealize.ShloMosaic.Tactic

/-- The hidden layers of all experts. -/
def hid (h : FVec Ideal S8192x2048 .bf16) (w : FVec Ideal S4x16x2048x512 .f32) : FVec Ideal S8192x16x512 .f32 :=
  Host.dotGeneral dot_S8192x2048_S16x2048x512_S8192x16x512_1_1_0_02_n_n none (extf .f32 h bitsLt_bf16_f32) (shapeCast _ (extractStridedSlice S1x16x2048x512 ![0, 0, 0, 0] w slices_S4x16x2048x512_S1x16x2048x512_0_0_0_0) shapeCasts_S1x16x2048x512_S16x2048x512)

/-- The gated hidden layers. -/
def act (hg hu : FVec Ideal S8192x16x512 .f32) (g : FVec Ideal S8192x16 .f32) : FVec Ideal S8192x16x512 .f32 :=
  mulf (mulf (mulf hg (Host.divf (broadcastInDim S8192x16x512 ![] bcast_S_S8192x16x512 (constant S_ .f32 0x3F800000#32)) (addf (broadcastInDim S8192x16x512 ![] bcast_S_S8192x16x512 (constant S_ .f32 0x3F800000#32)) (Host.exp (Host.negf hg))))) hu) (broadcastInDim S8192x16x512 ![0, 1, 2] bcast_S8192x16x1_S8192x16x512_0_1_2 (broadcastInDim S8192x16x1 ![0, 1] bcast_S8192x16_S8192x16x1_0_1 g))

/-- The sum over the experts. -/
def out (x : FVec Ideal S8192x2048 .f32) (a : FVec Ideal S8192x16x512 .f32) (w : FVec Ideal S4x16x512x2048 .f32) : FVec Ideal S8192x2048 .f32 :=
  addf x (Host.dotGeneral dot_S8192x16x512_S16x512x2048_S8192x2048_12_01_0_2_n_n none a (shapeCast _ (extractStridedSlice S1x16x512x2048 ![0, 0, 0, 0] w slices_S4x16x512x2048_S1x16x512x2048_0_0_0_0) shapeCasts_S1x16x512x2048_S16x512x2048))

theorem hid_ix (h : FVec Ideal S8192x2048 .bf16) (w : FVec Ideal S4x16x2048x512 .f32) (a : Fin 8192) (e : Fin 16) (f : Fin 512) :
    hid h w (ix3 a e f) = ∑ k : Fin 2048, rd2 h a.val k.val * rd4 w 0 e.val k.val f.val := by
  pointwise [hid]
  refine Finset.sum_congr rfl fun k _ => ?_
  rw [rd2_ix2 h, rd4_ix4 w]; rfl

theorem act_ix (hg hu : FVec Ideal S8192x16x512 .f32) (g : FVec Ideal S8192x16 .f32) (a : Fin 8192) (e : Fin 16) (f : Fin 512) :
    act hg hu g (ix3 a e f) = hg (ix3 a e f) * Ideal.div 1 (1 + Ideal.exp (-hg (ix3 a e f))) * hu (ix3 a e f) * rd2 g a.val e.val := by
  pointwise [act]
  rw [rd2_ix2 g]

theorem out_ix (x : FVec Ideal S8192x2048 .f32) (h : FVec Ideal S8192x16x512 .f32) (w : FVec Ideal S4x16x512x2048 .f32) (a : Fin 8192) (b : Fin 2048) :
    out x h w (ix2 a b) = rd2 x a.val b.val + ∑ e : Fin 16, ∑ f : Fin 512, h (ix3 a e f) * rd4 w 0 e.val f.val b.val := by
  pointwise [out]
  rw [rd2_ix2 x]
  refine congrArg _ (Finset.sum_congr rfl fun e _ => Finset.sum_congr rfl fun f _ => ?_)
  rw [rd4_ix4 w]; rfl

/-- The reference's result at one position. -/
theorem res_ix (h : FVec Ideal S8192x2048 .bf16) (g : FVec Ideal S8192x16 .f32) (x : FVec Ideal S8192x2048 .f32)
    (wg wu : FVec Ideal S4x16x2048x512 .f32) (wd : FVec Ideal S4x16x512x2048 .f32) (a : Fin 8192) (b : Fin 2048) :
    out x (act (hid h wg) (hid h wu) g) wd (ix2 a b) = moeF h g x wg wu wd a.val b.val := by
  rw [out_ix]
  unfold moeF actF hidF
  refine congrArg _ (Finset.sum_congr rfl fun e _ => Finset.sum_congr rfl fun f _ => ?_)
  rw [act_ix, hid_ix, hid_ix]

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun i => moeF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (funext fun i => by
      rw [show i = ix2 (i 0) (i 1) from eq_ix2 i]
      exact res_ix _ _ _ _ _ _ _ _), (h c).2⟩) (Cert.MoeRefIdeal.Value.run m ρ)

end Cert.MoeRefIdeal.Moe
-- ==== Proof.PairMoe.lean ====
module

public import proofs.«01_k».proof.Defs
public import proofs.«01_k».proof.Proof.Gen.Moe.Frame
public import proofs.«01_k».proof.Proof.Gen.MoeIdeal.Frame
public import proofs.«01_k».proof.Proof.Gen.MoeRefIdeal.Run
public import proofs.«01_k».proof.Proof.MoeRun
public import proofs.«01_k».proof.Proof.MoeRef
public import Idealize.ShloMosaic.Lib.Quiescent

@[expose] public section

noncomputable section

namespace Cert.Proof

open Idealize.ShloMosaic Idealize.SL.Sem

theorem frame_Moe : Cert.quiescent_Moe (hMoe := Cert.Moe.Gen.facts) :=
  fun m ρ _ => Cert.Moe.Gen.frame m ρ

theorem frame_MoeIdeal : Cert.quiescent_MoeIdeal (hMoeIdeal := Cert.MoeIdeal.Gen.facts) :=
  fun m ρ _ => Cert.MoeIdeal.Gen.frame m ρ

theorem frame_MoeRefIdeal : Cert.quiescent_MoeRefIdeal (hMoeRefIdeal := Cert.MoeRefIdeal.Gen.facts) :=
  fun m ρ _ => (θ_run Cert.MoeRefIdeal.defs _ _).mono (fun r h => ⟨fun c => (h c).2, Idealize.ShloMosaic.sem_eq_zero_of_no_sems (by decide) r.2⟩) (Cert.MoeRefIdeal.Value.run (F := Ideal) m ρ)

/-- Kernel and reference end with the same result, the array the formula gives. -/
theorem alg_Moe : Cert.algebraic_MoeIdeal_MoeRefIdeal (hMoeIdeal := Cert.MoeIdeal.Gen.facts) (hMoeRefIdeal := Cert.MoeRefIdeal.Gen.facts) := by
  intro m ρ m' ρ' _ hagree
  refine ⟨fun c => Cert.MoeIdeal.Moe.res m c, Cert.MoeIdeal.Moe.run m ρ, (θ_run Cert.MoeRefIdeal.defs _ _).mono (fun r h c => ?_) (Cert.MoeRefIdeal.Moe.run m' ρ')⟩
  obtain ⟨a0, a1, a2, a3, a4, a5⟩ := hagree c
  obtain ⟨e0, hk⟩ := h c
  simp only [a0, a1, a2, a3, a4, a5] at e0
  exact ⟨e0, hk⟩

end Cert.Proof

end
-- ==== Proof.RkvSpec.lean ====
module

public import proofs.«01_k».proof.Proof.Gen.RkvIdeal.Skeleton
public import proofs.«01_k».proof.Proof.Read

@[expose] public section

set_option maxRecDepth 16384

noncomputable section

namespace Cert.RkvIdeal.Rkv

open Cert.Rd
open Cert.RkvIdeal Cert.RkvIdeal.Gen Idealize.ShloMosaic Idealize.ShloMosaic.TcCoe Idealize.SL.Sem Idealize.ShloMosaic.Tactic

/-- The kernel's block: rows of one of the three inputs against its weights. -/
theorem pay1_at (x : Vec Ideal S1x512x2048 .bf16) (w : Vec Ideal S1x2048x2048 .bf16) (a : Fin 512) (h : Fin 16) (d : Fin 128) :
    k0_pay1 x w (ix5 0 0 a h d) = ∑ k : Fin 2048, x (ix3 0 a k) * w (ix3 0 k ⟨h.val * 128 + d.val, by omega⟩) := by
  pointwise [k0_pay1]

/-- Entry `n` of token row `r`'s projection by weights `b`. -/
def projF (x : S3x8192x2048.Idx → EReal) (w : S2x3x2048x2048.Idx → EReal) (b r n : ℕ) : EReal :=
  ∑ k : Fin 2048, rd3 x b r k.val * rd4 w 0 b k.val n

/-- The projections in the scan's order: per position, the batch's sequences side by side. -/
def rkvF (x : S3x8192x2048.Idx → EReal) (w : S2x3x2048x2048.Idx → EReal) (b l q d : ℕ) : EReal :=
  projF x w b (q / 16 * 2048 + l) (q % 16 * 128 + d)

end Cert.RkvIdeal.Rkv
-- ==== Proof.RkvRun.lean ====
module

public import proofs.«01_k».proof.Proof.Gen.RkvIdeal.Value
public import proofs.«01_k».proof.Proof.RkvSpec
public import Idealize.ShloMosaic.Lib.Pipeline.ValueKit.Tiles
public import Idealize.ShloMosaic.Lib.Pipeline.ValueKit.Point

@[expose] public section

set_option maxRecDepth 16384

noncomputable section

namespace Cert.RkvIdeal.Rkv

open Cert.Rd
open Cert.RkvIdeal Cert.RkvIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, t.val % 4, t.val % 16 / 4, 0] := (by decide +kernel : ∀ t : Fin grid0.N, _)

theorem N_le (t : Fin cfg0.N) : t.val < 48 := t.isLt

theorem ib0 (c : Dev nD) (t : Fin cfg0.N) (a : Fin 512) (b : Fin 2048) :
    (iblk m c 0 t : Vec Ideal S1x512x2048 .bf16) (ix3 0 a b) = rd3 (m ((c : Thread nD τ).loc main_arg0)) (t.val / 16) (512 * (t.val % 16) + a.val) b.val := by
  have ht := N_le t
  unfold rd3; rw [dif_pos ⟨by omega, by omega, by omega⟩]
  blk_ext [iblk, V, idx0 t]

theorem ib1 (c : Dev nD) (t : Fin cfg0.N) (a b : Fin 2048) :
    (iblk m c 1 t : Vec Ideal S1x2048x2048 .bf16) (ix3 0 a b) = rd4 (m ((c : Thread nD τ).loc main_arg1)) 0 (t.val / 16) a.val b.val := by
  have ht := N_le t
  unfold rd4; rw [dif_pos ⟨by omega, by omega, by omega, by omega⟩]
  blk_ext! [iblk, idx1 t]

/-- One block of the result. -/
theorem block (c : Dev nD) (t : Fin cfg0.N) (a : Fin 512) (h : Fin 16) (d : Fin 128) :
    k0_pay1 (iblk m c 0 t) (iblk m c 1 t) (ix5 0 0 a h d) = rkvF (m ((c : Thread nD τ).loc main_arg0)) (m ((c : Thread nD τ).loc main_arg1)) (t.val / 16) (512 * (t.val % 4) + a.val) (16 * (t.val % 16 / 4) + h.val) d.val := by
  refine (pay1_at (iblk m c 0 t) (iblk m c 1 t) a h d).trans ?_
  have h0 := ib0 m c t
  have h1 := ib1 m c t
  generalize (iblk m c 0 t : Vec Ideal S1x512x2048 .bf16) = x at h0 ⊢
  generalize (iblk m c 1 t : Vec Ideal S1x2048x2048 .bf16) = w at h1 ⊢
  have e1 : (16 * (t.val % 16 / 4) + h.val) / 16 * 2048 + (512 * (t.val % 4) + a.val) = 512 * (t.val % 16) + a.val := by have := h.isLt; omega
  have e2 : (16 * (t.val % 16 / 4) + h.val) % 16 = h.val := by have := h.isLt; omega
  unfold rkvF projF
  simp only [h0, h1, e1, e2]

/-- The array the formula gives. -/
def res (c : Dev nD) : Buf (Elt Ideal) ((c : Thread nD τ).loc main_v3) := fun i => rkvF (m ((c : Thread nD τ).loc main_arg0)) (m ((c : Thread nD τ).loc main_arg1)) (i 0).val (i 2).val (i 3).val (i 4).val

/-- Every position lies in some point's block. -/
theorem cover (i : S3x1x2048x64x128.Idx) : ∃ t : Fin cfg0.N, (cfg0.win 2).flush t = true ∧ i ∈ ((cfg0.win 2).blk t).view.set := by
  have hi0 : (i 0).val < 3 := (i 0).isLt
  have hi1 : (i 1).val < 1 := (i 1).isLt
  have hi2 : (i 2).val < 2048 := (i 2).isLt
  have hi3 : (i 3).val < 64 := (i 3).isLt
  have hi4 : (i 4).val < 128 := (i 4).isLt
  have hN : 16 * (i 0).val + 4 * ((i 3).val / 16) + (i 2).val / 512 < cfg0.N := by rw [show cfg0.N = 48 from N_0]; omega
  refine ⟨⟨_, hN⟩, flush0_2 _, ?_⟩
  show i ∈ ((View.whole main_v3).slice (win0_2.rect ⟨_, hN⟩)).set
  rw [View.set_slice_whole, Rect.mem_set_unit]
  intro a
  have e := idx2 ⟨_, hN⟩
  have e0 := congrFun e 0
  have e1 := congrFun e 1
  have e2 := congrFun e 2
  have e3 := congrFun e 3
  have e4 := congrFun e 4
  simp only [Matrix.cons_val] at e0 e1 e2 e3 e4
  match a with
  | ⟨0, _⟩ => show win0_2.index _ (0 : Fin 5) * 1 ≤ (i 0).val ∧ (i 0).val < win0_2.index _ (0 : Fin 5) * 1 + 1; rw [e0]; omega
  | ⟨1, _⟩ => show win0_2.index _ (1 : Fin 5) * 1 ≤ (i 1).val ∧ (i 1).val < win0_2.index _ (1 : Fin 5) * 1 + 1; rw [e1]; omega
  | ⟨2, _⟩ => show win0_2.index _ (2 : Fin 5) * 512 ≤ (i 2).val ∧ (i 2).val < win0_2.index _ (2 : Fin 5) * 512 + 512; rw [e2]; omega
  | ⟨3, _⟩ => show win0_2.index _ (3 : Fin 5) * 16 ≤ (i 3).val ∧ (i 3).val < win0_2.index _ (3 : Fin 5) * 16 + 16; rw [e3]; omega
  | ⟨4, _⟩ => show win0_2.index _ (4 : Fin 5) * 128 ≤ (i 4).val ∧ (i 4).val < win0_2.index _ (4 : Fin 5) * 128 + 128; rw [e4]; omega

theorem arr (c : Dev nD) : (dats m 0 c).arrAt 2 cfg0.N = res m c := by
  refine (dats m 0 c).arrAt_eq_of_cover 2 _ (fun t hf => ?_) (fun i => cover i)
  rw [Value.flushed2]
  funext y
  have e := idx2 t
  have hy0 : (y 0).val < 1 := (y 0).isLt
  have hy1 : (y 1).val < 1 := (y 1).isLt
  have hb0 : (((cfg0.win 2).blk t).view.emb y 0).val = win0_2.index t (0 : Fin 5) * 1 + 1 * (y 0).val := rfl
  have hb2 : (((cfg0.win 2).blk t).view.emb y 2).val = win0_2.index t (2 : Fin 5) * 512 + 1 * (y 2).val := rfl
  have hb3 : (((cfg0.win 2).blk t).view.emb y 3).val = win0_2.index t (3 : Fin 5) * 16 + 1 * (y 3).val := rfl
  have hb4 : (((cfg0.win 2).blk t).view.emb y 4).val = win0_2.index t (4 : Fin 5) * 128 + 1 * (y 4).val := rfl
  have h0 : (((cfg0.win 2).blk t).view.emb y 0).val = t.val / 16 := by rw [hb0, congrFun e 0]; show t.val / 16 * 1 + _ = _; omega
  have h2 : (((cfg0.win 2).blk t).view.emb y 2).val = 512 * (t.val % 4) + (y 2).val := by rw [hb2, congrFun e 2]; show t.val % 4 * 512 + _ = _; omega
  have h3 : (((cfg0.win 2).blk t).view.emb y 3).val = 16 * (t.val % 16 / 4) + (y 3).val := by rw [hb3, congrFun e 3]; show t.val % 16 / 4 * 16 + _ = _; omega
  have h4 : (((cfg0.win 2).blk t).view.emb y 4).val = (y 4).val := by rw [hb4, congrFun e 4]; show 0 * _ + _ = _; omega
  show out0_2 (iblk m c 0 t) (iblk m c 1 t) ((cfg0.win 2).xinj (grid0.coords t) y) = rkvF (m ((c : Thread nD τ).loc main_arg0)) (m ((c : Thread nD τ).loc main_arg1)) (((cfg0.win 2).blk t).view.emb y 0).val (((cfg0.win 2).blk t).view.emb y 2).val (((cfg0.win 2).blk t).view.emb y 3).val (((cfg0.win 2).blk t).view.emb y 4).val
  rw [h0, h2, h3, h4]
  unfold out0_2
  rw [View.canon_unit_zero (S := S1x1x512x16x128) hz5]
  simp only [View.ld_unit_zero (S := S1x512x2048) hz3, View.ld_unit_zero (S := S1x2048x2048) hz3]
  refine Eq.trans (congrArg (k0_pay1 (iblk m c 0 t) (iblk m c 1 t)) ?_) (block m c t ⟨(y 2).val, (y 2).isLt⟩ ⟨(y 3).val, (y 3).isLt⟩ ⟨(y 4).val, (y 4).isLt⟩)
  funext a
  match a with
  | ⟨0, _⟩ => exact Fin.ext (by show (y 0).val = 0; omega)
  | ⟨1, _⟩ => exact Fin.ext (by show (y 1).val = 0; omega)
  | ⟨2, _⟩ => rfl
  | ⟨3, _⟩ => rfl
  | ⟨4, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.RkvIdeal.Rkv
-- ==== Proof.RkvRef.lean ====
module

public import proofs.«01_k».proof.Proof.Gen.RkvRefIdeal.Run
public import proofs.«01_k».proof.Proof.RkvSpec

@[expose] public section

set_option maxRecDepth 16384

noncomputable section

namespace Cert.RkvRefIdeal.Rkv

open Cert.Rd
open Cert.RkvIdeal.Rkv (rkvF projF)
open Cert.RkvRefIdeal Cert.RkvRefIdeal.Gen Idealize.ShloMosaic Idealize.ShloMosaic.TcCoe Idealize.SL.Sem Idealize.ShloMosaic.Tactic

/-- The reference's result, from its arguments. -/
def out (x : FVec Ideal S3x8192x2048 .bf16) (w : FVec Ideal S2x3x2048x2048 .f32) : FVec Ideal S3x1x2048x64x128 .f32 :=
  shapeCast _ (transpose S3x2048x4x16x128 [0, 2, 1, 3, 4] (shapeCast _ (Host.dotGeneral dot_S3x4x2048x2048_S3x2048x2048_S3x4x2048x2048_3_1_12_2_0_0 none (shapeCast _ (extf .f32 x bitsLt_bf16_f32) shapeCasts_S3x8192x2048_S3x4x2048x2048) (shapeCast _ (extractStridedSlice S1x3x2048x2048 ![0, 0, 0, 0] w slices_S2x3x2048x2048_S1x3x2048x2048_0_0_0_0) shapeCasts_S1x3x2048x2048_S3x2048x2048)) shapeCasts_S3x4x2048x2048_S3x4x2048x16x128) transposes_S3x4x2048x16x128_S3x2048x4x16x128_0_2_1_3_4) shapeCasts_S3x2048x4x16x128_S3x1x2048x64x128

theorem out_ix (x : FVec Ideal S3x8192x2048 .bf16) (w : FVec Ideal S2x3x2048x2048 .f32) (b : Fin 3) (l : Fin 2048) (q : Fin 64) (d : Fin 128) :
    out x w (ix5 b 0 l q d) = rkvF x w b.val l.val q.val d.val := by
  pointwise [out]
  simp only [rd3_ix3 x, rd4_ix4 w]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun i => rkvF (m ((c.tc : Thread nD τ).loc main_arg0)) (m ((c.tc : Thread nD τ).loc main_arg1)) (i 0).val (i 2).val (i 3).val (i 4).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      rw [show i = ix5 (i 0) 0 (i 2) (i 3) (i 4) from (eq_ix5 i).trans (by rw [show i 1 = (0 : Fin 1) from Subsingleton.elim (α := Fin 1) _ _]; rfl)]
      exact out_ix _ _ _ _ _ _), (h c).2⟩) (Cert.RkvRefIdeal.Value.run m ρ)

end Cert.RkvRefIdeal.Rkv
-- ==== Proof.PairRkv.lean ====
module

public import proofs.«01_k».proof.Defs
public import proofs.«01_k».proof.Proof.Gen.Rkv.Frame
public import proofs.«01_k».proof.Proof.Gen.RkvIdeal.Frame
public import proofs.«01_k».proof.Proof.Gen.RkvRefIdeal.Run
public import proofs.«01_k».proof.Proof.RkvRun
public import proofs.«01_k».proof.Proof.RkvRef
public import Idealize.ShloMosaic.Lib.Quiescent

@[expose] public section

noncomputable section

namespace Cert.Proof

open Idealize.ShloMosaic Idealize.SL.Sem

theorem frame_Rkv : Cert.quiescent_Rkv (hRkv := Cert.Rkv.Gen.facts) :=
  fun m ρ _ => Cert.Rkv.Gen.frame m ρ

theorem frame_RkvIdeal : Cert.quiescent_RkvIdeal (hRkvIdeal := Cert.RkvIdeal.Gen.facts) :=
  fun m ρ _ => Cert.RkvIdeal.Gen.frame m ρ

theorem frame_RkvRefIdeal : Cert.quiescent_RkvRefIdeal (hRkvRefIdeal := Cert.RkvRefIdeal.Gen.facts) :=
  fun m ρ _ => (θ_run Cert.RkvRefIdeal.defs _ _).mono (fun r h => ⟨fun c => (h c).2, Idealize.ShloMosaic.sem_eq_zero_of_no_sems (by decide) r.2⟩) (Cert.RkvRefIdeal.Value.run (F := Ideal) m ρ)

/-- Kernel and reference end with the same result, the array the formula gives. -/
theorem alg_Rkv : Cert.algebraic_RkvIdeal_RkvRefIdeal (hRkvIdeal := Cert.RkvIdeal.Gen.facts) (hRkvRefIdeal := Cert.RkvRefIdeal.Gen.facts) := by
  intro m ρ m' ρ' _ hagree
  refine ⟨fun c => Cert.RkvIdeal.Rkv.res m c, Cert.RkvIdeal.Rkv.run m ρ, (θ_run Cert.RkvRefIdeal.defs _ _).mono (fun r h c => ?_) (Cert.RkvRefIdeal.Rkv.run m' ρ')⟩
  obtain ⟨a0, a1⟩ := hagree c
  obtain ⟨e0, hk⟩ := h c
  simp only [a0, a1] at e0
  exact ⟨e0, hk⟩

end Cert.Proof

end
-- ==== Proof.InprojSpec.lean ====
module

public import proofs.«01_k».proof.Proof.Gen.InprojIdeal.Skeleton
public import proofs.«01_k».proof.Proof.Read

@[expose] public section

set_option maxRecDepth 16384

noncomputable section

namespace Cert.InprojIdeal.Inproj

open Cert.Rd
open Cert.InprojIdeal Cert.InprojIdeal.Gen Idealize.ShloMosaic Idealize.ShloMosaic.TcCoe Idealize.SL.Sem Idealize.ShloMosaic.Tactic

/-- The kernel's normalised rows. -/
theorem pay1_at (x : Vec Ideal S512x2048 .f32) (g : Vec Ideal S1x2048 .f32) (a : Fin 512) (d : Fin 2048) :
    k0_pay1 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay1]

/-- The projection's block. -/
theorem pay2_at (h : Vec Ideal S512x2048 .bf16) (w : Vec Ideal S2048x1024 .bf16) (a : Fin 512) (d : Fin 1024) :
    k0_pay2 h w (ix2 a d) = ∑ k : Fin 2048, h (ix2 a k) * w (ix2 k d) := by
  pointwise [k0_pay2]

/-- The activation, with the tanh approximation's constants. -/
def gelu (u : EReal) : EReal :=
  Ideal.ofBits .f32 0x3F000000#32 * u * (1 + Ideal.tanh (Ideal.ofBits .f32 0x3F4C422A#32 * (u + Ideal.ofBits .f32 0x3D372713#32 * (u * u * u))))

theorem pay3_at (h : Vec Ideal S512x2048 .bf16) (w : Vec Ideal S2048x1024 .bf16) (a : Fin 512) (d : Fin 1024) :
    k0_pay3 h w (ix2 a d) = gelu (k0_pay2 h w (ix2 a d)) := by
  unfold k0_pay3
  generalize k0_pay2 h w = u
  unfold gelu
  pointwise []

/-- Entry `n` of token row `r`'s projection. -/
def projF (x : S8192x2048.Idx → EReal) (g : S4x2048.Idx → EReal) (w : S2x2048x5120.Idx → EReal) (r n : ℕ) : EReal :=
  ∑ k : Fin 2048, rowNorm (rd2 x) (rd2 g 0) r k.val * rd3 w 0 k.val n

/-- The in-projection's result: the activation on the first two of five parts. -/
def inprojF (x : S8192x2048.Idx → EReal) (g : S4x2048.Idx → EReal) (w : S2x2048x5120.Idx → EReal) (r n : ℕ) : EReal :=
  if n / 1024 < 2 then gelu (projF x g w r n) else projF x g w r n

end Cert.InprojIdeal.Inproj
-- ==== Proof.InprojRun.lean ====
module

public import proofs.«01_k».proof.Proof.Gen.InprojIdeal.Value
public import proofs.«01_k».proof.Proof.InprojSpec
public import Idealize.ShloMosaic.Lib.Pipeline.ValueKit.Tiles
public import Idealize.ShloMosaic.Lib.Pipeline.ValueKit.Point

@[expose] public section

set_option maxRecDepth 16384

noncomputable section

namespace Cert.InprojIdeal.Inproj

open Cert.Rd
open Cert.InprojIdeal Cert.InprojIdeal.Gen Idealize.ShloMosaic Idealize.ShloMosaic.TcCoe Idealize.SL.Sem Idealize.ShloMosaic.Tactic

variable (m : (ℓ : Loc nD τ sig) → Buf (Elt Ideal) ℓ)

/-! What each case leaves in the output block and in the normalised rows' buffer. -/

theorem out_A_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x2048 .bf16) (harg6 : arg6.IsWhole) (hc0 : cond0_0 i) (hc1 : cond0_1 i) (hc2 : ¬cond0_2 i)
    (x0 : Vec Ideal S512x2048 .f32) (x1 : Vec Ideal S1x2048 .f32) (x2 : Vec Ideal S2048x1024 .bf16) :
    out0_A_3 c i arg2 harg2 arg3 harg3 arg4 harg4 arg5 harg5 arg6 harg6 hc0 hc1 hc2 x0 x1 x2 = k0_pay3 (k0_pay1 x0 x1) x2 := by
  unfold out0_A_3
  rw [View.read_writes_eq_canon _ _ _ (cover0_A_3 c i arg2 harg2 arg3 harg3 arg4 harg4 arg5 harg5 arg6 harg6 hc0 hc1 hc2 x0 x1 x2)]
  unfold kernelRun0_A
  dsimp only
  try sl_unfold_words
  rw [View.canon_unit_zero (S := S512x1024) hz2]
  simp only [View.readAt_eq_ld, harg2.read_unread, harg3.read_unread, harg4.read_unread, harg5.read_unread, harg6.read_unread, View.ld_unit_zero (S := S512x2048) hz2, View.ld_unit_zero (S := S1x2048) hz2, View.ld_unit_zero (S := S2048x1024) hz2, View.ld_unit_zero (S := S512x1024) hz2, View.readCov_unit_zero (S := S512x2048) _ hz2, shapeCast_self]

theorem sout_A_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x2048 .bf16) (harg6 : arg6.IsWhole) (hc0 : cond0_0 i) (hc1 : cond0_1 i) (hc2 : ¬cond0_2 i)
    (x0 : Vec Ideal S512x2048 .f32) (x1 : Vec Ideal S1x2048 .f32) (x2 : Vec Ideal S2048x1024 .bf16) :
    sout0_A_0 c i arg2 harg2 arg3 harg3 arg4 harg4 arg5 harg5 arg6 harg6 hc0 hc1 hc2 x0 x1 x2 = k0_pay1 x0 x1 := by
  unfold sout0_A_0
  rw [View.read_writes_eq_canon _ _ _ (scover0_A_0 c i arg2 harg2 arg3 harg3 arg4 harg4 arg5 harg5 arg6 harg6 hc0 hc1 hc2 x0 x1 x2)]
  unfold kernelRun0_A
  dsimp only
  try sl_unfold_words
  rw [View.canon_unit_zero (S := S512x2048) hz2]
  simp only [View.readAt_eq_ld, harg2.read_unread, harg3.read_unread, harg4.read_unread, harg5.read_unread, harg6.read_unread, View.ld_unit_zero (S := S512x2048) hz2, View.ld_unit_zero (S := S1x2048) hz2, View.ld_unit_zero (S := S2048x1024) hz2, View.ld_unit_zero (S := S512x1024) hz2, shapeCast_self]

theorem out_B_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x2048 .bf16) (harg6 : arg6.IsWhole) (hc0 : ¬cond0_0 i) (hc1 : cond0_1 i) (hc2 : ¬cond0_2 i)
    (x0 : Vec Ideal S512x2048 .f32) (x1 : Vec Ideal S1x2048 .f32) (x2 : Vec Ideal S2048x1024 .bf16) (xs0 : Vec Ideal S512x2048 .bf16) :
    out0_B_3 c i arg2 harg2 arg3 harg3 arg4 harg4 arg5 harg5 arg6 harg6 hc0 hc1 hc2 x0 x1 x2 xs0 = k0_pay3 xs0 x2 := by
  unfold out0_B_3
  rw [View.read_writes_eq_canon _ _ _ (cover0_B_3 c i arg2 harg2 arg3 harg3 arg4 harg4 arg5 harg5 arg6 harg6 hc0 hc1 hc2 x0 x1 x2 xs0)]
  unfold kernelRun0_B
  dsimp only
  try sl_unfold_words
  rw [View.canon_unit_zero (S := S512x1024) hz2]
  simp only [View.readAt_eq_ld, harg2.read_unread, harg3.read_unread, harg4.read_unread, harg5.read_unread, harg6.read_unread, View.ld_unit_zero (S := S512x2048) hz2, View.ld_unit_zero (S := S1x2048) hz2, View.ld_unit_zero (S := S2048x1024) hz2, View.ld_unit_zero (S := S512x1024) hz2, shapeCast_self]

theorem out_C_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .f32) (harg5 : arg5.IsWhole) (arg6 : Memref sig .tc .vmem S512x2048 .bf16) (harg6 : arg6.IsWhole) (hc0 : ¬cond0_0 i) (hc1 : ¬cond0_1 i) (hc2 : cond0_2 i)
    (x0 : Vec Ideal S512x2048 .f32) (x1 : Vec Ideal S1x2048 .f32) (x2 : Vec Ideal S2048x1024 .bf16) (xs0 : Vec Ideal S512x2048 .bf16) :
    out0_C_3 c i arg2 harg2 arg3 harg3 arg4 harg4 arg5 harg5 arg6 harg6 hc0 hc1 hc2 x0 x1 x2 xs0 = k0_pay2 xs0 x2 := by
  unfold out0_C_3
  rw [View.read_writes_eq_canon _ _ _ (cover0_C_3 c i arg2 harg2 arg3 harg3 arg4 harg4 arg5 harg5 arg6 harg6 hc0 hc1 hc2 x0 x1 x2 xs0)]
  unfold kernelRun0_C
  dsimp only
  try sl_unfold_words
  rw [View.canon_unit_zero (S := S512x1024) hz2]
  simp only [View.readAt_eq_ld, harg2.read_unread, harg3.read_unread, harg4.read_unread, harg5.read_unread, harg6.read_unread, View.ld_unit_zero (S := S512x2048) hz2, View.ld_unit_zero (S := S1x2048) hz2, View.ld_unit_zero (S := S2048x1024) hz2, View.ld_unit_zero (S := S512x1024) hz2, shapeCast_self]

theorem scr_A (c : Dev nD) (t : Fin cfg0.N) (h0 : t.val % 5 = 0) : (outsAt0 m c t.val t.isLt).2 = k0_pay1 (iblk m c 0 t) (iblk m c 1 t) := by
  rw [outsAt0_A m c t h0 (by omega) (by omega)]
  dsimp only
  rw [sout_A_eq]

theorem scr_B (c : Dev nD) (t : Fin cfg0.N) (h0 : ¬t.val % 5 = 0) : (outsAt0 m c t.val t.isLt).2 = (outsAt0 m c (t.val - 1) (Nat.lt_of_le_of_lt (Nat.sub_le _ _) t.isLt)).2 := by
  by_cases h2 : 2 ≤ t.val % 5
  · rw [outsAt0_C m c t h0 (by omega) h2]
    rfl
  · rw [outsAt0_B m c t h0 (by omega) h2]
    rfl

theorem out_lt (c : Dev nD) (t : Fin cfg0.N) (h : t.val % 5 < 2) : (outsAt0 m c t.val t.isLt).1 = k0_pay3 (outsAt0 m c t.val t.isLt).2 (iblk m c 2 t) := by
  by_cases h0 : t.val % 5 = 0
  · rw [scr_A m c t h0, outsAt0_A m c t h0 (by omega) (by omega)]
    dsimp only
    rw [out_A_eq]
  · rw [scr_B m c t h0, outsAt0_B m c t h0 (by omega) (by omega)]
    dsimp only
    rw [out_B_eq]

theorem out_ge (c : Dev nD) (t : Fin cfg0.N) (h : 2 ≤ t.val % 5) : (outsAt0 m c t.val t.isLt).1 = k0_pay2 (outsAt0 m c t.val t.isLt).2 (iblk m c 2 t) := by
  rw [scr_B m c t (by omega), outsAt0_C m c t (by omega) (by omega) h]
  dsimp only
  rw [out_C_eq]

/-! The blocks. -/

theorem idx0 : ∀ t : Fin cfg0.N, win0_0.index t = ![t.val / 5, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 5] := (by decide +kernel : ∀ t : Fin grid0.N, _)
theorem idx3 : ∀ t : Fin cfg0.N, win0_3.index t = ![t.val / 5, t.val % 5] := (by decide +kernel : ∀ t : Fin grid0.N, _)

theorem N_le (t : Fin cfg0.N) : t.val < 80 := t.isLt

theorem ib0 (c : Dev nD) (t : Fin cfg0.N) (a : Fin 512) (b : Fin 2048) :
    (iblk m c 0 t : Vec Ideal S512x2048 .f32) (ix2 a b) = rd2 (m ((c : Thread nD τ).loc main_arg0)) (512 * (t.val / 5) + a.val) b.val := by
  have ht := N_le t
  unfold rd2; rw [dif_pos ⟨by omega, by omega⟩]
  blk_ext [iblk, V, idx0 t]

theorem ib1 (c : Dev nD) (t : Fin cfg0.N) (b : Fin 2048) :
    (iblk m c 1 t : Vec Ideal S1x2048 .f32) (ix2 0 b) = rd2 (m ((c : Thread nD τ).loc main_arg1)) 0 b.val := by
  have ht := N_le t
  unfold rd2; rw [dif_pos ⟨by omega, by omega⟩]
  blk_ext! [iblk, idx1 t]

theorem ib2 (c : Dev nD) (t : Fin cfg0.N) (a : Fin 2048) (b : Fin 1024) :
    (iblk m c 2 t : Vec Ideal S2048x1024 .bf16) (ix2 a b) = rd3 (m ((c : Thread nD τ).loc main_arg2)) 0 a.val (1024 * (t.val % 5) + b.val) := by
  have ht := N_le t
  unfold rd3; rw [dif_pos ⟨by omega, by omega, by omega⟩]
  blk_ext! [iblk, idx2 t]

/-- Each point finds the normalised rows of its row block in the buffer the first point of the block fills. -/
theorem scr (c : Dev nD) : ∀ (n : ℕ) (hn : n < cfg0.N) (a : Fin 512) (d : Fin 2048),
    (outsAt0 m c n hn).2 (ix2 a d) = rowNorm (rd2 (m ((c : Thread nD τ).loc main_arg0))) (rd2 (m ((c : Thread nD τ).loc main_arg1)) 0) (512 * (n / 5) + a.val) d.val := by
  have hA : ∀ (t : Fin cfg0.N) (a : Fin 512) (d : Fin 2048), k0_pay1 (iblk m c 0 t) (iblk m c 1 t) (ix2 a d) = rowNorm (rd2 (m ((c : Thread nD τ).loc main_arg0))) (rd2 (m ((c : Thread nD τ).loc main_arg1)) 0) (512 * (t.val / 5) + a.val) d.val := by
    intro t a d
    refine (pay1_at (iblk m c 0 t) (iblk m c 1 t) a d).trans ?_
    have h0 := ib0 m c t
    have h1 := ib1 m c t
    generalize (iblk m c 0 t : Vec Ideal S512x2048 .f32) = x at h0 ⊢
    generalize (iblk m c 1 t : Vec Ideal S1x2048 .f32) = g at h1 ⊢
    unfold rowNorm
    simp only [h0, h1]
  intro n
  induction n with
  | zero =>
    intro hn a d
    exact (congrFun (scr_A m c ⟨0, hn⟩ (Nat.zero_mod _)) (ix2 a d)).trans (hA ⟨0, hn⟩ a d)
  | succ n ih =>
    intro hn a d
    by_cases h : (n + 1) % 5 = 0
    · exact (congrFun (scr_A m c ⟨n + 1, hn⟩ h) (ix2 a d)).trans (hA ⟨n + 1, hn⟩ a d)
    · refine (congrFun (scr_B m c ⟨n + 1, hn⟩ h) (ix2 a d)).trans ((ih (Nat.lt_of_succ_lt hn) a d).trans ?_)
      rw [show (n + 1) / 5 = n / 5 by omega]

theorem proj_block (c : Dev nD) (t : Fin cfg0.N) (a : Fin 512) (d : Fin 1024) :
    k0_pay2 (outsAt0 m c t.val t.isLt).2 (iblk m c 2 t) (ix2 a d) = projF (m ((c : Thread nD τ).loc main_arg0)) (m ((c : Thread nD τ).loc main_arg1)) (m ((c : Thread nD τ).loc main_arg2)) (512 * (t.val / 5) + a.val) (1024 * (t.val % 5) + d.val) := by
  refine (pay2_at _ (iblk m c 2 t) a d).trans ?_
  have hs := scr m c t.val t.isLt a
  have h2 := ib2 m c t
  generalize (outsAt0 m c t.val t.isLt).2 = s at hs ⊢
  generalize (iblk m c 2 t : Vec Ideal S2048x1024 .bf16) = w at h2 ⊢
  unfold projF
  simp only [hs, h2]

/-- One block of the result. -/
theorem block (c : Dev nD) (t : Fin cfg0.N) (a : Fin 512) (d : Fin 1024) :
    (outsAt0 m c t.val t.isLt).1 (ix2 a d) = inprojF (m ((c : Thread nD τ).loc main_arg0)) (m ((c : Thread nD τ).loc main_arg1)) (m ((c : Thread nD τ).loc main_arg2)) (512 * (t.val / 5) + a.val) (1024 * (t.val % 5) + d.val) := by
  unfold inprojF
  rw [← proj_block m c t a d, show (1024 * (t.val % 5) + d.val) / 1024 = t.val % 5 by have := d.isLt; omega]
  by_cases h : t.val % 5 < 2
  · rw [if_pos h]
    exact (congrFun (out_lt m c t h) (ix2 a d)).trans (pay3_at _ _ a d)
  · rw [if_neg h]
    exact congrFun (out_ge m c t (by omega)) (ix2 a d)

/-- The array the formula gives. -/
def res (c : Dev nD) : Buf (Elt Ideal) ((c : Thread nD τ).loc main_v6) := fun i => inprojF (m ((c : Thread nD τ).loc main_arg0)) (m ((c : Thread nD τ).loc main_arg1)) (m ((c : Thread nD τ).loc main_arg2)) (i 0).val (i 1).val

theorem arr (c : Dev nD) : (dats m 0 c).arrAt 3 cfg0.N = res m c := by
  refine (dats m 0 c).arrAt_eq_of_cover 3 _ (fun t hf => ?_) (fun i => (Value.covered_iff3 i).2 (by
    have h0 : (i 0).val < 8192 := (i 0).isLt
    have h1 : (i 1).val < 5120 := (i 1).isLt
    omega))
  rw [Value.flushed3]
  funext y
  have e := idx3 t
  have hb0 : (((cfg0.win 3).blk t).view.emb y 0).val = win0_3.index t (0 : Fin 2) * 512 + 1 * (y 0).val := rfl
  have hb1 : (((cfg0.win 3).blk t).view.emb y 1).val = win0_3.index t (1 : Fin 2) * 1024 + 1 * (y 1).val := rfl
  have h0 : (((cfg0.win 3).blk t).view.emb y 0).val = 512 * (t.val / 5) + (y 0).val := by rw [hb0, congrFun e 0]; show t.val / 5 * 512 + _ = _; omega
  have h1 : (((cfg0.win 3).blk t).view.emb y 1).val = 1024 * (t.val % 5) + (y 1).val := by rw [hb1, congrFun e 1]; show t.val % 5 * 1024 + _ = _; omega
  show (outsAt0 m c t.val t.isLt).1 ((cfg0.win 3).xinj (grid0.coords t) y) = inprojF (m ((c : Thread nD τ).loc main_arg0)) (m ((c : Thread nD τ).loc main_arg1)) (m ((c : Thread nD τ).loc main_arg2)) (((cfg0.win 3).blk t).view.emb y 0).val (((cfg0.win 3).blk t).view.emb y 1).val
  rw [h0, h1]
  refine Eq.trans (congrArg (outsAt0 m c t.val t.isLt).1 ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr m c), (h c).2⟩) (Value.run_blocks m ρ)

end Cert.InprojIdeal.Inproj
-- ==== Proof.InprojRef.lean ====
module

public import proofs.«01_k».proof.Proof.Gen.InprojRefIdeal.Run
public import proofs.«01_k».proof.Proof.InprojSpec

@[expose] public section

set_option maxRecDepth 16384

noncomputable section

namespace Cert.InprojRefIdeal.Inproj

open Cert.Rd
open Cert.InprojIdeal.Inproj (gelu projF inprojF)
open Cert.InprojRefIdeal Cert.InprojRefIdeal.Gen Idealize.ShloMosaic Idealize.ShloMosaic.TcCoe Idealize.SL.Sem Idealize.ShloMosaic.Tactic

/-- The reference's normalised rows. -/
def nrm (x : FVec Ideal S8192x2048 .f32) (g : FVec Ideal S4x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S4x2048_S1x2048_0_0) shapeCasts_S1x2048_S2048)))

/-- The reference's projection of normalised rows. -/
def proj (h : FVec Ideal S8192x2048 .f32) (w : FVec Ideal S2x2048x5120 .f32) : FVec Ideal S8192x5120 .f32 :=
  Host.dotGeneral dot_S8192x2048_S2048x5120_S8192x5120_1_0_0_1_n_n none h (shapeCast _ (extractStridedSlice S1x2048x5120 ![0, 0, 0] w slices_S2x2048x5120_S1x2048x5120_0_0_0) shapeCasts_S1x2048x5120_S2048x5120)

/-- The reference's activation. -/
def gel (u : FVec Ideal S8192x1024 .f32) : FVec Ideal S8192x1024 .f32 :=
  mulf u (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf u (mulf (broadcastInDim S8192x1024 ![] bcast_S_S8192x1024 (constant S_ .f32 0x3D372713#32)) (mulf (mulf u u) u)))))))

/-- The reference's five parts side by side. -/
def cat (p : FVec Ideal S8192x5120 .f32) : FVec Ideal S8192x5120 .f32 :=
  concatenate S8192x5120 1 [⟨S8192x1024, (gel (extractStridedSlice S8192x1024 ![0, 0] p slices_S8192x5120_S8192x1024_0_0) : (⟨S8192x1024, .f32⟩ : BufTy).Contents (Elt Ideal))⟩, ⟨S8192x1024, (gel (extractStridedSlice S8192x1024 ![0, 1024] p slices_S8192x5120_S8192x1024_0_1024) : (⟨S8192x1024, .f32⟩ : BufTy).Contents (Elt Ideal))⟩, ⟨S8192x1024, ((extractStridedSlice S8192x1024 ![0, 2048] p slices_S8192x5120_S8192x1024_0_2048) : (⟨S8192x1024, .f32⟩ : BufTy).Contents (Elt Ideal))⟩, ⟨S8192x1024, ((extractStridedSlice S8192x1024 ![0, 3072] p slices_S8192x5120_S8192x1024_0_3072) : (⟨S8192x1024, .f32⟩ : BufTy).Contents (Elt Ideal))⟩, ⟨S8192x1024, ((extractStridedSlice S8192x1024 ![0, 4096] p slices_S8192x5120_S8192x1024_0_4096) : (⟨S8192x1024, .f32⟩ : BufTy).Contents (Elt Ideal))⟩] concatenates_S8192x1024_S8192x1024_S8192x1024_S8192x1024_S8192x1024_S8192x5120_d1

theorem nrm_ix (x : FVec Ideal S8192x2048 .f32) (g : FVec Ideal S4x2048 .f32) (a : Fin 8192) (d : Fin 2048) :
    nrm x g (ix2 a d) = rowNorm (rd2 x) (rd2 g 0) a.val d.val := by
  pointwise [nrm]
  unfold rowNorm
  simp only [rd2_ix2 x, rd2_ix2 g]
  rfl

theorem proj_ix (x : FVec Ideal S8192x2048 .f32) (g : FVec Ideal S4x2048 .f32) (w : FVec Ideal S2x2048x5120 .f32) (a : Fin 8192) (n : Fin 5120) :
    proj (nrm x g) w (ix2 a n) = projF x g w a.val n.val := by
  have h := nrm_ix x g a
  generalize nrm x g = y at h ⊢
  pointwise [proj]
  unfold projF
  simp only [h, rd3_ix3 w]
  rfl

theorem gel_ix (u : FVec Ideal S8192x1024 .f32) (a : Fin 8192) (d : Fin 1024) : gel u (ix2 a d) = gelu (u (ix2 a d)) := by
  unfold gelu
  pointwise [gel]
  rw [← mul_assoc, mul_comm (u _) (Ideal.ofBits _ _)]

theorem cat_ix (p : FVec Ideal S8192x5120 .f32) (a : Fin 8192) (n : Fin 5120) :
    cat p (ix2 a n) = if n.val / 1024 < 2 then gelu (p (ix2 a n)) else p (ix2 a n) := by
  unfold cat
  have h0 : ∀ d : Fin 1024, gel (extractStridedSlice S8192x1024 ![0, 0] p slices_S8192x5120_S8192x1024_0_0) (ix2 a d) = gelu (p (ix2 a ⟨d.val, by omega⟩)) := fun d =>
    (gel_ix _ a d).trans (congrArg gelu (by pointwise []))
  have h1 : ∀ d : Fin 1024, gel (extractStridedSlice S8192x1024 ![0, 1024] p slices_S8192x5120_S8192x1024_0_1024) (ix2 a d) = gelu (p (ix2 a ⟨1024 + d.val, by omega⟩)) := fun d =>
    (gel_ix _ a d).trans (congrArg gelu (by pointwise []))
  generalize gel (extractStridedSlice S8192x1024 ![0, 0] p slices_S8192x5120_S8192x1024_0_0) = q0 at h0 ⊢
  generalize gel (extractStridedSlice S8192x1024 ![0, 1024] p slices_S8192x5120_S8192x1024_0_1024) = q1 at h1 ⊢
  pointwise []
  have hp : ∀ k : Fin 5120, k.val = n.val → p (ix2 a k) = p (ix2 a n) := fun k e => by rw [Fin.ext e]
  have hn := n.isLt
  by_cases c0 : n.val < 1024
  · exact (dif_pos c0).trans (((h0 _).trans (congrArg gelu (hp _ rfl))).trans (if_pos (show n.val / 1024 < 2 by omega)).symm)
  refine (dif_neg c0).trans ?_
  by_cases c1 : n.val - 1024 < 1024
  · exact (dif_pos c1).trans (((h1 _).trans (congrArg gelu (hp _ (by show 1024 + (n.val - 1024) = n.val; omega)))).trans (if_pos (show n.val / 1024 < 2 by omega)).symm)
  refine Eq.trans ?_ (if_neg (show ¬n.val / 1024 < 2 by omega)).symm
  refine (dif_neg c1).trans ?_
  by_cases c2 : n.val - 1024 - 1024 < 1024
  · exact (dif_pos c2).trans <| hp _ (by show 2048 + _ = n.val; omega)
  refine (dif_neg c2).trans ?_
  by_cases c3 : n.val - 1024 - 1024 - 1024 < 1024
  · exact (dif_pos c3).trans <| hp _ (by show 3072 + _ = n.val; omega)
  exact (dif_neg c3).trans <| hp _ (by show 4096 + _ = n.val; omega)

theorem out_ix (x : FVec Ideal S8192x2048 .f32) (g : FVec Ideal S4x2048 .f32) (w : FVec Ideal S2x2048x5120 .f32) (a : Fin 8192) (n : Fin 5120) :
    cat (proj (nrm x g) w) (ix2 a n) = inprojF x g w a.val n.val := by
  rw [cat_ix, proj_ix]
  rfl

theorem res_eq (m : (ℓ : Loc nD τ sig) → Buf (Elt Ideal) ℓ) (c : Dev nD) :
    Cert.InprojRefIdeal.Value.res_main_v49 m c = cat (proj (nrm (m ((c.tc : Thread nD τ).loc main_arg0)) (m ((c.tc : Thread nD τ).loc main_arg1))) (m ((c.tc : Thread nD τ).loc main_arg2))) := rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (fun i => inprojF (m ((c.tc : Thread nD τ).loc main_arg0)) (m ((c.tc : Thread nD τ).loc main_arg1)) (m ((c.tc : Thread nD τ).loc main_arg2)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => by
      rw [show i = ix2 (i 0) (i 1) from eq_ix2 i, res_eq]
      exact out_ix _ _ _ _ _), (h c).2⟩) (Cert.InprojRefIdeal.Value.run m ρ)

end Cert.InprojRefIdeal.Inproj
-- ==== Proof.PairInproj.lean ====
module

public import proofs.«01_k».proof.Defs
public import proofs.«01_k».proof.Proof.Gen.Inproj.Frame
public import proofs.«01_k».proof.Proof.Gen.InprojIdeal.Frame
public import proofs.«01_k».proof.Proof.Gen.InprojRefIdeal.Run
public import proofs.«01_k».proof.Proof.InprojRun
public import proofs.«01_k».proof.Proof.InprojRef
public import Idealize.ShloMosaic.Lib.Quiescent

@[expose] public section

noncomputable section

namespace Cert.Proof

open Idealize.ShloMosaic Idealize.SL.Sem

theorem frame_Inproj : Cert.quiescent_Inproj (hInproj := Cert.Inproj.Gen.facts) :=
  fun m ρ _ => Cert.Inproj.Gen.frame m ρ

theorem frame_InprojIdeal : Cert.quiescent_InprojIdeal (hInprojIdeal := Cert.InprojIdeal.Gen.facts) :=
  fun m ρ _ => Cert.InprojIdeal.Gen.frame m ρ

theorem frame_InprojRefIdeal : Cert.quiescent_InprojRefIdeal (hInprojRefIdeal := Cert.InprojRefIdeal.Gen.facts) :=
  fun m ρ _ => (θ_run Cert.InprojRefIdeal.defs _ _).mono (fun r h => ⟨fun c => (h c).2, Idealize.ShloMosaic.sem_eq_zero_of_no_sems (by decide) r.2⟩) (Cert.InprojRefIdeal.Value.run (F := Ideal) m ρ)

/-- Kernel and reference end with the same result, the array the formula gives. -/
theorem alg_Inproj : Cert.algebraic_InprojIdeal_InprojRefIdeal (hInprojIdeal := Cert.InprojIdeal.Gen.facts) (hInprojRefIdeal := Cert.InprojRefIdeal.Gen.facts) := by
  intro m ρ m' ρ' _ hagree
  refine ⟨fun c => Cert.InprojIdeal.Inproj.res m c, Cert.InprojIdeal.Inproj.run m ρ, (θ_run Cert.InprojRefIdeal.defs _ _).mono (fun r h c => ?_) (Cert.InprojRefIdeal.Inproj.run m' ρ')⟩
  obtain ⟨a0, a1, a2⟩ := hagree c
  obtain ⟨e0, hk⟩ := h c
  simp only [a0, a1, a2] at e0
  exact ⟨e0, hk⟩

end Cert.Proof

end
-- ==== Proof.PleSpec.lean ====
module

public import proofs.«01_k».proof.Proof.Gen.PleIdeal.Skeleton
public import proofs.«01_k».proof.Proof.Read

@[expose] public section

set_option maxRecDepth 16384

noncomputable section

namespace Cert.PleIdeal.Ple

open Cert.Rd
open Cert.PleIdeal Cert.PleIdeal.Gen Idealize.ShloMosaic Idealize.ShloMosaic.TcCoe Idealize.SL.Sem Idealize.ShloMosaic.Tactic

/-- The kernel's normalised rows. -/
theorem pay1_at (x : Vec Ideal S512x2048 .f32) (g : Vec Ideal S1x2048 .f32) (a : Fin 512) (d : Fin 2048) :
    k0_pay1 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay1]

/-- The kernel's block: the input plus the gated projection. -/
theorem pay2_at (h : Vec Ideal S512x2048 .bf16) (wg : Vec Ideal S2048x1024 .bf16) (x : Vec Ideal S512x1024 .f32) (p : Vec Ideal S512x256 .f32) (wp : Vec Ideal S256x1024 .bf16) (a : Fin 512) (d : Fin 1024) :
    k0_pay2 h wg x p wp (ix2 a d) = x (ix2 a d) + Ideal.div 1 (1 + Ideal.exp (-∑ k : Fin 2048, h (ix2 a k) * wg (ix2 k d))) * ∑ k : Fin 256, p (ix2 a k) * wp (ix2 k d) := by
  pointwise [k0_pay2]
  rw [zero_sub]

/-- The per-layer embedding's result. -/
def pleF (x : S8192x2048.Idx → EReal) (p : S4x4x2048x256.Idx → EReal) (g : S4x2048.Idx → EReal) (wg : S4x2048x2048.Idx → EReal) (wp : S4x256x2048.Idx → EReal) (r d : ℕ) : EReal :=
  rd2 x r d + Ideal.div 1 (1 + Ideal.exp (-∑ k : Fin 2048, rowNorm (rd2 x) (rd2 g 0) r k.val * rd3 wg 0 k.val d)) * ∑ k : Fin 256, rd4 p 0 (r / 2048) (r % 2048) k.val * rd3 wp 0 k.val d

end Cert.PleIdeal.Ple
-- ==== Proof.PleRun.lean ====
module

public import proofs.«01_k».proof.Proof.Gen.PleIdeal.Value
public import proofs.«01_k».proof.Proof.PleSpec
public import Idealize.ShloMosaic.Lib.Pipeline.ValueKit.Tiles
public import Idealize.ShloMosaic.Lib.Pipeline.ValueKit.Point

@[expose] public section

set_option maxRecDepth 16384

noncomputable section

namespace Cert.PleIdeal.Ple

open Cert.Rd
open Cert.PleIdeal Cert.PleIdeal.Gen Idealize.ShloMosaic Idealize.ShloMosaic.TcCoe Idealize.SL.Sem Idealize.ShloMosaic.Tactic

variable (m : (ℓ : Loc nD τ sig) → Buf (Elt Ideal) ℓ)

/-! What each case leaves in the output block and in the normalised rows' buffer. -/

theorem out_A_eq (c : Dev nD) (i : grid0.Coords) (arg2 : Memref sig .tc .vmem S512x2048 .f32) (harg2 : arg2.IsWhole) (arg3 : Memref sig .tc .vmem S512x1024 .f32) (harg3 : arg3.IsWhole) (arg4 : Memref sig .tc .vmem S512x256 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S256x1024 .bf16) (harg7 : arg7.IsWhole) (arg8 : Memref sig .tc .vmem S512x1024 .f32) (harg8 : arg8.IsWhole) (arg9 : Memref sig .tc .vmem S512x2048 .bf16) (harg9 : arg9.IsWhole) (hc0 : cond0_0 i)
    (x0 : Vec Ideal S512x2048 .f32) (x1 : Vec Ideal S512x1024 .f32) (x2 : Vec Ideal S512x256 .f32) (x3 : Vec Ideal S1x2048 .f32) (x4 : Vec Ideal S2048x1024 .bf16) (x5 : Vec Ideal S256x1024 .bf16) :
    out0_A_6 c i arg2 harg2 arg3 harg3 arg4 harg4 arg5 harg5 arg6 harg6 arg7 harg7 arg8 harg8 arg9 harg9 hc0 x0 x1 x2 x3 x4 x5 = k0_pay2 (k0_pay1 x0 x3) x4 x1 x2 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_unit_zero (S := S512x1024) hz2]
  simp only [View.readAt_eq_ld, harg2.read_unread, harg3.read_unread, harg4.read_unread, harg5.read_unread, harg6.read_unread, harg7.read_unread, harg8.read_unread, harg9.read_unread, View.ld_unit_zero (S := S512x2048) hz2, View.ld_unit_zero (S := S512x1024) hz2, View.ld_unit_zero (S := S512x256) hz2, View.ld_unit_zero (S := S1x2048) hz2, View.ld_unit_zero (S := S2048x1024) hz2, View.ld_unit_zero (S := S256x1024) hz2, View.readCov_unit_zero (S := S512x2048) _ hz2, shapeCast_self]

theorem sout_A_eq (c : Dev nD) (i : grid0.Coords) (arg2 : Memref sig .tc .vmem S512x2048 .f32) (harg2 : arg2.IsWhole) (arg3 : Memref sig .tc .vmem S512x1024 .f32) (harg3 : arg3.IsWhole) (arg4 : Memref sig .tc .vmem S512x256 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S256x1024 .bf16) (harg7 : arg7.IsWhole) (arg8 : Memref sig .tc .vmem S512x1024 .f32) (harg8 : arg8.IsWhole) (arg9 : Memref sig .tc .vmem S512x2048 .bf16) (harg9 : arg9.IsWhole) (hc0 : cond0_0 i)
    (x0 : Vec Ideal S512x2048 .f32) (x1 : Vec Ideal S512x1024 .f32) (x2 : Vec Ideal S512x256 .f32) (x3 : Vec Ideal S1x2048 .f32) (x4 : Vec Ideal S2048x1024 .bf16) (x5 : Vec Ideal S256x1024 .bf16) :
    sout0_A_0 c i arg2 harg2 arg3 harg3 arg4 harg4 arg5 harg5 arg6 harg6 arg7 harg7 arg8 harg8 arg9 harg9 hc0 x0 x1 x2 x3 x4 x5 = k0_pay1 x0 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_unit_zero (S := S512x2048) hz2]
  simp only [View.readAt_eq_ld, harg2.read_unread, harg3.read_unread, harg4.read_unread, harg5.read_unread, harg6.read_unread, harg7.read_unread, harg8.read_unread, harg9.read_unread, View.ld_unit_zero (S := S512x2048) hz2, View.ld_unit_zero (S := S512x1024) hz2, View.ld_unit_zero (S := S512x256) hz2, View.ld_unit_zero (S := S1x2048) hz2, View.ld_unit_zero (S := S2048x1024) hz2, View.ld_unit_zero (S := S256x1024) hz2, shapeCast_self]

theorem out_B_eq (c : Dev nD) (i : grid0.Coords) (arg2 : Memref sig .tc .vmem S512x2048 .f32) (harg2 : arg2.IsWhole) (arg3 : Memref sig .tc .vmem S512x1024 .f32) (harg3 : arg3.IsWhole) (arg4 : Memref sig .tc .vmem S512x256 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S256x1024 .bf16) (harg7 : arg7.IsWhole) (arg8 : Memref sig .tc .vmem S512x1024 .f32) (harg8 : arg8.IsWhole) (arg9 : Memref sig .tc .vmem S512x2048 .bf16) (harg9 : arg9.IsWhole) (hc0 : ¬cond0_0 i)
    (x0 : Vec Ideal S512x2048 .f32) (x1 : Vec Ideal S512x1024 .f32) (x2 : Vec Ideal S512x256 .f32) (x3 : Vec Ideal S1x2048 .f32) (x4 : Vec Ideal S2048x1024 .bf16) (x5 : Vec Ideal S256x1024 .bf16) (xs0 : Vec Ideal S512x2048 .bf16) :
    out0_B_6 c i arg2 harg2 arg3 harg3 arg4 harg4 arg5 harg5 arg6 harg6 arg7 harg7 arg8 harg8 arg9 harg9 hc0 x0 x1 x2 x3 x4 x5 xs0 = k0_pay2 xs0 x4 x1 x2 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  try sl_unfold_words
  rw [View.canon_unit_zero (S := S512x1024) hz2]
  simp only [View.readAt_eq_ld, harg2.read_unread, harg3.read_unread, harg4.read_unread, harg5.read_unread, harg6.read_unread, harg7.read_unread, harg8.read_unread, harg9.read_unread, View.ld_unit_zero (S := S512x2048) hz2, View.ld_unit_zero (S := S512x1024) hz2, View.ld_unit_zero (S := S512x256) hz2, View.ld_unit_zero (S := S1x2048) hz2, View.ld_unit_zero (S := S2048x1024) hz2, View.ld_unit_zero (S := S256x1024) hz2, shapeCast_self]

theorem scr_A (c : Dev nD) (t : Fin cfg0.N) (h0 : t.val % 2 = 0) : (outsAt0 m c t.val t.isLt).2 = k0_pay1 (iblk m c 0 t) (iblk m c 3 t) := by
  rw [outsAt0_A m c t h0]
  dsimp only
  rw [sout_A_eq]

theorem scr_B (c : Dev nD) (t : Fin cfg0.N) (h0 : ¬t.val % 2 = 0) : (outsAt0 m c t.val t.isLt).2 = (outsAt0 m c (t.val - 1) (Nat.lt_of_le_of_lt (Nat.sub_le _ _) t.isLt)).2 := by
  rw [outsAt0_B m c t h0]
  rfl

theorem out_eq (c : Dev nD) (t : Fin cfg0.N) : (outsAt0 m c t.val t.isLt).1 = k0_pay2 (outsAt0 m c t.val t.isLt).2 (iblk m c 4 t) (iblk m c 1 t) (iblk m c 2 t) (iblk m c 5 t) := by
  by_cases h0 : t.val % 2 = 0
  · rw [scr_A m c t h0, outsAt0_A m c t h0]
    dsimp only
    rw [out_A_eq]
  · rw [scr_B m c t h0, outsAt0_B m c t h0]
    dsimp only
    rw [out_B_eq]

/-! The blocks. -/

theorem idx0 : ∀ t : Fin cfg0.N, win0_0.index t = ![t.val / 2, 0] := (by decide +kernel : ∀ t : Fin grid0.N, _)
theorem idx1 : ∀ t : Fin cfg0.N, win0_1.index t = ![t.val / 2, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![0, t.val % 2] := (by decide +kernel : ∀ t : Fin grid0.N, _)
theorem idx6 : ∀ t : Fin cfg0.N, win0_6.index t = ![t.val / 2, t.val % 2] := (by decide +kernel : ∀ t : Fin grid0.N, _)

theorem N_le (t : Fin cfg0.N) : t.val < 32 := t.isLt

theorem ib0 (c : Dev nD) (t : Fin cfg0.N) (a : Fin 512) (b : Fin 2048) :
    (iblk m c 0 t : Vec Ideal S512x2048 .f32) (ix2 a b) = rd2 (m ((c : Thread nD τ).loc main_arg0)) (512 * (t.val / 2) + a.val) b.val := by
  have ht := N_le t
  unfold rd2; rw [dif_pos ⟨by omega, by omega⟩]
  blk_ext [iblk, V, idx0 t]

theorem ib1 (c : Dev nD) (t : Fin cfg0.N) (a : Fin 512) (b : Fin 1024) :
    (iblk m c 1 t : Vec Ideal S512x1024 .f32) (ix2 a b) = rd2 (m ((c : Thread nD τ).loc main_arg0)) (512 * (t.val / 2) + a.val) (1024 * (t.val % 2) + b.val) := by
  have ht := N_le t
  unfold rd2; rw [dif_pos ⟨by omega, by omega⟩]
  blk_ext [iblk, V, idx1 t]

theorem ib2 (c : Dev nD) (t : Fin cfg0.N) (a : Fin 512) (b : Fin 256) :
    (iblk m c 2 t : Vec Ideal S512x256 .f32) (ix2 a b) = rd4 (m ((c : Thread nD τ).loc main_arg1)) 0 ((512 * (t.val / 2) + a.val) / 2048) ((512 * (t.val / 2) + a.val) % 2048) b.val := by
  have ht := N_le t
  unfold rd4; rw [dif_pos ⟨by omega, by omega, by omega, by omega⟩]
  blk_ext! [iblk, idx2 t]

theorem ib3 (c : Dev nD) (t : Fin cfg0.N) (b : Fin 2048) :
    (iblk m c 3 t : Vec Ideal S1x2048 .f32) (ix2 0 b) = rd2 (m ((c : Thread nD τ).loc main_arg2)) 0 b.val := by
  have ht := N_le t
  unfold rd2; rw [dif_pos ⟨by omega, by omega⟩]
  blk_ext! [iblk, idx3 t]

theorem ib4 (c : Dev nD) (t : Fin cfg0.N) (a : Fin 2048) (b : Fin 1024) :
    (iblk m c 4 t : Vec Ideal S2048x1024 .bf16) (ix2 a b) = rd3 (m ((c : Thread nD τ).loc main_arg3)) 0 a.val (1024 * (t.val % 2) + b.val) := by
  have ht := N_le t
  unfold rd3; rw [dif_pos ⟨by omega, by omega, by omega⟩]
  blk_ext! [iblk, idx4 t]

theorem ib5 (c : Dev nD) (t : Fin cfg0.N) (a : Fin 256) (b : Fin 1024) :
    (iblk m c 5 t : Vec Ideal S256x1024 .bf16) (ix2 a b) = rd3 (m ((c : Thread nD τ).loc main_arg4)) 0 a.val (1024 * (t.val % 2) + b.val) := by
  have ht := N_le t
  unfold rd3; rw [dif_pos ⟨by omega, by omega, by omega⟩]
  blk_ext! [iblk, idx5 t]

/-- Each point finds the normalised rows of its row block in the buffer the first point of the block fills. -/
theorem scr (c : Dev nD) : ∀ (n : ℕ) (hn : n < cfg0.N) (a : Fin 512) (d : Fin 2048),
    (outsAt0 m c n hn).2 (ix2 a d) = rowNorm (rd2 (m ((c : Thread nD τ).loc main_arg0))) (rd2 (m ((c : Thread nD τ).loc main_arg2)) 0) (512 * (n / 2) + a.val) d.val := by
  have hA : ∀ (t : Fin cfg0.N) (a : Fin 512) (d : Fin 2048), k0_pay1 (iblk m c 0 t) (iblk m c 3 t) (ix2 a d) = rowNorm (rd2 (m ((c : Thread nD τ).loc main_arg0))) (rd2 (m ((c : Thread nD τ).loc main_arg2)) 0) (512 * (t.val / 2) + a.val) d.val := by
    intro t a d
    refine (pay1_at (iblk m c 0 t) (iblk m c 3 t) a d).trans ?_
    have h0 := ib0 m c t
    have h1 := ib3 m c t
    generalize (iblk m c 0 t : Vec Ideal S512x2048 .f32) = x at h0 ⊢
    generalize (iblk m c 3 t : Vec Ideal S1x2048 .f32) = g at h1 ⊢
    unfold rowNorm
    simp only [h0, h1]
  intro n
  induction n with
  | zero =>
    intro hn a d
    exact (congrFun (scr_A m c ⟨0, hn⟩ (Nat.zero_mod _)) (ix2 a d)).trans (hA ⟨0, hn⟩ a d)
  | succ n ih =>
    intro hn a d
    by_cases h : (n + 1) % 2 = 0
    · exact (congrFun (scr_A m c ⟨n + 1, hn⟩ h) (ix2 a d)).trans (hA ⟨n + 1, hn⟩ a d)
    · refine (congrFun (scr_B m c ⟨n + 1, hn⟩ h) (ix2 a d)).trans ((ih (Nat.lt_of_succ_lt hn) a d).trans ?_)
      rw [show (n + 1) / 2 = n / 2 by omega]

/-- One block of the result. -/
theorem block (c : Dev nD) (t : Fin cfg0.N) (a : Fin 512) (d : Fin 1024) :
    (outsAt0 m c t.val t.isLt).1 (ix2 a d) = pleF (m ((c : Thread nD τ).loc main_arg0)) (m ((c : Thread nD τ).loc main_arg1)) (m ((c : Thread nD τ).loc main_arg2)) (m ((c : Thread nD τ).loc main_arg3)) (m ((c : Thread nD τ).loc main_arg4)) (512 * (t.val / 2) + a.val) (1024 * (t.val % 2) + d.val) := by
  refine (congrFun (out_eq m c t) (ix2 a d)).trans ((pay2_at _ (iblk m c 4 t) (iblk m c 1 t) (iblk m c 2 t) (iblk m c 5 t) a d).trans ?_)
  have hs := scr m c t.val t.isLt a
  have h1 := ib1 m c t
  have h2 := ib2 m c t
  have h4 := ib4 m c t
  have h5 := ib5 m c t
  generalize (outsAt0 m c t.val t.isLt).2 = s at hs ⊢
  generalize (iblk m c 1 t : Vec Ideal S512x1024 .f32) = x at h1 ⊢
  generalize (iblk m c 2 t : Vec Ideal S512x256 .f32) = p at h2 ⊢
  generalize (iblk m c 4 t : Vec Ideal S2048x1024 .bf16) = wg at h4 ⊢
  generalize (iblk m c 5 t : Vec Ideal S256x1024 .bf16) = wp at h5 ⊢
  unfold pleF
  simp only [hs, h1, h2, h4, h5]

/-- The array the formula gives. -/
def res (c : Dev nD) : Buf (Elt Ideal) ((c : Thread nD τ).loc main_v12) := fun i => pleF (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1).val

theorem arr (c : Dev nD) : (dats m 0 c).arrAt 6 cfg0.N = res m c := by
  refine (dats m 0 c).arrAt_eq_of_cover 6 _ (fun t hf => ?_) (fun i => (Value.covered_iff6 i).2 (by
    have h0 : (i 0).val < 8192 := (i 0).isLt
    have h1 : (i 1).val < 2048 := (i 1).isLt
    omega))
  rw [Value.flushed6]
  funext y
  have e := idx6 t
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have h0 : (((cfg0.win 6).blk t).view.emb y 0).val = 512 * (t.val / 2) + (y 0).val := by rw [hb0, congrFun e 0]; show t.val / 2 * 512 + _ = _; omega
  have h1 : (((cfg0.win 6).blk t).view.emb y 1).val = 1024 * (t.val % 2) + (y 1).val := by rw [hb1, congrFun e 1]; show t.val % 2 * 1024 + _ = _; omega
  show (outsAt0 m c t.val t.isLt).1 ((cfg0.win 6).xinj (grid0.coords t) y) = pleF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y 0).val (((cfg0.win 6).blk t).view.emb y 1).val
  rw [h0, h1]
  refine Eq.trans (congrArg (outsAt0 m c t.val t.isLt).1 ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v12) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr m c), (h c).2⟩) (Value.run_blocks m ρ)

end Cert.PleIdeal.Ple
-- ==== Proof.PleRef.lean ====
module

public import proofs.«01_k».proof.Proof.Gen.PleRefIdeal.Run
public import proofs.«01_k».proof.Proof.PleSpec

@[expose] public section

set_option maxRecDepth 16384

noncomputable section

namespace Cert.PleRefIdeal.Ple

open Cert.Rd
open Cert.PleIdeal.Ple (pleF)
open Cert.PleRefIdeal Cert.PleRefIdeal.Gen Idealize.ShloMosaic Idealize.ShloMosaic.TcCoe Idealize.SL.Sem Idealize.ShloMosaic.Tactic

/-- The reference normalised rows. -/
def nrm (x : FVec Ideal S4x2048x2048 .f32) (g : FVec Ideal S4x2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S4x2048_S1x2048_0_0) shapeCasts_S1x2048_S2048)))

/-- The reference result, from its arguments and the normalised rows. -/
def out (x : FVec Ideal S8192x2048 .f32) (n : FVec Ideal S4x2048x2048 .f32) (p : FVec Ideal S4x4x2048x256 .f32) (wg : FVec Ideal S4x2048x2048 .f32) (wp : FVec Ideal S4x256x2048 .f32) : FVec Ideal S8192x2048 .f32 :=
  shapeCast _ (addf (shapeCast _ x shapeCasts_S8192x2048_S4x2048x2048) (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (Host.dotGeneral dot_S4x2048x2048_S2048x2048_S4x2048x2048_2_0_01_1_n_n none n (shapeCast _ (extractStridedSlice S1x2048x2048 ![0, 0, 0] wg slices_S4x2048x2048_S1x2048x2048_0_0_0) shapeCasts_S1x2048x2048_S2048x2048)))))) (Host.dotGeneral dot_S4x2048x256_S256x2048_S4x2048x2048_2_0_01_1_n_n none (shapeCast _ (extractStridedSlice S1x4x2048x256 ![0, 0, 0, 0] p slices_S4x4x2048x256_S1x4x2048x256_0_0_0_0) shapeCasts_S1x4x2048x256_S4x2048x256) (shapeCast _ (extractStridedSlice S1x256x2048 ![0, 0, 0] wp slices_S4x256x2048_S1x256x2048_0_0_0) shapeCasts_S1x256x2048_S256x2048)))) shapeCasts_S4x2048x2048_S8192x2048

theorem nrm_ix (x : FVec Ideal S8192x2048 .f32) (g : FVec Ideal S4x2048 .f32) (a : Fin 8192) (d : Fin 2048) :
    nrm (shapeCast _ x shapeCasts_S8192x2048_S4x2048x2048) g (ix3 ⟨a.val / 2048, by omega⟩ ⟨a.val % 2048, by omega⟩ d) = rowNorm (rd2 x) (rd2 g 0) a.val d.val := by
  have e : a.val / 2048 * 2048 + a.val % 2048 = a.val := by omega
  pointwise [nrm]
  unfold rowNorm
  simp only [rd2_ix2 x, rd2_ix2 g, e]
  rfl

theorem out_ix (x : FVec Ideal S8192x2048 .f32) (n : FVec Ideal S4x2048x2048 .f32) (p : FVec Ideal S4x4x2048x256 .f32) (g : FVec Ideal S4x2048 .f32) (wg : FVec Ideal S4x2048x2048 .f32) (wp : FVec Ideal S4x256x2048 .f32) (a : Fin 8192) (d : Fin 2048)
    (hn : ∀ k : Fin 2048, n (ix3 ⟨a.val / 2048, by omega⟩ ⟨a.val % 2048, by omega⟩ k) = rowNorm (rd2 x) (rd2 g 0) a.val k.val) :
    out x n p wg wp (ix2 a d) = pleF x p g wg wp a.val d.val := by
  pointwise [out]
  simp only [rd2_ix2 x, rd3_ix3 wg, rd3_ix3 wp, rd4_ix4 p, hn]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = (fun i => pleF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (funext fun i => by
      rw [show i = ix2 (i 0) (i 1) from eq_ix2 i]
      exact out_ix _ (nrm _ _) _ _ _ _ _ _ fun k => nrm_ix _ _ _ k), (h c).2⟩) (Cert.PleRefIdeal.Value.run m ρ)

end Cert.PleRefIdeal.Ple
-- ==== Proof.PairPle.lean ====
module

public import proofs.«01_k».proof.Defs
public import proofs.«01_k».proof.Proof.Gen.Ple.Frame
public import proofs.«01_k».proof.Proof.Gen.PleIdeal.Frame
public import proofs.«01_k».proof.Proof.Gen.PleRefIdeal.Run
public import proofs.«01_k».proof.Proof.PleRun
public import proofs.«01_k».proof.Proof.PleRef
public import Idealize.ShloMosaic.Lib.Quiescent

@[expose] public section

noncomputable section

namespace Cert.Proof

open Idealize.ShloMosaic Idealize.SL.Sem

theorem frame_Ple : Cert.quiescent_Ple (hPle := Cert.Ple.Gen.facts) :=
  fun m ρ _ => Cert.Ple.Gen.frame m ρ

theorem frame_PleIdeal : Cert.quiescent_PleIdeal (hPleIdeal := Cert.PleIdeal.Gen.facts) :=
  fun m ρ _ => Cert.PleIdeal.Gen.frame m ρ

theorem frame_PleRefIdeal : Cert.quiescent_PleRefIdeal (hPleRefIdeal := Cert.PleRefIdeal.Gen.facts) :=
  fun m ρ _ => (θ_run Cert.PleRefIdeal.defs _ _).mono (fun r h => ⟨fun c => (h c).2, Idealize.ShloMosaic.sem_eq_zero_of_no_sems (by decide) r.2⟩) (Cert.PleRefIdeal.Value.run (F := Ideal) m ρ)

/-- Kernel and reference end with the same result, the array the formula gives. -/
theorem alg_Ple : Cert.algebraic_PleIdeal_PleRefIdeal (hPleIdeal := Cert.PleIdeal.Gen.facts) (hPleRefIdeal := Cert.PleRefIdeal.Gen.facts) := by
  intro m ρ m' ρ' _ hagree
  refine ⟨fun c => Cert.PleIdeal.Ple.res m c, Cert.PleIdeal.Ple.run m ρ, (θ_run Cert.PleRefIdeal.defs _ _).mono (fun r h c => ?_) (Cert.PleRefIdeal.Ple.run m' ρ')⟩
  obtain ⟨a0, a1, a2, a3, a4⟩ := hagree c
  obtain ⟨e0, hk⟩ := h c
  simp only [a0, a1, a2, a3, a4] at e0
  exact ⟨e0, hk⟩

end Cert.Proof

end
-- ==== Proof.OutSpec.lean ====
module

public import proofs.«01_k».proof.Proof.Gen.OutIdeal.Skeleton
public import proofs.«01_k».proof.Proof.Read

@[expose] public section

set_option maxRecDepth 16384

noncomputable section

namespace Cert.OutIdeal.Out

open Cert.Rd
open Cert.OutIdeal Cert.OutIdeal.Gen Idealize.ShloMosaic Idealize.ShloMosaic.TcCoe Idealize.SL.Sem Idealize.ShloMosaic.Tactic

/-- The kernel's block: the gated rows against the weights, on top of the input. -/
theorem pay1_at (z : Vec Ideal S1x256x16x128 .f32) (x g : Vec Ideal S256x2048 .f32) (w : Vec Ideal S2048x2048 .bf16) (a : Fin 256) (d : Fin 2048) :
    k0_pay1 z x g w (ix2 a d) = x (ix2 a d) + ∑ k : Fin 2048, z (ix4 0 a ⟨k.val / 128, by omega⟩ ⟨k.val % 128, by omega⟩) * g (ix2 a k) * w (ix2 k d) := by
  pointwise [k0_pay1]

/-- The out-projection's result. -/
def outF (z : S1x2048x64x128.Idx → EReal) (g x : S8192x2048.Idx → EReal) (w : S2x2048x2048.Idx → EReal) (r d : ℕ) : EReal :=
  rd2 x r d + ∑ k : Fin 2048, rd4 z 0 (r % 2048) (r / 2048 * 16 + k.val / 128) (k.val % 128) * rd2 g r k.val * rd3 w 0 k.val d

end Cert.OutIdeal.Out
-- ==== Proof.OutRun.lean ====
module

public import proofs.«01_k».proof.Proof.Gen.OutIdeal.Value
public import proofs.«01_k».proof.Proof.OutSpec
public import Idealize.ShloMosaic.Lib.Pipeline.ValueKit.Tiles
public import Idealize.ShloMosaic.Lib.Pipeline.ValueKit.Point

@[expose] public section

set_option maxRecDepth 16384

noncomputable section

namespace Cert.OutIdeal.Out

open Cert.Rd
open Cert.OutIdeal Cert.OutIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![0, t.val % 8, t.val / 8, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem N_le (t : Fin cfg0.N) : t.val < 32 := t.isLt

theorem ib0 (c : Dev nD) (t : Fin cfg0.N) (a : Fin 256) (b : Fin 16) (d : Fin 128) :
    (iblk m c 0 t : Vec Ideal S1x256x16x128 .f32) (ix4 0 a b d) = rd4 (m ((c : Thread nD τ).loc main_arg0)) 0 (256 * (t.val % 8) + a.val) (16 * (t.val / 8) + b.val) d.val := by
  have ht := N_le t
  unfold rd4; rw [dif_pos ⟨by omega, by omega, by omega, by omega⟩]
  blk_ext [iblk, V, idx0 t]

theorem ib1 (c : Dev nD) (t : Fin cfg0.N) (a : Fin 256) (b : Fin 2048) :
    (iblk m c 1 t : Vec Ideal S256x2048 .f32) (ix2 a b) = rd2 (m ((c : Thread nD τ).loc main_arg1)) (256 * t.val + a.val) b.val := by
  have ht := N_le t
  unfold rd2; rw [dif_pos ⟨by omega, by omega⟩]
  blk_ext [iblk, V, idx1 t]

theorem ib2 (c : Dev nD) (t : Fin cfg0.N) (a : Fin 256) (b : Fin 2048) :
    (iblk m c 2 t : Vec Ideal S256x2048 .f32) (ix2 a b) = rd2 (m ((c : Thread nD τ).loc main_arg2)) (256 * t.val + a.val) b.val := by
  have ht := N_le t
  unfold rd2; rw [dif_pos ⟨by omega, by omega⟩]
  blk_ext [iblk, V, idx2 t]

theorem ib3 (c : Dev nD) (t : Fin cfg0.N) (a b : Fin 2048) :
    (iblk m c 3 t : Vec Ideal S2048x2048 .bf16) (ix2 a b) = rd3 (m ((c : Thread nD τ).loc main_arg3)) 0 a.val b.val := by
  have ht := N_le t
  unfold rd3; rw [dif_pos ⟨by omega, by omega, by omega⟩]
  blk_ext! [iblk, idx3 t]

/-- One block of the result. -/
theorem block (c : Dev nD) (t : Fin cfg0.N) (a : Fin 256) (d : Fin 2048) :
    k0_pay1 (iblk m c 0 t) (iblk m c 2 t) (iblk m c 1 t) (iblk m c 3 t) (ix2 a d) = outF (m ((c : Thread nD τ).loc main_arg0)) (m ((c : Thread nD τ).loc main_arg1)) (m ((c : Thread nD τ).loc main_arg2)) (m ((c : Thread nD τ).loc main_arg3)) (256 * t.val + a.val) d.val := by
  refine (pay1_at (iblk m c 0 t) (iblk m c 2 t) (iblk m c 1 t) (iblk m c 3 t) a d).trans ?_
  have h0 := ib0 m c t
  have h1 := ib1 m c t
  have h2 := ib2 m c t
  have h3 := ib3 m c t
  generalize (iblk m c 0 t : Vec Ideal S1x256x16x128 .f32) = z at h0 ⊢
  generalize (iblk m c 1 t : Vec Ideal S256x2048 .f32) = g at h1 ⊢
  generalize (iblk m c 2 t : Vec Ideal S256x2048 .f32) = x at h2 ⊢
  generalize (iblk m c 3 t : Vec Ideal S2048x2048 .bf16) = w at h3 ⊢
  unfold outF
  have e1 : (256 * t.val + a.val) % 2048 = 256 * (t.val % 8) + a.val := by have := a.isLt; omega
  have e2 : (256 * t.val + a.val) / 2048 = t.val / 8 := by have := a.isLt; omega
  simp only [h0, h1, h2, h3, e1, e2, Nat.mul_comm (t.val / 8) 16]

/-- The array the formula gives. -/
def res (c : Dev nD) : Buf (Elt Ideal) ((c : Thread nD τ).loc main_v3) := fun i => outF (m ((c : Thread nD τ).loc main_arg0)) (m ((c : Thread nD τ).loc main_arg1)) (m ((c : Thread nD τ).loc main_arg2)) (m ((c : Thread nD τ).loc main_arg3)) (i 0).val (i 1).val

/-- Every position lies in some point's block. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : (i 0).val / 256 < cfg0.N := by rw [show cfg0.N = 32 from N_0]; omega
  refine ⟨⟨_, hN⟩, flush0_4 _, ?_⟩
  show i ∈ ((View.whole main_v3).slice (win0_4.rect ⟨_, hN⟩)).set
  rw [View.set_slice_whole, Rect.mem_set_unit]
  intro a
  have e := idx4 ⟨_, hN⟩
  match a with
  | ⟨0, _⟩ => show win0_4.index _ (0 : Fin 2) * 256 ≤ (i 0).val ∧ (i 0).val < win0_4.index _ (0 : Fin 2) * 256 + 256; rw [congrFun e 0]; show (i 0).val / 256 * 256 ≤ _ ∧ _ < (i 0).val / 256 * 256 + 256; omega
  | ⟨1, _⟩ => show win0_4.index _ (1 : Fin 2) * 2048 ≤ (i 1).val ∧ (i 1).val < win0_4.index _ (1 : Fin 2) * 2048 + 2048; rw [congrFun e 1]; show 0 * 2048 ≤ _ ∧ _ < 0 * 2048 + 2048; omega

theorem arr (c : Dev nD) : (dats m 0 c).arrAt 4 cfg0.N = res m c := by
  refine (dats m 0 c).arrAt_eq_of_cover 4 _ (fun t hf => ?_) (fun i => cover i)
  rw [Value.flushed4]
  funext y
  have e := idx4 t
  have hb0 : (((cfg0.win 4).blk t).view.emb y 0).val = win0_4.index t (0 : Fin 2) * 256 + 1 * (y 0).val := rfl
  have hb1 : (((cfg0.win 4).blk t).view.emb y 1).val = win0_4.index t (1 : Fin 2) * 2048 + 1 * (y 1).val := rfl
  have h0 : (((cfg0.win 4).blk t).view.emb y 0).val = 256 * t.val + (y 0).val := by rw [hb0, congrFun e 0]; show t.val * 256 + _ = _; omega
  have h1 : (((cfg0.win 4).blk t).view.emb y 1).val = (y 1).val := by rw [hb1, congrFun e 1]; show 0 * _ + _ = _; omega
  show out0_4 (iblk m c 0 t) (iblk m c 1 t) (iblk m c 2 t) (iblk m c 3 t) ((cfg0.win 4).xinj (grid0.coords t) y) = outF (m ((c : Thread nD τ).loc main_arg0)) (m ((c : Thread nD τ).loc main_arg1)) (m ((c : Thread nD τ).loc main_arg2)) (m ((c : Thread nD τ).loc main_arg3)) (((cfg0.win 4).blk t).view.emb y 0).val (((cfg0.win 4).blk t).view.emb y 1).val
  rw [h0, h1]
  unfold out0_4
  rw [View.canon_unit_zero (S := S256x2048) hz2]
  simp only [View.ld_unit_zero (S := S256x2048) hz2, View.ld_unit_zero (S := S2048x2048) hz2, View.ld_unit_zero (S := S1x256x16x128) hz4]
  refine Eq.trans (congrArg (k0_pay1 (iblk m c 0 t) (iblk m c 2 t) (iblk m c 1 t) (iblk m c 3 t)) ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr m c), (h c).2⟩) (Value.run_blocks m ρ)

end Cert.OutIdeal.Out
-- ==== Proof.OutRef.lean ====
module

public import proofs.«01_k».proof.Proof.Gen.OutRefIdeal.Run
public import proofs.«01_k».proof.Proof.OutSpec

@[expose] public section

set_option maxRecDepth 16384

noncomputable section

namespace Cert.OutRefIdeal.Out

open Cert.Rd
open Cert.OutIdeal.Out (outF)
open Cert.OutRefIdeal Cert.OutRefIdeal.Gen Idealize.ShloMosaic Idealize.ShloMosaic.TcCoe Idealize.SL.Sem Idealize.ShloMosaic.Tactic

/-- The reference's result, from its arguments. -/
def out (z : FVec Ideal S1x2048x64x128 .f32) (g x : FVec Ideal S8192x2048 .f32) (w : FVec Ideal S2x2048x2048 .f32) : FVec Ideal S8192x2048 .f32 :=
  shapeCast _ (addf (shapeCast _ x shapeCasts_S8192x2048_S4x2048x2048) (Host.dotGeneral dot_S4x2048x2048_S2048x2048_S4x2048x2048_2_0_01_1_n_n none (mulf (shapeCast _ (transpose S4x2048x16x128 [1, 0, 2, 3] (shapeCast _ z shapeCasts_S1x2048x64x128_S2048x4x16x128) transposes_S2048x4x16x128_S4x2048x16x128_1_0_2_3) shapeCasts_S4x2048x16x128_S4x2048x2048) (shapeCast _ g shapeCasts_S8192x2048_S4x2048x2048)) (shapeCast _ (extractStridedSlice S1x2048x2048 ![0, 0, 0] w slices_S2x2048x2048_S1x2048x2048_0_0_0) shapeCasts_S1x2048x2048_S2048x2048))) shapeCasts_S4x2048x2048_S8192x2048

theorem out_ix (z : FVec Ideal S1x2048x64x128 .f32) (g x : FVec Ideal S8192x2048 .f32) (w : FVec Ideal S2x2048x2048 .f32) (a : Fin 8192) (d : Fin 2048) :
    out z g x w (ix2 a d) = outF z g x w a.val d.val := by
  pointwise [out]
  simp only [rd2_ix2 x, rd2_ix2 g, rd3_ix3 w, rd4_ix4 z]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i => outF (m ((c.tc : Thread nD τ).loc main_arg0)) (m ((c.tc : Thread nD τ).loc main_arg1)) (m ((c.tc : Thread nD τ).loc main_arg2)) (m ((c.tc : Thread nD τ).loc main_arg3)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun i => by
      rw [show i = ix2 (i 0) (i 1) from eq_ix2 i]
      exact out_ix _ _ _ _ _ _), (h c).2⟩) (Cert.OutRefIdeal.Value.run m ρ)

end Cert.OutRefIdeal.Out
-- ==== Proof.PairOut.lean ====
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.OutRun
public import proofs.«01_k».proof.Proof.OutRef
public import Idealize.ShloMosaic.Lib.Quiescent

@[expose] public section

noncomputable section

namespace Cert.Proof

open Idealize.ShloMosaic Idealize.SL.Sem

theorem frame_Out : Cert.quiescent_Out (hOut := Cert.Out.Gen.facts) :=
  fun m ρ _ => Cert.Out.Gen.frame m ρ

theorem frame_OutIdeal : Cert.quiescent_OutIdeal (hOutIdeal := Cert.OutIdeal.Gen.facts) :=
  fun m ρ _ => Cert.OutIdeal.Gen.frame m ρ

theorem frame_OutRefIdeal : Cert.quiescent_OutRefIdeal (hOutRefIdeal := Cert.OutRefIdeal.Gen.facts) :=
  fun m ρ _ => (θ_run Cert.OutRefIdeal.defs _ _).mono (fun r h => ⟨fun c => (h c).2, Idealize.ShloMosaic.sem_eq_zero_of_no_sems (by decide) r.2⟩) (Cert.OutRefIdeal.Value.run (F := Ideal) m ρ)

/-- Kernel and reference end with the same result, the array the formula gives. -/
theorem alg_Out : Cert.algebraic_OutIdeal_OutRefIdeal (hOutIdeal := Cert.OutIdeal.Gen.facts) (hOutRefIdeal := Cert.OutRefIdeal.Gen.facts) := by
  intro m ρ m' ρ' _ hagree
  refine ⟨fun c => Cert.OutIdeal.Out.res m c, Cert.OutIdeal.Out.run m ρ, (θ_run Cert.OutRefIdeal.defs _ _).mono (fun r h c => ?_) (Cert.OutRefIdeal.Out.run m' ρ')⟩
  obtain ⟨a0, a1, a2, a3⟩ := hagree c
  obtain ⟨e0, hk⟩ := h c
  simp only [a0, a1, a2, a3] at e0
  exact ⟨e0, hk⟩

end Cert.Proof

end
-- ==== Proof.NormSpec.lean ====
module

public import proofs.«01_k».proof.Proof.Gen.NormIdeal.Skeleton
public import proofs.«01_k».proof.Proof.Read

@[expose] public section

set_option maxRecDepth 16384

noncomputable section

namespace Cert.NormIdeal.Norm

open Cert.Rd
open Cert.NormIdeal Cert.NormIdeal.Gen Idealize.ShloMosaic Idealize.ShloMosaic.TcCoe Idealize.SL.Sem Idealize.ShloMosaic.Tactic

/-- The kernel's block: each row normalised. -/
theorem pay1_at (x : Vec Ideal S512x2048 .f32) (g : Vec Ideal S1x2048 .f32) (a : Fin 512) (d : Fin 2048) :
    k0_pay1 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay1]

/-- The final norm's result. -/
def normF (x : S8192x2048.Idx → EReal) (g : S2048.Idx → EReal) (r d : ℕ) : EReal :=
  rowNorm (rd2 x) (rd1 g) r d

end Cert.NormIdeal.Norm
-- ==== Proof.NormRun.lean ====
module

public import proofs.«01_k».proof.Proof.Gen.NormIdeal.Value
public import proofs.«01_k».proof.Proof.NormSpec
public import Idealize.ShloMosaic.Lib.Pipeline.ValueKit.Tiles
public import Idealize.ShloMosaic.Lib.Pipeline.ValueKit.Point

@[expose] public section

set_option maxRecDepth 16384

noncomputable section

namespace Cert.NormIdeal.Norm

open Cert.Rd
open Cert.NormIdeal Cert.NormIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem N_le (t : Fin cfg0.N) : t.val < 16 := t.isLt

theorem ib0 (c : Dev nD) (t : Fin cfg0.N) (a : Fin 512) (b : Fin 2048) :
    (iblk m c 0 t : Vec Ideal S512x2048 .f32) (ix2 a b) = rd2 (m ((c : Thread nD τ).loc main_arg0)) (512 * t.val + a.val) b.val := by
  have ht := N_le t
  unfold rd2; rw [dif_pos ⟨by omega, by omega⟩]
  blk_ext [iblk, V, idx0 t]

theorem ib1 (c : Dev nD) (t : Fin cfg0.N) (b : Fin 2048) :
    (iblk m c 1 t : Vec Ideal S1x2048 .f32) (ix2 0 b) = rd1 (m ((c : Thread nD τ).loc main_arg1)) b.val := by
  have ht := N_le t
  unfold rd1; rw [dif_pos (by omega)]
  blk_ext! [iblk, idx1 t]

/-- One block of the result. -/
theorem block (c : Dev nD) (t : Fin cfg0.N) (a : Fin 512) (d : Fin 2048) :
    k0_pay1 (iblk m c 0 t) (iblk m c 1 t) (ix2 a d) = normF (m ((c : Thread nD τ).loc main_arg0)) (m ((c : Thread nD τ).loc main_arg1)) (512 * t.val + a.val) d.val := by
  refine (pay1_at (iblk m c 0 t) (iblk m c 1 t) a d).trans ?_
  have h0 := ib0 m c t
  have h1 := ib1 m c t
  generalize (iblk m c 0 t : Vec Ideal S512x2048 .f32) = x at h0 ⊢
  generalize (iblk m c 1 t : Vec Ideal S1x2048 .f32) = g at h1 ⊢
  unfold normF rowNorm
  simp only [h0, h1]

/-- The array the formula gives. -/
def res (c : Dev nD) : Buf (Elt Ideal) ((c : Thread nD τ).loc main_v1) := fun i => normF (m ((c : Thread nD τ).loc main_arg0)) (m ((c : Thread nD τ).loc main_arg1)) (i 0).val (i 1).val

/-- Every position lies in some point's block. -/
theorem cover (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : (i 0).val / 512 < cfg0.N := by rw [show cfg0.N = 16 from N_0]; omega
  refine ⟨⟨_, hN⟩, flush0_2 _, ?_⟩
  show i ∈ ((View.whole main_v1).slice (win0_2.rect ⟨_, hN⟩)).set
  rw [View.set_slice_whole, Rect.mem_set_unit]
  intro a
  have e := idx2 ⟨_, hN⟩
  match a with
  | ⟨0, _⟩ => show win0_2.index _ (0 : Fin 2) * 512 ≤ (i 0).val ∧ (i 0).val < win0_2.index _ (0 : Fin 2) * 512 + 512; rw [congrFun e 0]; show (i 0).val / 512 * 512 ≤ _ ∧ _ < (i 0).val / 512 * 512 + 512; omega
  | ⟨1, _⟩ => show win0_2.index _ (1 : Fin 2) * 2048 ≤ (i 1).val ∧ (i 1).val < win0_2.index _ (1 : Fin 2) * 2048 + 2048; rw [congrFun e 1]; show 0 * 2048 ≤ _ ∧ _ < 0 * 2048 + 2048; omega

theorem arr (c : Dev nD) : (dats m 0 c).arrAt 2 cfg0.N = res m c := by
  refine (dats m 0 c).arrAt_eq_of_cover 2 _ (fun t hf => ?_) (fun i => cover i)
  rw [Value.flushed2]
  funext y
  have e := idx2 t
  have hb0 : (((cfg0.win 2).blk t).view.emb y 0).val = win0_2.index t (0 : Fin 2) * 512 + 1 * (y 0).val := rfl
  have hb1 : (((cfg0.win 2).blk t).view.emb y 1).val = win0_2.index t (1 : Fin 2) * 2048 + 1 * (y 1).val := rfl
  have h0 : (((cfg0.win 2).blk t).view.emb y 0).val = 512 * t.val + (y 0).val := by rw [hb0, congrFun e 0]; show t.val * 512 + _ = _; omega
  have h1 : (((cfg0.win 2).blk t).view.emb y 1).val = (y 1).val := by rw [hb1, congrFun e 1]; show 0 * _ + _ = _; omega
  show out0_2 (iblk m c 0 t) (iblk m c 1 t) ((cfg0.win 2).xinj (grid0.coords t) y) = normF (m ((c : Thread nD τ).loc main_arg0)) (m ((c : Thread nD τ).loc main_arg1)) (((cfg0.win 2).blk t).view.emb y 0).val (((cfg0.win 2).blk t).view.emb y 1).val
  rw [h0, h1]
  unfold out0_2
  rw [View.canon_unit_zero (S := S512x2048) hz2]
  simp only [View.ld_unit_zero (S := S512x2048) hz2, View.ld_unit_zero (S := S1x2048) hz2]
  refine Eq.trans (congrArg (k0_pay1 (iblk m c 0 t) (iblk m c 1 t)) ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.NormIdeal.Norm
-- ==== Proof.NormRef.lean ====
module

public import proofs.«01_k».proof.Proof.Gen.NormRefIdeal.Run
public import proofs.«01_k».proof.Proof.NormSpec

@[expose] public section

set_option maxRecDepth 16384

noncomputable section

namespace Cert.NormRefIdeal.Norm

open Cert.Rd
open Cert.NormIdeal.Norm (normF)
open Cert.NormRefIdeal Cert.NormRefIdeal.Gen Idealize.ShloMosaic Idealize.ShloMosaic.TcCoe Idealize.SL.Sem Idealize.ShloMosaic.Tactic

/-- The reference's result, from its arguments. -/
def out (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem out_ix (x : FVec Ideal S8192x2048 .f32) (g : FVec Ideal S2048 .f32) (a : Fin 8192) (d : Fin 2048) :
    out x g (ix2 a d) = normF x g a.val d.val := by
  pointwise [out]
  simp only [rd2_ix2 x, rd1_ix1 g]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun i => normF (m ((c.tc : Thread nD τ).loc main_arg0)) (m ((c.tc : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      rw [show i = ix2 (i 0) (i 1) from eq_ix2 i]
      exact out_ix _ _ _ _), (h c).2⟩) (Cert.NormRefIdeal.Value.run m ρ)

end Cert.NormRefIdeal.Norm
-- ==== Proof.PairNorm.lean ====
module

public import proofs.«01_k».proof.Defs
public import proofs.«01_k».proof.Proof.Gen.Norm.Frame
public import proofs.«01_k».proof.Proof.Gen.NormIdeal.Frame
public import proofs.«01_k».proof.Proof.Gen.NormRefIdeal.Run
public import proofs.«01_k».proof.Proof.NormRun
public import proofs.«01_k».proof.Proof.NormRef
public import Idealize.ShloMosaic.Lib.Quiescent

@[expose] public section

noncomputable section

namespace Cert.Proof

open Idealize.ShloMosaic Idealize.SL.Sem

theorem frame_Norm : Cert.quiescent_Norm (hNorm := Cert.Norm.Gen.facts) :=
  fun m ρ _ => Cert.Norm.Gen.frame m ρ

theorem frame_NormIdeal : Cert.quiescent_NormIdeal (hNormIdeal := Cert.NormIdeal.Gen.facts) :=
  fun m ρ _ => Cert.NormIdeal.Gen.frame m ρ

theorem frame_NormRefIdeal : Cert.quiescent_NormRefIdeal (hNormRefIdeal := Cert.NormRefIdeal.Gen.facts) :=
  fun m ρ _ => (θ_run Cert.NormRefIdeal.defs _ _).mono (fun r h => ⟨fun c => (h c).2, Idealize.ShloMosaic.sem_eq_zero_of_no_sems (by decide) r.2⟩) (Cert.NormRefIdeal.Value.run (F := Ideal) m ρ)

/-- Kernel and reference end with the same result, the array the formula gives. -/
theorem alg_Norm : Cert.algebraic_NormIdeal_NormRefIdeal (hNormIdeal := Cert.NormIdeal.Gen.facts) (hNormRefIdeal := Cert.NormRefIdeal.Gen.facts) := by
  intro m ρ m' ρ' _ hagree
  refine ⟨fun c => Cert.NormIdeal.Norm.res m c, Cert.NormIdeal.Norm.run m ρ, (θ_run Cert.NormRefIdeal.defs _ _).mono (fun r h c => ?_) (Cert.NormRefIdeal.Norm.run m' ρ')⟩
  obtain ⟨a0, a1⟩ := hagree c
  obtain ⟨e0, hk⟩ := h c
  simp only [a0, a1] at e0
  exact ⟨e0, hk⟩

end Cert.Proof

end
-- ==== Proof.PrepSpec.lean ====
module

public import proofs.«01_k».proof.Proof.Gen.PrepIdeal.Skeleton
public import proofs.«01_k».proof.Proof.Read

@[expose] public section

set_option maxRecDepth 16384

noncomputable section

namespace Cert.PrepIdeal.Prep

open Cert.Rd
open Cert.PrepIdeal Cert.PrepIdeal.Gen Idealize.ShloMosaic Idealize.ShloMosaic.TcCoe Idealize.SL.Sem Idealize.ShloMosaic.Tactic

/-- The normalised row `r`. -/
def hF (x : S8192x2048.Idx → EReal) (g : S4x2048.Idx → EReal) (r d : ℕ) : EReal := rowNorm (rd2 x) (rd2 g 1) r d

/-- The normalised row before row `r`: the given start at the first row of a sequence. -/
def prevF (x : S8192x2048.Idx → EReal) (g : S4x2048.Idx → EReal) (s : S2x4x2048.Idx → EReal) (r d : ℕ) : EReal :=
  if r % 2048 = 0 then rd3 s 0 (r / 2048) d else hF x g (r - 1) d

/-- Row `r` moved towards the row before it by the `n`-th mix. -/
def mixF (x : S8192x2048.Idx → EReal) (g : S4x2048.Idx → EReal) (mu : S2x6x2048.Idx → EReal) (s : S2x4x2048.Idx → EReal) (n r d : ℕ) : EReal :=
  hF x g r d + (prevF x g s r d - hF x g r d) * rd3 mu 0 n d

/-- Which mix stands at place `q` of the first result. -/
def place (q : ℕ) : ℕ := if q = 0 then 0 else q + 1

/-- The mix inside one block of rows `H`, with `p` the row before the block. -/
def mixB (H : S256x2048.Idx → EReal) (mu : S6x2048.Idx → EReal) (p : ℕ → EReal) (n a b : ℕ) : EReal :=
  rd2 H a b + ((if a = 0 then p b else rd2 H (a - 1) b) - rd2 H a b) * rd2 mu n b

/-- A select on a mask, as a condition. -/
theorem select_if (p : Prop) [Decidable p] (x y : EReal) : Scalar.select (if p then 1#1 else 0#1) x y = if p then x else y := by
  by_cases h : p <;> simp only [h, if_true, if_false] <;> rfl

/-- The kernel's normalised rows. -/
theorem pay4_at (x : Vec Ideal S256x2048 .f32) (g : Vec Ideal S1x2048 .f32) (a : Fin 256) (d : Fin 2048) :
    k0_pay4 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay4]

/-- The row before minus the row. -/
theorem xx_at (x : Vec Ideal S256x2048 .f32) (g P : Vec Ideal S1x2048 .f32) (p : ℕ → EReal) (e : ∀ b : Fin 2048, P (ix2 0 b) = p b.val) (a : Fin 256) (b : Fin 2048) :
    k0_pay11 (k0_pay4 x g) (k0_pay5 x g) k0_pay8 (k0_pay9 P) (ix2 a b)
      = (if a.val = 0 then p b.val else rd2 (k0_pay4 x g) (a.val - 1) b.val) - rd2 (k0_pay4 x g) a.val b.val := by
  have q0 : ∀ a : Fin 256, IntOp.cmpi CmpIPredicate.eq (BitVec.ofNat 32 ↑a) 0#32 = if a.val = 0 then 1#1 else 0#1 := by decide +kernel
  unfold k0_pay5
  generalize k0_pay4 x g = H
  pointwise [k0_pay11, k0_pay8, k0_pay9]
  simp only [q0, select_if, e, rd2_ix2 H]
  have ha : a.val < 256 := a.isLt
  by_cases h0 : a.val = 0
  · simp only [h0, if_true]
  · simp only [if_neg h0]
    rw [show (a.val + 256 - 1) % 256 = a.val - 1 by omega]

section
variable (x : Vec Ideal S256x2048 .f32) (g P M : Vec Ideal S1x2048 .f32) (mu : Vec Ideal S6x2048 .f32) (p : ℕ → EReal) (n : ℕ)
  (e : ∀ b : Fin 2048, P (ix2 0 b) = p b.val) (eM : ∀ b : Fin 2048, M (ix2 0 b) = rd2 mu n b.val) (a : Fin 256) (b : Fin 2048)
include e eM

theorem pay12_at (z : Fin 1) : k0_pay12 (k0_pay4 x g) (k0_pay5 x g) k0_pay8 (k0_pay9 P) M (ix3 z a b) = mixB (k0_pay4 x g) mu p n a.val b.val := by
  have h := xx_at x g P p e a b
  unfold mixB
  rw [← h, ← rd2_ix2 (k0_pay4 x g), ← eM]
  pointwise [k0_pay12]

theorem pay13_at : k0_pay13 (k0_pay4 x g) (k0_pay5 x g) k0_pay8 (k0_pay9 P) M (ix2 a b) = mixB (k0_pay4 x g) mu p n a.val b.val := by
  have h := xx_at x g P p e a b
  unfold mixB
  rw [← h, ← rd2_ix2 (k0_pay4 x g), ← eM]
  pointwise [k0_pay13]

theorem pay14_at (z : Fin 1) : k0_pay14 (k0_pay4 x g) (k0_pay5 x g) k0_pay8 (k0_pay9 P) M (ix3 z a b) = mixB (k0_pay4 x g) mu p n a.val b.val := by
  have h := xx_at x g P p e a b
  unfold mixB
  rw [← h, ← rd2_ix2 (k0_pay4 x g), ← eM]
  pointwise [k0_pay14]

theorem pay15_at (z : Fin 1) : k0_pay1 (k0_pay15 (k0_pay4 x g) (k0_pay5 x g) k0_pay8 (k0_pay9 P) M) (ix3 z a b) = mixB (k0_pay4 x g) mu p n a.val b.val := by
  have h := xx_at x g P p e a b
  unfold mixB
  rw [← h, ← rd2_ix2 (k0_pay4 x g), ← eM]
  pointwise [k0_pay1, k0_pay15]

theorem pay2_at : k0_pay2 (k0_pay4 x g) (k0_pay11 (k0_pay4 x g) (k0_pay5 x g) k0_pay8 (k0_pay9 P)) M (ix2 a b) = mixB (k0_pay4 x g) mu p n a.val b.val := by
  have h := xx_at x g P p e a b
  unfold mixB
  rw [← h, ← rd2_ix2 (k0_pay4 x g), ← eM]
  pointwise [k0_pay2]

theorem pay3_at : k0_pay3 (k0_pay4 x g) (k0_pay11 (k0_pay4 x g) (k0_pay5 x g) k0_pay8 (k0_pay9 P)) M (ix2 a b) = mixB (k0_pay4 x g) mu p n a.val b.val := by
  have h := xx_at x g P p e a b
  unfold mixB
  rw [← h, ← rd2_ix2 (k0_pay4 x g), ← eM]
  pointwise [k0_pay3]

end

end Cert.PrepIdeal.Prep

end
-- ==== Proof.PrepBody.lean ====
module

public import proofs.«01_k».proof.Proof.Gen.PrepIdeal.Value
public import proofs.«01_k».proof.Proof.PrepSpec
public import Idealize.ShloMosaic.Lib.Pipeline.ValueKit.Tiles

@[expose] public section

set_option maxRecDepth 16384

noncomputable section

namespace Cert.PrepIdeal.Prep

open Cert.Rd
open Cert.PrepIdeal Cert.PrepIdeal.Gen Idealize.ShloMosaic Idealize.ShloMosaic.TcCoe Idealize.SL.Sem Idealize.ShloMosaic.Tactic

/-- The mixes of a block, one of them at every index of a two-axis block. -/
def mixV (H : S256x2048.Idx → EReal) (mu : S6x2048.Idx → EReal) (p : ℕ → EReal) (n : ℕ) : Vec Ideal S256x2048 .bf16 :=
  fun i => mixB H mu p n (i 0).val (i 1).val

/-- The three mixes of the first result's block. -/
def mixV3 (H : S256x2048.Idx → EReal) (mu : S6x2048.Idx → EReal) (p : ℕ → EReal) : Vec Ideal S3x256x2048 .bf16 :=
  fun i => mixB H mu p (place (i 0).val) (i 1).val (i 2).val

theorem mixV3_emb (H : S256x2048.Idx → EReal) (mu : S6x2048.Idx → EReal) (p : ℕ → EReal)
    (off size : Fin S3x256x2048.rank → ℕ) (inb) (x : (Rect.unit off size inb).shape.Idx) :
    mixV3 H mu p ((Rect.unit off size inb).emb x) = mixB H mu p (place (off 0 + (x 0).val)) (off 1 + (x 1).val) (off 2 + (x 2).val) := by
  unfold mixV3
  rw [show (((Rect.unit off size inb).emb x) 0).val = _ from Rect.idx_unit_val off size inb x 0,
    show (((Rect.unit off size inb).emb x) 1).val = _ from Rect.idx_unit_val off size inb x 1,
    show (((Rect.unit off size inb).emb x) 2).val = _ from Rect.idx_unit_val off size inb x 2]

/-- A store of one of the three mixes. -/
theorem mix_piece (H : S256x2048.Idx → EReal) (mu : S6x2048.Idx → EReal) (p : ℕ → EReal) (q : ℕ)
    (inb : ∀ a, (![q, 0, 0] : Fin 3 → ℕ) a + S1x256x2048.size a ≤ S3x256x2048.size a) (P : S1x256x2048.Idx → EReal)
    (hP : ∀ (z : Fin 1) (a : Fin 256) (b : Fin 2048), P (ix3 z a b) = mixB H mu p (place q) a.val b.val) (j : S1x256x2048.Idx) :
    P j = mixV3 H mu p ((Rect.unit (s := S3x256x2048) ![q, 0, 0] S1x256x2048.size inb).emb j) := by
  rw [mixV3_emb]
  idx_vars j
  rw [hP]
  have hz : j0.val = 0 := by omega
  show _ = mixB H mu p (place (q + j0.val)) (0 + j1.val) (0 + j2.val)
  rw [hz, Nat.add_zero, Nat.zero_add, Nat.zero_add]

/-- The carried row, just reset, holds the given start. -/
theorem reset_row (x3 : Vec Ideal S1x1x2048 .f32) (b : Fin 2048) :
    View.canon (Val := Elt Ideal) (e := .f32)
      [⟨Rect.unit (s := S8x2048) ![7, 0] ![1, 2048] inb_S8x2048_S1x2048_7_0, k0_pay7 x3⟩,
        ⟨Rect.unit (s := S8x2048) ![0, 0] ![8, 2048] inb_S8x2048_S8x2048_0_0, k0_pay6 (F := Ideal)⟩]
      ((Rect.unit (s := S8x2048) ![7, 0] ![1, 2048] inb_S8x2048_S1x2048_7_0).toLoadRect.idx (ix2 (0 : Fin 1) b)) = rd3 x3 0 0 b.val := by
  have e : (Rect.unit (s := S8x2048) ![7, 0] ![1, 2048] inb_S8x2048_S1x2048_7_0).toLoadRect.idx (ix2 (0 : Fin 1) b)
      = (Rect.unit (s := S8x2048) ![7, 0] ![1, 2048] inb_S8x2048_S1x2048_7_0).emb (ix2 (0 : Fin 1) b) := rfl
  rw [e, View.canon_cons_emb]
  pointwise [k0_pay7]
  rw [rd3_ix3 x3]
  rfl

/-- What a point of case B leaves in the block of rows. -/
theorem out8_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    out0_B_8 c i a1 h1 a2 h2 a3 h3 a4 h4 a5 h5 a6 h6 a7 h7 a8 h8 a9 h9 a10 h10 hc x0 x1 x2 x3 xs = k0_pay4 x0 x1 := by
  unfold out0_B_8
  rw [View.read_writes_eq_canon _ _ _ (cover0_B_8 c i a1 h1 a2 h2 a3 h3 a4 h4 a5 h5 a6 h6 a7 h7 a8 h8 a9 h9 a10 h10 hc x0 x1 x2 x3 xs)]
  unfold kernelRun0_B
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]

/-- What a point of case B leaves in the carried rows. -/
theorem sout_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    sout0_B_0 c i a1 h1 a2 h2 a3 h3 a4 h4 a5 h5 a6 h6 a7 h7 a8 h8 a9 h9 a10 h10 hc x0 x1 x2 x3 xs = k0_pay10 (k0_pay4 x0 x1) := by
  unfold sout0_B_0
  rw [View.read_writes_eq_canon _ _ _ (scover0_B_0 c i a1 h1 a2 h2 a3 h3 a4 h4 a5 h5 a6 h6 a7 h7 a8 h8 a9 h9 a10 h10 hc x0 x1 x2 x3 xs)]
  unfold kernelRun0_B
  dsimp only
  sl_unfold_words
  rw [View.canon_cons_unit_zero (S := S8x2048) hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]

/-- What a point of case B leaves in the block of mix 1. -/
theorem out5_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    out0_B_5 c i a1 h1 a2 h2 a3 h3 a4 h4 a5 h5 a6 h6 a7 h7 a8 h8 a9 h9 a10 h10 hc x0 x1 x2 x3 xs = mixV (k0_pay4 x0 x1) x2 (fun d => rd2 xs 7 d) 1 := by
  unfold out0_B_5
  rw [View.read_writes_eq_canon _ _ _ (cover0_B_5 c i a1 h1 a2 h2 a3 h3 a4 h4 a5 h5 a6 h6 a7 h7 a8 h8 a9 h9 a10 h10 hc x0 x1 x2 x3 xs)]
  unfold kernelRun0_B
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]
  funext y
  idx_vars y
  exact pay13_at x0 x1 _ _ x2 _ 1 (fun b => by pointwise [View.ld_unit]; rw [rd2_ix2 xs]; rfl) (fun b => by pointwise [View.ld_unit]; rw [rd2_ix2 x2]; rfl) y0 y1

/-- What a point of case B leaves in the block of mix 4. -/
theorem out6_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    out0_B_6 c i a1 h1 a2 h2 a3 h3 a4 h4 a5 h5 a6 h6 a7 h7 a8 h8 a9 h9 a10 h10 hc x0 x1 x2 x3 xs = mixV (k0_pay4 x0 x1) x2 (fun d => rd2 xs 7 d) 4 := by
  unfold out0_B_6
  rw [View.read_writes_eq_canon _ _ _ (cover0_B_6 c i a1 h1 a2 h2 a3 h3 a4 h4 a5 h5 a6 h6 a7 h7 a8 h8 a9 h9 a10 h10 hc x0 x1 x2 x3 xs)]
  unfold kernelRun0_B
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]
  funext y
  idx_vars y
  exact pay2_at x0 x1 _ _ x2 _ 4 (fun b => by pointwise [View.ld_unit]; rw [rd2_ix2 xs]; rfl) (fun b => by pointwise [View.ld_unit]; rw [rd2_ix2 x2]; rfl) y0 y1

/-- What a point of case B leaves in the block of mix 5. -/
theorem out7_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    out0_B_7 c i a1 h1 a2 h2 a3 h3 a4 h4 a5 h5 a6 h6 a7 h7 a8 h8 a9 h9 a10 h10 hc x0 x1 x2 x3 xs = mixV (k0_pay4 x0 x1) x2 (fun d => rd2 xs 7 d) 5 := by
  unfold out0_B_7
  rw [View.read_writes_eq_canon _ _ _ (cover0_B_7 c i a1 h1 a2 h2 a3 h3 a4 h4 a5 h5 a6 h6 a7 h7 a8 h8 a9 h9 a10 h10 hc x0 x1 x2 x3 xs)]
  unfold kernelRun0_B
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]
  funext y
  idx_vars y
  exact pay3_at x0 x1 _ _ x2 _ 5 (fun b => by pointwise [View.ld_unit]; rw [rd2_ix2 xs]; rfl) (fun b => by pointwise [View.ld_unit]; rw [rd2_ix2 x2]; rfl) y0 y1

/-- What a point of case B leaves in the block of the three mixes. -/
theorem out4_B (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : ¬cond0_0 i)
    (x0 : Vec Ideal S256x2048 .f32) (x1 : Vec Ideal S1x2048 .f32) (x2 : Vec Ideal S6x2048 .f32) (x3 : Vec Ideal S1x1x2048 .f32) (xs : Vec Ideal S8x2048 .f32) :
    out0_B_4 c i a1 h1 a2 h2 a3 h3 a4 h4 a5 h5 a6 h6 a7 h7 a8 h8 a9 h9 a10 h10 hc x0 x1 x2 x3 xs = mixV3 (k0_pay4 x0 x1) x2 (fun d => rd2 xs 7 d) := by
  unfold out0_B_4
  rw [View.read_writes_eq_canon _ _ _ (cover0_B_4 c i a1 h1 a2 h2 a3 h3 a4 h4 a5 h5 a6 h6 a7 h7 a8 h8 a9 h9 a10 h10 hc x0 x1 x2 x3 xs)]
  unfold kernelRun0_B
  dsimp only
  sl_unfold_words
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]
  funext y
  refine View.canon_apply_of_pieces (mixV3 (k0_pay4 x0 x1) x2 (fun d => rd2 xs 7 d)) _ (fun p hp x => ?_) _ ?_
  case refine_2 =>
    have b0 : (y 0).val < 3 := (y 0).isLt
    have b1 : (y 1).val < 256 := (y 1).isLt
    have b2 : (y 2).val < 2048 := (y 2).isLt
    simp only [List.mem_cons, exists_eq_or_imp, List.mem_nil_iff, false_and, exists_false, or_false, exists_eq_left, Rect.mem_set_unit, Fin.forall_fin_succ, Matrix.cons_val_zero, Matrix.cons_val_succ, Matrix.cons_val_one, Matrix.cons_val_two, IsEmpty.forall_iff, and_true, Fin.succ_zero_eq_one, Fin.succ_one_eq_two]
    omega
  simp only [List.mem_cons, List.mem_nil_iff, or_false] at hp
  rcases hp with rfl | rfl | rfl
  · exact mix_piece _ _ _ 2 inb_S3x256x2048_S1x256x2048_2_0_0 _ (fun z a b => pay15_at x0 x1 _ _ x2 _ 3 (fun b => by pointwise [View.ld_unit]; rw [rd2_ix2 xs]; rfl) (fun b => by pointwise [View.ld_unit]; rw [rd2_ix2 x2]; rfl) a b z) x
  · exact mix_piece _ _ _ 1 inb_S3x256x2048_S1x256x2048_1_0_0 _ (fun z a b => pay14_at x0 x1 _ _ x2 _ 2 (fun b => by pointwise [View.ld_unit]; rw [rd2_ix2 xs]; rfl) (fun b => by pointwise [View.ld_unit]; rw [rd2_ix2 x2]; rfl) a b z) x
  · exact mix_piece _ _ _ 0 inb_S3x256x2048_S1x256x2048_0_0_0 _ (fun z a b => pay12_at x0 x1 _ _ x2 _ 0 (fun b => by pointwise [View.ld_unit]; rw [rd2_ix2 xs]; rfl) (fun b => by pointwise [View.ld_unit]; rw [rd2_ix2 x2]; rfl) a b z) x

/-- What a point of case A leaves in the block of rows. -/
theorem out8_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    out0_A_8 c i a1 h1 a2 h2 a3 h3 a4 h4 a5 h5 a6 h6 a7 h7 a8 h8 a9 h9 a10 h10 hc x0 x1 x2 x3 = k0_pay4 x0 x1 := by
  unfold out0_A_8
  rw [View.read_writes_eq_canon _ _ _ (cover0_A_8 c i a1 h1 a2 h2 a3 h3 a4 h4 a5 h5 a6 h6 a7 h7 a8 h8 a9 h9 a10 h10 hc x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]

/-- What a point of case A leaves in the carried rows. -/
theorem sout_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    sout0_A_0 c i a1 h1 a2 h2 a3 h3 a4 h4 a5 h5 a6 h6 a7 h7 a8 h8 a9 h9 a10 h10 hc x0 x1 x2 x3 = k0_pay10 (k0_pay4 x0 x1) := by
  unfold sout0_A_0
  rw [View.read_writes_eq_canon _ _ _ (scover0_A_0 c i a1 h1 a2 h2 a3 h3 a4 h4 a5 h5 a6 h6 a7 h7 a8 h8 a9 h9 a10 h10 hc x0 x1 x2 x3)]
  unfold kernelRun0_A
  dsimp only
  sl_unfold_words
  rw [View.canon_cons_unit_zero (S := S8x2048) hz2]
  simp only [View.readAt_eq_ld, h1.read_unread, h2.read_unread, h3.read_unread, h4.read_unread, h10.read_unread]
  simp only [View.ld_unit_zero (S := S256x2048) hz2, View.ld_unit_zero (S := S1x2048) hz2, View.ld_unit_zero (S := S1x1x2048) hz3]

/-- What a point of case A leaves in the block of mix 1. -/
theorem out5_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    out0_A_5 c i a1 h1 a2 h2 a3 h3 a4 h4 a5 h5 a6 h6 a7 h7 a8 h8 a9 h9 a10 h10 hc x0 x1 x2 x3 = mixV (k0_pay4 x0 x1) x2 (fun d => rd3 x3 0 0 d) 1 := by
  unfold out0_A_5
  rw [View.read_writes_eq_canon _ _ _ (cover0_A_5 c i a1 h1 a2 h2 a3 h3 a4 h4 a5 h5 a6 h6 a7 h7 a8 h8 a9 h9 a10 h10 hc x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.readCov_eq_canon']
  simp only [View.ld_unit_zero (S := S256x2048) hz2, View.ld_unit_zero (S := S1x2048) hz2, View.ld_unit_zero (S := S1x1x2048) hz3]
  funext y
  idx_vars y
  exact pay13_at x0 x1 _ _ x2 _ 1 (by exact reset_row x3) (fun b => by pointwise [View.ld_unit]; rw [rd2_ix2 x2]; rfl) y0 y1

/-- What a point of case A leaves in the block of mix 4. -/
theorem out6_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    out0_A_6 c i a1 h1 a2 h2 a3 h3 a4 h4 a5 h5 a6 h6 a7 h7 a8 h8 a9 h9 a10 h10 hc x0 x1 x2 x3 = mixV (k0_pay4 x0 x1) x2 (fun d => rd3 x3 0 0 d) 4 := by
  unfold out0_A_6
  rw [View.read_writes_eq_canon _ _ _ (cover0_A_6 c i a1 h1 a2 h2 a3 h3 a4 h4 a5 h5 a6 h6 a7 h7 a8 h8 a9 h9 a10 h10 hc x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.readCov_eq_canon']
  simp only [View.ld_unit_zero (S := S256x2048) hz2, View.ld_unit_zero (S := S1x2048) hz2, View.ld_unit_zero (S := S1x1x2048) hz3]
  funext y
  idx_vars y
  exact pay2_at x0 x1 _ _ x2 _ 4 (by exact reset_row x3) (fun b => by pointwise [View.ld_unit]; rw [rd2_ix2 x2]; rfl) y0 y1

/-- What a point of case A leaves in the block of mix 5. -/
theorem out7_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    out0_A_7 c i a1 h1 a2 h2 a3 h3 a4 h4 a5 h5 a6 h6 a7 h7 a8 h8 a9 h9 a10 h10 hc x0 x1 x2 x3 = mixV (k0_pay4 x0 x1) x2 (fun d => rd3 x3 0 0 d) 5 := by
  unfold out0_A_7
  rw [View.read_writes_eq_canon _ _ _ (cover0_A_7 c i a1 h1 a2 h2 a3 h3 a4 h4 a5 h5 a6 h6 a7 h7 a8 h8 a9 h9 a10 h10 hc x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.readCov_eq_canon']
  simp only [View.ld_unit_zero (S := S256x2048) hz2, View.ld_unit_zero (S := S1x2048) hz2, View.ld_unit_zero (S := S1x1x2048) hz3]
  funext y
  idx_vars y
  exact pay3_at x0 x1 _ _ x2 _ 5 (by exact reset_row x3) (fun b => by pointwise [View.ld_unit]; rw [rd2_ix2 x2]; rfl) y0 y1

/-- What a point of case A leaves in the block of the three mixes. -/
theorem out4_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S1x1x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (hc : cond0_0 i)
    (x0 : Vec Ideal S256x2048 .f32) (x1 : Vec Ideal S1x2048 .f32) (x2 : Vec Ideal S6x2048 .f32) (x3 : Vec Ideal S1x1x2048 .f32) :
    out0_A_4 c i a1 h1 a2 h2 a3 h3 a4 h4 a5 h5 a6 h6 a7 h7 a8 h8 a9 h9 a10 h10 hc x0 x1 x2 x3 = mixV3 (k0_pay4 x0 x1) x2 (fun d => rd3 x3 0 0 d) := by
  unfold out0_A_4
  rw [View.read_writes_eq_canon _ _ _ (cover0_A_4 c i a1 h1 a2 h2 a3 h3 a4 h4 a5 h5 a6 h6 a7 h7 a8 h8 a9 h9 a10 h10 hc x0 x1 x2 x3)]
  unfold kernelRun0_A
  dsimp only
  sl_unfold_words
  simp only [View.readAt_eq_ld, h1.read_unread, h2.read_unread, h3.read_unread, h4.read_unread, h10.read_unread]
  simp only [View.readCov_eq_canon']
  simp only [View.ld_unit_zero (S := S256x2048) hz2, View.ld_unit_zero (S := S1x2048) hz2, View.ld_unit_zero (S := S1x1x2048) hz3]
  funext y
  refine View.canon_apply_of_pieces (mixV3 (k0_pay4 x0 x1) x2 (fun d => rd3 x3 0 0 d)) _ (fun p hp x => ?_) _ ?_
  case refine_2 =>
    have b0 : (y 0).val < 3 := (y 0).isLt
    have b1 : (y 1).val < 256 := (y 1).isLt
    have b2 : (y 2).val < 2048 := (y 2).isLt
    simp only [List.mem_cons, exists_eq_or_imp, List.mem_nil_iff, false_and, exists_false, or_false, exists_eq_left, Rect.mem_set_unit, Fin.forall_fin_succ, Matrix.cons_val_zero, Matrix.cons_val_succ, Matrix.cons_val_one, Matrix.cons_val_two, IsEmpty.forall_iff, and_true, Fin.succ_zero_eq_one, Fin.succ_one_eq_two]
    omega
  simp only [List.mem_cons, List.mem_nil_iff, or_false] at hp
  rcases hp with rfl | rfl | rfl
  · exact mix_piece _ _ _ 2 inb_S3x256x2048_S1x256x2048_2_0_0 _ (fun z a b => pay15_at x0 x1 _ _ x2 _ 3 (by exact reset_row x3) (fun b => by pointwise [View.ld_unit]; rw [rd2_ix2 x2]; rfl) a b z) x
  · exact mix_piece _ _ _ 1 inb_S3x256x2048_S1x256x2048_1_0_0 _ (fun z a b => pay14_at x0 x1 _ _ x2 _ 2 (by exact reset_row x3) (fun b => by pointwise [View.ld_unit]; rw [rd2_ix2 x2]; rfl) a b z) x
  · exact mix_piece _ _ _ 0 inb_S3x256x2048_S1x256x2048_0_0_0 _ (fun z a b => pay12_at x0 x1 _ _ x2 _ 0 (by exact reset_row x3) (fun b => by pointwise [View.ld_unit]; rw [rd2_ix2 x2]; rfl) a b z) x

end Cert.PrepIdeal.Prep

end
-- ==== Proof.PrepRun.lean ====
module

public import proofs.«01_k».proof.Proof.PrepBody
public import Idealize.ShloMosaic.Lib.Pipeline.ValueKit.Point

@[expose] public section

set_option maxRecDepth 16384

noncomputable section

namespace Cert.PrepIdeal.Prep

open Cert.Rd
open Cert.PrepIdeal Cert.PrepIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem N_le (t : Fin cfg0.N) : t.val < 32 := t.isLt

theorem ib0 (c : Dev nD) (t : Fin cfg0.N) (a : Fin 256) (b : Fin 2048) :
    (iblk m c 0 t : Vec Ideal S256x2048 .f32) (ix2 a b) = rd2 (m ((c : Thread nD τ).loc main_arg0)) (256 * t.val + a.val) b.val := by
  have ht := N_le t
  unfold rd2; rw [dif_pos ⟨by omega, by omega⟩]
  blk_ext [iblk, V, idx0 t]

theorem ib1 (c : Dev nD) (t : Fin cfg0.N) (b : Fin 2048) :
    (iblk m c 1 t : Vec Ideal S1x2048 .f32) (ix2 0 b) = rd2 (m ((c : Thread nD τ).loc main_arg1)) 1 b.val := by
  have ht := N_le t
  unfold rd2; rw [dif_pos ⟨by omega, by omega⟩]
  blk_ext! [iblk, idx1 t]

theorem ib2 (c : Dev nD) (t : Fin cfg0.N) (a : Fin 6) (b : Fin 2048) :
    (iblk m c 2 t : Vec Ideal S6x2048 .f32) (ix2 a b) = rd3 (m ((c : Thread nD τ).loc main_arg2)) 0 a.val b.val := by
  have ht := N_le t
  unfold rd3; rw [dif_pos ⟨by omega, by omega, by omega⟩]
  blk_ext! [iblk, idx2 t]

theorem ib3 (c : Dev nD) (t : Fin cfg0.N) (b : Fin 2048) :
    (iblk m c 3 t : Vec Ideal S1x1x2048 .f32) (ix3 0 0 b) = rd3 (m ((c : Thread nD τ).loc main_arg3)) 0 (t.val / 8) b.val := by
  have ht := N_le t
  unfold rd3; rw [dif_pos ⟨by omega, by omega, by omega⟩]
  blk_ext! [iblk, idx3 t]

/-- The normalised rows of block `t`. -/
theorem h_block (c : Dev nD) (t : Fin cfg0.N) (a : Fin 256) (b : Fin 2048) :
    (k0_pay4 (iblk m c 0 t) (iblk m c 1 t)) (ix2 a b) = hF (m ((c : Thread nD τ).loc main_arg0)) (m ((c : Thread nD τ).loc main_arg1)) (256 * t.val + a.val) b.val := by
  have h0 := ib0 m c t
  have h1 := ib1 m c t
  generalize (iblk m c 0 t : Vec Ideal S256x2048 .f32) = x at h0 ⊢
  generalize (iblk m c 1 t : Vec Ideal S1x2048 .f32) = g at h1 ⊢
  rw [pay4_at]
  unfold hF rowNorm
  simp only [h0, h1]

theorem carry_at (c : Dev nD) (t : Fin cfg0.N) : (outsAt0 m c t.val t.isLt).2.2.2.2.2 = k0_pay10 (k0_pay4 (iblk m c 0 t) (iblk m c 1 t)) := by
  by_cases h0 : t.val % 8 = 0
  · rw [outsAt0_A m c t h0]
    dsimp only
    rw [sout_A]
  · rw [outsAt0_B m c t h0]
    dsimp only
    rw [sout_B]

/-- Row 7 of what a point leaves in the carried rows. -/
theorem carry_row (c : Dev nD) (t : Fin cfg0.N) (b : ℕ) (hb : b < 2048) :
    rd2 (R := 8) (C := 2048) ((outsAt0 m c t.val t.isLt).2.2.2.2.2) 7 b = hF (m ((c : Thread nD τ).loc main_arg0)) (m ((c : Thread nD τ).loc main_arg1)) (256 * t.val + 255) b := by
  rw [carry_at]
  unfold rd2
  rw [dif_pos ⟨by norm_num, hb⟩]
  have h := h_block m c t ⟨255, by omega⟩ ⟨b, hb⟩
  generalize k0_pay4 (iblk m c 0 t) (iblk m c 1 t) = H at h ⊢
  pointwise [k0_pay10]
  exact h

/-- A mix of block `t`, the row before the block being the right one. -/
theorem mix_block (c : Dev nD) (t : Fin cfg0.N) (p : ℕ → EReal)
    (hp : ∀ b, b < 2048 → p b = if t.val % 8 = 0 then rd3 (m ((c : Thread nD τ).loc main_arg3)) 0 (t.val / 8) b else hF (m ((c : Thread nD τ).loc main_arg0)) (m ((c : Thread nD τ).loc main_arg1)) (256 * t.val - 1) b)
    (n : ℕ) (hn : n < 6) (a : ℕ) (ha : a < 256) (b : ℕ) (hb : b < 2048) :
    mixB (k0_pay4 (iblk m c 0 t) (iblk m c 1 t)) (iblk m c 2 t) p n a b = mixF (m ((c : Thread nD τ).loc main_arg0)) (m ((c : Thread nD τ).loc main_arg1)) (m ((c : Thread nD τ).loc main_arg2)) (m ((c : Thread nD τ).loc main_arg3)) n (256 * t.val + a) b := by
  have hh : ∀ r, r < 256 → rd2 (R := 256) (C := 2048) (k0_pay4 (iblk m c 0 t) (iblk m c 1 t)) r b = hF (m ((c : Thread nD τ).loc main_arg0)) (m ((c : Thread nD τ).loc main_arg1)) (256 * t.val + r) b := fun r hr =>
    (rd2_ix2 (k0_pay4 (iblk m c 0 t) (iblk m c 1 t)) ⟨r, hr⟩ ⟨b, hb⟩).symm.trans (h_block m c t _ _)
  have hw : rd2 (R := 6) (C := 2048) (iblk m c 2 t) n b = rd3 (m ((c : Thread nD τ).loc main_arg2)) 0 n b :=
    (rd2_ix2 (iblk m c 2 t : Vec Ideal S6x2048 .f32) ⟨n, hn⟩ ⟨b, hb⟩).symm.trans (ib2 m c t _ _)
  unfold mixB mixF prevF
  rw [hh a ha, hw, hp b hb]
  refine congrArg₂ (· + ·) rfl (congrArg₂ (· * ·) (congrArg₂ (· - ·) ?_ rfl) rfl)
  by_cases z0 : a = 0
  · rw [if_pos z0]
    by_cases z : t.val % 8 = 0
    · rw [if_pos z, if_pos (show (256 * t.val + a) % 2048 = 0 by omega), show (256 * t.val + a) / 2048 = t.val / 8 by omega]
    · rw [if_neg z, if_neg (show ¬(256 * t.val + a) % 2048 = 0 by omega), show 256 * t.val + a - 1 = 256 * t.val - 1 by omega]
  · rw [if_neg z0, if_neg (show ¬(256 * t.val + a) % 2048 = 0 by omega), hh _ (by omega), show 256 * t.val + (a - 1) = 256 * t.val + a - 1 by omega]

theorem place_lt (q : ℕ) (h : q < 3) : place q < 6 := by
  unfold place
  by_cases z : q = 0
  · rw [if_pos z]; omega
  · rw [if_neg z]; omega

theorem outs_at (c : Dev nD) (t : Fin cfg0.N) (a : Fin 256) (b : Fin 2048) :
    (∀ q : Fin 3, (outsAt0 m c t.val t.isLt).1 (ix3 q a b) = mixF (m ((c : Thread nD τ).loc main_arg0)) (m ((c : Thread nD τ).loc main_arg1)) (m ((c : Thread nD τ).loc main_arg2)) (m ((c : Thread nD τ).loc main_arg3)) (place q.val) (256 * t.val + a.val) b.val)
    ∧ (outsAt0 m c t.val t.isLt).2.1 (ix2 a b) = mixF (m ((c : Thread nD τ).loc main_arg0)) (m ((c : Thread nD τ).loc main_arg1)) (m ((c : Thread nD τ).loc main_arg2)) (m ((c : Thread nD τ).loc main_arg3)) 1 (256 * t.val + a.val) b.val
    ∧ (outsAt0 m c t.val t.isLt).2.2.1 (ix2 a b) = mixF (m ((c : Thread nD τ).loc main_arg0)) (m ((c : Thread nD τ).loc main_arg1)) (m ((c : Thread nD τ).loc main_arg2)) (m ((c : Thread nD τ).loc main_arg3)) 4 (256 * t.val + a.val) b.val
    ∧ (outsAt0 m c t.val t.isLt).2.2.2.1 (ix2 a b) = mixF (m ((c : Thread nD τ).loc main_arg0)) (m ((c : Thread nD τ).loc main_arg1)) (m ((c : Thread nD τ).loc main_arg2)) (m ((c : Thread nD τ).loc main_arg3)) 5 (256 * t.val + a.val) b.val
    ∧ (outsAt0 m c t.val t.isLt).2.2.2.2.1 (ix2 a b) = hF (m ((c : Thread nD τ).loc main_arg0)) (m ((c : Thread nD τ).loc main_arg1)) (256 * t.val + a.val) b.val := by
  by_cases h0 : t.val % 8 = 0
  · rw [outsAt0_A m c t h0]
    dsimp only
    rw [out4_A, out5_A, out6_A, out7_A, out8_A]
    have hp : ∀ b, b < 2048 → (fun d => rd3 (R := 1) (C := 1) (D := 2048) (iblk m c 3 t) 0 0 d) b = if t.val % 8 = 0 then rd3 (m ((c : Thread nD τ).loc main_arg3)) 0 (t.val / 8) b else hF (m ((c : Thread nD τ).loc main_arg0)) (m ((c : Thread nD τ).loc main_arg1)) (256 * t.val - 1) b := fun b hb => by
      rw [if_pos h0]
      exact (rd3_ix3 (iblk m c 3 t : Vec Ideal S1x1x2048 .f32) 0 0 ⟨b, hb⟩).symm.trans (ib3 m c t ⟨b, hb⟩)
    exact ⟨fun q => mix_block m c t _ hp _ (place_lt _ q.isLt) _ a.isLt _ b.isLt, mix_block m c t _ hp _ (by norm_num) _ a.isLt _ b.isLt, mix_block m c t _ hp _ (by norm_num) _ a.isLt _ b.isLt, mix_block m c t _ hp _ (by norm_num) _ a.isLt _ b.isLt, h_block m c t a b⟩
  · rw [outsAt0_B m c t h0]
    dsimp only
    rw [out4_B, out5_B, out6_B, out7_B, out8_B]
    have hp : ∀ b, b < 2048 → (fun d => rd2 (R := 8) (C := 2048) ((outsAt0 m c (t.val - 1) (Nat.lt_of_le_of_lt (Nat.sub_le _ _) t.isLt)).2.2.2.2.2) 7 d) b = if t.val % 8 = 0 then rd3 (m ((c : Thread nD τ).loc main_arg3)) 0 (t.val / 8) b else hF (m ((c : Thread nD τ).loc main_arg0)) (m ((c : Thread nD τ).loc main_arg1)) (256 * t.val - 1) b := fun b hb => by
      rw [if_neg h0]
      refine (carry_row m c ⟨t.val - 1, by omega⟩ b hb).trans ?_
      rw [show 256 * (t.val - 1) + 255 = 256 * t.val - 1 by omega]
    exact ⟨fun q => mix_block m c t _ hp _ (place_lt _ q.isLt) _ a.isLt _ b.isLt, mix_block m c t _ hp _ (by norm_num) _ a.isLt _ b.isLt, mix_block m c t _ hp _ (by norm_num) _ a.isLt _ b.isLt, mix_block m c t _ hp _ (by norm_num) _ a.isLt _ b.isLt, h_block m c t a b⟩

/-- The first result's array after the run. -/
def res4 (c : Dev nD) : Buf (Elt Ideal) ((c : Thread nD τ).loc main_v8_0) := fun i => mixF (m ((c : Thread nD τ).loc main_arg0)) (m ((c : Thread nD τ).loc main_arg1)) (m ((c : Thread nD τ).loc main_arg2)) (m ((c : Thread nD τ).loc main_arg3)) (place (i 0).val) (i 1).val (i 2).val

theorem arr4 (c : Dev nD) : (dats m 0 c).arrAt 4 cfg0.N = res4 m c := by
  refine (dats m 0 c).arrAt_eq_of_cover 4 _ (fun t hf => ?_) (fun i => (Value.covered_iff4 i).2 (by
    have h0 : (i 0).val < 3 := (i 0).isLt; have h1 : (i 1).val < 8192 := (i 1).isLt; have h2 : (i 2).val < 2048 := (i 2).isLt; omega))
  rw [Value.flushed4]
  funext y
  have e := idx4 t
  have hb0 : (((cfg0.win 4).blk t).view.emb y 0).val = win0_4.index t (0 : Fin 3) * 3 + 1 * (y 0).val := rfl
  have hb1 : (((cfg0.win 4).blk t).view.emb y 1).val = win0_4.index t (1 : Fin 3) * 256 + 1 * (y 1).val := rfl
  have hb2 : (((cfg0.win 4).blk t).view.emb y 2).val = win0_4.index t (2 : Fin 3) * 2048 + 1 * (y 2).val := rfl
  have h0 : (((cfg0.win 4).blk t).view.emb y 0).val = (y 0).val := by rw [hb0, congrFun e 0]; show 0 * _ + _ = _; omega
  have h1 : (((cfg0.win 4).blk t).view.emb y 1).val = 256 * t.val + (y 1).val := by rw [hb1, congrFun e 1]; show t.val * 256 + _ = _; omega
  have h2 : (((cfg0.win 4).blk t).view.emb y 2).val = (y 2).val := by rw [hb2, congrFun e 2]; show 0 * _ + _ = _; omega
  show (outsAt0 m c t.val t.isLt).1 ((cfg0.win 4).xinj (grid0.coords t) y) = mixF (m ((c : Thread nD τ).loc main_arg0)) (m ((c : Thread nD τ).loc main_arg1)) (m ((c : Thread nD τ).loc main_arg2)) (m ((c : Thread nD τ).loc main_arg3)) (place (((cfg0.win 4).blk t).view.emb y 0).val) (((cfg0.win 4).blk t).view.emb y 1).val (((cfg0.win 4).blk t).view.emb y 2).val
  rw [h0, h1, h2]
  have h := (outs_at m c t ⟨(y 1).val, (y 1).isLt⟩ ⟨(y 2).val, (y 2).isLt⟩).1 ⟨(y 0).val, (y 0).isLt⟩
  refine Eq.trans (congrArg (outsAt0 m c t.val t.isLt).1 ?_) h
  funext a
  match a with
  | ⟨0, _⟩ => rfl
  | ⟨1, _⟩ => rfl
  | ⟨2, _⟩ => rfl

/-- Output 5's array after the run. -/
def res5 (c : Dev nD) : Buf (Elt Ideal) ((c : Thread nD τ).loc main_v8_1) := fun i => mixF (m ((c : Thread nD τ).loc main_arg0)) (m ((c : Thread nD τ).loc main_arg1)) (m ((c : Thread nD τ).loc main_arg2)) (m ((c : Thread nD τ).loc main_arg3)) 1 (i 0).val (i 1).val

theorem arr5 (c : Dev nD) : (dats m 0 c).arrAt 5 cfg0.N = res5 m c := by
  refine (dats m 0 c).arrAt_eq_of_cover 5 _ (fun t hf => ?_) (fun i => (Value.covered_iff5 i).2 (by
    have h0 : (i 0).val < 8192 := (i 0).isLt; have h1 : (i 1).val < 2048 := (i 1).isLt; omega))
  rw [Value.flushed5]
  funext y
  have e := idx5 t
  have hb0 : (((cfg0.win 5).blk t).view.emb y 0).val = win0_5.index t (0 : Fin 2) * 256 + 1 * (y 0).val := rfl
  have hb1 : (((cfg0.win 5).blk t).view.emb y 1).val = win0_5.index t (1 : Fin 2) * 2048 + 1 * (y 1).val := rfl
  have h0 : (((cfg0.win 5).blk t).view.emb y 0).val = 256 * t.val + (y 0).val := by rw [hb0, congrFun e 0]; show t.val * 256 + _ = _; omega
  have h1 : (((cfg0.win 5).blk t).view.emb y 1).val = (y 1).val := by rw [hb1, congrFun e 1]; show 0 * _ + _ = _; omega
  show (outsAt0 m c t.val t.isLt).2.1 ((cfg0.win 5).xinj (grid0.coords t) y) = mixF (m ((c : Thread nD τ).loc main_arg0)) (m ((c : Thread nD τ).loc main_arg1)) (m ((c : Thread nD τ).loc main_arg2)) (m ((c : Thread nD τ).loc main_arg3)) 1 (((cfg0.win 5).blk t).view.emb y 0).val (((cfg0.win 5).blk t).view.emb y 1).val
  rw [h0, h1]
  have h := (outs_at m c t ⟨(y 0).val, (y 0).isLt⟩ ⟨(y 1).val, (y 1).isLt⟩).2.1
  refine Eq.trans (congrArg (outsAt0 m c t.val t.isLt).2.1 ?_) h
  funext a
  match a with
  | ⟨0, _⟩ => rfl
  | ⟨1, _⟩ => rfl

/-- Output 6's array after the run. -/
def res6 (c : Dev nD) : Buf (Elt Ideal) ((c : Thread nD τ).loc main_v8_2) := fun i => mixF (m ((c : Thread nD τ).loc main_arg0)) (m ((c : Thread nD τ).loc main_arg1)) (m ((c : Thread nD τ).loc main_arg2)) (m ((c : Thread nD τ).loc main_arg3)) 4 (i 0).val (i 1).val

theorem arr6 (c : Dev nD) : (dats m 0 c).arrAt 6 cfg0.N = res6 m c := by
  refine (dats m 0 c).arrAt_eq_of_cover 6 _ (fun t hf => ?_) (fun i => (Value.covered_iff6 i).2 (by
    have h0 : (i 0).val < 8192 := (i 0).isLt; have h1 : (i 1).val < 2048 := (i 1).isLt; omega))
  rw [Value.flushed6]
  funext y
  have e := idx6 t
  have hb0 : (((cfg0.win 6).blk t).view.emb y 0).val = win0_6.index t (0 : Fin 2) * 256 + 1 * (y 0).val := rfl
  have hb1 : (((cfg0.win 6).blk t).view.emb y 1).val = win0_6.index t (1 : Fin 2) * 2048 + 1 * (y 1).val := rfl
  have h0 : (((cfg0.win 6).blk t).view.emb y 0).val = 256 * t.val + (y 0).val := by rw [hb0, congrFun e 0]; show t.val * 256 + _ = _; omega
  have h1 : (((cfg0.win 6).blk t).view.emb y 1).val = (y 1).val := by rw [hb1, congrFun e 1]; show 0 * _ + _ = _; omega
  show (outsAt0 m c t.val t.isLt).2.2.1 ((cfg0.win 6).xinj (grid0.coords t) y) = mixF (m ((c : Thread nD τ).loc main_arg0)) (m ((c : Thread nD τ).loc main_arg1)) (m ((c : Thread nD τ).loc main_arg2)) (m ((c : Thread nD τ).loc main_arg3)) 4 (((cfg0.win 6).blk t).view.emb y 0).val (((cfg0.win 6).blk t).view.emb y 1).val
  rw [h0, h1]
  have h := (outs_at m c t ⟨(y 0).val, (y 0).isLt⟩ ⟨(y 1).val, (y 1).isLt⟩).2.2.1
  refine Eq.trans (congrArg (outsAt0 m c t.val t.isLt).2.2.1 ?_) h
  funext a
  match a with
  | ⟨0, _⟩ => rfl
  | ⟨1, _⟩ => rfl

/-- Output 7's array after the run. -/
def res7 (c : Dev nD) : Buf (Elt Ideal) ((c : Thread nD τ).loc main_v8_3) := fun i => mixF (m ((c : Thread nD τ).loc main_arg0)) (m ((c : Thread nD τ).loc main_arg1)) (m ((c : Thread nD τ).loc main_arg2)) (m ((c : Thread nD τ).loc main_arg3)) 5 (i 0).val (i 1).val

theorem arr7 (c : Dev nD) : (dats m 0 c).arrAt 7 cfg0.N = res7 m c := by
  refine (dats m 0 c).arrAt_eq_of_cover 7 _ (fun t hf => ?_) (fun i => (Value.covered_iff7 i).2 (by
    have h0 : (i 0).val < 8192 := (i 0).isLt; have h1 : (i 1).val < 2048 := (i 1).isLt; omega))
  rw [Value.flushed7]
  funext y
  have e := idx7 t
  have hb0 : (((cfg0.win 7).blk t).view.emb y 0).val = win0_7.index t (0 : Fin 2) * 256 + 1 * (y 0).val := rfl
  have hb1 : (((cfg0.win 7).blk t).view.emb y 1).val = win0_7.index t (1 : Fin 2) * 2048 + 1 * (y 1).val := rfl
  have h0 : (((cfg0.win 7).blk t).view.emb y 0).val = 256 * t.val + (y 0).val := by rw [hb0, congrFun e 0]; show t.val * 256 + _ = _; omega
  have h1 : (((cfg0.win 7).blk t).view.emb y 1).val = (y 1).val := by rw [hb1, congrFun e 1]; show 0 * _ + _ = _; omega
  show (outsAt0 m c t.val t.isLt).2.2.2.1 ((cfg0.win 7).xinj (grid0.coords t) y) = mixF (m ((c : Thread nD τ).loc main_arg0)) (m ((c : Thread nD τ).loc main_arg1)) (m ((c : Thread nD τ).loc main_arg2)) (m ((c : Thread nD τ).loc main_arg3)) 5 (((cfg0.win 7).blk t).view.emb y 0).val (((cfg0.win 7).blk t).view.emb y 1).val
  rw [h0, h1]
  have h := (outs_at m c t ⟨(y 0).val, (y 0).isLt⟩ ⟨(y 1).val, (y 1).isLt⟩).2.2.2.1
  refine Eq.trans (congrArg (outsAt0 m c t.val t.isLt).2.2.2.1 ?_) h
  funext a
  match a with
  | ⟨0, _⟩ => rfl
  | ⟨1, _⟩ => rfl

/-- Output 8's array after the run. -/
def res8 (c : Dev nD) : Buf (Elt Ideal) ((c : Thread nD τ).loc main_v8_4) := fun i => hF (m ((c : Thread nD τ).loc main_arg0)) (m ((c : Thread nD τ).loc main_arg1)) (i 0).val (i 1).val

theorem arr8 (c : Dev nD) : (dats m 0 c).arrAt 8 cfg0.N = res8 m c := by
  refine (dats m 0 c).arrAt_eq_of_cover 8 _ (fun t hf => ?_) (fun i => (Value.covered_iff8 i).2 (by
    have h0 : (i 0).val < 8192 := (i 0).isLt; have h1 : (i 1).val < 2048 := (i 1).isLt; omega))
  rw [Value.flushed8]
  funext y
  have e := idx8 t
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  have h0 : (((cfg0.win 8).blk t).view.emb y 0).val = 256 * t.val + (y 0).val := by rw [hb0, congrFun e 0]; show t.val * 256 + _ = _; omega
  have h1 : (((cfg0.win 8).blk t).view.emb y 1).val = (y 1).val := by rw [hb1, congrFun e 1]; show 0 * _ + _ = _; omega
  show (outsAt0 m c t.val t.isLt).2.2.2.2.1 ((cfg0.win 8).xinj (grid0.coords t) y) = hF (m ((c : Thread nD τ).loc main_arg0)) (m ((c : Thread nD τ).loc main_arg1)) (((cfg0.win 8).blk t).view.emb y 0).val (((cfg0.win 8).blk t).view.emb y 1).val
  rw [h0, h1]
  have h := (outs_at m c t ⟨(y 0).val, (y 0).isLt⟩ ⟨(y 1).val, (y 1).isLt⟩).2.2.2.2
  refine Eq.trans (congrArg (outsAt0 m c t.val t.isLt).2.2.2.2.1 ?_) h
  funext a
  match a with
  | ⟨0, _⟩ => rfl
  | ⟨1, _⟩ => rfl

/-- The kernel's run, its results by the formulas. -/
theorem run (ρ : Dev nD → PrngReg) :
    θ_run defs (onTc (τ := τ) (main (F := Ideal))) ⟨m, fun _ => 0, ρ⟩ fun r => ∀ c : Dev nD,
      r.2.mem ((c : Thread nD τ).loc main_v8_0) = res4 m c
      ∧ r.2.mem ((c : Thread nD τ).loc main_v8_1) = res5 m c
      ∧ r.2.mem ((c : Thread nD τ).loc main_v8_2) = res6 m c
      ∧ r.2.mem ((c : Thread nD τ).loc main_v8_3) = res7 m c
      ∧ r.2.mem ((c : Thread nD τ).loc main_v8_4) = res8 m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c => ⟨(h c).1.trans (arr4 m c), (h c).2.1.trans (arr5 m c), (h c).2.2.1.trans (arr6 m c), (h c).2.2.2.1.trans (arr7 m c), (h c).2.2.2.2.1.trans (arr8 m c), (h c).2.2.2.2.2⟩)
    (Value.run_blocks m ρ)

end Cert.PrepIdeal.Prep

end
-- ==== Proof.PrepRef.lean ====
module

public import proofs.«01_k».proof.Proof.Gen.PrepRefIdeal.Run
public import proofs.«01_k».proof.Proof.PrepSpec

@[expose] public section

set_option maxRecDepth 16384

noncomputable section

namespace Cert.PrepRefIdeal.Prep

open Cert.Rd
open Cert.PrepIdeal.Prep (hF prevF mixF place)
open Cert.PrepRefIdeal Cert.PrepRefIdeal.Gen Idealize.ShloMosaic Idealize.ShloMosaic.TcCoe Idealize.SL.Sem Idealize.ShloMosaic.Tactic

/-- The reference's normalised rows, sequence by sequence. -/
def nrm (x : FVec Ideal S8192x2048 .f32) (g : FVec Ideal S4x2048 .f32) : FVec Ideal S4x2048x2048 .f32 :=
  (mulf (mulf (shapeCast _ x shapeCasts_S8192x2048_S4x2048x2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (shapeCast _ x shapeCasts_S8192x2048_S4x2048x2048) (shapeCast _ x shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![1, 0] g slices_S4x2048_S1x2048_1_0) shapeCasts_S1x2048_S2048))))

/-- The reference's rows before the rows. -/
def prv (s : FVec Ideal S2x4x2048 .f32) (h : FVec Ideal S4x2048x2048 .f32) : FVec Ideal S4x2048x2048 .f32 :=
  (concatenate S4x2048x2048 1 [⟨S4x1x2048, (broadcastInDim S4x1x2048 ![0, 2] bcast_S4x2048_S4x1x2048_0_2 (shapeCast _ (extractStridedSlice S1x4x2048 ![0, 0, 0] s slices_S2x4x2048_S1x4x2048_0_0_0) shapeCasts_S1x4x2048_S4x2048))⟩, ⟨S4x2047x2048, (extractStridedSlice S4x2047x2048 ![0, 0, 0] h slices_S4x2048x2048_S4x2047x2048_0_0_0)⟩] concatenates_S4x1x2048_S4x2047x2048_S4x2048x2048_d1)

/-- The reference's mix 0. -/
def mix0 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast _ (extractStridedSlice S1x6x2048 ![0, 0, 0] mu slices_S2x6x2048_S1x6x2048_0_0_0) shapeCasts_S1x6x2048_S6x2048) slices_S6x2048_S1x2048_0_0) shapeCasts_S1x2048_S2048))))

/-- The reference's mix 1. -/
def mix1 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![1, 0] (shapeCast _ (extractStridedSlice S1x6x2048 ![0, 0, 0] mu slices_S2x6x2048_S1x6x2048_0_0_0) shapeCasts_S1x6x2048_S6x2048) slices_S6x2048_S1x2048_1_0) shapeCasts_S1x2048_S2048))))

/-- The reference's mix 2. -/
def mix2 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![2, 0] (shapeCast _ (extractStridedSlice S1x6x2048 ![0, 0, 0] mu slices_S2x6x2048_S1x6x2048_0_0_0) shapeCasts_S1x6x2048_S6x2048) slices_S6x2048_S1x2048_2_0) shapeCasts_S1x2048_S2048))))

/-- The reference's mix 3. -/
def mix3 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![3, 0] (shapeCast _ (extractStridedSlice S1x6x2048 ![0, 0, 0] mu slices_S2x6x2048_S1x6x2048_0_0_0) shapeCasts_S1x6x2048_S6x2048) slices_S6x2048_S1x2048_3_0) shapeCasts_S1x2048_S2048))))

/-- The reference's mix 4. -/
def mix4 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![4, 0] (shapeCast _ (extractStridedSlice S1x6x2048 ![0, 0, 0] mu slices_S2x6x2048_S1x6x2048_0_0_0) shapeCasts_S1x6x2048_S6x2048) slices_S6x2048_S1x2048_4_0) shapeCasts_S1x2048_S2048))))

/-- The reference's mix 5. -/
def mix5 (mu : FVec Ideal S2x6x2048 .f32) (h q : FVec Ideal S4x2048x2048 .f32) : FVec Ideal S4x2048x2048 .f32 :=
  addf h (mulf (subf q h) (broadcastInDim S4x2048x2048 ![0, 1, 2] bcast_S1x1x2048_S4x2048x2048_0_1_2 (broadcastInDim S1x1x2048 ![2] bcast_S2048_S1x1x2048_2 (shapeCast _ (extractStridedSlice S1x2048 ![5, 0] (shapeCast _ (extractStridedSlice S1x6x2048 ![0, 0, 0] mu slices_S2x6x2048_S1x6x2048_0_0_0) shapeCasts_S1x6x2048_S6x2048) slices_S6x2048_S1x2048_5_0) shapeCasts_S1x2048_S2048))))

/-- Three arrays stacked. -/
def cat3 (u v w : FVec Ideal S4x2048x2048 .f32) : FVec Ideal S3x4x2048x2048 .f32 :=
  (concatenate S3x4x2048x2048 0 [⟨S1x4x2048x2048, ((broadcastInDim S1x4x2048x2048 ![1, 2, 3] bcast_S4x2048x2048_S1x4x2048x2048_1_2_3 u) : (⟨S1x4x2048x2048, .f32⟩ : BufTy).Contents (Elt Ideal))⟩, ⟨S1x4x2048x2048, ((broadcastInDim S1x4x2048x2048 ![1, 2, 3] bcast_S4x2048x2048_S1x4x2048x2048_1_2_3 v) : (⟨S1x4x2048x2048, .f32⟩ : BufTy).Contents (Elt Ideal))⟩, ⟨S1x4x2048x2048, ((broadcastInDim S1x4x2048x2048 ![1, 2, 3] bcast_S4x2048x2048_S1x4x2048x2048_1_2_3 w) : (⟨S1x4x2048x2048, .f32⟩ : BufTy).Contents (Elt Ideal))⟩] concatenates_S1x4x2048x2048_S1x4x2048x2048_S1x4x2048x2048_S3x4x2048x2048_d0)

/-- Three arrays of sequences stacked, as arrays of rows. -/
def stk (u v w : FVec Ideal S4x2048x2048 .f32) : FVec Ideal S3x8192x2048 .bf16 :=
  truncf .bf16 (shapeCast S3x8192x2048 (cat3 u v w) shapeCasts_S3x4x2048x2048_S3x8192x2048) bitsLt_bf16_f32

/-- An array of sequences as an array of rows. -/
def flat (u : FVec Ideal S4x2048x2048 .f32) : FVec Ideal S8192x2048 .f32 := shapeCast _ u shapeCasts_S4x2048x2048_S8192x2048

theorem nrm_ix (x : FVec Ideal S8192x2048 .f32) (g : FVec Ideal S4x2048 .f32) (a : Fin 4) (l d : Fin 2048) :
    nrm x g (ix3 a l d) = hF x g (2048 * a.val + l.val) d.val := by
  pointwise [nrm]
  unfold hF rowNorm
  simp only [rd2_ix2 x, rd2_ix2 g]
  rw [Nat.mul_comm 2048 a.val]
  rfl

theorem prv_ix (x : FVec Ideal S8192x2048 .f32) (g : FVec Ideal S4x2048 .f32) (s : FVec Ideal S2x4x2048 .f32) (a : Fin 4) (l d : Fin 2048) :
    prv s (nrm x g) (ix3 a l d) = prevF x g s (2048 * a.val + l.val) d.val := by
  have hh := nrm_ix x g
  generalize nrm x g = h at hh ⊢
  have hl : l.val < 2048 := l.isLt
  unfold prevF
  pointwise [prv]
  by_cases h0 : l.val < 1
  · rw [dif_pos h0, if_pos (show (2048 * a.val + l.val) % 2048 = 0 by omega), rd3_ix3 s, show (2048 * a.val + l.val) / 2048 = a.val by omega]; rfl
  · rw [dif_neg h0, if_neg (show ¬(2048 * a.val + l.val) % 2048 = 0 by omega)]
    refine (hh _ _ _).trans ?_
    show hF x g (2048 * a.val + (l.val - 1)) _ = _
    rw [show 2048 * a.val + (l.val - 1) = 2048 * a.val + l.val - 1 by omega]

theorem mix0_ix (x : FVec Ideal S8192x2048 .f32) (g : FVec Ideal S4x2048 .f32) (mu : FVec Ideal S2x6x2048 .f32) (s : FVec Ideal S2x4x2048 .f32) (a : Fin 4) (l d : Fin 2048) :
    mix0 mu (nrm x g) (prv s (nrm x g)) (ix3 a l d) = mixF x g mu s 0 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix0]
  rw [rd3_ix3 mu]
  rfl

theorem mix1_ix (x : FVec Ideal S8192x2048 .f32) (g : FVec Ideal S4x2048 .f32) (mu : FVec Ideal S2x6x2048 .f32) (s : FVec Ideal S2x4x2048 .f32) (a : Fin 4) (l d : Fin 2048) :
    mix1 mu (nrm x g) (prv s (nrm x g)) (ix3 a l d) = mixF x g mu s 1 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix1]
  rw [rd3_ix3 mu]
  rfl

theorem mix2_ix (x : FVec Ideal S8192x2048 .f32) (g : FVec Ideal S4x2048 .f32) (mu : FVec Ideal S2x6x2048 .f32) (s : FVec Ideal S2x4x2048 .f32) (a : Fin 4) (l d : Fin 2048) :
    mix2 mu (nrm x g) (prv s (nrm x g)) (ix3 a l d) = mixF x g mu s 2 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix2]
  rw [rd3_ix3 mu]
  rfl

theorem mix3_ix (x : FVec Ideal S8192x2048 .f32) (g : FVec Ideal S4x2048 .f32) (mu : FVec Ideal S2x6x2048 .f32) (s : FVec Ideal S2x4x2048 .f32) (a : Fin 4) (l d : Fin 2048) :
    mix3 mu (nrm x g) (prv s (nrm x g)) (ix3 a l d) = mixF x g mu s 3 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix3]
  rw [rd3_ix3 mu]
  rfl

theorem mix4_ix (x : FVec Ideal S8192x2048 .f32) (g : FVec Ideal S4x2048 .f32) (mu : FVec Ideal S2x6x2048 .f32) (s : FVec Ideal S2x4x2048 .f32) (a : Fin 4) (l d : Fin 2048) :
    mix4 mu (nrm x g) (prv s (nrm x g)) (ix3 a l d) = mixF x g mu s 4 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix4]
  rw [rd3_ix3 mu]
  rfl

theorem mix5_ix (x : FVec Ideal S8192x2048 .f32) (g : FVec Ideal S4x2048 .f32) (mu : FVec Ideal S2x6x2048 .f32) (s : FVec Ideal S2x4x2048 .f32) (a : Fin 4) (l d : Fin 2048) :
    mix5 mu (nrm x g) (prv s (nrm x g)) (ix3 a l d) = mixF x g mu s 5 (2048 * a.val + l.val) d.val := by
  have hh := nrm_ix x g a l d
  have hp := prv_ix x g s a l d
  generalize prv s (nrm x g) = q at hp ⊢
  generalize nrm x g = h at hh ⊢
  unfold mixF
  rw [← hh, ← hp]
  pointwise [mix5]
  rw [rd3_ix3 mu]
  rfl

theorem flat_ix (u : FVec Ideal S4x2048x2048 .f32) (r : Fin 8192) (d : Fin 2048) :
    flat u (ix2 r d) = u (ix3 ⟨r.val / 2048, by omega⟩ ⟨r.val % 2048, by omega⟩ d) := by
  pointwise [flat]

theorem cat3_ix (u v w : FVec Ideal S4x2048x2048 .f32) (z : Fin 3) (a : Fin 4) (l d : Fin 2048) :
    cat3 u v w (ix4 z a l d) = (if z.val = 0 then u else if z.val = 1 then v else w) (ix3 a l d) := by
  pointwise [cat3]
  have hz : z.val < 3 := z.isLt
  by_cases h0 : z.val = 0
  · rw [dif_pos (show z.val < 1 by omega), if_pos h0]
  · rw [dif_neg (show ¬z.val < 1 by omega), if_neg h0]
    by_cases h1 : z.val = 1
    · rw [dif_pos (show z.val - 1 < 1 by omega), if_pos h1]
    · rw [dif_neg (show ¬z.val - 1 < 1 by omega), if_neg h1]

/-- Two middle axes merged into one. -/
theorem merge {α : Type} {m a b c n : ℕ} (hn : n = a * b) (x : (⟨4, ![m, a, b, c]⟩ : Shape).Idx → α)
    (h : (⟨4, ![m, a, b, c]⟩ : Shape).ShapeCasts ⟨3, ![m, n, c]⟩) (z : Fin m) (i : Fin a) (j : Fin b) (r : Fin n) (hr : r.val = i.val * b + j.val) (d : Fin c) :
    shapeCast ⟨3, ![m, n, c]⟩ x h (ix3 z r d) = x (ix4 z i j d) :=
  shapeCast_apply x h _ _ (by
    rw [Shape.rowMajor_val_four, Shape.rowMajor_val_three]
    show ((z.val * a + i.val) * b + j.val) * c + d.val = (z.val * n + r.val) * c + d.val
    rw [hr, hn]; ring)

theorem trunc_at (y : FVec Ideal S3x4x2048x2048 .f32) (i : S3x8192x2048.Idx) :
    (truncf .bf16 (shapeCast S3x8192x2048 y shapeCasts_S3x4x2048x2048_S3x8192x2048) bitsLt_bf16_f32 : FVec Ideal S3x8192x2048 .bf16) i
      = shapeCast S3x8192x2048 y shapeCasts_S3x4x2048x2048_S3x8192x2048 i := rfl

theorem rows_at (y : FVec Ideal S3x4x2048x2048 .f32) (z : Fin 3) (r : Fin 8192) (d : Fin 2048) :
    shapeCast S3x8192x2048 y shapeCasts_S3x4x2048x2048_S3x8192x2048 (ix3 z r d) = y (ix4 z ⟨r.val / 2048, by omega⟩ ⟨r.val % 2048, by omega⟩ d) :=
  merge (m := 3) (a := 4) (b := 2048) (c := 2048) (n := 8192) (by norm_num) y shapeCasts_S3x4x2048x2048_S3x8192x2048 z _ _ r (by dsimp only; omega) d

theorem stk_ix (u v w : FVec Ideal S4x2048x2048 .f32) (z : Fin 3) (r : Fin 8192) (d : Fin 2048) :
    stk u v w (ix3 z r d) = (if z.val = 0 then u else if z.val = 1 then v else w) (ix3 ⟨r.val / 2048, by omega⟩ ⟨r.val % 2048, by omega⟩ d) :=
  (trunc_at (cat3 u v w) (ix3 z r d)).trans ((rows_at (cat3 u v w) z r d).trans (cat3_ix u v w z _ _ d))

theorem at_row (f : ℕ → EReal) (r : Fin 8192) : f (2048 * (r.val / 2048) + r.val % 2048) = f r.val := congrArg f (Nat.div_add_mod _ _)

section
variable (x : FVec Ideal S8192x2048 .f32) (g : FVec Ideal S4x2048 .f32) (mu : FVec Ideal S2x6x2048 .f32) (s : FVec Ideal S2x4x2048 .f32)

theorem stk_eq : stk (mix0 mu (nrm x g) (prv s (nrm x g))) (mix2 mu (nrm x g) (prv s (nrm x g))) (mix3 mu (nrm x g) (prv s (nrm x g)))
    = fun i => mixF x g mu s (place (i 0).val) (i 1).val (i 2).val := by
  funext i
  idx_vars i
  refine (stk_ix _ _ _ _ _ _).trans ?_
  show _ = mixF x g mu s (place i0.val) i1.val i2.val
  unfold place
  by_cases z0 : i0.val = 0
  · rw [if_pos z0, if_pos z0, mix0_ix]
    exact at_row (fun k => mixF x g mu s 0 k i2.val) i1
  · rw [if_neg z0, if_neg z0]
    by_cases z1 : i0.val = 1
    · rw [if_pos z1, z1, mix2_ix]
      exact at_row (fun k => mixF x g mu s 2 k i2.val) i1
    · rw [if_neg z1, show i0.val = 2 by omega, mix3_ix]
      exact at_row (fun k => mixF x g mu s 3 k i2.val) i1

theorem flat1_eq : flat (mix1 mu (nrm x g) (prv s (nrm x g))) = fun i => mixF x g mu s 1 (i 0).val (i 1).val := by
  funext i
  idx_vars i
  rw [flat_ix, mix1_ix]
  exact at_row (fun k => mixF x g mu s 1 k i1.val) i0

theorem flat4_eq : flat (mix4 mu (nrm x g) (prv s (nrm x g))) = fun i => mixF x g mu s 4 (i 0).val (i 1).val := by
  funext i
  idx_vars i
  rw [flat_ix, mix4_ix]
  exact at_row (fun k => mixF x g mu s 4 k i1.val) i0

theorem flat5_eq : flat (mix5 mu (nrm x g) (prv s (nrm x g))) = fun i => mixF x g mu s 5 (i 0).val (i 1).val := by
  funext i
  idx_vars i
  rw [flat_ix, mix5_ix]
  exact at_row (fun k => mixF x g mu s 5 k i1.val) i0

theorem flath_eq : flat (nrm x g) = fun i => hF x g (i 0).val (i 1).val := by
  funext i
  idx_vars i
  rw [flat_ix, nrm_ix]
  exact at_row (fun k => hF x g k i1.val) i0

end

theorem res_eq (m : (ℓ : Loc nD τ sig) → Buf (Elt Ideal) ℓ) (c : Dev nD) :
    Cert.PrepRefIdeal.Value.res_main_v65 m c = stk (mix0 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) (mix2 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) (mix3 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) := rfl

/-- Every run of the reference ends with the formula's arrays as its results and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = (fun i => mixF (m ((c.tc : Thread nD τ).loc main_arg0)) (m ((c.tc : Thread nD τ).loc main_arg1)) (m ((c.tc : Thread nD τ).loc main_arg2)) (m ((c.tc : Thread nD τ).loc main_arg3)) (place (i 0).val) (i 1).val (i 2).val)
      ∧ r.2.mem ((c.tc : Thread nD τ).loc main_v67) = (fun i => mixF (m ((c.tc : Thread nD τ).loc main_arg0)) (m ((c.tc : Thread nD τ).loc main_arg1)) (m ((c.tc : Thread nD τ).loc main_arg2)) (m ((c.tc : Thread nD τ).loc main_arg3)) 1 (i 0).val (i 1).val)
      ∧ r.2.mem ((c.tc : Thread nD τ).loc main_v69) = (fun i => mixF (m ((c.tc : Thread nD τ).loc main_arg0)) (m ((c.tc : Thread nD τ).loc main_arg1)) (m ((c.tc : Thread nD τ).loc main_arg2)) (m ((c.tc : Thread nD τ).loc main_arg3)) 4 (i 0).val (i 1).val)
      ∧ r.2.mem ((c.tc : Thread nD τ).loc main_v71) = (fun i => mixF (m ((c.tc : Thread nD τ).loc main_arg0)) (m ((c.tc : Thread nD τ).loc main_arg1)) (m ((c.tc : Thread nD τ).loc main_arg2)) (m ((c.tc : Thread nD τ).loc main_arg3)) 5 (i 0).val (i 1).val)
      ∧ r.2.mem ((c.tc : Thread nD τ).loc main_v72) = (fun i => hF (m ((c.tc : Thread nD τ).loc main_arg0)) (m ((c.tc : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((res_eq m c).trans (stk_eq _ _ _ _)), (h c).2.1.trans (flat1_eq _ _ _ _), (h c).2.2.1.trans (flat4_eq _ _ _ _), (h c).2.2.2.1.trans (flat5_eq _ _ _ _), (h c).2.2.2.2.1.trans (flath_eq _ _), (h c).2.2.2.2.2⟩) (Cert.PrepRefIdeal.Value.run m ρ)

end Cert.PrepRefIdeal.Prep

end
-- ==== Proof.PairPrep.lean ====
module

public import proofs.«01_k».proof.Defs
public import proofs.«01_k».proof.Proof.Gen.Prep.Frame
public import proofs.«01_k».proof.Proof.Gen.PrepIdeal.Frame
public import proofs.«01_k».proof.Proof.Gen.PrepRefIdeal.Run
public import proofs.«01_k».proof.Proof.PrepRun
public import proofs.«01_k».proof.Proof.PrepRef
public import Idealize.ShloMosaic.Lib.Quiescent

@[expose] public section

noncomputable section

namespace Cert.Proof

open Idealize.ShloMosaic Idealize.SL.Sem

theorem frame_Prep : Cert.quiescent_Prep (hPrep := Cert.Prep.Gen.facts) :=
  fun m ρ _ => Cert.Prep.Gen.frame m ρ

theorem frame_PrepIdeal : Cert.quiescent_PrepIdeal (hPrepIdeal := Cert.PrepIdeal.Gen.facts) :=
  fun m ρ _ => Cert.PrepIdeal.Gen.frame m ρ

theorem frame_PrepRefIdeal : Cert.quiescent_PrepRefIdeal (hPrepRefIdeal := Cert.PrepRefIdeal.Gen.facts) :=
  fun m ρ _ => (θ_run Cert.PrepRefIdeal.defs _ _).mono (fun r h => ⟨fun c => (h c).2.2.2.2.2, Idealize.ShloMosaic.sem_eq_zero_of_no_sems (by decide) r.2⟩) (Cert.PrepRefIdeal.Value.run (F := Ideal) m ρ)

/-- Kernel and reference end with the same result, the array the formula gives. -/
theorem alg_Prep : Cert.algebraic_PrepIdeal_PrepRefIdeal (hPrepIdeal := Cert.PrepIdeal.Gen.facts) (hPrepRefIdeal := Cert.PrepRefIdeal.Gen.facts) := by
  intro m ρ m' ρ' _ hagree
  refine ⟨fun c => Cert.PrepIdeal.Prep.res4 m c, fun c => Cert.PrepIdeal.Prep.res5 m c, fun c => Cert.PrepIdeal.Prep.res6 m c, fun c => Cert.PrepIdeal.Prep.res7 m c, fun c => Cert.PrepIdeal.Prep.res8 m c, Cert.PrepIdeal.Prep.run m ρ, (θ_run Cert.PrepRefIdeal.defs _ _).mono (fun r h c => ?_) (Cert.PrepRefIdeal.Prep.run m' ρ')⟩
  obtain ⟨a0, a1, a2, a3⟩ := hagree c
  obtain ⟨e0, e1, e2, e3, e4, hk⟩ := h c
  simp only [a0, a1, a2, a3] at e0 e1 e2 e3 e4
  exact ⟨e0, e1, e2, e3, e4, hk⟩

end Cert.Proof

end
-- ==== Proof.NormSSpec.lean ====
module

public import proofs.«01_k».proof.Proof.Gen.NormSIdeal.Skeleton
public import proofs.«01_k».proof.Proof.Read

@[expose] public section

set_option maxRecDepth 16384

noncomputable section

namespace Cert.NormSIdeal.NormS

open Cert.Rd
open Cert.NormSIdeal Cert.NormSIdeal.Gen Idealize.ShloMosaic Idealize.ShloMosaic.TcCoe Idealize.SL.Sem Idealize.ShloMosaic.Tactic

/-- The kernel's block: each row normalised. -/
theorem pay1_at (x : Vec Ideal S512x2048 .f32) (g : Vec Ideal S1x2048 .f32) (a : Fin 512) (d : Fin 2048) :
    k0_pay1 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay1]

/-- The final norm's result. -/
def normF (x : S1024x2048.Idx → EReal) (g : S2048.Idx → EReal) (r d : ℕ) : EReal :=
  rowNorm (rd2 x) (rd1 g) r d

end Cert.NormSIdeal.NormS
-- ==== Proof.NormSRun.lean ====
module

public import proofs.«01_k».proof.Proof.Gen.NormSIdeal.Value
public import proofs.«01_k».proof.Proof.NormSSpec
public import Idealize.ShloMosaic.Lib.Pipeline.ValueKit.Tiles
public import Idealize.ShloMosaic.Lib.Pipeline.ValueKit.Point

@[expose] public section

set_option maxRecDepth 16384

noncomputable section

namespace Cert.NormSIdeal.NormS

open Cert.Rd
open Cert.NormSIdeal Cert.NormSIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem N_le (t : Fin cfg0.N) : t.val < 2 := t.isLt

theorem ib0 (c : Dev nD) (t : Fin cfg0.N) (a : Fin 512) (b : Fin 2048) :
    (iblk m c 0 t : Vec Ideal S512x2048 .f32) (ix2 a b) = rd2 (m ((c : Thread nD τ).loc main_arg0)) (512 * t.val + a.val) b.val := by
  have ht := N_le t
  unfold rd2; rw [dif_pos ⟨by omega, by omega⟩]
  blk_ext [iblk, V, idx0 t]

theorem ib1 (c : Dev nD) (t : Fin cfg0.N) (b : Fin 2048) :
    (iblk m c 1 t : Vec Ideal S1x2048 .f32) (ix2 0 b) = rd1 (m ((c : Thread nD τ).loc main_arg1)) b.val := by
  have ht := N_le t
  unfold rd1; rw [dif_pos (by omega)]
  blk_ext! [iblk, idx1 t]

/-- One block of the result. -/
theorem block (c : Dev nD) (t : Fin cfg0.N) (a : Fin 512) (d : Fin 2048) :
    k0_pay1 (iblk m c 0 t) (iblk m c 1 t) (ix2 a d) = normF (m ((c : Thread nD τ).loc main_arg0)) (m ((c : Thread nD τ).loc main_arg1)) (512 * t.val + a.val) d.val := by
  refine (pay1_at (iblk m c 0 t) (iblk m c 1 t) a d).trans ?_
  have h0 := ib0 m c t
  have h1 := ib1 m c t
  generalize (iblk m c 0 t : Vec Ideal S512x2048 .f32) = x at h0 ⊢
  generalize (iblk m c 1 t : Vec Ideal S1x2048 .f32) = g at h1 ⊢
  unfold normF rowNorm
  simp only [h0, h1]

/-- The array the formula gives. -/
def res (c : Dev nD) : Buf (Elt Ideal) ((c : Thread nD τ).loc main_v1) := fun i => normF (m ((c : Thread nD τ).loc main_arg0)) (m ((c : Thread nD τ).loc main_arg1)) (i 0).val (i 1).val

/-- Every position lies in some point's block. -/
theorem cover (i : S1024x2048.Idx) : ∃ t : Fin cfg0.N, (cfg0.win 2).flush t = true ∧ i ∈ ((cfg0.win 2).blk t).view.set := by
  have hi0 : (i 0).val < 1024 := (i 0).isLt
  have hi1 : (i 1).val < 2048 := (i 1).isLt
  have hN : (i 0).val / 512 < cfg0.N := by rw [show cfg0.N = 2 from N_0]; omega
  refine ⟨⟨_, hN⟩, flush0_2 _, ?_⟩
  show i ∈ ((View.whole main_v1).slice (win0_2.rect ⟨_, hN⟩)).set
  rw [View.set_slice_whole, Rect.mem_set_unit]
  intro a
  have e := idx2 ⟨_, hN⟩
  match a with
  | ⟨0, _⟩ => show win0_2.index _ (0 : Fin 2) * 512 ≤ (i 0).val ∧ (i 0).val < win0_2.index _ (0 : Fin 2) * 512 + 512; rw [congrFun e 0]; show (i 0).val / 512 * 512 ≤ _ ∧ _ < (i 0).val / 512 * 512 + 512; omega
  | ⟨1, _⟩ => show win0_2.index _ (1 : Fin 2) * 2048 ≤ (i 1).val ∧ (i 1).val < win0_2.index _ (1 : Fin 2) * 2048 + 2048; rw [congrFun e 1]; show 0 * 2048 ≤ _ ∧ _ < 0 * 2048 + 2048; omega

theorem arr (c : Dev nD) : (dats m 0 c).arrAt 2 cfg0.N = res m c := by
  refine (dats m 0 c).arrAt_eq_of_cover 2 _ (fun t hf => ?_) (fun i => cover i)
  rw [Value.flushed2]
  funext y
  have e := idx2 t
  have hb0 : (((cfg0.win 2).blk t).view.emb y 0).val = win0_2.index t (0 : Fin 2) * 512 + 1 * (y 0).val := rfl
  have hb1 : (((cfg0.win 2).blk t).view.emb y 1).val = win0_2.index t (1 : Fin 2) * 2048 + 1 * (y 1).val := rfl
  have h0 : (((cfg0.win 2).blk t).view.emb y 0).val = 512 * t.val + (y 0).val := by rw [hb0, congrFun e 0]; show t.val * 512 + _ = _; omega
  have h1 : (((cfg0.win 2).blk t).view.emb y 1).val = (y 1).val := by rw [hb1, congrFun e 1]; show 0 * _ + _ = _; omega
  show out0_2 (iblk m c 0 t) (iblk m c 1 t) ((cfg0.win 2).xinj (grid0.coords t) y) = normF (m ((c : Thread nD τ).loc main_arg0)) (m ((c : Thread nD τ).loc main_arg1)) (((cfg0.win 2).blk t).view.emb y 0).val (((cfg0.win 2).blk t).view.emb y 1).val
  rw [h0, h1]
  unfold out0_2
  rw [View.canon_unit_zero (S := S512x2048) hz2]
  simp only [View.ld_unit_zero (S := S512x2048) hz2, View.ld_unit_zero (S := S1x2048) hz2]
  refine Eq.trans (congrArg (k0_pay1 (iblk m c 0 t) (iblk m c 1 t)) ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.NormSIdeal.NormS
-- ==== Proof.NormSRef.lean ====
module

public import proofs.«01_k».proof.Proof.Gen.NormSRefIdeal.Run
public import proofs.«01_k».proof.Proof.NormSSpec

@[expose] public section

set_option maxRecDepth 16384

noncomputable section

namespace Cert.NormSRefIdeal.NormS

open Cert.Rd
open Cert.NormSIdeal.NormS (normF)
open Cert.NormSRefIdeal Cert.NormSRefIdeal.Gen Idealize.ShloMosaic Idealize.ShloMosaic.TcCoe Idealize.SL.Sem Idealize.ShloMosaic.Tactic

/-- The reference's result, from its arguments. -/
def out (x : FVec Ideal S1024x2048 .f32) (g : FVec Ideal S2048 .f32) : FVec Ideal S1024x2048 .f32 :=
  mulf (mulf x (broadcastInDim S1024x2048 ![0, 1] bcast_S1024x1_S1024x2048_0_1 (Host.rsqrt (addf (Host.divf (broadcastInDim S1024x1 ![0] bcast_S1024_S1024x1_0 (Host.reduceAdd (mulf x x) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 g))

theorem out_ix (x : FVec Ideal S1024x2048 .f32) (g : FVec Ideal S2048 .f32) (a : Fin 1024) (d : Fin 2048) :
    out x g (ix2 a d) = normF x g a.val d.val := by
  pointwise [out]
  simp only [rd2_ix2 x, rd1_ix1 g]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun i => normF (m ((c.tc : Thread nD τ).loc main_arg0)) (m ((c.tc : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      rw [show i = ix2 (i 0) (i 1) from eq_ix2 i]
      exact out_ix _ _ _ _), (h c).2⟩) (Cert.NormSRefIdeal.Value.run m ρ)

end Cert.NormSRefIdeal.NormS
-- ==== Proof.PairNormS.lean ====
module

public import proofs.«01_k».proof.Defs
public import proofs.«01_k».proof.Proof.Gen.NormS.Frame
public import proofs.«01_k».proof.Proof.Gen.NormSIdeal.Frame
public import proofs.«01_k».proof.Proof.Gen.NormSRefIdeal.Run
public import proofs.«01_k».proof.Proof.NormSRun
public import proofs.«01_k».proof.Proof.NormSRef
public import Idealize.ShloMosaic.Lib.Quiescent

@[expose] public section

noncomputable section

namespace Cert.Proof

open Idealize.ShloMosaic Idealize.SL.Sem

theorem frame_NormS : Cert.quiescent_NormS (hNormS := Cert.NormS.Gen.facts) :=
  fun m ρ _ => Cert.NormS.Gen.frame m ρ

theorem frame_NormSIdeal : Cert.quiescent_NormSIdeal (hNormSIdeal := Cert.NormSIdeal.Gen.facts) :=
  fun m ρ _ => Cert.NormSIdeal.Gen.frame m ρ

theorem frame_NormSRefIdeal : Cert.quiescent_NormSRefIdeal (hNormSRefIdeal := Cert.NormSRefIdeal.Gen.facts) :=
  fun m ρ _ => (θ_run Cert.NormSRefIdeal.defs _ _).mono (fun r h => ⟨fun c => (h c).2, Idealize.ShloMosaic.sem_eq_zero_of_no_sems (by decide) r.2⟩) (Cert.NormSRefIdeal.Value.run (F := Ideal) m ρ)

/-- Kernel and reference end with the same result, the array the formula gives. -/
theorem alg_NormS : Cert.algebraic_NormSIdeal_NormSRefIdeal (hNormSIdeal := Cert.NormSIdeal.Gen.facts) (hNormSRefIdeal := Cert.NormSRefIdeal.Gen.facts) := by
  intro m ρ m' ρ' _ hagree
  refine ⟨fun c => Cert.NormSIdeal.NormS.res m c, Cert.NormSIdeal.NormS.run m ρ, (θ_run Cert.NormSRefIdeal.defs _ _).mono (fun r h c => ?_) (Cert.NormSRefIdeal.NormS.run m' ρ')⟩
  obtain ⟨a0, a1⟩ := hagree c
  obtain ⟨e0, hk⟩ := h c
  simp only [a0, a1] at e0
  exact ⟨e0, hk⟩

end Cert.Proof

end
-- ==== Proof.PrepSSpec.lean ====
module

public import proofs.«01_k».proof.Proof.Gen.PrepSIdeal.Skeleton
public import proofs.«01_k».proof.Proof.Read

@[expose] public section

set_option maxRecDepth 16384

noncomputable section

namespace Cert.PrepSIdeal.PrepS

open Cert.Rd
open Cert.PrepSIdeal Cert.PrepSIdeal.Gen Idealize.ShloMosaic Idealize.ShloMosaic.TcCoe Idealize.SL.Sem Idealize.ShloMosaic.Tactic

/-- The normalised row `r`. -/
def hF (x : S1024x2048.Idx → EReal) (g : S4x2048.Idx → EReal) (r d : ℕ) : EReal := rowNorm (rd2 x) (rd2 g 1) r d

/-- The normalised row before row `r`: the given start at the first row of a sequence. -/
def prevF (x : S1024x2048.Idx → EReal) (g : S4x2048.Idx → EReal) (s : S2x128x2048.Idx → EReal) (r d : ℕ) : EReal :=
  if r % 8 = 0 then rd3 s 0 (r / 8) d else hF x g (r - 1) d

/-- Row `r` moved towards the row before it by the `n`-th mix. -/
def mixF (x : S1024x2048.Idx → EReal) (g : S4x2048.Idx → EReal) (mu : S2x6x2048.Idx → EReal) (s : S2x128x2048.Idx → EReal) (n r d : ℕ) : EReal :=
  hF x g r d + (prevF x g s r d - hF x g r d) * rd3 mu 0 n d

/-- Which mix stands at place `q` of the first result. -/
def place (q : ℕ) : ℕ := if q = 0 then 0 else q + 1

/-- The mix inside one block of rows `H`, with `B` the rows before the first rows of its sequences. -/
def mixB (H : S256x2048.Idx → EReal) (mu : S6x2048.Idx → EReal) (B : S256x2048.Idx → EReal) (n a b : ℕ) : EReal :=
  rd2 H a b + ((if a % 8 = 0 then rd2 B a b else rd2 H (a - 1) b) - rd2 H a b) * rd2 mu n b

/-- A select on a mask, as a condition. -/
theorem select_if (p : Prop) [Decidable p] (x y : EReal) : Scalar.select (if p then 1#1 else 0#1) x y = if p then x else y := by
  by_cases h : p <;> simp only [h, if_true, if_false] <;> rfl

/-- The kernel's normalised rows. -/
theorem pay3_at (x : Vec Ideal S256x2048 .f32) (g : Vec Ideal S1x2048 .f32) (a : Fin 256) (d : Fin 2048) :
    k0_pay3 x g (ix2 a d) = x (ix2 a d) * Ideal.rsqrt (Ideal.div (∑ k : Fin 2048, x (ix2 a k) * x (ix2 a k)) (Ideal.ofBits .f32 0x45000000#32) + Ideal.ofBits .f32 0x358637BD#32) * g (ix2 0 d) := by
  pointwise [k0_pay3]

/-- The rows before the rows. -/
theorem prev_at (x : Vec Ideal S256x2048 .f32) (g : Vec Ideal S1x2048 .f32) (B : Vec Ideal S256x2048 .f32) (a : Fin 256) (b : Fin 2048) :
    k0_pay4 x g B (ix2 a b) = if a.val % 8 = 0 then rd2 B a.val b.val else rd2 (k0_pay3 x g) (a.val - 1) b.val := by
  have q0 : ∀ a : Fin 256, IntOp.cmpi CmpIPredicate.eq (Scalar.select (IntOp.andi (IntOp.xori (IntOp.cmpi CmpIPredicate.slt (IntOp.remsi ArithUnit.vector (BitVec.ofNat 32 ↑a) (Scalar.select (Scalar.cmpi CmpIPredicate.eq 8#32 0#32) 1#32 8#32)) 0#32) (Scalar.cmpi CmpIPredicate.slt (Scalar.select (Scalar.cmpi CmpIPredicate.eq 8#32 0#32) 1#32 8#32) 0#32)) (IntOp.cmpi CmpIPredicate.ne (IntOp.remsi ArithUnit.vector (BitVec.ofNat 32 ↑a) (Scalar.select (Scalar.cmpi CmpIPredicate.eq 8#32 0#32) 1#32 8#32)) 0#32)) (IntOp.addi (IntOp.remsi ArithUnit.vector (BitVec.ofNat 32 ↑a) (Scalar.select (Scalar.cmpi CmpIPredicate.eq 8#32 0#32) 1#32 8#32)) (Scalar.select (Scalar.cmpi CmpIPredicate.eq 8#32 0#32) 1#32 8#32)) (IntOp.remsi ArithUnit.vector (BitVec.ofNat 32 ↑a) (Scalar.select (Scalar.cmpi CmpIPredicate.eq 8#32 0#32) 1#32 8#32))) 0#32 = if a.val % 8 = 0 then 1#1 else 0#1 := by decide +kernel
  have ha : a.val < 256 := a.isLt
  unfold k0_pay4
  generalize k0_pay3 x g = H
  pointwise []
  simp only [q0, select_if, rd2_ix2 H, rd2_ix2 B]
  by_cases h0 : a.val % 8 = 0
  · simp only [h0, if_true]
  · simp only [if_neg h0]
    rw [show (a.val + 256 - 1) % 256 = a.val - 1 by omega]

section
variable (x : Vec Ideal S256x2048 .f32) (g M : Vec Ideal S1x2048 .f32) (mu : Vec Ideal S6x2048 .f32) (B : Vec Ideal S256x2048 .f32) (n : ℕ)
  (eM : ∀ b : Fin 2048, M (ix2 0 b) = rd2 mu n b.val) (a : Fin 256) (b : Fin 2048)
include eM

theorem pay6_at (z : Fin 1) : k0_pay6 (k0_pay3 x g) (k0_pay4 x g B) M (ix3 z a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay6, k0_pay5]

theorem pay7_at : k0_pay7 (k0_pay3 x g) (k0_pay4 x g B) M (ix2 a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay7, k0_pay5]

theorem pay8_at (z : Fin 1) : k0_pay8 (k0_pay3 x g) (k0_pay4 x g B) M (ix3 z a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay8, k0_pay5]

theorem pay9_at (z : Fin 1) : k0_pay9 (k0_pay3 x g) (k0_pay4 x g B) M (ix3 z a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay9, k0_pay5]

theorem pay1_at : k0_pay1 (k0_pay3 x g) (k0_pay5 (k0_pay3 x g) (k0_pay4 x g B)) M (ix2 a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay1, k0_pay5]

theorem pay2_at : k0_pay2 (k0_pay3 x g) (k0_pay5 (k0_pay3 x g) (k0_pay4 x g B)) M (ix2 a b) = mixB (k0_pay3 x g) mu B n a.val b.val := by
  have h := prev_at x g B a b
  unfold mixB
  rw [← h, ← rd2_ix2 (k0_pay3 x g), ← eM]
  generalize k0_pay4 x g B = Q
  generalize k0_pay3 x g = H
  pointwise [k0_pay2, k0_pay5]

end

end Cert.PrepSIdeal.PrepS

end
-- ==== Proof.PrepSBody.lean ====
module

public import proofs.«01_k».proof.Proof.Gen.PrepSIdeal.Value
public import proofs.«01_k».proof.Proof.PrepSSpec
public import Idealize.ShloMosaic.Lib.Pipeline.ValueKit.Tiles

@[expose] public section

set_option maxRecDepth 16384

noncomputable section

namespace Cert.PrepSIdeal.PrepS

open Cert.Rd
open Cert.PrepSIdeal Cert.PrepSIdeal.Gen Idealize.ShloMosaic Idealize.ShloMosaic.TcCoe Idealize.SL.Sem Idealize.ShloMosaic.Tactic

/-- The mixes of a block, one of them at every index of a two-axis block. -/
def mixV (H : S256x2048.Idx → EReal) (mu : S6x2048.Idx → EReal) (B : S256x2048.Idx → EReal) (n : ℕ) : Vec Ideal S256x2048 .bf16 :=
  fun i => mixB H mu B n (i 0).val (i 1).val

/-- The three mixes of the first result's block. -/
def mixV3 (H : S256x2048.Idx → EReal) (mu : S6x2048.Idx → EReal) (B : S256x2048.Idx → EReal) : Vec Ideal S3x256x2048 .bf16 :=
  fun i => mixB H mu B (place (i 0).val) (i 1).val (i 2).val

theorem mixV3_emb (H : S256x2048.Idx → EReal) (mu : S6x2048.Idx → EReal) (B : S256x2048.Idx → EReal)
    (off size : Fin S3x256x2048.rank → ℕ) (inb) (x : (Rect.unit off size inb).shape.Idx) :
    mixV3 H mu B ((Rect.unit off size inb).emb x) = mixB H mu B (place (off 0 + (x 0).val)) (off 1 + (x 1).val) (off 2 + (x 2).val) := by
  unfold mixV3
  rw [show (((Rect.unit off size inb).emb x) 0).val = _ from Rect.idx_unit_val off size inb x 0,
    show (((Rect.unit off size inb).emb x) 1).val = _ from Rect.idx_unit_val off size inb x 1,
    show (((Rect.unit off size inb).emb x) 2).val = _ from Rect.idx_unit_val off size inb x 2]

/-- A store of one of the three mixes. -/
theorem mix_piece (H : S256x2048.Idx → EReal) (mu : S6x2048.Idx → EReal) (B : S256x2048.Idx → EReal) (q : ℕ)
    (inb : ∀ a, (![q, 0, 0] : Fin 3 → ℕ) a + S1x256x2048.size a ≤ S3x256x2048.size a) (P : S1x256x2048.Idx → EReal)
    (hP : ∀ (z : Fin 1) (a : Fin 256) (b : Fin 2048), P (ix3 z a b) = mixB H mu B (place q) a.val b.val) (j : S1x256x2048.Idx) :
    P j = mixV3 H mu B ((Rect.unit (s := S3x256x2048) ![q, 0, 0] S1x256x2048.size inb).emb j) := by
  rw [mixV3_emb]
  idx_vars j
  rw [hP]
  have hz : j0.val = 0 := by omega
  show _ = mixB H mu B (place (q + j0.val)) (0 + j1.val) (0 + j2.val)
  rw [hz, Nat.add_zero, Nat.zero_add, Nat.zero_add]

/-- What a point leaves in the block of rows. -/
theorem out8_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S256x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (x0 : Vec Ideal S256x2048 .f32) (x1 : Vec Ideal S1x2048 .f32) (x2 : Vec Ideal S6x2048 .f32) (x3 : Vec Ideal S256x2048 .f32) :
    out0_A_8 c i a1 h1 a2 h2 a3 h3 a4 h4 a5 h5 a6 h6 a7 h7 a8 h8 a9 h9 a10 h10 x0 x1 x2 x3 = k0_pay3 x0 x1 := by
  unfold out0_A_8
  rw [View.read_writes_eq_canon _ _ _ (cover0_A_8 c i a1 h1 a2 h2 a3 h3 a4 h4 a5 h5 a6 h6 a7 h7 a8 h8 a9 h9 a10 h10 x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2]

/-- What a point leaves in the block of mix 1. -/
theorem out5_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S256x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (x0 : Vec Ideal S256x2048 .f32) (x1 : Vec Ideal S1x2048 .f32) (x2 : Vec Ideal S6x2048 .f32) (x3 : Vec Ideal S256x2048 .f32) :
    out0_A_5 c i a1 h1 a2 h2 a3 h3 a4 h4 a5 h5 a6 h6 a7 h7 a8 h8 a9 h9 a10 h10 x0 x1 x2 x3 = mixV (k0_pay3 x0 x1) x2 x3 1 := by
  unfold out0_A_5
  rw [View.read_writes_eq_canon _ _ _ (cover0_A_5 c i a1 h1 a2 h2 a3 h3 a4 h4 a5 h5 a6 h6 a7 h7 a8 h8 a9 h9 a10 h10 x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2]
  funext y
  idx_vars y
  exact pay7_at x0 x1 _ x2 x3 1 (fun b => by pointwise [View.ld_unit]; rw [rd2_ix2 x2]; rfl) y0 y1

/-- What a point leaves in the block of mix 4. -/
theorem out6_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S256x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (x0 : Vec Ideal S256x2048 .f32) (x1 : Vec Ideal S1x2048 .f32) (x2 : Vec Ideal S6x2048 .f32) (x3 : Vec Ideal S256x2048 .f32) :
    out0_A_6 c i a1 h1 a2 h2 a3 h3 a4 h4 a5 h5 a6 h6 a7 h7 a8 h8 a9 h9 a10 h10 x0 x1 x2 x3 = mixV (k0_pay3 x0 x1) x2 x3 4 := by
  unfold out0_A_6
  rw [View.read_writes_eq_canon _ _ _ (cover0_A_6 c i a1 h1 a2 h2 a3 h3 a4 h4 a5 h5 a6 h6 a7 h7 a8 h8 a9 h9 a10 h10 x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2]
  funext y
  idx_vars y
  exact pay1_at x0 x1 _ x2 x3 4 (fun b => by pointwise [View.ld_unit]; rw [rd2_ix2 x2]; rfl) y0 y1

/-- What a point leaves in the block of mix 5. -/
theorem out7_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S256x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (x0 : Vec Ideal S256x2048 .f32) (x1 : Vec Ideal S1x2048 .f32) (x2 : Vec Ideal S6x2048 .f32) (x3 : Vec Ideal S256x2048 .f32) :
    out0_A_7 c i a1 h1 a2 h2 a3 h3 a4 h4 a5 h5 a6 h6 a7 h7 a8 h8 a9 h9 a10 h10 x0 x1 x2 x3 = mixV (k0_pay3 x0 x1) x2 x3 5 := by
  unfold out0_A_7
  rw [View.read_writes_eq_canon _ _ _ (cover0_A_7 c i a1 h1 a2 h2 a3 h3 a4 h4 a5 h5 a6 h6 a7 h7 a8 h8 a9 h9 a10 h10 x0 x1 x2 x3)]
  unfold kernelRun0_A
  dsimp only
  sl_unfold_words
  rw [View.canon_unit_zero hz2]
  simp only [View.readAt_eq_ld, h1.read_unread, h2.read_unread, h3.read_unread, h4.read_unread, h10.read_unread]
  simp only [View.ld_unit_zero (S := S256x2048) hz2, View.ld_unit_zero (S := S1x2048) hz2]
  funext y
  idx_vars y
  exact pay2_at x0 x1 _ x2 x3 5 (fun b => by pointwise [View.ld_unit]; rw [rd2_ix2 x2]; rfl) y0 y1

/-- What a point leaves in the block of the three mixes. -/
theorem out4_A (c : Dev nD) (i : grid0.Coords)
    (a1 : Memref sig .tc .vmem S256x2048 .f32) (h1 : a1.IsWhole)
    (a2 : Memref sig .tc .vmem S1x2048 .f32) (h2 : a2.IsWhole)
    (a3 : Memref sig .tc .vmem S6x2048 .f32) (h3 : a3.IsWhole)
    (a4 : Memref sig .tc .vmem S256x2048 .f32) (h4 : a4.IsWhole)
    (a5 : Memref sig .tc .vmem S3x256x2048 .bf16) (h5 : a5.IsWhole)
    (a6 : Memref sig .tc .vmem S256x2048 .bf16) (h6 : a6.IsWhole)
    (a7 : Memref sig .tc .vmem S256x2048 .bf16) (h7 : a7.IsWhole)
    (a8 : Memref sig .tc .vmem S256x2048 .bf16) (h8 : a8.IsWhole)
    (a9 : Memref sig .tc .vmem S256x2048 .f32) (h9 : a9.IsWhole)
    (a10 : Memref sig .tc .vmem S8x2048 .f32) (h10 : a10.IsWhole)
    (x0 : Vec Ideal S256x2048 .f32) (x1 : Vec Ideal S1x2048 .f32) (x2 : Vec Ideal S6x2048 .f32) (x3 : Vec Ideal S256x2048 .f32) :
    out0_A_4 c i a1 h1 a2 h2 a3 h3 a4 h4 a5 h5 a6 h6 a7 h7 a8 h8 a9 h9 a10 h10 x0 x1 x2 x3 = mixV3 (k0_pay3 x0 x1) x2 x3 := by
  unfold out0_A_4
  rw [View.read_writes_eq_canon _ _ _ (cover0_A_4 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, h10.read_unread]
  simp only [View.ld_unit_zero (S := S256x2048) hz2, View.ld_unit_zero (S := S1x2048) hz2]
  funext y
  refine View.canon_apply_of_pieces (mixV3 (k0_pay3 x0 x1) x2 x3) _ (fun p hp x => ?_) _ ?_
  case refine_2 =>
    have b0 : (y 0).val < 3 := (y 0).isLt
    have b1 : (y 1).val < 256 := (y 1).isLt
    have b2 : (y 2).val < 2048 := (y 2).isLt
    simp only [List.mem_cons, exists_eq_or_imp, List.mem_nil_iff, false_and, exists_false, or_false, exists_eq_left, Rect.mem_set_unit, Fin.forall_fin_succ, Matrix.cons_val_zero, Matrix.cons_val_succ, Matrix.cons_val_one, Matrix.cons_val_two, IsEmpty.forall_iff, and_true, Fin.succ_zero_eq_one, Fin.succ_one_eq_two]
    omega
  simp only [List.mem_cons, List.mem_nil_iff, or_false] at hp
  rcases hp with rfl | rfl | rfl
  · exact mix_piece _ _ _ 2 inb_S3x256x2048_S1x256x2048_2_0_0 _ (fun z a b => pay9_at x0 x1 _ x2 x3 3 (fun b => by pointwise [View.ld_unit]; rw [rd2_ix2 x2]; rfl) a b z) x
  · exact mix_piece _ _ _ 1 inb_S3x256x2048_S1x256x2048_1_0_0 _ (fun z a b => pay8_at x0 x1 _ x2 x3 2 (fun b => by pointwise [View.ld_unit]; rw [rd2_ix2 x2]; rfl) a b z) x
  · exact mix_piece _ _ _ 0 inb_S3x256x2048_S1x256x2048_0_0_0 _ (fun z a b => pay6_at x0 x1 _ x2 x3 0 (fun b => by pointwise [View.ld_unit]; rw [rd2_ix2 x2]; rfl) a b z) x

end Cert.PrepSIdeal.PrepS

end
-- ==== Proof.PrepSHost.lean ====
module

public import proofs.«01_k».proof.Proof.Gen.PrepSIdeal.Value
public import proofs.«01_k».proof.Proof.PrepSSpec
public import Idealize.ShloMosaic.Lib.Routing.OpsSet
public import Idealize.ShloMosaic.Lib.Routing.OpsPair
public import Idealize.ShloMosaic.Lib.Pipeline.ValueKit.Point

@[expose] public section

set_option maxRecDepth 16384

noncomputable section

namespace Cert.PrepSIdeal.PrepS

open Cert.Rd
open Cert.PrepSIdeal Cert.PrepSIdeal.Gen Idealize.ShloMosaic Idealize.ShloMosaic.TcCoe Idealize.SL.Sem Idealize.ShloMosaic.Tactic

theorem pick0 (l : List (Fin 2)) (hl : l = [0, 1]) (k : List (Fin 3)) (hk : k = [0, 2]) (h : k.idxOf 0 < l.length) : l[k.idxOf 0]'h = 0 := by
  subst hl hk; rfl

theorem pick2 (l : List (Fin 2)) (hl : l = [0, 1]) (k : List (Fin 3)) (hk : k = [0, 2]) (h : k.idxOf 2 < l.length) : l[k.idxOf 2]'h = 1 := by
  subst hl hk; rfl

/-- The update at `(w', e')` of `x.at[:, k].set(v)` over three axes lands at `(w, i, e)` exactly when `w` is `w'`, `i` is `k` and `e` is `e'`. -/
theorem lands_mid {A N C : ℕ} (d : ScatterDims (⟨3, ![A, N, C]⟩ : Shape) (⟨1, ![1]⟩ : Shape) (⟨2, ![A, C]⟩ : Shape)) (huw : d.updateWindowDims = [0, 1]) (hiw : d.insertedWindowDims = [1])
    (hsd : d.scatterDimsToOperandDims = [1]) (idx : IVec (⟨1, ![1]⟩ : Shape) 32) (k : Fin N) (hidx : (idx (ix1 0)).toInt = (k.val : Int))
    (w' w : Fin A) (i : Fin N) (e' e : Fin C) : d.resultIdx? (ix2 w' e') idx = some (ix3 w i e) ↔ w' = w ∧ i = k ∧ e' = e := by
  have hm : (1 : Fin 3) ∈ d.scatterDimsToOperandDims := by rw [hsd]; exact List.mem_singleton.2 rfl
  have hkept : d.sKept = [0, 2] := by
    show (⟨3, ![A, N, C]⟩ : Shape).kept d.insertedWindowDims = _
    rw [hiw]
    rfl
  have hwin1 : d.window (ix2 w' e') 1 = 0 := by
    unfold ScatterDims.window
    rw [dif_neg fun h => (of_decide_eq_true (List.mem_filter.1 h).2) (by rw [hiw]; exact List.mem_singleton.2 rfl)]
  have hwin0 : d.window (ix2 w' e') 0 = w'.val := by
    unfold ScatterDims.window
    rw [dif_pos (by rw [hkept]; exact List.mem_cons_self)]
    exact congrArg (fun X => (ix2 w' e' X).val) (pick0 _ huw _ hkept _)
  have hwin2 : d.window (ix2 w' e') 2 = e'.val := by
    unfold ScatterDims.window
    rw [dif_pos (by rw [hkept]; exact List.mem_cons_of_mem _ (List.mem_singleton.2 rfl))]
    exact congrArg (fun X => (ix2 w' e' X).val) (pick2 _ huw _ hkept _)
  have hstart0 : d.start (ix2 w' e') idx 0 = 0 := by
    unfold ScatterDims.start
    rw [dif_neg fun h => by rw [hsd] at h; exact absurd (List.mem_singleton.1 h) (by decide : (0 : Fin 3) ≠ 1)]
  have hstart2 : d.start (ix2 w' e') idx 2 = 0 := by
    unfold ScatterDims.start
    rw [dif_neg fun h => by rw [hsd] at h; exact absurd (List.mem_singleton.1 h) (by decide : (2 : Fin 3) ≠ 1)]
  have hstart1 : d.start (ix2 w' e') idx 1 = (k.val : Int) := by
    unfold ScatterDims.start
    rw [dif_pos hm]
    have hsi : d.siIdx (ix2 w' e') ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  rw [Fin.ext_iff, Fin.ext_iff, Fin.ext_iff, Routing.resultIdx?_eq_some]
  constructor
  · intro h
    have q0 := h 0
    have q1 := h 1
    have q2 := h 2
    rw [hstart0, hwin0] at q0
    rw [hstart1, hwin1] at q1
    rw [hstart2, hwin2] at q2
    have r0 : (0 : Int) + (w'.val : Int) = (w.val : Int) := q0
    have r1 : (k.val : Int) + ((0 : ℕ) : Int) = (i.val : Int) := q1
    have r2 : (0 : Int) + (e'.val : Int) = (e.val : Int) := q2
    omega
  · rintro ⟨h0, h1, h2⟩ q
    match q with
    | ⟨0, _⟩ =>
      show d.start (ix2 w' e') idx 0 + (d.window (ix2 w' e') 0 : Int) = (w.val : Int)
      rw [hstart0, hwin0]; omega
    | ⟨1, _⟩ =>
      show d.start (ix2 w' e') idx 1 + (d.window (ix2 w' e') 1 : Int) = (i.val : Int)
      rw [hstart1, hwin1]; omega
    | ⟨2, _⟩ =>
      show d.start (ix2 w' e') idx 2 + (d.window (ix2 w' e') 2 : Int) = (e.val : Int)
      rw [hstart2, hwin2]; omega

/-- `x.at[:, k].set(v)` over three axes, read in its slice `k`. -/
theorem set_mid {α : Type} {A N C : ℕ} (d : ScatterDims (⟨3, ![A, N, C]⟩ : Shape) (⟨1, ![1]⟩ : Shape) (⟨2, ![A, C]⟩ : Shape)) (huw : d.updateWindowDims = [0, 1]) (hiw : d.insertedWindowDims = [1])
    (hsd : d.scatterDimsToOperandDims = [1]) (idx : IVec (⟨1, ![1]⟩ : Shape) 32) (k : Fin N) (hidx : (idx (ix1 0)).toInt = (k.val : Int))
    (x0 : (⟨3, ![A, N, C]⟩ : Shape).Idx → α) (v : (⟨2, ![A, C]⟩ : Shape).Idx → α) (w : Fin A) (e : Fin C) :
    Host.scatter d (fun _ b => b) x0 idx v (ix3 w k e) = v (ix2 w e) := by
  refine Routing.scatter_set_hit d x0 idx v _ _ (fun j hj => ?_) (ix2 w e) ((lands_mid d huw hiw hsd idx k hidx w w k e e).2 ⟨rfl, rfl, rfl⟩)
  have ej : j = ix2 (j 0) (j 1) := by
    funext q
    match q with
    | ⟨0, _⟩ => rfl
    | ⟨1, _⟩ => rfl
  rw [ej] at hj ⊢
  obtain ⟨h0, -, h2⟩ := (lands_mid d huw hiw hsd idx k hidx (j 0) w k (j 1) e).1 hj
  rw [h0, h2]
  rfl

/-- The host's array of the rows before the sequences. -/
def bnd (s : S2x128x2048.Idx → EReal) : S1024x2048.Idx → EReal :=
  shapeCast S1024x2048 (Host.scatter scatter_S128x8x2048_S1_S128x2048_01_1_1_0 (fun _ b => b) (broadcastInDim S128x8x2048 ![] bcast_S_S128x8x2048 (constant (F := Ideal) S_ .f32 0x00000000#32))
    (broadcastInDim S1 ![] bcast_S_S1 (constantI S_ 32 0#32)) (shapeCast S128x2048 (extractStridedSlice S1x128x2048 ![0, 0, 0] s slices_S2x128x2048_S1x128x2048_0_0_0) shapeCasts_S1x128x2048_S128x2048)) shapeCasts_S128x8x2048_S1024x2048

theorem bnd_at (s : S2x128x2048.Idx → EReal) (r : Fin 1024) (h8 : r.val % 8 = 0) (b : Fin 2048) : bnd s (ix2 r b) = rd3 s 0 (r.val / 8) b.val := by
  have hr : r.val < 1024 := r.isLt
  unfold bnd
  have key := set_mid (α := EReal) scatter_S128x8x2048_S1_S128x2048_01_1_1_0 rfl rfl rfl (broadcastInDim S1 ![] bcast_S_S1 (constantI S_ 32 0#32)) (0 : Fin 8) rfl
    (broadcastInDim S128x8x2048 ![] bcast_S_S128x8x2048 (constant (F := Ideal) S_ .f32 0x00000000#32))
    (shapeCast S128x2048 (extractStridedSlice S1x128x2048 ![0, 0, 0] s slices_S2x128x2048_S1x128x2048_0_0_0) shapeCasts_S1x128x2048_S128x2048) ⟨r.val / 8, by omega⟩ b
  refine (shapeCast_apply _ shapeCasts_S128x8x2048_S1024x2048 (ix2 r b) (ix3 ⟨r.val / 8, by omega⟩ (0 : Fin 8) b) ?_).trans (key.trans ?_)
  · rw [Shape.rowMajor_val_three, Shape.rowMajor_val_two]
    show (r.val / 8 * 8 + 0) * 2048 + b.val = r.val * 2048 + b.val
    omega
  · unfold rd3
    rw [dif_pos ⟨by omega, by omega, by omega⟩]
    pointwise []

/-- The host's operations before the region, with the scatter as a parameter. -/
abbrev opsOf (f : (⟨S128x8x2048, .f32⟩ : BufTy).Contents (Elt Ideal) → (⟨S1, .i32⟩ : BufTy).Contents (Elt Ideal) → (⟨S128x2048, .f32⟩ : BufTy).Contents (Elt Ideal) → (⟨S128x8x2048, .f32⟩ : BufTy).Contents (Elt Ideal)) : List (HloOp τ sig (Elt Ideal)) :=
  [ StableHlo.unary main_arg3 main_v0 ((extractStridedSlice S1x128x2048 ![0, 0, 0] · slices_S2x128x2048_S1x128x2048_0_0_0) : (⟨S2x128x2048, .f32⟩ : BufTy).Contents (Elt Ideal) → (⟨S1x128x2048, .f32⟩ : BufTy).Contents (Elt Ideal)),
    StableHlo.reshape main_v0 main_v1 (rfl : (.f32 : EltTy) = .f32) shapeCasts_S1x128x2048_S128x2048,
    StableHlo.nullary main_cst (constant (F := Ideal) S_ .f32 0x00000000#32),
    StableHlo.unary main_cst main_v2 (broadcastInDim S128x8x2048 ![] bcast_S_S128x8x2048 : (⟨S_, .f32⟩ : BufTy).Contents (Elt Ideal) → (⟨S128x8x2048, .f32⟩ : BufTy).Contents (Elt Ideal)),
    StableHlo.nullary main_c (constantI S_ 32 0#32),
    StableHlo.unary main_c main_v3 (broadcastInDim S1 ![] bcast_S_S1 : (⟨S_, .i32⟩ : BufTy).Contents (Elt Ideal) → (⟨S1, .i32⟩ : BufTy).Contents (Elt Ideal)),
    StableHlo.ternary main_v2 main_v3 main_v1 main_v4 f,
    StableHlo.reshape main_v4 main_v5 (rfl : (.f32 : EltTy) = .f32) shapeCasts_S128x8x2048_S1024x2048,
    StableHlo.unary main_arg1 main_v6 ((extractStridedSlice S1x2048 ![1, 0] · slices_S4x2048_S1x2048_1_0) : (⟨S4x2048, .f32⟩ : BufTy).Contents (Elt Ideal) → (⟨S1x2048, .f32⟩ : BufTy).Contents (Elt Ideal)),
    StableHlo.reshape main_v6 main_v7 (rfl : (.f32 : EltTy) = .f32) shapeCasts_S1x2048_S2048,
    StableHlo.unary main_v7 main_v8 (broadcastInDim S1x2048 ![1] bcast_S2048_S1x2048_1 : (⟨S2048, .f32⟩ : BufTy).Contents (Elt Ideal) → (⟨S1x2048, .f32⟩ : BufTy).Contents (Elt Ideal)),
    StableHlo.unary main_arg2 main_v9 ((extractStridedSlice S1x6x2048 ![0, 0, 0] · slices_S2x6x2048_S1x6x2048_0_0_0) : (⟨S2x6x2048, .f32⟩ : BufTy).Contents (Elt Ideal) → (⟨S1x6x2048, .f32⟩ : BufTy).Contents (Elt Ideal)),
    StableHlo.reshape main_v9 main_v10 (rfl : (.f32 : EltTy) = .f32) shapeCasts_S1x6x2048_S6x2048 ]

/-- What they leave in the array of the rows before the sequences, for any such function. -/
theorem after_at (f : (⟨S128x8x2048, .f32⟩ : BufTy).Contents (Elt Ideal) → (⟨S1, .i32⟩ : BufTy).Contents (Elt Ideal) → (⟨S128x2048, .f32⟩ : BufTy).Contents (Elt Ideal) → (⟨S128x8x2048, .f32⟩ : BufTy).Contents (Elt Ideal)) (m : (ℓ : Loc nD τ sig) → Buf (Elt Ideal) ℓ) (c : Dev nD) :
    StableHlo.after (opsOf f) (fun b => m (c, b)) main_v5 = shapeCast S1024x2048 (f (broadcastInDim S128x8x2048 ![] bcast_S_S128x8x2048 (constant (F := Ideal) S_ .f32 0x00000000#32))
      (broadcastInDim S1 ![] bcast_S_S1 (constantI S_ 32 0#32)) (shapeCast S128x2048 (extractStridedSlice S1x128x2048 ![0, 0, 0] (m ((c : Thread nD τ).loc main_arg3)) slices_S2x128x2048_S1x128x2048_0_0_0) shapeCasts_S1x128x2048_S128x2048)) shapeCasts_S128x8x2048_S1024x2048 := by
  entry_read
  rfl

theorem V5 (m : (ℓ : Loc nD τ sig) → Buf (Elt Ideal) ℓ) (c : Dev nD) : V m c main_v5 = bnd (m ((c : Thread nD τ).loc main_arg3)) :=
  after_at (fun x i u => Host.scatter scatter_S128x8x2048_S1_S128x2048_01_1_1_0 (fun _ b => b) x i u) m c

end Cert.PrepSIdeal.PrepS

end
-- ==== Proof.PrepSRun.lean ====
module

public import proofs.«01_k».proof.Proof.PrepSBody
public import proofs.«01_k».proof.Proof.PrepSHost

@[expose] public section

set_option maxRecDepth 16384

noncomputable section

namespace Cert.PrepSIdeal.PrepS

open Cert.Rd
open Cert.PrepSIdeal Cert.PrepSIdeal.Gen Idealize.ShloMosaic Idealize.ShloMosaic.TcCoe Idealize.SL.Sem Idealize.ShloMosaic.Tactic
variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem N_le (t : Fin cfg0.N) : t.val < 4 := t.isLt

theorem ib0 (c : Dev nD) (t : Fin cfg0.N) (a : Fin 256) (b : Fin 2048) :
    (iblk m c 0 t : Vec Ideal S256x2048 .f32) (ix2 a b) = rd2 (m ((c : Thread nD τ).loc main_arg0)) (256 * t.val + a.val) b.val := by
  have ht := N_le t
  unfold rd2; rw [dif_pos ⟨by omega, by omega⟩]
  blk_ext [iblk, V, idx0 t]

theorem ib1 (c : Dev nD) (t : Fin cfg0.N) (b : Fin 2048) :
    (iblk m c 1 t : Vec Ideal S1x2048 .f32) (ix2 0 b) = rd2 (m ((c : Thread nD τ).loc main_arg1)) 1 b.val := by
  have ht := N_le t
  unfold rd2; rw [dif_pos ⟨by omega, by omega⟩]
  blk_ext! [iblk, idx1 t]

theorem ib2 (c : Dev nD) (t : Fin cfg0.N) (a : Fin 6) (b : Fin 2048) :
    (iblk m c 2 t : Vec Ideal S6x2048 .f32) (ix2 a b) = rd3 (m ((c : Thread nD τ).loc main_arg2)) 0 a.val b.val := by
  have ht := N_le t
  unfold rd3; rw [dif_pos ⟨by omega, by omega, by omega⟩]
  blk_ext! [iblk, idx2 t]

theorem blk3 (X : S1024x2048.Idx → EReal) (t : Fin cfg0.N) (a : Fin 256) (b : Fin 2048) :
    ((cfg0.win 3).blk t).view.read (Elt Ideal) X (ix2 a b) = X (ix2 ⟨256 * t.val + a.val, by have := N_le t; omega⟩ b) := by
  have ht := N_le t
  blk_ext [idx3 t]

theorem ib3 (c : Dev nD) (t : Fin cfg0.N) (a : Fin 256) (b : Fin 2048) :
    (iblk m c 3 t : Vec Ideal S256x2048 .f32) (ix2 a b) = bnd (m ((c : Thread nD τ).loc main_arg3)) (ix2 ⟨256 * t.val + a.val, by have := N_le t; omega⟩ b) := by
  have ht := N_le t
  exact (blk3 (V m c main_v5) t a b).trans (congrFun (V5 m c) _)

/-- The normalised rows of block `t`. -/
theorem h_block (c : Dev nD) (t : Fin cfg0.N) (a : Fin 256) (b : Fin 2048) :
    (k0_pay3 (iblk m c 0 t) (iblk m c 1 t)) (ix2 a b) = hF (m ((c : Thread nD τ).loc main_arg0)) (m ((c : Thread nD τ).loc main_arg1)) (256 * t.val + a.val) b.val := by
  have h0 := ib0 m c t
  have h1 := ib1 m c t
  generalize (iblk m c 0 t : Vec Ideal S256x2048 .f32) = x at h0 ⊢
  generalize (iblk m c 1 t : Vec Ideal S1x2048 .f32) = g at h1 ⊢
  rw [pay3_at]
  unfold hF rowNorm
  simp only [h0, h1]

/-- A mix of block `t`. -/
theorem mix_block (c : Dev nD) (t : Fin cfg0.N) (n : ℕ) (hn : n < 6) (a : ℕ) (ha : a < 256) (b : ℕ) (hb : b < 2048) :
    mixB (k0_pay3 (iblk m c 0 t) (iblk m c 1 t)) (iblk m c 2 t) (iblk m c 3 t) n a b = mixF (m ((c : Thread nD τ).loc main_arg0)) (m ((c : Thread nD τ).loc main_arg1)) (m ((c : Thread nD τ).loc main_arg2)) (m ((c : Thread nD τ).loc main_arg3)) n (256 * t.val + a) b := by
  have ht := N_le t
  have hh : ∀ r, r < 256 → rd2 (R := 256) (C := 2048) (k0_pay3 (iblk m c 0 t) (iblk m c 1 t)) r b = hF (m ((c : Thread nD τ).loc main_arg0)) (m ((c : Thread nD τ).loc main_arg1)) (256 * t.val + r) b := fun r hr =>
    (rd2_ix2 (k0_pay3 (iblk m c 0 t) (iblk m c 1 t)) ⟨r, hr⟩ ⟨b, hb⟩).symm.trans (h_block m c t _ _)
  have hw : rd2 (R := 6) (C := 2048) (iblk m c 2 t) n b = rd3 (m ((c : Thread nD τ).loc main_arg2)) 0 n b :=
    (rd2_ix2 (iblk m c 2 t : Vec Ideal S6x2048 .f32) ⟨n, hn⟩ ⟨b, hb⟩).symm.trans (ib2 m c t _ _)
  have hs : a % 8 = 0 → rd2 (R := 256) (C := 2048) (iblk m c 3 t) a b = rd3 (m ((c : Thread nD τ).loc main_arg3)) 0 ((256 * t.val + a) / 8) b := fun z =>
    (rd2_ix2 (iblk m c 3 t : Vec Ideal S256x2048 .f32) ⟨a, ha⟩ ⟨b, hb⟩).symm.trans ((ib3 m c t _ _).trans (bnd_at _ ⟨256 * t.val + a, by omega⟩ (show (256 * t.val + a) % 8 = 0 by omega) ⟨b, hb⟩))
  unfold mixB mixF prevF
  rw [hh a ha, hw]
  refine congrArg₂ (· + ·) rfl (congrArg₂ (· * ·) (congrArg₂ (· - ·) ?_ rfl) rfl)
  by_cases z0 : a % 8 = 0
  · rw [if_pos z0, if_pos (show (256 * t.val + a) % 8 = 0 by omega), hs z0]
  · rw [if_neg z0, if_neg (show ¬(256 * t.val + a) % 8 = 0 by omega), hh _ (by omega), show 256 * t.val + (a - 1) = 256 * t.val + a - 1 by omega]

theorem place_lt (q : ℕ) (h : q < 3) : place q < 6 := by
  unfold place
  by_cases z : q = 0
  · rw [if_pos z]; omega
  · rw [if_neg z]; omega

theorem outs_at (c : Dev nD) (t : Fin cfg0.N) (a : Fin 256) (b : Fin 2048) :
    (∀ q : Fin 3, (outsAt0 m c t).1 (ix3 q a b) = mixF (m ((c : Thread nD τ).loc main_arg0)) (m ((c : Thread nD τ).loc main_arg1)) (m ((c : Thread nD τ).loc main_arg2)) (m ((c : Thread nD τ).loc main_arg3)) (place q.val) (256 * t.val + a.val) b.val)
    ∧ (outsAt0 m c t).2.1 (ix2 a b) = mixF (m ((c : Thread nD τ).loc main_arg0)) (m ((c : Thread nD τ).loc main_arg1)) (m ((c : Thread nD τ).loc main_arg2)) (m ((c : Thread nD τ).loc main_arg3)) 1 (256 * t.val + a.val) b.val
    ∧ (outsAt0 m c t).2.2.1 (ix2 a b) = mixF (m ((c : Thread nD τ).loc main_arg0)) (m ((c : Thread nD τ).loc main_arg1)) (m ((c : Thread nD τ).loc main_arg2)) (m ((c : Thread nD τ).loc main_arg3)) 4 (256 * t.val + a.val) b.val
    ∧ (outsAt0 m c t).2.2.2.1 (ix2 a b) = mixF (m ((c : Thread nD τ).loc main_arg0)) (m ((c : Thread nD τ).loc main_arg1)) (m ((c : Thread nD τ).loc main_arg2)) (m ((c : Thread nD τ).loc main_arg3)) 5 (256 * t.val + a.val) b.val
    ∧ (outsAt0 m c t).2.2.2.2 (ix2 a b) = hF (m ((c : Thread nD τ).loc main_arg0)) (m ((c : Thread nD τ).loc main_arg1)) (256 * t.val + a.val) b.val := by
  unfold outsAt0
  dsimp only
  rw [out4_A, out5_A, out6_A, out7_A, out8_A]
  exact ⟨fun q => mix_block m c t _ (place_lt _ q.isLt) _ a.isLt _ b.isLt, mix_block m c t _ (by norm_num) _ a.isLt _ b.isLt, mix_block m c t _ (by norm_num) _ a.isLt _ b.isLt, mix_block m c t _ (by norm_num) _ a.isLt _ b.isLt, h_block m c t a b⟩

theorem cover4 (i : S3x1024x2048.Idx) : ∃ t : Fin cfg0.N, (cfg0.win 4).flush t = true ∧ i ∈ ((cfg0.win 4).blk t).view.set := by
  have hi0 : (i 0).val < 3 := (i 0).isLt
  have hi1 : (i 1).val < 1024 := (i 1).isLt
  have hi2 : (i 2).val < 2048 := (i 2).isLt
  have hN : (i 1).val / 256 < cfg0.N := by rw [show cfg0.N = 4 from N_0]; omega
  refine ⟨⟨_, hN⟩, flush0_4 _, ?_⟩
  show i ∈ ((View.whole main_v11_0).slice (win0_4.rect ⟨_, hN⟩)).set
  rw [View.set_slice_whole, Rect.mem_set_unit]
  intro a
  have e := idx4 ⟨_, hN⟩
  match a with
  | ⟨0, _⟩ => show win0_4.index _ (0 : Fin 3) * 3 ≤ (i 0).val ∧ (i 0).val < win0_4.index _ (0 : Fin 3) * 3 + 3; rw [congrFun e 0]; show 0 * 3 ≤ _ ∧ _ < 0 * 3 + 3; omega
  | ⟨1, _⟩ => show win0_4.index _ (1 : Fin 3) * 256 ≤ (i 1).val ∧ (i 1).val < win0_4.index _ (1 : Fin 3) * 256 + 256; rw [congrFun e 1]; show (i 1).val / 256 * 256 ≤ _ ∧ _ < (i 1).val / 256 * 256 + 256; omega
  | ⟨2, _⟩ => show win0_4.index _ (2 : Fin 3) * 2048 ≤ (i 2).val ∧ (i 2).val < win0_4.index _ (2 : Fin 3) * 2048 + 2048; rw [congrFun e 2]; show 0 * 2048 ≤ _ ∧ _ < 0 * 2048 + 2048; omega

theorem cover5 (i : S1024x2048.Idx) : ∃ t : Fin cfg0.N, (cfg0.win 5).flush t = true ∧ i ∈ ((cfg0.win 5).blk t).view.set := by
  have hi0 : (i 0).val < 1024 := (i 0).isLt
  have hi1 : (i 1).val < 2048 := (i 1).isLt
  have hN : (i 0).val / 256 < cfg0.N := by rw [show cfg0.N = 4 from N_0]; omega
  refine ⟨⟨_, hN⟩, flush0_5 _, ?_⟩
  show i ∈ ((View.whole main_v11_1).slice (win0_5.rect ⟨_, hN⟩)).set
  rw [View.set_slice_whole, Rect.mem_set_unit]
  intro a
  have e := idx5 ⟨_, hN⟩
  match a with
  | ⟨0, _⟩ => show win0_5.index _ (0 : Fin 2) * 256 ≤ (i 0).val ∧ (i 0).val < win0_5.index _ (0 : Fin 2) * 256 + 256; rw [congrFun e 0]; show (i 0).val / 256 * 256 ≤ _ ∧ _ < (i 0).val / 256 * 256 + 256; omega
  | ⟨1, _⟩ => show win0_5.index _ (1 : Fin 2) * 2048 ≤ (i 1).val ∧ (i 1).val < win0_5.index _ (1 : Fin 2) * 2048 + 2048; rw [congrFun e 1]; show 0 * 2048 ≤ _ ∧ _ < 0 * 2048 + 2048; omega

theorem cover6 (i : S1024x2048.Idx) : ∃ t : Fin cfg0.N, (cfg0.win 6).flush t = true ∧ i ∈ ((cfg0.win 6).blk t).view.set := by
  have hi0 : (i 0).val < 1024 := (i 0).isLt
  have hi1 : (i 1).val < 2048 := (i 1).isLt
  have hN : (i 0).val / 256 < cfg0.N := by rw [show cfg0.N = 4 from N_0]; omega
  refine ⟨⟨_, hN⟩, flush0_6 _, ?_⟩
  show i ∈ ((View.whole main_v11_2).slice (win0_6.rect ⟨_, hN⟩)).set
  rw [View.set_slice_whole, Rect.mem_set_unit]
  intro a
  have e := idx6 ⟨_, hN⟩
  match a with
  | ⟨0, _⟩ => show win0_6.index _ (0 : Fin 2) * 256 ≤ (i 0).val ∧ (i 0).val < win0_6.index _ (0 : Fin 2) * 256 + 256; rw [congrFun e 0]; show (i 0).val / 256 * 256 ≤ _ ∧ _ < (i 0).val / 256 * 256 + 256; omega
  | ⟨1, _⟩ => show win0_6.index _ (1 : Fin 2) * 2048 ≤ (i 1).val ∧ (i 1).val < win0_6.index _ (1 : Fin 2) * 2048 + 2048; rw [congrFun e 1]; show 0 * 2048 ≤ _ ∧ _ < 0 * 2048 + 2048; omega

theorem cover7 (i : S1024x2048.Idx) : ∃ t : Fin cfg0.N, (cfg0.win 7).flush t = true ∧ i ∈ ((cfg0.win 7).blk t).view.set := by
  have hi0 : (i 0).val < 1024 := (i 0).isLt
  have hi1 : (i 1).val < 2048 := (i 1).isLt
  have hN : (i 0).val / 256 < cfg0.N := by rw [show cfg0.N = 4 from N_0]; omega
  refine ⟨⟨_, hN⟩, flush0_7 _, ?_⟩
  show i ∈ ((View.whole main_v11_3).slice (win0_7.rect ⟨_, hN⟩)).set
  rw [View.set_slice_whole, Rect.mem_set_unit]
  intro a
  have e := idx7 ⟨_, hN⟩
  match a with
  | ⟨0, _⟩ => show win0_7.index _ (0 : Fin 2) * 256 ≤ (i 0).val ∧ (i 0).val < win0_7.index _ (0 : Fin 2) * 256 + 256; rw [congrFun e 0]; show (i 0).val / 256 * 256 ≤ _ ∧ _ < (i 0).val / 256 * 256 + 256; omega
  | ⟨1, _⟩ => show win0_7.index _ (1 : Fin 2) * 2048 ≤ (i 1).val ∧ (i 1).val < win0_7.index _ (1 : Fin 2) * 2048 + 2048; rw [congrFun e 1]; show 0 * 2048 ≤ _ ∧ _ < 0 * 2048 + 2048; omega

theorem cover8 (i : S1024x2048.Idx) : ∃ t : Fin cfg0.N, (cfg0.win 8).flush t = true ∧ i ∈ ((cfg0.win 8).blk t).view.set := by
  have hi0 : (i 0).val < 1024 := (i 0).isLt
  have hi1 : (i 1).val < 2048 := (i 1).isLt
  have hN : (i 0).val / 256 < cfg0.N := by rw [show cfg0.N = 4 from N_0]; omega
  refine ⟨⟨_, hN⟩, flush0_8 _, ?_⟩
  show i ∈ ((View.whole main_v11_4).slice (win0_8.rect ⟨_, hN⟩)).set
  rw [View.set_slice_whole, Rect.mem_set_unit]
  intro a
  have e := idx8 ⟨_, hN⟩
  match a with
  | ⟨0, _⟩ => show win0_8.index _ (0 : Fin 2) * 256 ≤ (i 0).val ∧ (i 0).val < win0_8.index _ (0 : Fin 2) * 256 + 256; rw [congrFun e 0]; show (i 0).val / 256 * 256 ≤ _ ∧ _ < (i 0).val / 256 * 256 + 256; omega
  | ⟨1, _⟩ => show win0_8.index _ (1 : Fin 2) * 2048 ≤ (i 1).val ∧ (i 1).val < win0_8.index _ (1 : Fin 2) * 2048 + 2048; rw [congrFun e 1]; show 0 * 2048 ≤ _ ∧ _ < 0 * 2048 + 2048; omega

/-- The first result's array after the run. -/
def res4 (c : Dev nD) : Buf (Elt Ideal) ((c : Thread nD τ).loc main_v11_0) := fun i => mixF (m ((c : Thread nD τ).loc main_arg0)) (m ((c : Thread nD τ).loc main_arg1)) (m ((c : Thread nD τ).loc main_arg2)) (m ((c : Thread nD τ).loc main_arg3)) (place (i 0).val) (i 1).val (i 2).val

theorem arr4 (c : Dev nD) : (dats m 0 c).arrAt 4 cfg0.N = res4 m c := by
  refine (dats m 0 c).arrAt_eq_of_cover 4 _ (fun t hf => ?_) (fun i => cover4 i)
  rw [Value.flushed4]
  funext y
  have e := idx4 t
  have hb0 : (((cfg0.win 4).blk t).view.emb y 0).val = win0_4.index t (0 : Fin 3) * 3 + 1 * (y 0).val := rfl
  have hb1 : (((cfg0.win 4).blk t).view.emb y 1).val = win0_4.index t (1 : Fin 3) * 256 + 1 * (y 1).val := rfl
  have hb2 : (((cfg0.win 4).blk t).view.emb y 2).val = win0_4.index t (2 : Fin 3) * 2048 + 1 * (y 2).val := rfl
  have h0 : (((cfg0.win 4).blk t).view.emb y 0).val = (y 0).val := by rw [hb0, congrFun e 0]; show 0 * _ + _ = _; omega
  have h1 : (((cfg0.win 4).blk t).view.emb y 1).val = 256 * t.val + (y 1).val := by rw [hb1, congrFun e 1]; show t.val * 256 + _ = _; omega
  have h2 : (((cfg0.win 4).blk t).view.emb y 2).val = (y 2).val := by rw [hb2, congrFun e 2]; show 0 * _ + _ = _; omega
  show (outsAt0 m c t).1 ((cfg0.win 4).xinj (grid0.coords t) y) = mixF (m ((c : Thread nD τ).loc main_arg0)) (m ((c : Thread nD τ).loc main_arg1)) (m ((c : Thread nD τ).loc main_arg2)) (m ((c : Thread nD τ).loc main_arg3)) (place (((cfg0.win 4).blk t).view.emb y 0).val) (((cfg0.win 4).blk t).view.emb y 1).val (((cfg0.win 4).blk t).view.emb y 2).val
  rw [h0, h1, h2]
  have h := (outs_at m c t ⟨(y 1).val, (y 1).isLt⟩ ⟨(y 2).val, (y 2).isLt⟩).1 ⟨(y 0).val, (y 0).isLt⟩
  refine Eq.trans (congrArg (outsAt0 m c t).1 ?_) h
  funext a
  match a with
  | ⟨0, _⟩ => rfl
  | ⟨1, _⟩ => rfl
  | ⟨2, _⟩ => rfl

/-- Output 5's array after the run. -/
def res5 (c : Dev nD) : Buf (Elt Ideal) ((c : Thread nD τ).loc main_v11_1) := fun i => mixF (m ((c : Thread nD τ).loc main_arg0)) (m ((c : Thread nD τ).loc main_arg1)) (m ((c : Thread nD τ).loc main_arg2)) (m ((c : Thread nD τ).loc main_arg3)) 1 (i 0).val (i 1).val

theorem arr5 (c : Dev nD) : (dats m 0 c).arrAt 5 cfg0.N = res5 m c := by
  refine (dats m 0 c).arrAt_eq_of_cover 5 _ (fun t hf => ?_) (fun i => cover5 i)
  rw [Value.flushed5]
  funext y
  have e := idx5 t
  have hb0 : (((cfg0.win 5).blk t).view.emb y 0).val = win0_5.index t (0 : Fin 2) * 256 + 1 * (y 0).val := rfl
  have hb1 : (((cfg0.win 5).blk t).view.emb y 1).val = win0_5.index t (1 : Fin 2) * 2048 + 1 * (y 1).val := rfl
  have h0 : (((cfg0.win 5).blk t).view.emb y 0).val = 256 * t.val + (y 0).val := by rw [hb0, congrFun e 0]; show t.val * 256 + _ = _; omega
  have h1 : (((cfg0.win 5).blk t).view.emb y 1).val = (y 1).val := by rw [hb1, congrFun e 1]; show 0 * _ + _ = _; omega
  show (outsAt0 m c t).2.1 ((cfg0.win 5).xinj (grid0.coords t) y) = mixF (m ((c : Thread nD τ).loc main_arg0)) (m ((c : Thread nD τ).loc main_arg1)) (m ((c : Thread nD τ).loc main_arg2)) (m ((c : Thread nD τ).loc main_arg3)) 1 (((cfg0.win 5).blk t).view.emb y 0).val (((cfg0.win 5).blk t).view.emb y 1).val
  rw [h0, h1]
  have h := (outs_at m c t ⟨(y 0).val, (y 0).isLt⟩ ⟨(y 1).val, (y 1).isLt⟩).2.1
  refine Eq.trans (congrArg (outsAt0 m c t).2.1 ?_) h
  funext a
  match a with
  | ⟨0, _⟩ => rfl
  | ⟨1, _⟩ => rfl

/-- Output 6's array after the run. -/
def res6 (c : Dev nD) : Buf (Elt Ideal) ((c : Thread nD τ).loc main_v11_2) := fun i => mixF (m ((c : Thread nD τ).loc main_arg0)) (m ((c : Thread nD τ).loc main_arg1)) (m ((c : Thread nD τ).loc main_arg2)) (m ((c : Thread nD τ).loc main_arg3)) 4 (i 0).val (i 1).val

theorem arr6 (c : Dev nD) : (dats m 0 c).arrAt 6 cfg0.N = res6 m c := by
  refine (dats m 0 c).arrAt_eq_of_cover 6 _ (fun t hf => ?_) (fun i => cover6 i)
  rw [Value.flushed6]
  funext y
  have e := idx6 t
  have hb0 : (((cfg0.win 6).blk t).view.emb y 0).val = win0_6.index t (0 : Fin 2) * 256 + 1 * (y 0).val := rfl
  have hb1 : (((cfg0.win 6).blk t).view.emb y 1).val = win0_6.index t (1 : Fin 2) * 2048 + 1 * (y 1).val := rfl
  have h0 : (((cfg0.win 6).blk t).view.emb y 0).val = 256 * t.val + (y 0).val := by rw [hb0, congrFun e 0]; show t.val * 256 + _ = _; omega
  have h1 : (((cfg0.win 6).blk t).view.emb y 1).val = (y 1).val := by rw [hb1, congrFun e 1]; show 0 * _ + _ = _; omega
  show (outsAt0 m c t).2.2.1 ((cfg0.win 6).xinj (grid0.coords t) y) = mixF (m ((c : Thread nD τ).loc main_arg0)) (m ((c : Thread nD τ).loc main_arg1)) (m ((c : Thread nD τ).loc main_arg2)) (m ((c : Thread nD τ).loc main_arg3)) 4 (((cfg0.win 6).blk t).view.emb y 0).val (((cfg0.win 6).blk t).view.emb y 1).val
  rw [h0, h1]
  have h := (outs_at m c t ⟨(y 0).val, (y 0).isLt⟩ ⟨(y 1).val, (y 1).isLt⟩).2.2.1
  refine Eq.trans (congrArg (outsAt0 m c t).2.2.1 ?_) h
  funext a
  match a with
  | ⟨0, _⟩ => rfl
  | ⟨1, _⟩ => rfl

/-- Output 7's array after the run. -/
def res7 (c : Dev nD) : Buf (Elt Ideal) ((c : Thread nD τ).loc main_v11_3) := fun i => mixF (m ((c : Thread nD τ).loc main_arg0)) (m ((c : Thread nD τ).loc main_arg1)) (m ((c : Thread nD τ).loc main_arg2)) (m ((c : Thread nD τ).loc main_arg3)) 5 (i 0).val (i 1).val

theorem arr7 (c : Dev nD) : (dats m 0 c).arrAt 7 cfg0.N = res7 m c := by
  refine (dats m 0 c).arrAt_eq_of_cover 7 _ (fun t hf => ?_) (fun i => cover7 i)
  rw [Value.flushed7]
  funext y
  have e := idx7 t
  have hb0 : (((cfg0.win 7).blk t).view.emb y 0).val = win0_7.index t (0 : Fin 2) * 256 + 1 * (y 0).val := rfl
  have hb1 : (((cfg0.win 7).blk t).view.emb y 1).val = win0_7.index t (1 : Fin 2) * 2048 + 1 * (y 1).val := rfl
  have h0 : (((cfg0.win 7).blk t).view.emb y 0).val = 256 * t.val + (y 0).val := by rw [hb0, congrFun e 0]; show t.val * 256 + _ = _; omega
  have h1 : (((cfg0.win 7).blk t).view.emb y 1).val = (y 1).val := by rw [hb1, congrFun e 1]; show 0 * _ + _ = _; omega
  show (outsAt0 m c t).2.2.2.1 ((cfg0.win 7).xinj (grid0.coords t) y) = mixF (m ((c : Thread nD τ).loc main_arg0)) (m ((c : Thread nD τ).loc main_arg1)) (m ((c : Thread nD τ).loc main_arg2)) (m ((c : Thread nD τ).loc main_arg3)) 5 (((cfg0.win 7).blk t).view.emb y 0).val (((cfg0.win 7).blk t).view.emb y 1).val
  rw [h0, h1]
  have h := (outs_at m c t ⟨(y 0).val, (y 0).isLt⟩ ⟨(y 1).val, (y 1).isLt⟩).2.2.2.1
  refine Eq.trans (congrArg (outsAt0 m c t).2.2.2.1 ?_) h
  funext a
  match a with
  | ⟨0, _⟩ => rfl
  | ⟨1, _⟩ => rfl

/-- Output 8's array after the run. -/
def res8 (c : Dev nD) : Buf (Elt Ideal) ((c : Thread nD τ).loc main_v11_4) := fun i => hF (m ((c : Thread nD τ).loc main_arg0)) (m ((c : Thread nD τ).loc main_arg1)) (i 0).val (i 1).val

theorem arr8 (c : Dev nD) : (dats m 0 c).arrAt 8 cfg0.N = res8 m c := by
  refine (dats m 0 c).arrAt_eq_of_cover 8 _ (fun t hf => ?_) (fun i => cover8 i)
  rw [Value.flushed8]
  funext y
  have e := idx8 t
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  have h0 : (((cfg0.win 8).blk t).view.emb y 0).val = 256 * t.val + (y 0).val := by rw [hb0, congrFun e 0]; show t.val * 256 + _ = _; omega
  have h1 : (((cfg0.win 8).blk t).view.emb y 1).val = (y 1).val := by rw [hb1, congrFun e 1]; show 0 * _ + _ = _; omega
  show (outsAt0 m c t).2.2.2.2 ((cfg0.win 8).xinj (grid0.coords t) y) = hF (m ((c : Thread nD τ).loc main_arg0)) (m ((c : Thread nD τ).loc main_arg1)) (((cfg0.win 8).blk t).view.emb y 0).val (((cfg0.win 8).blk t).view.emb y 1).val
  rw [h0, h1]
  have h := (outs_at m c t ⟨(y 0).val, (y 0).isLt⟩ ⟨(y 1).val, (y 1).isLt⟩).2.2.2.2
  refine Eq.trans (congrArg (outsAt0 m c t).2.2.2.2 ?_) h
  funext a
  match a with
  | ⟨0, _⟩ => rfl
  | ⟨1, _⟩ => rfl

/-- The kernel's run, its results by the formulas. -/
theorem run (ρ : Dev nD → PrngReg) :
    θ_run defs (onTc (τ := τ) (main (F := Ideal))) ⟨m, fun _ => 0, ρ⟩ fun r => ∀ c : Dev nD,
      r.2.mem ((c : Thread nD τ).loc main_v11_0) = res4 m c
      ∧ r.2.mem ((c : Thread nD τ).loc main_v11_1) = res5 m c
      ∧ r.2.mem ((c : Thread nD τ).loc main_v11_2) = res6 m c
      ∧ r.2.mem ((c : Thread nD τ).loc main_v11_3) = res7 m c
      ∧ r.2.mem ((c : Thread nD τ).loc main_v11_4) = res8 m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c => ⟨(h c).1.trans (arr4 m c), (h c).2.1.trans (arr5 m c), (h c).2.2.1.trans (arr6 m c), (h c).2.2.2.1.trans (arr7 m c), (h c).2.2.2.2.1.trans (arr8 m c), (h c).2.2.2.2.2⟩)
    (Value.run_blocks m ρ)

end Cert.PrepSIdeal.PrepS

end
-- ==== Proof.PrepSRef.lean ====
module

public import proofs.«01_k».proof.Proof.Gen.PrepSRefIdeal.Run
public import proofs.«01_k».proof.Proof.PrepSSpec

@[expose] public section

set_option maxRecDepth 16384

noncomputable section

namespace Cert.PrepSRefIdeal.PrepS

open Cert.Rd
open Cert.PrepSIdeal.PrepS (hF prevF mixF place)
open Cert.PrepSRefIdeal Cert.PrepSRefIdeal.Gen Idealize.ShloMosaic Idealize.ShloMosaic.TcCoe Idealize.SL.Sem Idealize.ShloMosaic.Tactic

/-- The reference's normalised rows, sequence by sequence. -/
def nrm (x : FVec Ideal S1024x2048 .f32) (g : FVec Ideal S4x2048 .f32) : FVec Ideal S128x8x2048 .f32 :=
  (mulf (mulf (shapeCast _ x shapeCasts_S1024x2048_S128x8x2048) (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf (shapeCast _ x shapeCasts_S1024x2048_S128x8x2048) (shapeCast _ x shapeCasts_S1024x2048_S128x8x2048)) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![1, 0] g slices_S4x2048_S1x2048_1_0) shapeCasts_S1x2048_S2048))))

/-- The reference's rows before the rows. -/
def prv (s : FVec Ideal S2x128x2048 .f32) (h : FVec Ideal S128x8x2048 .f32) : FVec Ideal S128x8x2048 .f32 :=
  (concatenate S128x8x2048 1 [⟨S128x1x2048, (broadcastInDim S128x1x2048 ![0, 2] bcast_S128x2048_S128x1x2048_0_2 (shapeCast _ (extractStridedSlice S1x128x2048 ![0, 0, 0] s slices_S2x128x2048_S1x128x2048_0_0_0) shapeCasts_S1x128x2048_S128x2048))⟩, ⟨S128x7x2048, (extractStridedSlice S128x7x2048 ![0, 0, 0] h slices_S128x8x2048_S128x7x2048_0_0_0)⟩] concatenates_S128x1x2048_S128x7x2048_S128x8x2048_d1)

/-- The reference's mix 0. -/
def mix0 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![0, 0] (shapeCast _ (extractStridedSlice S1x6x2048 ![0, 0, 0] mu slices_S2x6x2048_S1x6x2048_0_0_0) shapeCasts_S1x6x2048_S6x2048) slices_S6x2048_S1x2048_0_0) shapeCasts_S1x2048_S2048))))

/-- The reference's mix 1. -/
def mix1 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![1, 0] (shapeCast _ (extractStridedSlice S1x6x2048 ![0, 0, 0] mu slices_S2x6x2048_S1x6x2048_0_0_0) shapeCasts_S1x6x2048_S6x2048) slices_S6x2048_S1x2048_1_0) shapeCasts_S1x2048_S2048))))

/-- The reference's mix 2. -/
def mix2 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![2, 0] (shapeCast _ (extractStridedSlice S1x6x2048 ![0, 0, 0] mu slices_S2x6x2048_S1x6x2048_0_0_0) shapeCasts_S1x6x2048_S6x2048) slices_S6x2048_S1x2048_2_0) shapeCasts_S1x2048_S2048))))

/-- The reference's mix 3. -/
def mix3 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![3, 0] (shapeCast _ (extractStridedSlice S1x6x2048 ![0, 0, 0] mu slices_S2x6x2048_S1x6x2048_0_0_0) shapeCasts_S1x6x2048_S6x2048) slices_S6x2048_S1x2048_3_0) shapeCasts_S1x2048_S2048))))

/-- The reference's mix 4. -/
def mix4 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![4, 0] (shapeCast _ (extractStridedSlice S1x6x2048 ![0, 0, 0] mu slices_S2x6x2048_S1x6x2048_0_0_0) shapeCasts_S1x6x2048_S6x2048) slices_S6x2048_S1x2048_4_0) shapeCasts_S1x2048_S2048))))

/-- The reference's mix 5. -/
def mix5 (mu : FVec Ideal S2x6x2048 .f32) (h q : FVec Ideal S128x8x2048 .f32) : FVec Ideal S128x8x2048 .f32 :=
  addf h (mulf (subf q h) (broadcastInDim S128x8x2048 ![0, 1, 2] bcast_S1x1x2048_S128x8x2048_0_1_2 (broadcastInDim S1x1x2048 ![2] bcast_S2048_S1x1x2048_2 (shapeCast _ (extractStridedSlice S1x2048 ![5, 0] (shapeCast _ (extractStridedSlice S1x6x2048 ![0, 0, 0] mu slices_S2x6x2048_S1x6x2048_0_0_0) shapeCasts_S1x6x2048_S6x2048) slices_S6x2048_S1x2048_5_0) shapeCasts_S1x2048_S2048))))

/-- Three arrays stacked. -/
def cat3 (u v w : FVec Ideal S128x8x2048 .f32) : FVec Ideal S3x128x8x2048 .f32 :=
  (concatenate S3x128x8x2048 0 [⟨S1x128x8x2048, ((broadcastInDim S1x128x8x2048 ![1, 2, 3] bcast_S128x8x2048_S1x128x8x2048_1_2_3 u) : (⟨S1x128x8x2048, .f32⟩ : BufTy).Contents (Elt Ideal))⟩, ⟨S1x128x8x2048, ((broadcastInDim S1x128x8x2048 ![1, 2, 3] bcast_S128x8x2048_S1x128x8x2048_1_2_3 v) : (⟨S1x128x8x2048, .f32⟩ : BufTy).Contents (Elt Ideal))⟩, ⟨S1x128x8x2048, ((broadcastInDim S1x128x8x2048 ![1, 2, 3] bcast_S128x8x2048_S1x128x8x2048_1_2_3 w) : (⟨S1x128x8x2048, .f32⟩ : BufTy).Contents (Elt Ideal))⟩] concatenates_S1x128x8x2048_S1x128x8x2048_S1x128x8x2048_S3x128x8x2048_d0)

/-- Three arrays of sequences stacked, as arrays of rows. -/
def stk (u v w : FVec Ideal S128x8x2048 .f32) : FVec Ideal S3x1024x2048 .bf16 :=
  truncf .bf16 (shapeCast S3x1024x2048 (cat3 u v w) shapeCasts_S3x128x8x2048_S3x1024x2048) bitsLt_bf16_f32

/-- An array of sequences as an array of rows. -/
def flat (u : FVec Ideal S128x8x2048 .f32) : FVec Ideal S1024x2048 .f32 := shapeCast _ u shapeCasts_S128x8x2048_S1024x2048

theorem nrm_ix (x : FVec Ideal S1024x2048 .f32) (g : FVec Ideal S4x2048 .f32) (a : Fin 128) (l : Fin 8) (d : Fin 2048) :
    nrm x g (ix3 a l d) = hF x g (8 * a.val + l.val) d.val := by
  pointwise [nrm]
  unfold hF rowNorm
  simp only [rd2_ix2 x, rd2_ix2 g]
  rw [Nat.mul_comm 8 a.val]
  rfl

theorem prv_ix (x : FVec Ideal S1024x2048 .f32) (g : FVec Ideal S4x2048 .f32) (s : FVec Ideal S2x128x2048 .f32) (a : Fin 128) (l : Fin 8) (d : Fin 2048) :
    prv s (nrm x g) (ix3 a l d) = prevF x g s (8 * a.val + l.val) d.val := by
  have hh := nrm_ix x g
  generalize nrm x g = h at hh ⊢
  have hl : l.val < 8 := l.isLt
  unfold prevF
  pointwise [prv]
  by_cases h0 : l.val < 1
  · rw [dif_pos h0, if_pos (show (8 * a.val + l.val) % 8 = 0 by omega), rd3_ix3 s, show (8 * a.val + l.val) / 8 = a.val by omega]; rfl
  · rw [dif_neg h0, if_neg (show ¬(8 * a.val + l.val) % 8 = 0 by omega)]
    refine (hh _ _ _).trans ?_
    show hF x g (8 * a.val + (l.val - 1)) _ = _
    rw [show 8 * a.val + (l.val - 1) = 8 * a.val + l.val - 1 by omega]

theorem mix0_ix (x : FVec Ideal S1024x2048 .f32) (g : FVec Ideal S4x2048 .f32) (mu : FVec Ideal S2x6x2048 .f32) (s : FVec Ideal S2x128x2048 .f32) (a : Fin 128) (l : Fin 8) (d : Fin 2048) :
    mix0 mu (nrm x g) (prv s (nrm x g)) (ix3 a l d) = mixF x g mu s 0 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix0]
  rw [rd3_ix3 mu]
  rfl

theorem mix1_ix (x : FVec Ideal S1024x2048 .f32) (g : FVec Ideal S4x2048 .f32) (mu : FVec Ideal S2x6x2048 .f32) (s : FVec Ideal S2x128x2048 .f32) (a : Fin 128) (l : Fin 8) (d : Fin 2048) :
    mix1 mu (nrm x g) (prv s (nrm x g)) (ix3 a l d) = mixF x g mu s 1 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix1]
  rw [rd3_ix3 mu]
  rfl

theorem mix2_ix (x : FVec Ideal S1024x2048 .f32) (g : FVec Ideal S4x2048 .f32) (mu : FVec Ideal S2x6x2048 .f32) (s : FVec Ideal S2x128x2048 .f32) (a : Fin 128) (l : Fin 8) (d : Fin 2048) :
    mix2 mu (nrm x g) (prv s (nrm x g)) (ix3 a l d) = mixF x g mu s 2 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix2]
  rw [rd3_ix3 mu]
  rfl

theorem mix3_ix (x : FVec Ideal S1024x2048 .f32) (g : FVec Ideal S4x2048 .f32) (mu : FVec Ideal S2x6x2048 .f32) (s : FVec Ideal S2x128x2048 .f32) (a : Fin 128) (l : Fin 8) (d : Fin 2048) :
    mix3 mu (nrm x g) (prv s (nrm x g)) (ix3 a l d) = mixF x g mu s 3 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix3]
  rw [rd3_ix3 mu]
  rfl

theorem mix4_ix (x : FVec Ideal S1024x2048 .f32) (g : FVec Ideal S4x2048 .f32) (mu : FVec Ideal S2x6x2048 .f32) (s : FVec Ideal S2x128x2048 .f32) (a : Fin 128) (l : Fin 8) (d : Fin 2048) :
    mix4 mu (nrm x g) (prv s (nrm x g)) (ix3 a l d) = mixF x g mu s 4 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix4]
  rw [rd3_ix3 mu]
  rfl

theorem mix5_ix (x : FVec Ideal S1024x2048 .f32) (g : FVec Ideal S4x2048 .f32) (mu : FVec Ideal S2x6x2048 .f32) (s : FVec Ideal S2x128x2048 .f32) (a : Fin 128) (l : Fin 8) (d : Fin 2048) :
    mix5 mu (nrm x g) (prv s (nrm x g)) (ix3 a l d) = mixF x g mu s 5 (8 * a.val + l.val) d.val := by
  have hh := nrm_ix x g a l d
  have hp := prv_ix x g s a l d
  generalize prv s (nrm x g) = q at hp ⊢
  generalize nrm x g = h at hh ⊢
  unfold mixF
  rw [← hh, ← hp]
  pointwise [mix5]
  rw [rd3_ix3 mu]
  rfl

theorem flat_ix (u : FVec Ideal S128x8x2048 .f32) (r : Fin 1024) (d : Fin 2048) :
    flat u (ix2 r d) = u (ix3 ⟨r.val / 8, by omega⟩ ⟨r.val % 8, by omega⟩ d) := by
  pointwise [flat]

theorem cat3_ix (u v w : FVec Ideal S128x8x2048 .f32) (z : Fin 3) (a : Fin 128) (l : Fin 8) (d : Fin 2048) :
    cat3 u v w (ix4 z a l d) = (if z.val = 0 then u else if z.val = 1 then v else w) (ix3 a l d) := by
  pointwise [cat3]
  have hz : z.val < 3 := z.isLt
  by_cases h0 : z.val = 0
  · rw [dif_pos (show z.val < 1 by omega), if_pos h0]
  · rw [dif_neg (show ¬z.val < 1 by omega), if_neg h0]
    by_cases h1 : z.val = 1
    · rw [dif_pos (show z.val - 1 < 1 by omega), if_pos h1]
    · rw [dif_neg (show ¬z.val - 1 < 1 by omega), if_neg h1]

/-- Two middle axes merged into one. -/
theorem merge {α : Type} {m a b c n : ℕ} (hn : n = a * b) (x : (⟨4, ![m, a, b, c]⟩ : Shape).Idx → α)
    (h : (⟨4, ![m, a, b, c]⟩ : Shape).ShapeCasts ⟨3, ![m, n, c]⟩) (z : Fin m) (i : Fin a) (j : Fin b) (r : Fin n) (hr : r.val = i.val * b + j.val) (d : Fin c) :
    shapeCast ⟨3, ![m, n, c]⟩ x h (ix3 z r d) = x (ix4 z i j d) :=
  shapeCast_apply x h _ _ (by
    rw [Shape.rowMajor_val_four, Shape.rowMajor_val_three]
    show ((z.val * a + i.val) * b + j.val) * c + d.val = (z.val * n + r.val) * c + d.val
    rw [hr, hn]; ring)

theorem trunc_at (y : FVec Ideal S3x128x8x2048 .f32) (i : S3x1024x2048.Idx) :
    (truncf .bf16 (shapeCast S3x1024x2048 y shapeCasts_S3x128x8x2048_S3x1024x2048) bitsLt_bf16_f32 : FVec Ideal S3x1024x2048 .bf16) i
      = shapeCast S3x1024x2048 y shapeCasts_S3x128x8x2048_S3x1024x2048 i := rfl

theorem rows_at (y : FVec Ideal S3x128x8x2048 .f32) (z : Fin 3) (r : Fin 1024) (d : Fin 2048) :
    shapeCast S3x1024x2048 y shapeCasts_S3x128x8x2048_S3x1024x2048 (ix3 z r d) = y (ix4 z ⟨r.val / 8, by omega⟩ ⟨r.val % 8, by omega⟩ d) :=
  merge (m := 3) (a := 128) (b := 8) (c := 2048) (n := 1024) (by norm_num) y shapeCasts_S3x128x8x2048_S3x1024x2048 z _ _ r (by dsimp only; omega) d

theorem stk_ix (u v w : FVec Ideal S128x8x2048 .f32) (z : Fin 3) (r : Fin 1024) (d : Fin 2048) :
    stk u v w (ix3 z r d) = (if z.val = 0 then u else if z.val = 1 then v else w) (ix3 ⟨r.val / 8, by omega⟩ ⟨r.val % 8, by omega⟩ d) :=
  (trunc_at (cat3 u v w) (ix3 z r d)).trans ((rows_at (cat3 u v w) z r d).trans (cat3_ix u v w z _ _ d))

theorem at_row (f : ℕ → EReal) (r : Fin 1024) : f (8 * (r.val / 8) + r.val % 8) = f r.val := congrArg f (Nat.div_add_mod _ _)

section
variable (x : FVec Ideal S1024x2048 .f32) (g : FVec Ideal S4x2048 .f32) (mu : FVec Ideal S2x6x2048 .f32) (s : FVec Ideal S2x128x2048 .f32)

theorem stk_eq : stk (mix0 mu (nrm x g) (prv s (nrm x g))) (mix2 mu (nrm x g) (prv s (nrm x g))) (mix3 mu (nrm x g) (prv s (nrm x g)))
    = fun i => mixF x g mu s (place (i 0).val) (i 1).val (i 2).val := by
  funext i
  idx_vars i
  refine (stk_ix _ _ _ _ _ _).trans ?_
  show _ = mixF x g mu s (place i0.val) i1.val i2.val
  unfold place
  by_cases z0 : i0.val = 0
  · rw [if_pos z0, if_pos z0, mix0_ix]
    exact at_row (fun k => mixF x g mu s 0 k i2.val) i1
  · rw [if_neg z0, if_neg z0]
    by_cases z1 : i0.val = 1
    · rw [if_pos z1, z1, mix2_ix]
      exact at_row (fun k => mixF x g mu s 2 k i2.val) i1
    · rw [if_neg z1, show i0.val = 2 by omega, mix3_ix]
      exact at_row (fun k => mixF x g mu s 3 k i2.val) i1

theorem flat1_eq : flat (mix1 mu (nrm x g) (prv s (nrm x g))) = fun i => mixF x g mu s 1 (i 0).val (i 1).val := by
  funext i
  idx_vars i
  rw [flat_ix, mix1_ix]
  exact at_row (fun k => mixF x g mu s 1 k i1.val) i0

theorem flat4_eq : flat (mix4 mu (nrm x g) (prv s (nrm x g))) = fun i => mixF x g mu s 4 (i 0).val (i 1).val := by
  funext i
  idx_vars i
  rw [flat_ix, mix4_ix]
  exact at_row (fun k => mixF x g mu s 4 k i1.val) i0

theorem flat5_eq : flat (mix5 mu (nrm x g) (prv s (nrm x g))) = fun i => mixF x g mu s 5 (i 0).val (i 1).val := by
  funext i
  idx_vars i
  rw [flat_ix, mix5_ix]
  exact at_row (fun k => mixF x g mu s 5 k i1.val) i0

theorem flath_eq : flat (nrm x g) = fun i => hF x g (i 0).val (i 1).val := by
  funext i
  idx_vars i
  rw [flat_ix, nrm_ix]
  exact at_row (fun k => hF x g k i1.val) i0

end

theorem res_eq (m : (ℓ : Loc nD τ sig) → Buf (Elt Ideal) ℓ) (c : Dev nD) :
    Cert.PrepSRefIdeal.Value.res_main_v65 m c = stk (mix0 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) (mix2 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) (mix3 (m ((c.tc : Thread nD τ).loc main_arg2)) (nrm (m ((c.tc : Thread nD τ).loc main_arg0)) (m ((c.tc : Thread nD τ).loc main_arg1))) (prv (m ((c.tc : Thread nD τ).loc main_arg3)) (nrm (m ((c.tc : Thread nD τ).loc main_arg0)) (m ((c.tc : Thread nD τ).loc main_arg1))))) := rfl

/-- Every run of the reference ends with the formula's arrays as its results and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = (fun i => mixF (m ((c.tc : Thread nD τ).loc main_arg0)) (m ((c.tc : Thread nD τ).loc main_arg1)) (m ((c.tc : Thread nD τ).loc main_arg2)) (m ((c.tc : Thread nD τ).loc main_arg3)) (place (i 0).val) (i 1).val (i 2).val)
      ∧ r.2.mem ((c.tc : Thread nD τ).loc main_v67) = (fun i => mixF (m ((c.tc : Thread nD τ).loc main_arg0)) (m ((c.tc : Thread nD τ).loc main_arg1)) (m ((c.tc : Thread nD τ).loc main_arg2)) (m ((c.tc : Thread nD τ).loc main_arg3)) 1 (i 0).val (i 1).val)
      ∧ r.2.mem ((c.tc : Thread nD τ).loc main_v69) = (fun i => mixF (m ((c.tc : Thread nD τ).loc main_arg0)) (m ((c.tc : Thread nD τ).loc main_arg1)) (m ((c.tc : Thread nD τ).loc main_arg2)) (m ((c.tc : Thread nD τ).loc main_arg3)) 4 (i 0).val (i 1).val)
      ∧ r.2.mem ((c.tc : Thread nD τ).loc main_v71) = (fun i => mixF (m ((c.tc : Thread nD τ).loc main_arg0)) (m ((c.tc : Thread nD τ).loc main_arg1)) (m ((c.tc : Thread nD τ).loc main_arg2)) (m ((c.tc : Thread nD τ).loc main_arg3)) 5 (i 0).val (i 1).val)
      ∧ r.2.mem ((c.tc : Thread nD τ).loc main_v72) = (fun i => hF (m ((c.tc : Thread nD τ).loc main_arg0)) (m ((c.tc : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((res_eq m c).trans (stk_eq _ _ _ _)), (h c).2.1.trans (flat1_eq _ _ _ _), (h c).2.2.1.trans (flat4_eq _ _ _ _), (h c).2.2.2.1.trans (flat5_eq _ _ _ _), (h c).2.2.2.2.1.trans (flath_eq _ _), (h c).2.2.2.2.2⟩) (Cert.PrepSRefIdeal.Value.run m ρ)

end Cert.PrepSRefIdeal.PrepS

end
-- ==== Proof.PairPrepS.lean ====
module

public import proofs.«01_k».proof.Defs
public import proofs.«01_k».proof.Proof.Gen.PrepS.Frame
public import proofs.«01_k».proof.Proof.Gen.PrepSIdeal.Frame
public import proofs.«01_k».proof.Proof.Gen.PrepSRefIdeal.Run
public import proofs.«01_k».proof.Proof.PrepSRun
public import proofs.«01_k».proof.Proof.PrepSRef
public import Idealize.ShloMosaic.Lib.Quiescent

@[expose] public section

noncomputable section

namespace Cert.Proof

open Idealize.ShloMosaic Idealize.SL.Sem

theorem frame_PrepS : Cert.quiescent_PrepS (hPrepS := Cert.PrepS.Gen.facts) :=
  fun m ρ _ => Cert.PrepS.Gen.frame m ρ

theorem frame_PrepSIdeal : Cert.quiescent_PrepSIdeal (hPrepSIdeal := Cert.PrepSIdeal.Gen.facts) :=
  fun m ρ _ => Cert.PrepSIdeal.Gen.frame m ρ

theorem frame_PrepSRefIdeal : Cert.quiescent_PrepSRefIdeal (hPrepSRefIdeal := Cert.PrepSRefIdeal.Gen.facts) :=
  fun m ρ _ => (θ_run Cert.PrepSRefIdeal.defs _ _).mono (fun r h => ⟨fun c => (h c).2.2.2.2.2, Idealize.ShloMosaic.sem_eq_zero_of_no_sems (by decide) r.2⟩) (Cert.PrepSRefIdeal.Value.run (F := Ideal) m ρ)

/-- Kernel and reference end with the same result, the array the formula gives. -/
theorem alg_PrepS : Cert.algebraic_PrepSIdeal_PrepSRefIdeal (hPrepSIdeal := Cert.PrepSIdeal.Gen.facts) (hPrepSRefIdeal := Cert.PrepSRefIdeal.Gen.facts) := by
  intro m ρ m' ρ' _ hagree
  refine ⟨fun c => Cert.PrepSIdeal.PrepS.res4 m c, fun c => Cert.PrepSIdeal.PrepS.res5 m c, fun c => Cert.PrepSIdeal.PrepS.res6 m c, fun c => Cert.PrepSIdeal.PrepS.res7 m c, fun c => Cert.PrepSIdeal.PrepS.res8 m c, Cert.PrepSIdeal.PrepS.run m ρ, (θ_run Cert.PrepSRefIdeal.defs _ _).mono (fun r h c => ?_) (Cert.PrepSRefIdeal.PrepS.run m' ρ')⟩
  obtain ⟨a0, a1, a2, a3⟩ := hagree c
  obtain ⟨e0, e1, e2, e3, e4, hk⟩ := h c
  simp only [a0, a1, a2, a3] at e0 e1 e2 e3 e4
  exact ⟨e0, e1, e2, e3, e4, hk⟩

end Cert.Proof

end
-- ==== Proof.MixSSpec.lean ====
module

public import proofs.«01_k».proof.Proof.Gen.MixSIdeal.Skeleton
public import proofs.«01_k».proof.Proof.Read

@[expose] public section

set_option maxRecDepth 16384

noncomputable section

namespace Cert.MixSIdeal.MixS

open Cert.Rd
open Cert.MixSIdeal Cert.MixSIdeal.Gen Idealize.ShloMosaic Idealize.ShloMosaic.TcCoe Idealize.SL.Sem Idealize.ShloMosaic.Tactic

variable (P : S1024x5120.Idx → EReal) (G B : S2x1024.Idx → EReal)

/-- The mean of row `r`'s values. -/
def meanF (r : ℕ) : EReal := Ideal.div (∑ k : Fin 1024, rd2 P r (1024 + k.val)) (Ideal.ofBits FTy.f32 1149239296#32)

/-- The normalised values. -/
def vF (r c : ℕ) : EReal :=
  (rd2 P r (1024 + c) - meanF P r) * Ideal.rsqrt (Ideal.div (∑ k : Fin 1024, (rd2 P r (1024 + k.val) - meanF P r) * (rd2 P r (1024 + k.val) - meanF P r))
      (Ideal.ofBits FTy.f32 1149239296#32) + Ideal.ofBits FTy.f32 925353388#32) * rd2 G 0 c + rd2 B 0 c

/-- The convolution's input. -/
def cxF (r c : ℕ) : EReal := rd2 P r (4096 + c) * rd2 P r (2048 + c)

end Cert.MixSIdeal.MixS

end
-- ==== Proof.MixSBody.lean ====
module

public import proofs.«01_k».proof.Proof.Gen.MixSIdeal.Value
public import proofs.«01_k».proof.Proof.MixSSpec
public import Idealize.ShloMosaic.Lib.Pipeline.ValueKit.Tiles

@[expose] public section

set_option maxRecDepth 16384

noncomputable section

namespace Cert.MixSIdeal.MixS

open Cert.Rd
open Cert.MixSIdeal Cert.MixSIdeal.Gen Idealize.ShloMosaic Idealize.ShloMosaic.TcCoe Idealize.SL.Sem Idealize.ShloMosaic.Tactic

/-- What a point leaves in output 15's block. -/
theorem out15_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S256x1024 .f32) (h13 : a13.IsWhole)
    (a14 : Memref sig .tc .vmem S256x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S256x1024 .f32)
    (x13 : Vec Ideal S256x1024 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13 = k0_pay1 x1 x6 x7 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  simp only [View.ld_unit_zero (S := S256x1024) hz2, View.ld_unit_zero (S := S1x1024) hz2]

/-- What a point leaves in output 16's block. -/
theorem out16_A (c : Dev nD) (i : grid0.Coords)
    (a1 : Memref sig .tc .vmem S256x1024 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x2048 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S8x128x128 .f32) (h9 : a9.IsWhole)
    (a10 : Memref sig .tc .vmem S128x1024 .f32) (h10 : a10.IsWhole)
    (a11 : Memref sig .tc .vmem S3x1024 .f32) (h11 : a11.IsWhole)
    (a12 : Memref sig .tc .vmem S2048x2048 .bf16) (h12 : a12.IsWhole)
    (a13 : Memref sig .tc .vmem S256x1024 .f32) (h13 : a13.IsWhole)
    (a14 : Memref sig .tc .vmem S256x1024 .f32) (h14 : a14.IsWhole)
    (a15 : Memref sig .tc .vmem S256x2048 .f32) (h15 : a15.IsWhole)
    (a16 : Memref sig .tc .vmem S256x1024 .f32) (h16 : a16.IsWhole)
    (a17 : Memref sig .tc .vmem S256x1024 .f32) (h17 : a17.IsWhole)
    (a18 : Memref sig .tc .vmem S256x2048 .bf16) (h18 : a18.IsWhole)
    (a19 : Memref sig .tc .vmem S8x1024 .f32) (h19 : a19.IsWhole)
    (x0 : Vec Ideal S256x1024 .f32)
    (x1 : Vec Ideal S256x1024 .f32)
    (x2 : Vec Ideal S256x1024 .f32)
    (x3 : Vec Ideal S256x1024 .f32)
    (x4 : Vec Ideal S256x1024 .f32)
    (x5 : Vec Ideal S256x2048 .f32)
    (x6 : Vec Ideal S1x1024 .f32)
    (x7 : Vec Ideal S1x1024 .f32)
    (x8 : Vec Ideal S8x128x128 .f32)
    (x9 : Vec Ideal S128x1024 .f32)
    (x10 : Vec Ideal S3x1024 .f32)
    (x11 : Vec Ideal S2048x2048 .bf16)
    (x12 : Vec Ideal S256x1024 .f32)
    (x13 : Vec Ideal S256x1024 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13 = k0_pay37 x4 x2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  simp only [View.ld_unit_zero (S := S256x1024) hz2, View.ld_unit_zero (S := S1x1024) hz2]

end Cert.MixSIdeal.MixS

end
-- ==== Proof.MixSRun.lean ====
module

public import proofs.«01_k».proof.Proof.MixSBody
public import Idealize.ShloMosaic.Lib.Pointwise
public import Idealize.ShloMosaic.Lib.Pipeline.ValueKit.Point

@[expose] public section

set_option maxRecDepth 16384

noncomputable section

namespace Cert.MixSIdeal.MixS

open Cert.Rd
open Cert.MixSIdeal Cert.MixSIdeal.Gen Idealize.ShloMosaic Idealize.ShloMosaic.TcCoe Idealize.SL.Sem Idealize.ShloMosaic.Tactic

variable (m : (ℓ : Loc nD τ sig) → Buf (Elt Ideal) ℓ)

theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx4 : ∀ t : Fin cfg0.N, win0_4.index t = ![t.val, 4] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

theorem N_le (t : Fin cfg0.N) : t.val < 4 := t.isLt

theorem ib1 (c : Dev nD) (t : Fin cfg0.N) (a : Fin 256) (b : Fin 1024) :
    (iblk m c 1 t : Vec Ideal S256x1024 .f32) (ix2 a b) = rd2 (m ((c : Thread nD τ).loc main_arg0)) (256 * t.val + a.val) (1024 + b.val) := by
  have ht := N_le t
  unfold rd2; rw [dif_pos ⟨by omega, by omega⟩]
  blk_ext [iblk, V, idx1 t]

theorem ib2 (c : Dev nD) (t : Fin cfg0.N) (a : Fin 256) (b : Fin 1024) :
    (iblk m c 2 t : Vec Ideal S256x1024 .f32) (ix2 a b) = rd2 (m ((c : Thread nD τ).loc main_arg0)) (256 * t.val + a.val) (2048 + b.val) := by
  have ht := N_le t
  unfold rd2; rw [dif_pos ⟨by omega, by omega⟩]
  blk_ext [iblk, V, idx2 t]

theorem ib4 (c : Dev nD) (t : Fin cfg0.N) (a : Fin 256) (b : Fin 1024) :
    (iblk m c 4 t : Vec Ideal S256x1024 .f32) (ix2 a b) = rd2 (m ((c : Thread nD τ).loc main_arg0)) (256 * t.val + a.val) (4096 + b.val) := by
  have ht := N_le t
  unfold rd2; rw [dif_pos ⟨by omega, by omega⟩]
  blk_ext [iblk, V, idx4 t]

theorem ib6 (c : Dev nD) (t : Fin cfg0.N) (b : Fin 1024) :
    (iblk m c 6 t : Vec Ideal S1x1024 .f32) (ix2 0 b) = rd2 (m ((c : Thread nD τ).loc main_arg2)) 0 b.val := by
  have ht := N_le t
  unfold rd2; rw [dif_pos ⟨by omega, by omega⟩]
  blk_ext! [iblk, idx6 t]

theorem ib7 (c : Dev nD) (t : Fin cfg0.N) (b : Fin 1024) :
    (iblk m c 7 t : Vec Ideal S1x1024 .f32) (ix2 0 b) = rd2 (m ((c : Thread nD τ).loc main_arg3)) 0 b.val := by
  have ht := N_le t
  unfold rd2; rw [dif_pos ⟨by omega, by omega⟩]
  blk_ext! [iblk, idx7 t]

/-- The normalised values of block `t`. -/
theorem v_block (c : Dev nD) (t : Fin cfg0.N) (a : Fin 256) (b : Fin 1024) :
    (k0_pay1 (iblk m c 1 t) (iblk m c 6 t) (iblk m c 7 t)) (ix2 a b) = vF (m ((c : Thread nD τ).loc main_arg0)) (m ((c : Thread nD τ).loc main_arg2)) (m ((c : Thread nD τ).loc main_arg3)) (256 * t.val + a.val) b.val := by
  have h1 := ib1 m c t
  have h6 := ib6 m c t
  have h7 := ib7 m c t
  generalize (iblk m c 1 t : Vec Ideal S256x1024 .f32) = x at h1 ⊢
  generalize (iblk m c 6 t : Vec Ideal S1x1024 .f32) = g at h6 ⊢
  generalize (iblk m c 7 t : Vec Ideal S1x1024 .f32) = s at h7 ⊢
  unfold vF meanF
  pointwise [k0_pay1]
  simp only [h1, h6, h7]

/-- The convolution's input of block `t`. -/
theorem cx_block (c : Dev nD) (t : Fin cfg0.N) (a : Fin 256) (b : Fin 1024) :
    (k0_pay37 (iblk m c 4 t) (iblk m c 2 t)) (ix2 a b) = cxF (m ((c : Thread nD τ).loc main_arg0)) (256 * t.val + a.val) b.val := by
  have h1 := ib4 m c t
  have h6 := ib2 m c t
  generalize (iblk m c 4 t : Vec Ideal S256x1024 .f32) = x at h1 ⊢
  generalize (iblk m c 2 t : Vec Ideal S256x1024 .f32) = g at h6 ⊢
  unfold cxF
  pointwise [k0_pay37]
  rw [h1, h6]

theorem outs_at (c : Dev nD) (t : Fin cfg0.N) (a : Fin 256) (b : Fin 1024) :
    (outsAt0 m c t).2.1 (ix2 a b) = vF (m ((c : Thread nD τ).loc main_arg0)) (m ((c : Thread nD τ).loc main_arg2)) (m ((c : Thread nD τ).loc main_arg3)) (256 * t.val + a.val) b.val
    ∧ (outsAt0 m c t).2.2 (ix2 a b) = cxF (m ((c : Thread nD τ).loc main_arg0)) (256 * t.val + a.val) b.val := by
  unfold outsAt0
  dsimp only
  rw [out15_A, out16_A]
  exact ⟨v_block m c t a b, cx_block m c t a b⟩

theorem cover15 (i : S1024x1024.Idx) : ∃ t : Fin cfg0.N, (cfg0.win 15).flush t = true ∧ i ∈ ((cfg0.win 15).blk t).view.set := by
  have hi0 : (i 0).val < 1024 := (i 0).isLt
  have hi1 : (i 1).val < 1024 := (i 1).isLt
  have hN : (i 0).val / 256 < cfg0.N := by rw [show cfg0.N = 4 from N_0]; omega
  refine ⟨⟨_, hN⟩, flush0_15 _, ?_⟩
  show i ∈ ((View.whole main_v43_1).slice (win0_15.rect ⟨_, hN⟩)).set
  rw [View.set_slice_whole, Rect.mem_set_unit]
  intro a
  have e := idx15 ⟨_, hN⟩
  match a with
  | ⟨0, _⟩ => show win0_15.index _ (0 : Fin 2) * 256 ≤ (i 0).val ∧ (i 0).val < win0_15.index _ (0 : Fin 2) * 256 + 256; rw [congrFun e 0]; show (i 0).val / 256 * 256 ≤ _ ∧ _ < (i 0).val / 256 * 256 + 256; omega
  | ⟨1, _⟩ => show win0_15.index _ (1 : Fin 2) * 1024 ≤ (i 1).val ∧ (i 1).val < win0_15.index _ (1 : Fin 2) * 1024 + 1024; rw [congrFun e 1]; show 0 * 1024 ≤ _ ∧ _ < 0 * 1024 + 1024; omega

/-- Output 15's array after the run. -/
def res15 (c : Dev nD) : Buf (Elt Ideal) ((c : Thread nD τ).loc main_v43_1) := fun i => vF (m ((c : Thread nD τ).loc main_arg0)) (m ((c : Thread nD τ).loc main_arg2)) (m ((c : Thread nD τ).loc main_arg3)) (i 0).val (i 1).val

theorem arr15 (c : Dev nD) : (dats m 0 c).arrAt 15 cfg0.N = res15 m c := by
  refine (dats m 0 c).arrAt_eq_of_cover 15 _ (fun t hf => ?_) (fun i => cover15 i)
  rw [Value.flushed15]
  funext y
  have e := idx15 t
  have hb0 : (((cfg0.win 15).blk t).view.emb y 0).val = win0_15.index t (0 : Fin 2) * 256 + 1 * (y 0).val := rfl
  have hb1 : (((cfg0.win 15).blk t).view.emb y 1).val = win0_15.index t (1 : Fin 2) * 1024 + 1 * (y 1).val := rfl
  have h0 : (((cfg0.win 15).blk t).view.emb y 0).val = 256 * t.val + (y 0).val := by rw [hb0, congrFun e 0]; show t.val * 256 + _ = _; omega
  have h1 : (((cfg0.win 15).blk t).view.emb y 1).val = (y 1).val := by rw [hb1, congrFun e 1]; show 0 * _ + _ = _; omega
  show (outsAt0 m c t).2.1 ((cfg0.win 15).xinj (grid0.coords t) y) = vF (m ((c : Thread nD τ).loc main_arg0)) (m ((c : Thread nD τ).loc main_arg2)) (m ((c : Thread nD τ).loc main_arg3)) (((cfg0.win 15).blk t).view.emb y 0).val (((cfg0.win 15).blk t).view.emb y 1).val
  rw [h0, h1]
  have h := (outs_at m c t ⟨(y 0).val, (y 0).isLt⟩ ⟨(y 1).val, (y 1).isLt⟩).1
  refine Eq.trans (congrArg (outsAt0 m c t).2.1 ?_) h
  funext a
  match a with
  | ⟨0, _⟩ => rfl
  | ⟨1, _⟩ => rfl

theorem cover16 (i : S1024x1024.Idx) : ∃ t : Fin cfg0.N, (cfg0.win 16).flush t = true ∧ i ∈ ((cfg0.win 16).blk t).view.set := by
  have hi0 : (i 0).val < 1024 := (i 0).isLt
  have hi1 : (i 1).val < 1024 := (i 1).isLt
  have hN : (i 0).val / 256 < cfg0.N := by rw [show cfg0.N = 4 from N_0]; omega
  refine ⟨⟨_, hN⟩, flush0_16 _, ?_⟩
  show i ∈ ((View.whole main_v43_2).slice (win0_16.rect ⟨_, hN⟩)).set
  rw [View.set_slice_whole, Rect.mem_set_unit]
  intro a
  have e := idx16 ⟨_, hN⟩
  match a with
  | ⟨0, _⟩ => show win0_16.index _ (0 : Fin 2) * 256 ≤ (i 0).val ∧ (i 0).val < win0_16.index _ (0 : Fin 2) * 256 + 256; rw [congrFun e 0]; show (i 0).val / 256 * 256 ≤ _ ∧ _ < (i 0).val / 256 * 256 + 256; omega
  | ⟨1, _⟩ => show win0_16.index _ (1 : Fin 2) * 1024 ≤ (i 1).val ∧ (i 1).val < win0_16.index _ (1 : Fin 2) * 1024 + 1024; rw [congrFun e 1]; show 0 * 1024 ≤ _ ∧ _ < 0 * 1024 + 1024; omega

/-- Output 16's array after the run. -/
def res16 (c : Dev nD) : Buf (Elt Ideal) ((c : Thread nD τ).loc main_v43_2) := fun i => cxF (m ((c : Thread nD τ).loc main_arg0)) (i 0).val (i 1).val

theorem arr16 (c : Dev nD) : (dats m 0 c).arrAt 16 cfg0.N = res16 m c := by
  refine (dats m 0 c).arrAt_eq_of_cover 16 _ (fun t hf => ?_) (fun i => cover16 i)
  rw [Value.flushed16]
  funext y
  have e := idx16 t
  have hb0 : (((cfg0.win 16).blk t).view.emb y 0).val = win0_16.index t (0 : Fin 2) * 256 + 1 * (y 0).val := rfl
  have hb1 : (((cfg0.win 16).blk t).view.emb y 1).val = win0_16.index t (1 : Fin 2) * 1024 + 1 * (y 1).val := rfl
  have h0 : (((cfg0.win 16).blk t).view.emb y 0).val = 256 * t.val + (y 0).val := by rw [hb0, congrFun e 0]; show t.val * 256 + _ = _; omega
  have h1 : (((cfg0.win 16).blk t).view.emb y 1).val = (y 1).val := by rw [hb1, congrFun e 1]; show 0 * _ + _ = _; omega
  show (outsAt0 m c t).2.2 ((cfg0.win 16).xinj (grid0.coords t) y) = cxF (m ((c : Thread nD τ).loc main_arg0)) (((cfg0.win 16).blk t).view.emb y 0).val (((cfg0.win 16).blk t).view.emb y 1).val
  rw [h0, h1]
  have h := (outs_at m c t ⟨(y 0).val, (y 0).isLt⟩ ⟨(y 1).val, (y 1).isLt⟩).2
  refine Eq.trans (congrArg (outsAt0 m c t).2.2 ?_) h
  funext a
  match a with
  | ⟨0, _⟩ => rfl
  | ⟨1, _⟩ => rfl

/-- The kernel's run, its two stated results by the formulas. -/
theorem run (ρ : Dev nD → PrngReg) :
    θ_run defs (onTc (τ := τ) (main (F := Ideal))) ⟨m, fun _ => 0, ρ⟩ fun r => ∀ c : Dev nD,
      r.2.mem ((c : Thread nD τ).loc main_v43_1) = res15 m c
      ∧ r.2.mem ((c : Thread nD τ).loc main_v43_2) = res16 m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8)) :=
  (θ_run defs _ _).mono (fun _ h c => ⟨(h c).2.1.trans (arr15 m c), (h c).2.2.1.trans (arr16 m c), (h c).2.2.2⟩)
    (Value.run_blocks m ρ)

end Cert.MixSIdeal.MixS

end
-- ==== Proof.MixSRef.lean ====
module

public import proofs.«01_k».proof.Proof.Gen.MixSRefIdeal.Run
public import proofs.«01_k».proof.Proof.MixSSpec
public import Idealize.ShloMosaic.Lib.Pointwise

@[expose] public section

set_option maxRecDepth 16384

noncomputable section

namespace Cert.MixSRefIdeal.MixS

open Cert.Rd
open Cert.MixSIdeal.MixS (meanF vF cxF)
open Cert.MixSRefIdeal Cert.MixSRefIdeal.Gen Idealize.ShloMosaic Idealize.ShloMosaic.TcCoe Idealize.SL.Sem Idealize.ShloMosaic.Tactic

/-! The reference's results, split into their steps. -/

def part1 (p : FVec Ideal S1024x5120 .f32) : FVec Ideal S128x8x1024 .f32 :=
  extractStridedSlice S128x8x1024 ![0, 0, 1024] (shapeCast _ p shapeCasts_S1024x5120_S128x8x5120) slices_S128x8x5120_S128x8x1024_0_0_1024

def part2 (p : FVec Ideal S1024x5120 .f32) : FVec Ideal S128x8x1024 .f32 :=
  extractStridedSlice S128x8x1024 ![0, 0, 2048] (shapeCast _ p shapeCasts_S1024x5120_S128x8x5120) slices_S128x8x5120_S128x8x1024_0_0_2048

def part4 (p : FVec Ideal S1024x5120 .f32) : FVec Ideal S128x8x1024 .f32 :=
  extractStridedSlice S128x8x1024 ![0, 0, 4096] (shapeCast _ p shapeCasts_S1024x5120_S128x8x5120) slices_S128x8x5120_S128x8x1024_0_0_4096

/-- The normalised values. -/
def lnV (v : FVec Ideal S128x8x1024 .f32) (g b : FVec Ideal S2x1024 .f32) : FVec Ideal S128x8x1024 .f32 :=
  (addf (mulf (mulf (subf v (broadcastInDim S128x8x1024 ![0, 1, 2] bcast_S128x8x1_S128x8x1024_0_1_2 (Host.divf (broadcastInDim S128x8x1 ![0, 1] bcast_S128x8_S128x8x1_0_1 (Host.reduceAdd v (constant S_ .f32 0x00000000#32) reducesTo_S128x8x1024_S128x8_d2 h_S_)) (broadcastInDim S128x8x1 ![] bcast_S_S128x8x1 (constant S_ .f32 0x44800000#32))))) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (subf v (broadcastInDim S128x8x1024 ![0, 1, 2] bcast_S128x8x1_S128x8x1024_0_1_2 (Host.divf (broadcastInDim S128x8x1 ![0, 1] bcast_S128x8_S128x8x1_0_1 (Host.reduceAdd v (constant S_ .f32 0x00000000#32) reducesTo_S128x8x1024_S128x8_d2 h_S_)) (broadcastInDim S128x8x1 ![] bcast_S_S128x8x1 (constant S_ .f32 0x44800000#32))))) (subf v (broadcastInDim S128x8x1024 ![0, 1, 2] bcast_S128x8x1_S128x8x1024_0_1_2 (Host.divf (broadcastInDim S128x8x1 ![0, 1] bcast_S128x8_S128x8x1_0_1 (Host.reduceAdd v (constant S_ .f32 0x00000000#32) reducesTo_S128x8x1024_S128x8_d2 h_S_)) (broadcastInDim S128x8x1 ![] bcast_S_S128x8x1 (constant S_ .f32 0x44800000#32)))))) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x3727C5AC#32)))))) (broadcastInDim S128x8x1024 ![0, 1, 2] bcast_S1x1x1024_S128x8x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S128x8x1024 ![0, 1, 2] bcast_S1x1x1024_S128x8x1024_0_1_2 (broadcastInDim S1x1x1024 ![2] bcast_S1024_S1x1x1024_2 (shapeCast _ (extractStridedSlice S1x1024 ![0, 0] b slices_S2x1024_S1x1024_0_0) shapeCasts_S1x1024_S1024))))

theorem part1_ix (p : FVec Ideal S1024x5120 .f32) (a : Fin 128) (b : Fin 8) (d : Fin 1024) :
    part1 p (ix3 a b d) = rd2 p (8 * a.val + b.val) (1024 + d.val) := by
  pointwise [part1]
  rw [rd2_ix2 p]
  show rd2 p (a.val * 8 + b.val) _ = _
  rw [Nat.mul_comm a.val 8]

theorem part2_ix (p : FVec Ideal S1024x5120 .f32) (a : Fin 128) (b : Fin 8) (d : Fin 1024) :
    part2 p (ix3 a b d) = rd2 p (8 * a.val + b.val) (2048 + d.val) := by
  pointwise [part2]
  rw [rd2_ix2 p]
  show rd2 p (a.val * 8 + b.val) _ = _
  rw [Nat.mul_comm a.val 8]

theorem part4_ix (p : FVec Ideal S1024x5120 .f32) (a : Fin 128) (b : Fin 8) (d : Fin 1024) :
    part4 p (ix3 a b d) = rd2 p (8 * a.val + b.val) (4096 + d.val) := by
  pointwise [part4]
  rw [rd2_ix2 p]
  show rd2 p (a.val * 8 + b.val) _ = _
  rw [Nat.mul_comm a.val 8]

theorem lnV_ix (p : FVec Ideal S1024x5120 .f32) (g b : FVec Ideal S2x1024 .f32) (a : Fin 128) (l : Fin 8) (d : Fin 1024) :
    lnV (part1 p) g b (ix3 a l d) = vF p g b (8 * a.val + l.val) d.val := by
  unfold vF meanF
  pointwise [lnV]
  simp only [part1_ix, rd2_ix2 g, rd2_ix2 b]
  rfl

theorem cx_ix (p : FVec Ideal S1024x5120 .f32) (a : Fin 128) (l : Fin 8) (d : Fin 1024) :
    mulf (F := Ideal) (φ := .f32) (part4 p) (part2 p) (ix3 a l d) = cxF p (8 * a.val + l.val) d.val := by
  show part4 p (ix3 a l d) * part2 p (ix3 a l d) = _
  rw [part4_ix, part2_ix]
  rfl

theorem res1 (p : FVec Ideal S1024x5120 .f32) (g b : FVec Ideal S2x1024 .f32) (r : Fin 1024) (d : Fin 1024) :
    shapeCast S1024x1024 (lnV (part1 p) g b) shapeCasts_S128x8x1024_S1024x1024 (ix2 r d) = vF p g b r.val d.val := by
  have h := lnV_ix p g b
  generalize lnV (part1 p) g b = v at h ⊢
  have e : 8 * (r.val / 8) + r.val % 8 = r.val := by omega
  pointwise []
  simp only [h, e]

theorem res2 (p : FVec Ideal S1024x5120 .f32) (r : Fin 1024) (d : Fin 1024) :
    shapeCast S1024x1024 (mulf (F := Ideal) (φ := .f32) (part4 p) (part2 p)) shapeCasts_S128x8x1024_S1024x1024 (ix2 r d) = cxF p r.val d.val := by
  have h := cx_ix p
  generalize mulf (F := Ideal) (φ := .f32) (part4 p) (part2 p) = v at h ⊢
  have e : 8 * (r.val / 8) + r.val % 8 = r.val := by omega
  pointwise []
  simp only [h, e]

set_option maxHeartbeats 1000000 in
/-- The reference's run, its results by the formulas. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = (fun i => vF (m ((c.tc : Thread nD τ).loc main_arg0)) (m ((c.tc : Thread nD τ).loc main_arg2)) (m ((c.tc : Thread nD τ).loc main_arg3)) (i 0).val (i 1).val)
      ∧ r.2.mem ((c.tc : Thread nD τ).loc main_v36) = (fun i => cxF (m ((c.tc : Thread nD τ).loc main_arg0)) (i 0).val (i 1).val)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8)) :=
  (θ_run defs _ _).mono (fun _ h c => ⟨(h c).1.trans (funext fun i => by idx_vars i; exact res1 _ _ _ i0 i1),
    (h c).2.1.trans (funext fun i => by idx_vars i; exact res2 _ i0 i1), (h c).2.2⟩)
    (Cert.MixSRefIdeal.Value.run m ρ)

end Cert.MixSRefIdeal.MixS

end
-- ==== Proof.PairMixS.lean ====
module

public import proofs.«01_k».proof.Defs
public import proofs.«01_k».proof.Proof.Gen.MixS.Frame
public import proofs.«01_k».proof.Proof.Gen.MixSIdeal.Frame
public import proofs.«01_k».proof.Proof.Gen.MixSRefIdeal.Run
public import proofs.«01_k».proof.Proof.MixSRun
public import proofs.«01_k».proof.Proof.MixSRef
public import Idealize.ShloMosaic.Lib.Quiescent

@[expose] public section

noncomputable section

namespace Cert.Proof

open Idealize.ShloMosaic Idealize.SL.Sem

theorem frame_MixS : Cert.quiescent_MixS (hMixS := Cert.MixS.Gen.facts) :=
  fun m ρ _ => Cert.MixS.Gen.frame m ρ

theorem frame_MixSIdeal : Cert.quiescent_MixSIdeal (hMixSIdeal := Cert.MixSIdeal.Gen.facts) :=
  fun m ρ _ => Cert.MixSIdeal.Gen.frame m ρ

theorem frame_MixSRefIdeal : Cert.quiescent_MixSRefIdeal (hMixSRefIdeal := Cert.MixSRefIdeal.Gen.facts) :=
  fun m ρ _ => (θ_run Cert.MixSRefIdeal.defs _ _).mono (fun r h => ⟨fun c => (h c).2.2, Idealize.ShloMosaic.sem_eq_zero_of_no_sems (by decide) r.2⟩) (Cert.MixSRefIdeal.Value.run (F := Ideal) m ρ)

/-- Kernel and reference end with the same result, the array the formula gives. -/
theorem alg_MixS : Cert.algebraic_MixSIdeal_MixSRefIdeal (hMixSIdeal := Cert.MixSIdeal.Gen.facts) (hMixSRefIdeal := Cert.MixSRefIdeal.Gen.facts) := by
  intro m ρ m' ρ' _ hagree
  refine ⟨fun c => Cert.MixSIdeal.MixS.res15 m c, fun c => Cert.MixSIdeal.MixS.res16 m c, Cert.MixSIdeal.MixS.run m ρ, (θ_run Cert.MixSRefIdeal.defs _ _).mono (fun r h c => ?_) (Cert.MixSRefIdeal.MixS.run m' ρ')⟩
  obtain ⟨a0, a1, a2, a3, a4, a5, a6, a7, a8⟩ := hagree c
  obtain ⟨e0, e1, hk⟩ := h c
  simp only [a0, a1, a2, a3, a4, a5, a6, a7, a8] at e0 e1
  exact ⟨e0, e1, hk⟩

end Cert.Proof

end
-- ==== Proof.LoraGSpec.lean ====
module

public import proofs.«01_k».proof.Proof.Gen.LoraGIdeal.Skeleton
public import proofs.«01_k».proof.Proof.Read

@[expose] public section

set_option maxRecDepth 16384

noncomputable section

namespace Cert.LoraGIdeal.LoraG

open Cert.Rd
open Cert.LoraGIdeal Cert.LoraGIdeal.Gen Idealize.ShloMosaic Idealize.ShloMosaic.TcCoe Idealize.SL.Sem Idealize.ShloMosaic.Tactic

/-- The kernel's block: the input's product with the first weights through the logistic function, times the second weights, plus a bias. -/
theorem pay1_at (x : Vec Ideal S512x2048 .bf16) (w1 : Vec Ideal S2048x256 .bf16) (w2 : Vec Ideal S256x2048 .bf16) (b : Vec Ideal S1x2048 .f32) (a : Fin 512) (d : Fin 2048) :
    k0_pay1 x w1 w2 b (ix2 a d) = (∑ k : Fin 256, Ideal.div 1 (1 + Ideal.exp (-∑ e : Fin 2048, x (ix2 a e) * w1 (ix2 e k))) * w2 (ix2 k d)) + b (ix2 0 d) := by
  pointwise [k0_pay1]
  simp only [zero_sub]

/-- Entry `d` of token row `r`'s gate. -/
def gateF (x : S8192x2048.Idx → EReal) (w1 : S2x2048x256.Idx → EReal) (w2 : S2x256x2048.Idx → EReal) (r d : ℕ) : EReal :=
  ∑ k : Fin 256, Ideal.div 1 (1 + Ideal.exp (-∑ e : Fin 2048, rd2 x r e.val * rd3 w1 0 e.val k.val)) * rd3 w2 0 k.val d

end Cert.LoraGIdeal.LoraG
-- ==== Proof.LoraGHost.lean ====
module

public import proofs.«01_k».proof.Proof.Gen.LoraGIdeal.Value
public import proofs.«01_k».proof.Proof.LoraGSpec
public import Idealize.ShloMosaic.Lib.Pipeline.ValueKit.Point

@[expose] public section

set_option maxRecDepth 16384

noncomputable section

namespace Cert.LoraGIdeal.LoraG

open Cert.Rd
open Cert.LoraGIdeal Cert.LoraGIdeal.Gen Idealize.ShloMosaic Idealize.ShloMosaic.TcCoe Idealize.SL.Sem Idealize.ShloMosaic.Tactic

/-- The first weights as the host hands them over. -/
def w1H (x : S2x2048x256.Idx → EReal) : S2048x256.Idx → EReal :=
  shapeCast S2048x256 (extractStridedSlice S1x2048x256 ![0, 0, 0] (truncf (F := Ideal) (φ := .f32) .bf16 (pad S2x2048x256 ![0, 0, 0] ![0, 0, 0] ![0, 0, 0] x (sitofp (F := Ideal) .f32 (constantI S_ 32 0#32)) pads_S2x2048x256_S2x2048x256_000_000_000 h_S_) bitsLt_bf16_f32) slices_S2x2048x256_S1x2048x256_0_0_0) shapeCasts_S1x2048x256_S2048x256

/-- The second weights as the host hands them over. -/
def w2H (x : S2x256x2048.Idx → EReal) : S256x2048.Idx → EReal :=
  shapeCast S256x2048 (extractStridedSlice S1x256x2048 ![0, 0, 0] (truncf (F := Ideal) (φ := .f32) .bf16 (pad S2x256x2048 ![0, 0, 0] ![0, 0, 0] ![0, 0, 0] x (sitofp (F := Ideal) .f32 (constantI S_ 32 0#32)) pads_S2x256x2048_S2x256x2048_000_000_000 h_S_) bitsLt_bf16_f32) slices_S2x256x2048_S1x256x2048_0_0_0) shapeCasts_S1x256x2048_S256x2048

theorem w1H_at (x : S2x2048x256.Idx → EReal) (a : Fin 2048) (k : Fin 256) : w1H x (ix2 a k) = rd3 x 0 a.val k.val := by
  unfold rd3
  pointwise [w1H]

theorem w2H_at (x : S2x256x2048.Idx → EReal) (k : Fin 256) (d : Fin 2048) : w2H x (ix2 k d) = rd3 x 0 k.val d.val := by
  unfold rd3
  pointwise [w2H]

theorem V5 (m : (ℓ : Loc nD τ sig) → Buf (Elt Ideal) ℓ) (c : Dev nD) : V m c main_v5 = w1H (m ((c : Thread nD τ).loc main_arg1)) := by
  unfold V
  entry_read
  rfl

theorem V7 (m : (ℓ : Loc nD τ sig) → Buf (Elt Ideal) ℓ) (c : Dev nD) : V m c main_v7 = w2H (m ((c : Thread nD τ).loc main_arg2)) := by
  unfold V
  entry_read
  rfl

theorem V8 (m : (ℓ : Loc nD τ sig) → Buf (Elt Ideal) ℓ) (c : Dev nD) (d : Fin 2048) : (V m c main_v8 : S1x2048.Idx → EReal) (ix2 0 d) = (0 : EReal) := by
  have h : V m c main_v8 = broadcastInDim S1x2048 ![] bcast_S_S1x2048 (constant (F := Ideal) S_ .f32 0x00000000#32) := by
    unfold V
    entry_read
    rfl
  rw [h]
  pointwise []

end Cert.LoraGIdeal.LoraG
-- ==== Proof.LoraGRun.lean ====
module

public import proofs.«01_k».proof.Proof.Gen.LoraGIdeal.Value
public import proofs.«01_k».proof.Proof.LoraGHost
public import Idealize.ShloMosaic.Lib.Pipeline.ValueKit.Tiles
public import Idealize.ShloMosaic.Lib.Pipeline.ValueKit.Point

@[expose] public section

set_option maxRecDepth 16384

noncomputable section

namespace Cert.LoraGIdeal.LoraG

open Cert.Rd
open Cert.LoraGIdeal Cert.LoraGIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem N_le (t : Fin cfg0.N) : t.val < 16 := t.isLt

theorem ib0 (c : Dev nD) (t : Fin cfg0.N) (a : Fin 512) (b : Fin 2048) :
    (iblk m c 0 t : Vec Ideal S512x2048 .bf16) (ix2 a b) = rd2 (m ((c : Thread nD τ).loc main_arg0)) (512 * t.val + a.val) b.val := by
  have ht := N_le t
  unfold rd2; rw [dif_pos ⟨by omega, by omega⟩]
  blk_ext [iblk, V, idx0 t]

theorem ib1 (c : Dev nD) (t : Fin cfg0.N) (a : Fin 2048) (b : Fin 256) :
    (iblk m c 1 t : Vec Ideal S2048x256 .bf16) (ix2 a b) = rd3 (m ((c : Thread nD τ).loc main_arg1)) 0 a.val b.val := by
  have e : (iblk m c 1 t : Vec Ideal S2048x256 .bf16) (ix2 a b) = (V m c main_v5 : S2048x256.Idx → EReal) (ix2 a b) := by
    blk_ext [iblk, idx1 t]
  exact e.trans ((congrFun (V5 m c) _).trans (w1H_at _ a b))

theorem ib2 (c : Dev nD) (t : Fin cfg0.N) (a : Fin 256) (b : Fin 2048) :
    (iblk m c 2 t : Vec Ideal S256x2048 .bf16) (ix2 a b) = rd3 (m ((c : Thread nD τ).loc main_arg2)) 0 a.val b.val := by
  have e : (iblk m c 2 t : Vec Ideal S256x2048 .bf16) (ix2 a b) = (V m c main_v7 : S256x2048.Idx → EReal) (ix2 a b) := by
    blk_ext [iblk, idx2 t]
  exact e.trans ((congrFun (V7 m c) _).trans (w2H_at _ a b))

theorem ib3 (c : Dev nD) (t : Fin cfg0.N) (b : Fin 2048) : (iblk m c 3 t : Vec Ideal S1x2048 .f32) (ix2 0 b) = (0 : EReal) := by
  have e : (iblk m c 3 t : Vec Ideal S1x2048 .f32) (ix2 0 b) = (V m c main_v8 : S1x2048.Idx → EReal) (ix2 0 b) := by
    blk_ext [iblk, idx3 t]
  exact e.trans (V8 m c b)

/-- One block of the result. -/
theorem block (c : Dev nD) (t : Fin cfg0.N) (a : Fin 512) (d : Fin 2048) :
    k0_pay1 (iblk m c 0 t) (iblk m c 1 t) (iblk m c 2 t) (iblk m c 3 t) (ix2 a d) = gateF (m ((c : Thread nD τ).loc main_arg0)) (m ((c : Thread nD τ).loc main_arg1)) (m ((c : Thread nD τ).loc main_arg2)) (512 * t.val + a.val) d.val := by
  refine (pay1_at (iblk m c 0 t) (iblk m c 1 t) (iblk m c 2 t) (iblk m c 3 t) a d).trans ?_
  have h0 := ib0 m c t
  have h1 := ib1 m c t
  have h2 := ib2 m c t
  have h3 := ib3 m c t
  generalize (iblk m c 0 t : Vec Ideal S512x2048 .bf16) = x at h0 ⊢
  generalize (iblk m c 1 t : Vec Ideal S2048x256 .bf16) = w1 at h1 ⊢
  generalize (iblk m c 2 t : Vec Ideal S256x2048 .bf16) = w2 at h2 ⊢
  generalize (iblk m c 3 t : Vec Ideal S1x2048 .f32) = b at h3 ⊢
  unfold gateF
  simp only [h0, h1, h2, h3, add_zero]

/-- The array the formula gives. -/
def res (c : Dev nD) : Buf (Elt Ideal) ((c : Thread nD τ).loc main_v9) := fun i => gateF (m ((c : Thread nD τ).loc main_arg0)) (m ((c : Thread nD τ).loc main_arg1)) (m ((c : Thread nD τ).loc main_arg2)) (i 0).val (i 1).val

/-- Every position lies in some point's block. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : (i 0).val / 512 < cfg0.N := by rw [show cfg0.N = 16 from N_0]; omega
  refine ⟨⟨_, hN⟩, flush0_4 _, ?_⟩
  show i ∈ ((View.whole main_v9).slice (win0_4.rect ⟨_, hN⟩)).set
  rw [View.set_slice_whole, Rect.mem_set_unit]
  intro a
  have e := idx4 ⟨_, hN⟩
  match a with
  | ⟨0, _⟩ => show win0_4.index _ (0 : Fin 2) * 512 ≤ (i 0).val ∧ (i 0).val < win0_4.index _ (0 : Fin 2) * 512 + 512; rw [congrFun e 0]; show (i 0).val / 512 * 512 ≤ _ ∧ _ < (i 0).val / 512 * 512 + 512; omega
  | ⟨1, _⟩ => show win0_4.index _ (1 : Fin 2) * 2048 ≤ (i 1).val ∧ (i 1).val < win0_4.index _ (1 : Fin 2) * 2048 + 2048; rw [congrFun e 1]; show 0 * 2048 ≤ _ ∧ _ < 0 * 2048 + 2048; omega

theorem arr (c : Dev nD) : (dats m 0 c).arrAt 4 cfg0.N = res m c := by
  refine (dats m 0 c).arrAt_eq_of_cover 4 _ (fun t hf => ?_) (fun i => cover i)
  rw [Value.flushed4]
  funext y
  have e := idx4 t
  have hb0 : (((cfg0.win 4).blk t).view.emb y 0).val = win0_4.index t (0 : Fin 2) * 512 + 1 * (y 0).val := rfl
  have hb1 : (((cfg0.win 4).blk t).view.emb y 1).val = win0_4.index t (1 : Fin 2) * 2048 + 1 * (y 1).val := rfl
  have h0 : (((cfg0.win 4).blk t).view.emb y 0).val = 512 * t.val + (y 0).val := by rw [hb0, congrFun e 0]; show t.val * 512 + _ = _; omega
  have h1 : (((cfg0.win 4).blk t).view.emb y 1).val = (y 1).val := by rw [hb1, congrFun e 1]; show 0 * _ + _ = _; omega
  show out0_4 (iblk m c 0 t) (iblk m c 1 t) (iblk m c 2 t) (iblk m c 3 t) ((cfg0.win 4).xinj (grid0.coords t) y) = gateF (m ((c : Thread nD τ).loc main_arg0)) (m ((c : Thread nD τ).loc main_arg1)) (m ((c : Thread nD τ).loc main_arg2)) (((cfg0.win 4).blk t).view.emb y 0).val (((cfg0.win 4).blk t).view.emb y 1).val
  rw [h0, h1]
  unfold out0_4
  rw [View.canon_unit_zero (S := S512x2048) hz2]
  simp only [View.ld_unit_zero (S := S512x2048) hz2, View.ld_unit_zero (S := S2048x256) hz2, View.ld_unit_zero (S := S256x2048) hz2, View.ld_unit_zero (S := S1x2048) hz2]
  refine Eq.trans (congrArg (k0_pay1 (iblk m c 0 t) (iblk m c 1 t) (iblk m c 2 t) (iblk m c 3 t)) ?_) (block m c t ⟨(y 0).val, (y 0).isLt⟩ ⟨(y 1).val, (y 1).isLt⟩)
  funext a
  match a with
  | ⟨0, _⟩ => rfl
  | ⟨1, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr m c), (h c).2⟩) (Value.run_blocks m ρ)

end Cert.LoraGIdeal.LoraG
-- ==== Proof.LoraGRef.lean ====
module

public import proofs.«01_k».proof.Proof.Gen.LoraGRefIdeal.Run
public import proofs.«01_k».proof.Proof.LoraGSpec

@[expose] public section

set_option maxRecDepth 16384

noncomputable section

namespace Cert.LoraGRefIdeal.LoraG

open Cert.Rd
open Cert.LoraGIdeal.LoraG (gateF)
open Cert.LoraGRefIdeal Cert.LoraGRefIdeal.Gen Idealize.ShloMosaic Idealize.ShloMosaic.TcCoe Idealize.SL.Sem Idealize.ShloMosaic.Tactic

/-- The reference's result, from its arguments. -/
def out (x : FVec Ideal S8192x2048 .bf16) (w1 : FVec Ideal S2x2048x256 .f32) (w2 : FVec Ideal S2x256x2048 .f32) : FVec Ideal S8192x2048 .f32 :=
  Host.dotGeneral dot_S8192x256_S256x2048_S8192x2048_1_0_0_1_n_n none (Host.divf (broadcastInDim S8192x256 ![] bcast_S_S8192x256 (constant S_ .f32 0x3F800000#32)) (addf (broadcastInDim S8192x256 ![] bcast_S_S8192x256 (constant S_ .f32 0x3F800000#32)) (Host.exp (Host.negf (Host.dotGeneral dot_S8192x2048_S2048x256_S8192x256_1_0_0_1_n_n none (extf .f32 x bitsLt_bf16_f32) (shapeCast _ (extractStridedSlice S1x2048x256 ![0, 0, 0] w1 slices_S2x2048x256_S1x2048x256_0_0_0) shapeCasts_S1x2048x256_S2048x256)))))) (shapeCast _ (extractStridedSlice S1x256x2048 ![0, 0, 0] w2 slices_S2x256x2048_S1x256x2048_0_0_0) shapeCasts_S1x256x2048_S256x2048)

theorem out_ix (x : FVec Ideal S8192x2048 .bf16) (w1 : FVec Ideal S2x2048x256 .f32) (w2 : FVec Ideal S2x256x2048 .f32) (a : Fin 8192) (d : Fin 2048) :
    out x w1 w2 (ix2 a d) = gateF x w1 w2 a.val d.val := by
  pointwise [out]
  simp only [rd2_ix2 x, rd3_ix3 w1, rd3_ix3 w2]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = (fun i => gateF (m ((c.tc : Thread nD τ).loc main_arg0)) (m ((c.tc : Thread nD τ).loc main_arg1)) (m ((c.tc : Thread nD τ).loc main_arg2)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => by
      rw [show i = ix2 (i 0) (i 1) from eq_ix2 i]
      exact out_ix _ _ _ _ _), (h c).2⟩) (Cert.LoraGRefIdeal.Value.run m ρ)

end Cert.LoraGRefIdeal.LoraG
-- ==== Proof.PairLoraG.lean ====
module

public import proofs.«01_k».proof.Defs
public import proofs.«01_k».proof.Proof.Gen.LoraG.Frame
public import proofs.«01_k».proof.Proof.Gen.LoraGIdeal.Frame
public import proofs.«01_k».proof.Proof.Gen.LoraGRefIdeal.Run
public import proofs.«01_k».proof.Proof.LoraGRun
public import proofs.«01_k».proof.Proof.LoraGRef
public import Idealize.ShloMosaic.Lib.Quiescent

@[expose] public section

noncomputable section

namespace Cert.Proof

open Idealize.ShloMosaic Idealize.SL.Sem

theorem frame_LoraG : Cert.quiescent_LoraG (hLoraG := Cert.LoraG.Gen.facts) :=
  fun m ρ _ => Cert.LoraG.Gen.frame m ρ

theorem frame_LoraGIdeal : Cert.quiescent_LoraGIdeal (hLoraGIdeal := Cert.LoraGIdeal.Gen.facts) :=
  fun m ρ _ => Cert.LoraGIdeal.Gen.frame m ρ

theorem frame_LoraGRefIdeal : Cert.quiescent_LoraGRefIdeal (hLoraGRefIdeal := Cert.LoraGRefIdeal.Gen.facts) :=
  fun m ρ _ => (θ_run Cert.LoraGRefIdeal.defs _ _).mono (fun r h => ⟨fun c => (h c).2, Idealize.ShloMosaic.sem_eq_zero_of_no_sems (by decide) r.2⟩) (Cert.LoraGRefIdeal.Value.run (F := Ideal) m ρ)

/-- Kernel and reference end with the same result, the array the formula gives. -/
theorem alg_LoraG : Cert.algebraic_LoraGIdeal_LoraGRefIdeal (hLoraGIdeal := Cert.LoraGIdeal.Gen.facts) (hLoraGRefIdeal := Cert.LoraGRefIdeal.Gen.facts) := by
  intro m ρ m' ρ' _ hagree
  refine ⟨fun c => Cert.LoraGIdeal.LoraG.res m c, Cert.LoraGIdeal.LoraG.run m ρ, (θ_run Cert.LoraGRefIdeal.defs _ _).mono (fun r h c => ?_) (Cert.LoraGRefIdeal.LoraG.run m' ρ')⟩
  obtain ⟨a0, a1, a2⟩ := hagree c
  obtain ⟨e0, hk⟩ := h c
  simp only [a0, a1, a2] at e0
  exact ⟨e0, hk⟩

end Cert.Proof

end
-- ==== Proof.LoraASpec.lean ====
module

public import proofs.«01_k».proof.Proof.Gen.LoraAIdeal.Skeleton
public import proofs.«01_k».proof.Proof.Read

@[expose] public section

set_option maxRecDepth 16384

noncomputable section

namespace Cert.LoraAIdeal.LoraA

open Cert.Rd
open Cert.LoraAIdeal Cert.LoraAIdeal.Gen Idealize.ShloMosaic Idealize.ShloMosaic.TcCoe Idealize.SL.Sem Idealize.ShloMosaic.Tactic

/-- The kernel's block: the input's product with both weights in turn plus a bias, through the logistic function. -/
theorem pay1_at (x : Vec Ideal S512x2048 .bf16) (w1 : Vec Ideal S2048x128 .bf16) (w2 : Vec Ideal S128x2048 .bf16) (b : Vec Ideal S1x2048 .f32) (a : Fin 512) (h : Fin 16) (d : Fin 128) :
    k0_pay1 x w1 w2 b (ix4 0 a h d) = Ideal.div 1 (1 + Ideal.exp (-((∑ k : Fin 128, (∑ e : Fin 2048, x (ix2 a e) * w1 (ix2 e k)) * w2 (ix2 k ⟨h.val * 128 + d.val, by omega⟩)) + b (ix2 0 ⟨h.val * 128 + d.val, by omega⟩)))) := by
  pointwise [k0_pay1]
  simp only [zero_sub]

/-- Entry `n` of token row `r`'s rate. -/
def rateF (x : S8192x2048.Idx → EReal) (w0 : S2x2048.Idx → EReal) (w1 : S2x2048x96.Idx → EReal) (w2 : S2x96x2048.Idx → EReal) (r n : ℕ) : EReal :=
  Ideal.div 1 (1 + Ideal.exp (-(rd2 w0 0 n + ∑ k : Fin 96, (∑ e : Fin 2048, rd2 x r e.val * rd3 w1 0 e.val k.val) * rd3 w2 0 k.val n)))

/-- The rates in the scan's order: per position, the batch's sequences side by side. -/
def loraF (x : S8192x2048.Idx → EReal) (w0 : S2x2048.Idx → EReal) (w1 : S2x2048x96.Idx → EReal) (w2 : S2x96x2048.Idx → EReal) (l q d : ℕ) : EReal :=
  rateF x w0 w1 w2 (q / 16 * 2048 + l) (q % 16 * 128 + d)

/-- The columns past the weights' own ninety-six add nothing. -/
theorem sum_pad (f : ℕ → EReal) (w2 : S2x96x2048.Idx → EReal) (n : ℕ) :
    ∑ k : Fin 128, f k.val * rd3 w2 0 k.val n = ∑ k : Fin 96, f k.val * rd3 w2 0 k.val n := by
  rw [Fin.sum_univ_eq_sum_range (fun k => f k * rd3 w2 0 k n) 128, Fin.sum_univ_eq_sum_range (fun k => f k * rd3 w2 0 k n) 96]
  refine (Finset.sum_subset (Finset.range_subset_range.2 (by omega)) fun k _ hk => ?_).symm
  have h96 : ¬ k < 96 := fun h => hk (Finset.mem_range.2 h)
  unfold rd3
  rw [dif_neg fun h => h96 h.2.1, mul_zero]

end Cert.LoraAIdeal.LoraA
-- ==== Proof.LoraAHost.lean ====
module

public import proofs.«01_k».proof.Proof.Gen.LoraAIdeal.Value
public import proofs.«01_k».proof.Proof.LoraASpec
public import Idealize.ShloMosaic.Lib.Pipeline.ValueKit.Point

@[expose] public section

set_option maxRecDepth 16384

noncomputable section

namespace Cert.LoraAIdeal.LoraA

open Cert.Rd
open Cert.LoraAIdeal Cert.LoraAIdeal.Gen Idealize.ShloMosaic Idealize.ShloMosaic.TcCoe Idealize.SL.Sem Idealize.ShloMosaic.Tactic

/-- The first weights as the host hands them over. -/
def w1H (x : S2x2048x96.Idx → EReal) : S2048x128.Idx → EReal :=
  shapeCast S2048x128 (extractStridedSlice S1x2048x128 ![0, 0, 0] (truncf (F := Ideal) (φ := .f32) .bf16 (pad S2x2048x128 ![0, 0, 0] ![0, 0, 32] ![0, 0, 0] x (sitofp (F := Ideal) .f32 (constantI S_ 32 0#32)) pads_S2x2048x96_S2x2048x128_000_000_0320 h_S_) bitsLt_bf16_f32) slices_S2x2048x128_S1x2048x128_0_0_0) shapeCasts_S1x2048x128_S2048x128

/-- The second weights as the host hands them over. -/
def w2H (x : S2x96x2048.Idx → EReal) : S128x2048.Idx → EReal :=
  shapeCast S128x2048 (extractStridedSlice S1x128x2048 ![0, 0, 0] (truncf (F := Ideal) (φ := .f32) .bf16 (pad S2x128x2048 ![0, 0, 0] ![0, 32, 0] ![0, 0, 0] x (sitofp (F := Ideal) .f32 (constantI S_ 32 0#32)) pads_S2x96x2048_S2x128x2048_000_0320_000 h_S_) bitsLt_bf16_f32) slices_S2x128x2048_S1x128x2048_0_0_0) shapeCasts_S1x128x2048_S128x2048

theorem zero_word : (FloatOps.sitofp .f32 0#32 : Ideal .f32) = (0 : EReal) := by
  show (((0#32 : BitVec 32).toInt : ℝ) : EReal) = 0
  simp

theorem w1H_at (x : S2x2048x96.Idx → EReal) (a : Fin 2048) (k : Fin 128) : w1H x (ix2 a k) = rd3 x 0 a.val k.val := by
  unfold rd3
  pointwise [w1H]
  rw [zero_word]

theorem w2H_at (x : S2x96x2048.Idx → EReal) (k : Fin 128) (d : Fin 2048) : w2H x (ix2 k d) = rd3 x 0 k.val d.val := by
  unfold rd3
  pointwise [w2H]
  rw [zero_word]

theorem V5 (m : (ℓ : Loc nD τ sig) → Buf (Elt Ideal) ℓ) (c : Dev nD) : V m c main_v5 = w1H (m ((c : Thread nD τ).loc main_arg2)) := by
  unfold V
  entry_read
  rfl

theorem V7 (m : (ℓ : Loc nD τ sig) → Buf (Elt Ideal) ℓ) (c : Dev nD) : V m c main_v7 = w2H (m ((c : Thread nD τ).loc main_arg3)) := by
  unfold V
  entry_read
  rfl

theorem V10 (m : (ℓ : Loc nD τ sig) → Buf (Elt Ideal) ℓ) (c : Dev nD) (d : Fin 2048) : (V m c main_v10 : S1x2048.Idx → EReal) (ix2 0 d) = rd2 (m ((c : Thread nD τ).loc main_arg1)) 0 d.val := by
  have h : V m c main_v10 = broadcastInDim S1x2048 ![1] bcast_S2048_S1x2048_1 (shapeCast S2048 (extractStridedSlice S1x2048 ![0, 0] (m ((c : Thread nD τ).loc main_arg1)) slices_S2x2048_S1x2048_0_0) shapeCasts_S1x2048_S2048) := by
    unfold V
    entry_read
    rfl
  rw [h]
  unfold rd2
  rw [dif_pos ⟨by omega, d.isLt⟩]
  pointwise []

end Cert.LoraAIdeal.LoraA
-- ==== Proof.LoraARef.lean ====
module

public import proofs.«01_k».proof.Proof.Gen.LoraARefIdeal.Run
public import proofs.«01_k».proof.Proof.LoraASpec

@[expose] public section

set_option maxRecDepth 16384

noncomputable section

namespace Cert.LoraARefIdeal.LoraA

open Cert.Rd
open Cert.LoraAIdeal.LoraA (loraF)
open Cert.LoraARefIdeal Cert.LoraARefIdeal.Gen Idealize.ShloMosaic Idealize.ShloMosaic.TcCoe Idealize.SL.Sem Idealize.ShloMosaic.Tactic

/-- The reference's result, from its arguments. -/
def out (x : FVec Ideal S8192x2048 .bf16) (w0 : FVec Ideal S2x2048 .f32) (w1 : FVec Ideal S2x2048x96 .f32) (w2 : FVec Ideal S2x96x2048 .f32) : FVec Ideal S1x2048x64x128 .f32 :=
  shapeCast _ (transpose S2048x4x16x128 [1, 0, 2, 3] (shapeCast _ (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (addf (broadcastInDim S4x2048x2048 ![0, 1, 2] bcast_S1x1x2048_S4x2048x2048_0_1_2 (broadcastInDim S1x1x2048 ![2] bcast_S2048_S1x1x2048_2 (shapeCast _ (extractStridedSlice S1x2048 ![0, 0] w0 slices_S2x2048_S1x2048_0_0) shapeCasts_S1x2048_S2048))) (Host.dotGeneral dot_S4x2048x96_S96x2048_S4x2048x2048_2_0_01_1_n_n none (Host.dotGeneral dot_S4x2048x2048_S2048x96_S4x2048x96_2_0_01_1_n_n none (shapeCast _ (extf .f32 x bitsLt_bf16_f32) shapeCasts_S8192x2048_S4x2048x2048) (shapeCast _ (extractStridedSlice S1x2048x96 ![0, 0, 0] w1 slices_S2x2048x96_S1x2048x96_0_0_0) shapeCasts_S1x2048x96_S2048x96)) (shapeCast _ (extractStridedSlice S1x96x2048 ![0, 0, 0] w2 slices_S2x96x2048_S1x96x2048_0_0_0) shapeCasts_S1x96x2048_S96x2048))))))) shapeCasts_S4x2048x2048_S4x2048x16x128) transposes_S4x2048x16x128_S2048x4x16x128_1_0_2_3) shapeCasts_S2048x4x16x128_S1x2048x64x128

theorem out_ix (x : FVec Ideal S8192x2048 .bf16) (w0 : FVec Ideal S2x2048 .f32) (w1 : FVec Ideal S2x2048x96 .f32) (w2 : FVec Ideal S2x96x2048 .f32) (l : Fin 2048) (q : Fin 64) (d : Fin 128) :
    out x w0 w1 w2 (ix4 0 l q d) = loraF x w0 w1 w2 l.val q.val d.val := by
  pointwise [out]
  simp only [rd2_ix2 x, rd2_ix2 w0, rd3_ix3 w1, rd3_ix3 w2]
  rfl

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun i => loraF (m ((c.tc : Thread nD τ).loc main_arg0)) (m ((c.tc : Thread nD τ).loc main_arg1)) (m ((c.tc : Thread nD τ).loc main_arg2)) (m ((c.tc : Thread nD τ).loc main_arg3)) (i 1).val (i 2).val (i 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun i => by
      rw [show i = ix4 0 (i 1) (i 2) (i 3) from (eq_ix4 i).trans (by rw [show i 0 = (0 : Fin 1) from Subsingleton.elim (α := Fin 1) _ _]; rfl)]
      exact out_ix _ _ _ _ _ _ _), (h c).2⟩) (Cert.LoraARefIdeal.Value.run m ρ)

end Cert.LoraARefIdeal.LoraA
-- ==== Proof.PairLoraA.lean ====
module

public import proofs.«01_k».proof.Defs
public import proofs.«01_k».proof.Proof.Gen.LoraA.Frame
public import proofs.«01_k».proof.Proof.Gen.LoraAIdeal.Frame
public import proofs.«01_k».proof.Proof.Gen.LoraARefIdeal.Run
public import proofs.«01_k».proof.Proof.LoraARun
public import proofs.«01_k».proof.Proof.LoraARef
public import Idealize.ShloMosaic.Lib.Quiescent

@[expose] public section

noncomputable section

namespace Cert.Proof

open Idealize.ShloMosaic Idealize.SL.Sem

theorem frame_LoraA : Cert.quiescent_LoraA (hLoraA := Cert.LoraA.Gen.facts) :=
  fun m ρ _ => Cert.LoraA.Gen.frame m ρ

theorem frame_LoraAIdeal : Cert.quiescent_LoraAIdeal (hLoraAIdeal := Cert.LoraAIdeal.Gen.facts) :=
  fun m ρ _ => Cert.LoraAIdeal.Gen.frame m ρ

theorem frame_LoraARefIdeal : Cert.quiescent_LoraARefIdeal (hLoraARefIdeal := Cert.LoraARefIdeal.Gen.facts) :=
  fun m ρ _ => (θ_run Cert.LoraARefIdeal.defs _ _).mono (fun r h => ⟨fun c => (h c).2, Idealize.ShloMosaic.sem_eq_zero_of_no_sems (by decide) r.2⟩) (Cert.LoraARefIdeal.Value.run (F := Ideal) m ρ)

/-- Kernel and reference end with the same result, the array the formula gives. -/
theorem alg_LoraA : Cert.algebraic_LoraAIdeal_LoraARefIdeal (hLoraAIdeal := Cert.LoraAIdeal.Gen.facts) (hLoraARefIdeal := Cert.LoraARefIdeal.Gen.facts) := by
  intro m ρ m' ρ' _ hagree
  refine ⟨fun c => Cert.LoraAIdeal.LoraA.res m c, Cert.LoraAIdeal.LoraA.run m ρ, (θ_run Cert.LoraARefIdeal.defs _ _).mono (fun r h c => ?_) (Cert.LoraARefIdeal.LoraA.run m' ρ')⟩
  obtain ⟨a0, a1, a2, a3⟩ := hagree c
  obtain ⟨e0, hk⟩ := h c
  simp only [a0, a1, a2, a3] at e0
  exact ⟨e0, hk⟩

end Cert.Proof

end
-- ==== Proof.LoraWSpec.lean ====
module

public import proofs.«01_k».proof.Proof.Gen.LoraWIdeal.Skeleton
public import proofs.«01_k».proof.Proof.Read

@[expose] public section

set_option maxRecDepth 16384

noncomputable section

namespace Cert.LoraWIdeal.LoraW

open Cert.Rd
open Cert.LoraWIdeal Cert.LoraWIdeal.Gen Idealize.ShloMosaic Idealize.ShloMosaic.TcCoe Idealize.SL.Sem Idealize.ShloMosaic.Tactic

/-- The decay of a channel from its logit. -/
def decayF (z : EReal) : EReal :=
  Ideal.exp (-Ideal.exp (min z 0 - Ideal.log (1 + Ideal.exp (-max z (-z))) - Ideal.ofBits .f32 0x3F000000#32))

/-- The kernel's block: the input's product with both weights in turn, with the hyperbolic tangent between, plus a bias, as a decay. -/
theorem pay1_at (x : Vec Ideal S512x2048 .bf16) (w1 : Vec Ideal S2048x128 .bf16) (w2 : Vec Ideal S128x2048 .bf16) (b : Vec Ideal S1x2048 .f32) (a : Fin 512) (h : Fin 16) (d : Fin 128) :
    k0_pay1 x w1 w2 b (ix4 0 a h d) = decayF ((∑ k : Fin 128, Ideal.tanh (∑ e : Fin 2048, x (ix2 a e) * w1 (ix2 e k)) * w2 (ix2 k ⟨h.val * 128 + d.val, by omega⟩)) + b (ix2 0 ⟨h.val * 128 + d.val, by omega⟩)) := by
  unfold decayF
  pointwise [k0_pay1]
  simp only [zero_sub]
  rfl

/-- Entry `n` of token row `r`'s logit. -/
def logitF (x : S8192x2048.Idx → EReal) (w0 : S2x2048.Idx → EReal) (w1 : S2x2048x96.Idx → EReal) (w2 : S2x96x2048.Idx → EReal) (r n : ℕ) : EReal :=
  rd2 w0 0 n + ∑ k : Fin 96, Ideal.tanh (∑ e : Fin 2048, rd2 x r e.val * rd3 w1 0 e.val k.val) * rd3 w2 0 k.val n

/-- The decays in the scan's order: per position, the batch's sequences side by side. -/
def loraF (x : S8192x2048.Idx → EReal) (w0 : S2x2048.Idx → EReal) (w1 : S2x2048x96.Idx → EReal) (w2 : S2x96x2048.Idx → EReal) (l q d : ℕ) : EReal :=
  decayF (logitF x w0 w1 w2 (q / 16 * 2048 + l) (q % 16 * 128 + d))

theorem exp_nonneg (x : EReal) : 0 ≤ Ideal.exp x := by
  induction x with
  | bot => exact le_refl _
  | top => exact le_top
  | coe r => exact EReal.coe_nonneg.2 (Real.exp_pos r).le

/-- The logarithm of one and something not negative is not the least. -/
theorem log_ne_bot (y : EReal) (h : 0 ≤ y) : Ideal.log (1 + y) ≠ ⊥ := by
  induction y with
  | bot => exact absurd h (by decide)
  | top => exact fun e => absurd (show (⊤ : EReal) = ⊥ from e) (by decide)
  | coe r =>
    have hr : 0 ≤ r := EReal.coe_nonneg.1 h
    have e : (1 : EReal) + (r : EReal) = ((1 + r : ℝ) : EReal) := by push_cast; rfl
    rw [e]
    show (if 1 + r ≤ 0 then (⊥ : EReal) else (Real.log (1 + r) : EReal)) ≠ ⊥
    rw [if_neg (by linarith)]
    exact EReal.coe_ne_bot _

/-- The reference's softplus of the negated logit, negated. -/
theorem soft (z : EReal) : -(max (-z) 0 + Ideal.log1p (Ideal.exp (-max (-z) (-(-z))))) = min z 0 - Ideal.log (1 + Ideal.exp (-max z (-z))) := by
  have hm : -max (-z) 0 = min z 0 := by
    rcases le_total z 0 with h | h
    · rw [min_eq_left h, max_eq_left (by rw [← neg_zero]; exact EReal.neg_le_neg_iff.2 h), neg_neg]
    · rw [min_eq_right h, max_eq_right (by rw [← neg_zero]; exact EReal.neg_le_neg_iff.2 h), neg_zero]
  have hp : (0 : EReal) ≤ max (-z) 0 := le_max_right _ _
  unfold Ideal.log1p
  rw [neg_neg, max_comm (-z) z, EReal.neg_add (.inl fun h => absurd (h ▸ hp) (by decide)) (.inr (log_ne_bot _ (exp_nonneg _))), hm]

end Cert.LoraWIdeal.LoraW
-- ==== Proof.LoraWHost.lean ====
module

public import proofs.«01_k».proof.Proof.Gen.LoraWIdeal.Value
public import proofs.«01_k».proof.Proof.LoraWSpec
public import proofs.«01_k».proof.Proof.LoraAHost
public import Idealize.ShloMosaic.Lib.Pipeline.ValueKit.Point

@[expose] public section

set_option maxRecDepth 16384

noncomputable section

namespace Cert.LoraWIdeal.LoraW

open Cert.Rd
open Cert.LoraAIdeal.LoraA (w1H w2H)
open Cert.LoraWIdeal Cert.LoraWIdeal.Gen Idealize.ShloMosaic Idealize.ShloMosaic.TcCoe Idealize.SL.Sem Idealize.ShloMosaic.Tactic

theorem V5 (m : (ℓ : Loc nD τ sig) → Buf (Elt Ideal) ℓ) (c : Dev nD) : V m c main_v5 = w1H (m ((c : Thread nD τ).loc main_arg2)) := by
  unfold V
  entry_read
  rfl

theorem V7 (m : (ℓ : Loc nD τ sig) → Buf (Elt Ideal) ℓ) (c : Dev nD) : V m c main_v7 = w2H (m ((c : Thread nD τ).loc main_arg3)) := by
  unfold V
  entry_read
  rfl

theorem V10 (m : (ℓ : Loc nD τ sig) → Buf (Elt Ideal) ℓ) (c : Dev nD) (d : Fin 2048) : (V m c main_v10 : S1x2048.Idx → EReal) (ix2 0 d) = rd2 (m ((c : Thread nD τ).loc main_arg1)) 0 d.val := by
  have h : V m c main_v10 = broadcastInDim S1x2048 ![1] bcast_S2048_S1x2048_1 (shapeCast S2048 (extractStridedSlice S1x2048 ![0, 0] (m ((c : Thread nD τ).loc main_arg1)) slices_S2x2048_S1x2048_0_0) shapeCasts_S1x2048_S2048) := by
    unfold V
    entry_read
    rfl
  rw [h]
  unfold rd2
  rw [dif_pos ⟨by omega, d.isLt⟩]
  pointwise []

end Cert.LoraWIdeal.LoraW
-- ==== Proof.LoraWRun.lean ====
module

public import proofs.«01_k».proof.Proof.Gen.LoraWIdeal.Value
public import proofs.«01_k».proof.Proof.LoraWHost
public import Idealize.ShloMosaic.Lib.Pipeline.ValueKit.Tiles
public import Idealize.ShloMosaic.Lib.Pipeline.ValueKit.Point

@[expose] public section

set_option maxRecDepth 16384

noncomputable section

namespace Cert.LoraWIdeal.LoraW

open Cert.Rd
open Cert.LoraAIdeal.LoraA (w1H_at w2H_at sum_pad)
open Cert.LoraWIdeal Cert.LoraWIdeal.Gen Idealize.ShloMosaic Idealize.ShloMosaic.TcCoe Idealize.SL.Sem Idealize.ShloMosaic.Tactic

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val % 4, t.val / 4, 0] := (by decide +kernel : ∀ t : Fin grid0.N, _)

theorem N_le (t : Fin cfg0.N) : t.val < 16 := t.isLt

theorem ib0 (c : Dev nD) (t : Fin cfg0.N) (a : Fin 512) (b : Fin 2048) :
    (iblk m c 0 t : Vec Ideal S512x2048 .bf16) (ix2 a b) = rd2 (m ((c : Thread nD τ).loc main_arg0)) (512 * t.val + a.val) b.val := by
  have ht := N_le t
  unfold rd2; rw [dif_pos ⟨by omega, by omega⟩]
  blk_ext [iblk, V, idx0 t]

theorem ib1 (c : Dev nD) (t : Fin cfg0.N) (a : Fin 2048) (b : Fin 128) :
    (iblk m c 1 t : Vec Ideal S2048x128 .bf16) (ix2 a b) = rd3 (m ((c : Thread nD τ).loc main_arg2)) 0 a.val b.val := by
  have e : (iblk m c 1 t : Vec Ideal S2048x128 .bf16) (ix2 a b) = (V m c main_v5 : S2048x128.Idx → EReal) (ix2 a b) := by
    blk_ext [iblk, idx1 t]
  exact e.trans ((congrFun (V5 m c) _).trans (w1H_at _ a b))

theorem ib2 (c : Dev nD) (t : Fin cfg0.N) (a : Fin 128) (b : Fin 2048) :
    (iblk m c 2 t : Vec Ideal S128x2048 .bf16) (ix2 a b) = rd3 (m ((c : Thread nD τ).loc main_arg3)) 0 a.val b.val := by
  have e : (iblk m c 2 t : Vec Ideal S128x2048 .bf16) (ix2 a b) = (V m c main_v7 : S128x2048.Idx → EReal) (ix2 a b) := by
    blk_ext [iblk, idx2 t]
  exact e.trans ((congrFun (V7 m c) _).trans (w2H_at _ a b))

theorem ib3 (c : Dev nD) (t : Fin cfg0.N) (b : Fin 2048) : (iblk m c 3 t : Vec Ideal S1x2048 .f32) (ix2 0 b) = rd2 (m ((c : Thread nD τ).loc main_arg1)) 0 b.val := by
  have e : (iblk m c 3 t : Vec Ideal S1x2048 .f32) (ix2 0 b) = (V m c main_v10 : S1x2048.Idx → EReal) (ix2 0 b) := by
    blk_ext [iblk, idx3 t]
  exact e.trans (V10 m c b)

/-- One block of the result. -/
theorem block (c : Dev nD) (t : Fin cfg0.N) (a : Fin 512) (h : Fin 16) (d : Fin 128) :
    k0_pay1 (iblk m c 0 t) (iblk m c 1 t) (iblk m c 2 t) (iblk m c 3 t) (ix4 0 a h d) = loraF (m ((c : Thread nD τ).loc main_arg0)) (m ((c : Thread nD τ).loc main_arg1)) (m ((c : Thread nD τ).loc main_arg2)) (m ((c : Thread nD τ).loc main_arg3)) (512 * (t.val % 4) + a.val) (16 * (t.val / 4) + h.val) d.val := by
  refine (pay1_at (iblk m c 0 t) (iblk m c 1 t) (iblk m c 2 t) (iblk m c 3 t) a h d).trans ?_
  have h0 := ib0 m c t
  have h1 := ib1 m c t
  have h2 := ib2 m c t
  have h3 := ib3 m c t
  generalize (iblk m c 0 t : Vec Ideal S512x2048 .bf16) = x at h0 ⊢
  generalize (iblk m c 1 t : Vec Ideal S2048x128 .bf16) = w1 at h1 ⊢
  generalize (iblk m c 2 t : Vec Ideal S128x2048 .bf16) = w2 at h2 ⊢
  generalize (iblk m c 3 t : Vec Ideal S1x2048 .f32) = b at h3 ⊢
  have e1 : (16 * (t.val / 4) + h.val) / 16 * 2048 + (512 * (t.val % 4) + a.val) = 512 * t.val + a.val := by have := h.isLt; omega
  have e2 : (16 * (t.val / 4) + h.val) % 16 = h.val := by have := h.isLt; omega
  unfold loraF logitF
  simp only [h0, h1, h2, h3, e1, e2]
  rw [sum_pad (fun k => Ideal.tanh (∑ e : Fin 2048, rd2 (m ((c : Thread nD τ).loc main_arg0)) (512 * t.val + a.val) e.val * rd3 (m ((c : Thread nD τ).loc main_arg2)) 0 e.val k)), add_comm (rd2 (m ((c : Thread nD τ).loc main_arg1)) 0 (h.val * 128 + d.val))]

/-- The array the formula gives. -/
def res (c : Dev nD) : Buf (Elt Ideal) ((c : Thread nD τ).loc main_v11) := fun i => loraF (m ((c : Thread nD τ).loc main_arg0)) (m ((c : Thread nD τ).loc main_arg1)) (m ((c : Thread nD τ).loc main_arg2)) (m ((c : Thread nD τ).loc main_arg3)) (i 1).val (i 2).val (i 3).val

/-- Every position lies in some point's block. -/
theorem cover (i : S1x2048x64x128.Idx) : ∃ t : Fin cfg0.N, (cfg0.win 4).flush t = true ∧ i ∈ ((cfg0.win 4).blk t).view.set := by
  have hi0 : (i 0).val < 1 := (i 0).isLt
  have hi1 : (i 1).val < 2048 := (i 1).isLt
  have hi2 : (i 2).val < 64 := (i 2).isLt
  have hi3 : (i 3).val < 128 := (i 3).isLt
  have hN : 4 * ((i 2).val / 16) + (i 1).val / 512 < cfg0.N := by rw [show cfg0.N = 16 from N_0]; omega
  refine ⟨⟨_, hN⟩, flush0_4 _, ?_⟩
  show i ∈ ((View.whole main_v11).slice (win0_4.rect ⟨_, hN⟩)).set
  rw [View.set_slice_whole, Rect.mem_set_unit]
  intro a
  have e := idx4 ⟨_, hN⟩
  have e0 := congrFun e 0
  have e1 := congrFun e 1
  have e2 := congrFun e 2
  have e3 := congrFun e 3
  simp only [Matrix.cons_val] at e0 e1 e2 e3
  match a with
  | ⟨0, _⟩ => show win0_4.index _ (0 : Fin 4) * 1 ≤ (i 0).val ∧ (i 0).val < win0_4.index _ (0 : Fin 4) * 1 + 1; rw [e0]; omega
  | ⟨1, _⟩ => show win0_4.index _ (1 : Fin 4) * 512 ≤ (i 1).val ∧ (i 1).val < win0_4.index _ (1 : Fin 4) * 512 + 512; rw [e1]; omega
  | ⟨2, _⟩ => show win0_4.index _ (2 : Fin 4) * 16 ≤ (i 2).val ∧ (i 2).val < win0_4.index _ (2 : Fin 4) * 16 + 16; rw [e2]; omega
  | ⟨3, _⟩ => show win0_4.index _ (3 : Fin 4) * 128 ≤ (i 3).val ∧ (i 3).val < win0_4.index _ (3 : Fin 4) * 128 + 128; rw [e3]; omega

theorem arr (c : Dev nD) : (dats m 0 c).arrAt 4 cfg0.N = res m c := by
  refine (dats m 0 c).arrAt_eq_of_cover 4 _ (fun t hf => ?_) (fun i => cover i)
  rw [Value.flushed4]
  funext y
  have e := idx4 t
  have hy0 : (y 0).val < 1 := (y 0).isLt
  have hb1 : (((cfg0.win 4).blk t).view.emb y 1).val = win0_4.index t (1 : Fin 4) * 512 + 1 * (y 1).val := rfl
  have hb2 : (((cfg0.win 4).blk t).view.emb y 2).val = win0_4.index t (2 : Fin 4) * 16 + 1 * (y 2).val := rfl
  have hb3 : (((cfg0.win 4).blk t).view.emb y 3).val = win0_4.index t (3 : Fin 4) * 128 + 1 * (y 3).val := rfl
  have h1 : (((cfg0.win 4).blk t).view.emb y 1).val = 512 * (t.val % 4) + (y 1).val := by rw [hb1, congrFun e 1]; show t.val % 4 * 512 + _ = _; omega
  have h2 : (((cfg0.win 4).blk t).view.emb y 2).val = 16 * (t.val / 4) + (y 2).val := by rw [hb2, congrFun e 2]; show t.val / 4 * 16 + _ = _; omega
  have h3 : (((cfg0.win 4).blk t).view.emb y 3).val = (y 3).val := by rw [hb3, congrFun e 3]; show 0 * _ + _ = _; omega
  show out0_4 (iblk m c 0 t) (iblk m c 1 t) (iblk m c 2 t) (iblk m c 3 t) ((cfg0.win 4).xinj (grid0.coords t) y) = loraF (m ((c : Thread nD τ).loc main_arg0)) (m ((c : Thread nD τ).loc main_arg1)) (m ((c : Thread nD τ).loc main_arg2)) (m ((c : Thread nD τ).loc main_arg3)) (((cfg0.win 4).blk t).view.emb y 1).val (((cfg0.win 4).blk t).view.emb y 2).val (((cfg0.win 4).blk t).view.emb y 3).val
  rw [h1, h2, h3]
  unfold out0_4
  rw [View.canon_unit_zero (S := S1x512x16x128) hz4]
  simp only [View.ld_unit_zero (S := S512x2048) hz2, View.ld_unit_zero (S := S2048x128) hz2, View.ld_unit_zero (S := S128x2048) hz2, View.ld_unit_zero (S := S1x2048) hz2]
  refine Eq.trans (congrArg (k0_pay1 (iblk m c 0 t) (iblk m c 1 t) (iblk m c 2 t) (iblk m c 3 t)) ?_) (block m c t ⟨(y 1).val, (y 1).isLt⟩ ⟨(y 2).val, (y 2).isLt⟩ ⟨(y 3).val, (y 3).isLt⟩)
  funext a
  match a with
  | ⟨0, _⟩ => exact Fin.ext (by show (y 0).val = 0; omega)
  | ⟨1, _⟩ => rfl
  | ⟨2, _⟩ => rfl
  | ⟨3, _⟩ => rfl

/-- Every run of the kernel ends with the formula's array as its result and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v11) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr m c), (h c).2⟩) (Value.run_blocks m ρ)

end Cert.LoraWIdeal.LoraW
-- ==== Proof.LoraWRef.lean ====
module

public import proofs.«01_k».proof.Proof.Gen.LoraWRefIdeal.Run
public import proofs.«01_k».proof.Proof.LoraWSpec

@[expose] public section

set_option maxRecDepth 16384

noncomputable section

namespace Cert.LoraWRefIdeal.LoraW

open Cert.Rd
open Cert.LoraWIdeal.LoraW (loraF logitF decayF soft)
open Cert.LoraWRefIdeal Cert.LoraWRefIdeal.Gen Idealize.ShloMosaic Idealize.ShloMosaic.TcCoe Idealize.SL.Sem Idealize.ShloMosaic.Tactic

/-- The reference's negated logits. -/
def lin (x : FVec Ideal S8192x2048 .bf16) (w0 : FVec Ideal S2x2048 .f32) (w1 : FVec Ideal S2x2048x96 .f32) (w2 : FVec Ideal S2x96x2048 .f32) : FVec Ideal S4x2048x2048 .f32 :=
  Host.negf (addf (broadcastInDim S4x2048x2048 ![0, 1, 2] bcast_S1x1x2048_S4x2048x2048_0_1_2 (broadcastInDim S1x1x2048 ![2] bcast_S2048_S1x1x2048_2 (shapeCast _ (extractStridedSlice S1x2048 ![0, 0] w0 slices_S2x2048_S1x2048_0_0) shapeCasts_S1x2048_S2048))) (Host.dotGeneral dot_S4x2048x96_S96x2048_S4x2048x2048_2_0_01_1_n_n none (Host.tanh (Host.dotGeneral dot_S4x2048x2048_S2048x96_S4x2048x96_2_0_01_1_n_n none (shapeCast _ (extf .f32 x bitsLt_bf16_f32) shapeCasts_S8192x2048_S4x2048x2048) (shapeCast _ (extractStridedSlice S1x2048x96 ![0, 0, 0] w1 slices_S2x2048x96_S1x2048x96_0_0_0) shapeCasts_S1x2048x96_S2048x96))) (shapeCast _ (extractStridedSlice S1x96x2048 ![0, 0, 0] w2 slices_S2x96x2048_S1x96x2048_0_0_0) shapeCasts_S1x96x2048_S96x2048)))

/-- The reference's result, from its negated logits. -/
def fin (n : FVec Ideal S4x2048x2048 .f32) : FVec Ideal S1x2048x64x128 .f32 :=
  shapeCast _ (transpose S2048x4x16x128 [1, 0, 2, 3] (shapeCast _ (Host.exp (Host.negf (Host.exp (subf (Host.negf (select (cmpf .une (subf n (broadcastInDim S4x2048x2048 ![] bcast_S_S4x2048x2048 (constant S_ .f32 0x00000000#32))) (subf n (broadcastInDim S4x2048x2048 ![] bcast_S_S4x2048x2048 (constant S_ .f32 0x00000000#32)))) (addf n (broadcastInDim S4x2048x2048 ![] bcast_S_S4x2048x2048 (constant S_ .f32 0x00000000#32))) (addf (maximumf n (broadcastInDim S4x2048x2048 ![] bcast_S_S4x2048x2048 (constant S_ .f32 0x00000000#32))) (Host.log1p (Host.exp (Host.negf (Host.absf (subf n (broadcastInDim S4x2048x2048 ![] bcast_S_S4x2048x2048 (constant S_ .f32 0x00000000#32)))))))))) (broadcastInDim S4x2048x2048 ![] bcast_S_S4x2048x2048 (constant S_ .f32 0x3F000000#32)))))) shapeCasts_S4x2048x2048_S4x2048x16x128) transposes_S4x2048x16x128_S2048x4x16x128_1_0_2_3) shapeCasts_S2048x4x16x128_S1x2048x64x128

theorem lin_ix (x : FVec Ideal S8192x2048 .bf16) (w0 : FVec Ideal S2x2048 .f32) (w1 : FVec Ideal S2x2048x96 .f32) (w2 : FVec Ideal S2x96x2048 .f32) (b : Fin 4) (l n : Fin 2048) : lin x w0 w1 w2 (ix3 b l n) = -logitF x w0 w1 w2 (b.val * 2048 + l.val) n.val := by
  pointwise [lin]
  simp only [rd2_ix2 x, rd2_ix2 w0, rd3_ix3 w1, rd3_ix3 w2]
  rfl

theorem fin_ix (n : FVec Ideal S4x2048x2048 .f32) (l : Fin 2048) (q : Fin 64) (d : Fin 128) (z : EReal)
    (hz : n (ix3 ⟨q.val / 16, by omega⟩ l ⟨q.val % 16 * 128 + d.val, by omega⟩) = -z) : fin n (ix4 0 l q d) = decayF z := by
  unfold decayF
  rw [← soft]
  pointwise [fin]
  simp only [hz, sub_zero]
  rw [if_neg (not_not.2 rfl)]
  rfl

theorem out_ix (x : FVec Ideal S8192x2048 .bf16) (w0 : FVec Ideal S2x2048 .f32) (w1 : FVec Ideal S2x2048x96 .f32) (w2 : FVec Ideal S2x96x2048 .f32) (l : Fin 2048) (q : Fin 64) (d : Fin 128) :
    fin (lin x w0 w1 w2) (ix4 0 l q d) = loraF x w0 w1 w2 l.val q.val d.val :=
  fin_ix _ l q d _ (lin_ix x w0 w1 w2 _ _ _)

/-- Every run of the reference ends with the formula's array as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (fun i => loraF (m ((c.tc : Thread nD τ).loc main_arg0)) (m ((c.tc : Thread nD τ).loc main_arg1)) (m ((c.tc : Thread nD τ).loc main_arg2)) (m ((c.tc : Thread nD τ).loc main_arg3)) (i 1).val (i 2).val (i 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun i => by
      rw [show i = ix4 0 (i 1) (i 2) (i 3) from (eq_ix4 i).trans (by rw [show i 0 = (0 : Fin 1) from Subsingleton.elim (α := Fin 1) _ _]; rfl)]
      exact out_ix _ _ _ _ _ _ _), (h c).2⟩) (Cert.LoraWRefIdeal.Value.run m ρ)

end Cert.LoraWRefIdeal.LoraW
-- ==== Proof.PairLoraW.lean ====
module

public import proofs.«01_k».proof.Defs
public import proofs.«01_k».proof.Proof.Gen.LoraW.Frame
public import proofs.«01_k».proof.Proof.Gen.LoraWIdeal.Frame
public import proofs.«01_k».proof.Proof.Gen.LoraWRefIdeal.Run
public import proofs.«01_k».proof.Proof.LoraWRun
public import proofs.«01_k».proof.Proof.LoraWRef
public import Idealize.ShloMosaic.Lib.Quiescent

@[expose] public section

noncomputable section

namespace Cert.Proof

open Idealize.ShloMosaic Idealize.SL.Sem

theorem frame_LoraW : Cert.quiescent_LoraW (hLoraW := Cert.LoraW.Gen.facts) :=
  fun m ρ _ => Cert.LoraW.Gen.frame m ρ

theorem frame_LoraWIdeal : Cert.quiescent_LoraWIdeal (hLoraWIdeal := Cert.LoraWIdeal.Gen.facts) :=
  fun m ρ _ => Cert.LoraWIdeal.Gen.frame m ρ

theorem frame_LoraWRefIdeal : Cert.quiescent_LoraWRefIdeal (hLoraWRefIdeal := Cert.LoraWRefIdeal.Gen.facts) :=
  fun m ρ _ => (θ_run Cert.LoraWRefIdeal.defs _ _).mono (fun r h => ⟨fun c => (h c).2, Idealize.ShloMosaic.sem_eq_zero_of_no_sems (by decide) r.2⟩) (Cert.LoraWRefIdeal.Value.run (F := Ideal) m ρ)

/-- Kernel and reference end with the same result, the array the formula gives. -/
theorem alg_LoraW : Cert.algebraic_LoraWIdeal_LoraWRefIdeal (hLoraWIdeal := Cert.LoraWIdeal.Gen.facts) (hLoraWRefIdeal := Cert.LoraWRefIdeal.Gen.facts) := by
  intro m ρ m' ρ' _ hagree
  refine ⟨fun c => Cert.LoraWIdeal.LoraW.res m c, Cert.LoraWIdeal.LoraW.run m ρ, (θ_run Cert.LoraWRefIdeal.defs _ _).mono (fun r h c => ?_) (Cert.LoraWRefIdeal.LoraW.run m' ρ')⟩
  obtain ⟨a0, a1, a2, a3⟩ := hagree c
  obtain ⟨e0, hk⟩ := h c
  simp only [a0, a1, a2, a3] at e0
  exact ⟨e0, hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.Rkv
public import proofs.«01_k».proof.Proof.Gen.Rkv.Skeleton
public import proofs.«01_k».proof.Proof.Gen.Rkv.Launch
public import proofs.«01_k».proof.Proof.Gen.Rkv.Points
public import proofs.«01_k».proof.Proof.Gen.Rkv.Frame
public import proofs.«01_k».proof.Proof.Gen.RkvIdeal
public import proofs.«01_k».proof.Proof.Gen.RkvIdeal.Skeleton
public import proofs.«01_k».proof.Proof.Gen.RkvIdeal.Launch
public import proofs.«01_k».proof.Proof.Gen.RkvIdeal.Points
public import proofs.«01_k».proof.Proof.Gen.RkvIdeal.Frame
public import proofs.«01_k».proof.Proof.Gen.RkvIdeal.Value
public import proofs.«01_k».proof.Proof.Gen.RkvRefIdeal
public import proofs.«01_k».proof.Proof.Gen.RkvRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.NormS
public import proofs.«01_k».proof.Proof.Gen.NormS.Skeleton
public import proofs.«01_k».proof.Proof.Gen.NormS.Launch
public import proofs.«01_k».proof.Proof.Gen.NormS.Points
public import proofs.«01_k».proof.Proof.Gen.NormS.Frame
public import proofs.«01_k».proof.Proof.Gen.NormSIdeal
public import proofs.«01_k».proof.Proof.Gen.NormSIdeal.Skeleton
public import proofs.«01_k».proof.Proof.Gen.NormSIdeal.Launch
public import proofs.«01_k».proof.Proof.Gen.NormSIdeal.Points
public import proofs.«01_k».proof.Proof.Gen.NormSIdeal.Frame
public import proofs.«01_k».proof.Proof.Gen.NormSIdeal.Value
public import proofs.«01_k».proof.Proof.Gen.NormSRefIdeal
public import proofs.«01_k».proof.Proof.Gen.NormSRefIdeal.Run
public import proofs.«01_k».proof.Proof.Gen.PrepS
public import proofs.«01_k».proof.Proof.Gen.PrepS.Skeleton
public import proofs.«01_k».proof.Proof.Gen.PrepS.Launch
public import proofs.«01_k».proof.Proof.Gen.PrepS.Points
public import proofs.«01_k».proof.Proof.Gen.PrepS.Frame
public import proofs.«01_k».proof.Proof.Gen.PrepSIdeal
public import proofs.«01_k».proof.Proof.Gen.PrepSIdeal.Skeleton
public import proofs.«01_k».proof.Proof.Gen.PrepSIdeal.Launch
public import proofs.«01_k».proof.Proof.Gen.PrepSIdeal.Points
public import proofs.«01_k».proof.Proof.Gen.PrepSIdeal.Frame
public import proofs.«01_k».proof.Proof.Gen.PrepSIdeal.Value
public import proofs.«01_k».proof.Proof.Gen.PrepSRefIdeal
public import proofs.«01_k».proof.Proof.Gen.PrepSRefIdeal.Run
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSIdeal.Value
public import proofs.«01_k».proof.Proof.Gen.MixSRefIdeal
public import proofs.«01_k».proof.Proof.Gen.MixSRefIdeal.Run
public import proofs.«01_k».proof.Proof.Gen.LoraG
public import proofs.«01_k».proof.Proof.Gen.LoraG.Skeleton
public import proofs.«01_k».proof.Proof.Gen.LoraG.Launch
public import proofs.«01_k».proof.Proof.Gen.LoraG.Points
public import proofs.«01_k».proof.Proof.Gen.LoraG.Frame
public import proofs.«01_k».proof.Proof.Gen.LoraGIdeal
public import proofs.«01_k».proof.Proof.Gen.LoraGIdeal.Skeleton
public import proofs.«01_k».proof.Proof.Gen.LoraGIdeal.Launch
public import proofs.«01_k».proof.Proof.Gen.LoraGIdeal.Points
public import proofs.«01_k».proof.Proof.Gen.LoraGIdeal.Frame
public import proofs.«01_k».proof.Proof.Gen.LoraGIdeal.Value
public import proofs.«01_k».proof.Proof.Gen.LoraGRefIdeal
public import proofs.«01_k».proof.Proof.Gen.LoraGRefIdeal.Run
public import proofs.«01_k».proof.Proof.Gen.LoraA
public import proofs.«01_k».proof.Proof.Gen.LoraA.Skeleton
public import proofs.«01_k».proof.Proof.Gen.LoraA.Launch
public import proofs.«01_k».proof.Proof.Gen.LoraA.Points
public import proofs.«01_k».proof.Proof.Gen.LoraA.Frame
public import proofs.«01_k».proof.Proof.Gen.LoraAIdeal
public import proofs.«01_k».proof.Proof.Gen.LoraAIdeal.Skeleton
public import proofs.«01_k».proof.Proof.Gen.LoraAIdeal.Launch
public import proofs.«01_k».proof.Proof.Gen.LoraAIdeal.Points
public import proofs.«01_k».proof.Proof.Gen.LoraAIdeal.Frame
public import proofs.«01_k».proof.Proof.Gen.LoraAIdeal.Value
public import proofs.«01_k».proof.Proof.Gen.LoraARefIdeal
public import proofs.«01_k».proof.Proof.Gen.LoraARefIdeal.Run
public import proofs.«01_k».proof.Proof.Gen.LoraW
public import proofs.«01_k».proof.Proof.Gen.LoraW.Skeleton
public import proofs.«01_k».proof.Proof.Gen.LoraW.Launch
public import proofs.«01_k».proof.Proof.Gen.LoraW.Points
public import proofs.«01_k».proof.Proof.Gen.LoraW.Frame
public import proofs.«01_k».proof.Proof.Gen.LoraWIdeal
public import proofs.«01_k».proof.Proof.Gen.LoraWIdeal.Skeleton
public import proofs.«01_k».proof.Proof.Gen.LoraWIdeal.Launch
public import proofs.«01_k».proof.Proof.Gen.LoraWIdeal.Points
public import proofs.«01_k».proof.Proof.Gen.LoraWIdeal.Frame
public import proofs.«01_k».proof.Proof.Gen.LoraWIdeal.Value
public import proofs.«01_k».proof.Proof.Gen.LoraWRefIdeal
public import proofs.«01_k».proof.Proof.Gen.LoraWRefIdeal.Run
public import Idealize.ShloMosaic.Adequacy
public import Idealize.ShloMosaic.Init
public import proofs.«01_k».proof.Proof.PairMix
public import proofs.«01_k».proof.Proof.PairMoe
public import proofs.«01_k».proof.Proof.PairRkv
public import proofs.«01_k».proof.Proof.PairInproj
public import proofs.«01_k».proof.Proof.PairPle
public import proofs.«01_k».proof.Proof.PairOut
public import proofs.«01_k».proof.Proof.PairNorm
public import proofs.«01_k».proof.Proof.PairPrep
public import proofs.«01_k».proof.Proof.PairNormS
public import proofs.«01_k».proof.Proof.PairPrepS
public import proofs.«01_k».proof.Proof.PairMixS
public import proofs.«01_k».proof.Proof.PairLoraG
public import proofs.«01_k».proof.Proof.PairLoraA
public import proofs.«01_k».proof.Proof.PairLoraW

@[expose] public section

namespace Cert.Proof

/-- Every stated claim holds. -/
theorem claim : Cert.Claim :=
  ⟨Cert.Kernel.Gen.facts, Cert.KernelIdeal.Gen.facts, Cert.ReferenceIdeal.Gen.facts,
    Cert.Moe.Gen.facts, Cert.MoeIdeal.Gen.facts, Cert.MoeRefIdeal.Gen.facts, Cert.Rkv.Gen.facts,
    Cert.RkvIdeal.Gen.facts, Cert.RkvRefIdeal.Gen.facts, Cert.Inproj.Gen.facts,
    Cert.InprojIdeal.Gen.facts, Cert.InprojRefIdeal.Gen.facts, Cert.Ple.Gen.facts,
    Cert.PleIdeal.Gen.facts, Cert.PleRefIdeal.Gen.facts, Cert.Out.Gen.facts,
    Cert.OutIdeal.Gen.facts, Cert.OutRefIdeal.Gen.facts, Cert.Norm.Gen.facts,
    Cert.NormIdeal.Gen.facts, Cert.NormRefIdeal.Gen.facts, Cert.Prep.Gen.facts,
    Cert.PrepIdeal.Gen.facts, Cert.PrepRefIdeal.Gen.facts, Cert.NormS.Gen.facts,
    Cert.NormSIdeal.Gen.facts, Cert.NormSRefIdeal.Gen.facts, Cert.PrepS.Gen.facts,
    Cert.PrepSIdeal.Gen.facts, Cert.PrepSRefIdeal.Gen.facts, Cert.MixS.Gen.facts,
    Cert.MixSIdeal.Gen.facts, Cert.MixSRefIdeal.Gen.facts, Cert.LoraG.Gen.facts,
    Cert.LoraGIdeal.Gen.facts, Cert.LoraGRefIdeal.Gen.facts, Cert.LoraA.Gen.facts,
    Cert.LoraAIdeal.Gen.facts, Cert.LoraARefIdeal.Gen.facts, Cert.LoraW.Gen.facts,
    Cert.LoraWIdeal.Gen.facts, Cert.LoraWRefIdeal.Gen.facts, frame_Kernel, frame_KernelIdeal,
    frame_ReferenceIdeal, frame_Moe, frame_MoeIdeal, frame_MoeRefIdeal, frame_Rkv, frame_RkvIdeal,
    frame_RkvRefIdeal, frame_Inproj, frame_InprojIdeal, frame_InprojRefIdeal, frame_Ple,
    frame_PleIdeal, frame_PleRefIdeal, frame_Out, frame_OutIdeal, frame_OutRefIdeal, frame_Norm,
    frame_NormIdeal, frame_NormRefIdeal, frame_Prep, frame_PrepIdeal, frame_PrepRefIdeal,
    frame_NormS, frame_NormSIdeal, frame_NormSRefIdeal, frame_PrepS, frame_PrepSIdeal,
    frame_PrepSRefIdeal, frame_MixS, frame_MixSIdeal, frame_MixSRefIdeal, frame_LoraG,
    frame_LoraGIdeal, frame_LoraGRefIdeal, frame_LoraA, frame_LoraAIdeal, frame_LoraARefIdeal,
    frame_LoraW, frame_LoraWIdeal, frame_LoraWRefIdeal, trivial, alg_Mix, trivial, alg_Moe,
    trivial, alg_Rkv, trivial, alg_Inproj, trivial, alg_Ple, trivial, alg_Out, trivial, alg_Norm,
    trivial, alg_Prep, trivial, alg_NormS, trivial, alg_PrepS, trivial, alg_MixS, trivial,
    alg_LoraG, trivial, alg_LoraA, trivial, alg_LoraW⟩

end Cert.Proof

end
